-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v146) = v0 c
          ∧ r.2.mem ((c.tc : Thread Cert.ReferenceIdeal.nD Cert.ReferenceIdeal.τ).loc Cert.ReferenceIdeal.main_v145) = v1 c
          ∧ r.2.mem ((c.tc : Thread Cert.ReferenceIdeal.nD Cert.ReferenceIdeal.τ).loc Cert.ReferenceIdeal.main_v142) = v2 c
          ∧ r.2.mem ((c.tc : Thread Cert.ReferenceIdeal.nD Cert.ReferenceIdeal.τ).loc Cert.ReferenceIdeal.main_v119) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_v5) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v18) = v0 c
          ∧ r.2.mem ((c.tc : Thread Cert.Reference12Ideal.nD Cert.Reference12Ideal.τ).loc Cert.Reference12Ideal.main_v19) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v4) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v6) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v38) = v0 c
          ∧ r.2.mem ((c.tc : Thread Cert.Reference17Ideal.nD Cert.Reference17Ideal.τ).loc Cert.Reference17Ideal.main_v39) = v1 c
          ∧ r.2.mem ((c.tc : Thread Cert.Reference17Ideal.nD Cert.Reference17Ideal.τ).loc Cert.Reference17Ideal.main_v37) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  IdealRules.named_const.Statement Cert.Kernel18Ideal.κ "inv_debias_m" .f32 0x3FC48605#32 ((10000000000 / 6513215599 : ℝ) : EReal)
  ∧ IdealRules.named_const.Statement Cert.Kernel18Ideal.κ "inv_debias_v" .f32 0x42C8E6D3#32 ((1000000000000000000000000000000 / 9955119790251790119955009999 : ℝ) : EReal)

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v35) = v0 c
          ∧ r.2.mem ((c.tc : Thread Cert.Reference18Ideal.nD Cert.Reference18Ideal.τ).loc Cert.Reference18Ideal.main_v4) = v1 c
          ∧ r.2.mem ((c.tc : Thread Cert.Reference18Ideal.nD Cert.Reference18Ideal.τ).loc Cert.Reference18Ideal.main_v10) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  IdealRules.named_const.Statement Cert.Kernel19Ideal.κ "inv_debias_m" .f32 0x3FC48605#32 ((10000000000 / 6513215599 : ℝ) : EReal)
  ∧ IdealRules.named_const.Statement Cert.Kernel19Ideal.κ "inv_debias_v" .f32 0x42C8E6D3#32 ((1000000000000000000000000000000 / 9955119790251790119955009999 : ℝ) : EReal)

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v35) = v0 c
          ∧ r.2.mem ((c.tc : Thread Cert.Reference19Ideal.nD Cert.Reference19Ideal.τ).loc Cert.Reference19Ideal.main_v4) = v1 c
          ∧ r.2.mem ((c.tc : Thread Cert.Reference19Ideal.nD Cert.Reference19Ideal.τ).loc Cert.Reference19Ideal.main_v10) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  IdealRules.named_const.Statement Cert.Kernel20Ideal.κ "inv_debias_m" .f32 0x3FC48605#32 ((10000000000 / 6513215599 : ℝ) : EReal)
  ∧ IdealRules.named_const.Statement Cert.Kernel20Ideal.κ "inv_debias_v" .f32 0x42C8E6D3#32 ((1000000000000000000000000000000 / 9955119790251790119955009999 : ℝ) : EReal)

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v35) = v0 c
          ∧ r.2.mem ((c.tc : Thread Cert.Reference20Ideal.nD Cert.Reference20Ideal.τ).loc Cert.Reference20Ideal.main_v4) = v1 c
          ∧ r.2.mem ((c.tc : Thread Cert.Reference20Ideal.nD Cert.Reference20Ideal.τ).loc Cert.Reference20Ideal.main_v10) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  IdealRules.named_const.Statement Cert.Kernel21Ideal.κ "inv_debias_m" .f32 0x3FC48605#32 ((10000000000 / 6513215599 : ℝ) : EReal)
  ∧ IdealRules.named_const.Statement Cert.Kernel21Ideal.κ "inv_debias_v" .f32 0x42C8E6D3#32 ((1000000000000000000000000000000 / 9955119790251790119955009999 : ℝ) : EReal)

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v35) = v0 c
          ∧ r.2.mem ((c.tc : Thread Cert.Reference21Ideal.nD Cert.Reference21Ideal.τ).loc Cert.Reference21Ideal.main_v4) = v1 c
          ∧ r.2.mem ((c.tc : Thread Cert.Reference21Ideal.nD Cert.Reference21Ideal.τ).loc Cert.Reference21Ideal.main_v10) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  IdealRules.named_const.Statement Cert.Kernel22Ideal.κ "inv_debias_m" .f32 0x3FC48605#32 ((10000000000 / 6513215599 : ℝ) : EReal)
  ∧ IdealRules.named_const.Statement Cert.Kernel22Ideal.κ "inv_debias_v" .f32 0x42C8E6D3#32 ((1000000000000000000000000000000 / 9955119790251790119955009999 : ℝ) : EReal)

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v35) = v0 c
          ∧ r.2.mem ((c.tc : Thread Cert.Reference22Ideal.nD Cert.Reference22Ideal.τ).loc Cert.Reference22Ideal.main_v4) = v1 c
          ∧ r.2.mem ((c.tc : Thread Cert.Reference22Ideal.nD Cert.Reference22Ideal.τ).loc Cert.Reference22Ideal.main_v10) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v53) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)) (v4 : (c : Dev Cert.Kernel24Ideal.nD) → Buf (Elt Ideal) ((c.tc : Thread Cert.Kernel24Ideal.nD Cert.Kernel24Ideal.τ).loc Cert.Kernel24Ideal.main_v0_4)) (v5 : (c : Dev Cert.Kernel24Ideal.nD) → Buf (Elt Ideal) ((c.tc : Thread Cert.Kernel24Ideal.nD Cert.Kernel24Ideal.τ).loc Cert.Kernel24Ideal.main_v0_5)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_v0_4) = v4 c
          ∧ r.2.mem ((c.tc : Thread Cert.Kernel24Ideal.nD Cert.Kernel24Ideal.τ).loc Cert.Kernel24Ideal.main_v0_5) = v5 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v46) = v0 c
          ∧ r.2.mem ((c.tc : Thread Cert.Reference24Ideal.nD Cert.Reference24Ideal.τ).loc Cert.Reference24Ideal.main_v47) = v1 c
          ∧ r.2.mem ((c.tc : Thread Cert.Reference24Ideal.nD Cert.Reference24Ideal.τ).loc Cert.Reference24Ideal.main_v48) = v2 c
          ∧ r.2.mem ((c.tc : Thread Cert.Reference24Ideal.nD Cert.Reference24Ideal.τ).loc Cert.Reference24Ideal.main_v49) = v3 c
          ∧ r.2.mem ((c.tc : Thread Cert.Reference24Ideal.nD Cert.Reference24Ideal.τ).loc Cert.Reference24Ideal.main_v50) = v4 c
          ∧ r.2.mem ((c.tc : Thread Cert.Reference24Ideal.nD Cert.Reference24Ideal.τ).loc Cert.Reference24Ideal.main_v51) = v5 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v26) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v14) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v8) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v14) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)) →
    ∃ (v0 : (c : Dev Cert.Kernel29Ideal.nD) → Buf (Elt Ideal) ((c.tc : Thread Cert.Kernel29Ideal.nD Cert.Kernel29Ideal.τ).loc Cert.Kernel29Ideal.main_v0)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v2) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)) →
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v4) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)) →
    ∃ (v0 : (c : Dev Cert.Kernel31Ideal.nD) → Buf (Elt Ideal) ((c.tc : Thread Cert.Kernel31Ideal.nD Cert.Kernel31Ideal.τ).loc Cert.Kernel31Ideal.main_v0)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v6) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)) →
    ∃ (v0 : (c : Dev Cert.Kernel32Ideal.nD) → Buf (Elt Ideal) ((c.tc : Thread Cert.Kernel32Ideal.nD Cert.Kernel32Ideal.τ).loc Cert.Kernel32Ideal.main_v0)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v18) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)) →
    ∃ (v0 : (c : Dev Cert.Kernel33Ideal.nD) → Buf (Elt Ideal) ((c.tc : Thread Cert.Kernel33Ideal.nD Cert.Kernel33Ideal.τ).loc Cert.Kernel33Ideal.main_v0)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0) = v0 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v1) = v0 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
-- ==== Pre_finite.lean ====
abbrev S8192x1024 : Shape := ⟨2, ![8192, 1024]⟩
abbrev S256x2048 : Shape := ⟨2, ![256, 2048]⟩
abbrev S1x256 : Shape := ⟨2, ![1, 256]⟩
abbrev S_ : Shape := ⟨0, ![]⟩

class Facts : Prop where
  bcast_S_S8192x1024 : S_.BroadcastsInDim S8192x1024 (![] : Fin 0 → Fin S8192x1024.rank)
  bcast_S_S256x2048 : S_.BroadcastsInDim S256x2048 (![] : Fin 0 → Fin S256x2048.rank)
  bcast_S_S1x256 : S_.BroadcastsInDim S1x256 (![] : Fin 0 → Fin S1x256.rank)

variable [Facts]

def fn {F : FTy → Type} [FloatOps F] (main_arg0 : FVec F S8192x1024 .f32) (main_arg1 : FVec F S256x2048 .f32) (main_arg2 : FVec F S1x256 .f32) (main_arg3 : FVec F S1x256 .f32) (main_arg4 : FVec F S8192x1024 .f32) : IVec S8192x1024 1 × IVec S256x2048 1 × IVec S1x256 1 × IVec S1x256 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S256x2048 .f32 := Host.absf main_arg1
  let main_cst_0 : FVec F S_ .f32 := constant S_ .f32 0x7F800000#32
  let main_v4 : FVec F S256x2048 .f32 := broadcastInDim S256x2048 ![] bcast_S_S256x2048 main_cst_0
  let main_v5 : IVec S256x2048 1 := cmpf .olt main_v3 main_v4
  let main_v6 : FVec F S1x256 .f32 := Host.absf main_arg2
  let main_cst_1 : FVec F S_ .f32 := constant S_ .f32 0x7F800000#32
  let main_v7 : FVec F S1x256 .f32 := broadcastInDim S1x256 ![] bcast_S_S1x256 main_cst_1
  let main_v8 : IVec S1x256 1 := cmpf .olt main_v6 main_v7
  let main_v9 : FVec F S1x256 .f32 := Host.absf main_arg3
  let main_cst_2 : FVec F S_ .f32 := constant S_ .f32 0x7F800000#32
  let main_v10 : FVec F S1x256 .f32 := broadcastInDim S1x256 ![] bcast_S_S1x256 main_cst_2
  let main_v11 : IVec S1x256 1 := cmpf .olt main_v9 main_v10
  let main_v12 : FVec F S8192x1024 .f32 := Host.absf main_arg4
  let main_cst_3 : FVec F S_ .f32 := constant S_ .f32 0x7F800000#32
  let main_v13 : FVec F S8192x1024 .f32 := broadcastInDim S8192x1024 ![] bcast_S_S8192x1024 main_cst_3
  let main_v14 : IVec S8192x1024 1 := cmpf .olt main_v12 main_v13
  (main_v2, main_v5, main_v8, main_v11, main_v14)
-- ==== Kernel.lean ====
abbrev S8192x1024 : Shape := ⟨2, ![8192, 1024]⟩
abbrev S256x2048 : Shape := ⟨2, ![256, 2048]⟩
abbrev S1x256 : Shape := ⟨2, ![1, 256]⟩
abbrev S256x1024 : Shape := ⟨2, ![256, 1024]⟩
abbrev S256x256 : Shape := ⟨2, ![256, 256]⟩
abbrev S256 : Shape := ⟨1, ![256]⟩
abbrev S256x1 : Shape := ⟨2, ![256, 1]⟩

abbrev nBuf : Space → Nat
  | .hbm => 9
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S256x2048, .f32⟩
  | .hbm, ⟨2, _⟩ => ⟨S1x256, .f32⟩
  | .hbm, ⟨3, _⟩ => ⟨S1x256, .f32⟩
  | .hbm, ⟨4, _⟩ => ⟨S8192x1024, .f32⟩
  | .hbm, ⟨5, _⟩ => ⟨S8192x1024, .bf16⟩
  | .hbm, ⟨6, _⟩ => ⟨S256x2048, .f32⟩
  | .hbm, ⟨7, _⟩ => ⟨S1x256, .f32⟩
  | .hbm, ⟨8, _⟩ => ⟨S1x256, .f32⟩
  | .local _ .vmem, ⟨0, _⟩ => ⟨S256x1024, .f32⟩
  | .local _ .vmem, ⟨1, _⟩ => ⟨S256x1024, .f32⟩
  | .local _ .vmem, ⟨2, _⟩ => ⟨S256x2048, .f32⟩
  | .local _ .vmem, ⟨3, _⟩ => ⟨S1x256, .f32⟩
  | .local _ .vmem, ⟨4, _⟩ => ⟨S1x256, .f32⟩
  | .local _ .vmem, ⟨5, _⟩ => ⟨S256x1024, .f32⟩
  | .local _ .vmem, ⟨6, _⟩ => ⟨S256x1024, .f32⟩
  | .local _ .vmem, ⟨7, _⟩ => ⟨S256x1024, .bf16⟩
  | .local _ .vmem, ⟨8, _⟩ => ⟨S256x1024, .bf16⟩
  | .local _ .vmem, ⟨9, _⟩ => ⟨S256x2048, .f32⟩
  | .local _ .vmem, ⟨10, _⟩ => ⟨S1x256, .f32⟩
  | .local _ .vmem, ⟨11, _⟩ => ⟨S1x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S8192x1024 : Shape := ⟨2, ![8192, 1024]⟩
abbrev S256x2048 : Shape := ⟨2, ![256, 2048]⟩
abbrev S1x256 : Shape := ⟨2, ![1, 256]⟩
abbrev S256x1024 : Shape := ⟨2, ![256, 1024]⟩
abbrev S8192x4x256 : Shape := ⟨3, ![8192, 4, 256]⟩
abbrev S4x8192x256 : Shape := ⟨3, ![4, 8192, 256]⟩
abbrev S256 : Shape := ⟨1, ![256]⟩
abbrev S_ : Shape := ⟨0, ![]⟩
abbrev S4x8192 : Shape := ⟨2, ![4, 8192]⟩
abbrev S4x8192x1 : Shape := ⟨3, ![4, 8192, 1]⟩
abbrev S1x1x256 : Shape := ⟨3, ![1, 1, 256]⟩
abbrev S256x4x256 : Shape := ⟨3, ![256, 4, 256]⟩
abbrev S4x256x256 : Shape := ⟨3, ![4, 256, 256]⟩
abbrev S4x256 : Shape := ⟨2, ![4, 256]⟩
abbrev S4x256x1 : Shape := ⟨3, ![4, 256, 1]⟩

abbrev nBuf : Space → Nat
  | .hbm => 184
  | .vmem => 0
  | .smem => 0
  | _ => 0

abbrev hbmTy0_0 (i : Nat) : BufTy := match i % 128 with
  | 0 => ⟨S8192x1024, .f32⟩
  | 1 => ⟨S256x2048, .f32⟩
  | 2 => ⟨S1x256, .f32⟩
  | 3 => ⟨S1x256, .f32⟩
  | 4 => ⟨S8192x1024, .f32⟩
  | 5 => ⟨S256x1024, .f32⟩
  | 6 => ⟨S256x1024, .f32⟩
  | 7 => ⟨S8192x4x256, .f32⟩
  | 8 => ⟨S4x8192x256, .f32⟩
  | 9 => ⟨S256, .f32⟩
  | 10 => ⟨S4x8192x256, .f32⟩
  | 11 => ⟨S_, .f32⟩
  | 12 => ⟨S4x8192, .f32⟩
  | 13 => ⟨S4x8192x1, .f32⟩
  | 14 => ⟨S_, .f32⟩
  | 15 => ⟨S4x8192x1, .f32⟩
  | 16 => ⟨S4x8192x1, .f32⟩
  | 17 => ⟨S_, .f32⟩
  | 18 => ⟨S4x8192x1, .f32⟩
  | 19 => ⟨S4x8192x1, .f32⟩
  | 20 => ⟨S4x8192x1, .f32⟩
  | 21 => ⟨S4x8192x1, .f32⟩
  | 22 => ⟨S_, .f32⟩
  | 23 => ⟨S4x8192x1, .f32⟩
  | 24 => ⟨S4x8192x1, .f32⟩
  | 25 => ⟨S4x8192x256, .f32⟩
  | 26 => ⟨S4x8192x256, .f32⟩
  | 27 => ⟨S1x1x256, .f32⟩
  | 28 => ⟨S4x8192x256, .f32⟩
  | 29 => ⟨S4x8192x256, .f32⟩
  | 30 => ⟨S256x4x256, .f32⟩
  | 31 => ⟨S4x256x256, .f32⟩
  | 32 => ⟨S256, .f32⟩
  | 33 => ⟨S4x256x256, .f32⟩
  | 34 => ⟨S_, .f32⟩
  | 35 => ⟨S4x256, .f32⟩
  | 36 => ⟨S4x256x1, .f32⟩
  | 37 => ⟨S_, .f32⟩
  | 38 => ⟨S4x256x1, .f32⟩
  | 39 => ⟨S4x256x1, .f32⟩
  | 40 => ⟨S_, .f32⟩
  | 41 => ⟨S4x256x1, .f32⟩
  | 42 => ⟨S4x256x1, .f32⟩
  | 43 => ⟨S4x256x1, .f32⟩
  | 44 => ⟨S4x256x1, .f32⟩
  | 45 => ⟨S_, .f32⟩
  | 46 => ⟨S4x256x1, .f32⟩
  | 47 => ⟨S4x256x1, .f32⟩
  | 48 => ⟨S4x256x256, .f32⟩
  | 49 => ⟨S4x256x256, .f32⟩
  | 50 => ⟨S1x1x256, .f32⟩
  | 51 => ⟨S4x256x256, .f32⟩
  | 52 => ⟨S4x256x256, .f32⟩
  | 53 => ⟨S256x4x256, .f32⟩
  | 54 => ⟨S4x256x256, .f32⟩
  | 55 => ⟨S4x8192x256, .f32⟩
  | 56 => ⟨S_, .f32⟩
  | 57 => ⟨S4x8192x256, .f32⟩
  | 58 => ⟨S4x8192x256, .f32⟩
  | 59 => ⟨S_, .f32⟩
  | 60 => ⟨S4x8192, .f32⟩
  | 61 => ⟨S4x8192x1, .f32⟩
  | 62 => ⟨S4x8192x256, .f32⟩
  | 63 => ⟨S4x8192x256, .i1⟩
  | 64 => ⟨S4x8192x256, .f32⟩
  | 65 => ⟨S_, .f32⟩
  | 66 => ⟨S4x8192, .f32⟩
  | 67 => ⟨S_, .f32⟩
  | 68 => ⟨S4x8192, .f32⟩
  | 69 => ⟨S4x8192, .f32⟩
  | 70 => ⟨S_, .f32⟩
  | 71 => ⟨S4x8192, .f32⟩
  | 72 => ⟨S4x8192, .i1⟩
  | 73 => ⟨S_, .f32⟩
  | 74 => ⟨S4x8192, .f32⟩
  | 75 => ⟨S4x8192, .i1⟩
  | 76 => ⟨S_, .f32⟩
  | 77 => ⟨S4x8192, .f32⟩
  | 78 => ⟨S_, .f32⟩
  | 79 => ⟨S4x8192, .f32⟩
  | 80 => ⟨S_, .f32⟩
  | 81 => ⟨S4x8192, .f32⟩
  | 82 => ⟨S4x8192, .f32⟩
  | 83 => ⟨S4x8192, .f32⟩
  | 84 => ⟨S4x8192x1, .f32⟩
  | 85 => ⟨S4x8192x256, .f32⟩
  | 86 => ⟨S4x8192x256, .f32⟩
  | 87 => ⟨S4x8192x256, .f32⟩
  | 88 => ⟨S_, .f32⟩
  | 89 => ⟨S4x8192, .f32⟩
  | 90 => ⟨S4x8192x1, .f32⟩
  | 91 => ⟨S4x8192x256, .f32⟩
  | 92 => ⟨S4x8192x256, .f32⟩
  | 93 => ⟨S4x8192x1, .f32⟩
  | 94 => ⟨S_, .f32⟩
  | 95 => ⟨S4x8192x1, .f32⟩
  | 96 => ⟨S4x8192x1, .f32⟩
  | 97 => ⟨S4x8192x256, .f32⟩
  | 98 => ⟨S8192x4x256, .f32⟩
  | 99 => ⟨S8192x1024, .f32⟩
  | 100 => ⟨S8192x4x256, .f32⟩
  | 101 => ⟨S4x8192x256, .f32⟩
  | 102 => ⟨S4x256x256, .f32⟩
  | 103 => ⟨S4x256x256, .f32⟩
  | 104 => ⟨S4x8192x256, .f32⟩
  | 105 => ⟨S4x8192x256, .f32⟩
  | 106 => ⟨S4x8192x256, .f32⟩
  | 107 => ⟨S4x8192x256, .f32⟩
  | 108 => ⟨S_, .f32⟩
  | 109 => ⟨S4x8192, .f32⟩
  | 110 => ⟨S4x8192x1, .f32⟩
  | 111 => ⟨S4x8192x1, .f32⟩
  | 112 => ⟨S4x8192x256, .f32⟩
  | 113 => ⟨S4x8192x256, .f32⟩
  | 114 => ⟨S_, .f32⟩
  | 115 => ⟨S4x8192, .f32⟩
  | 116 => ⟨S4x8192x256, .f32⟩
  | 117 => ⟨S4x8192x256, .f32⟩
  | 118 => ⟨S4x8192x256, .f32⟩
  | 119 => ⟨S_, .f32⟩
  | 120 => ⟨S4x8192x256, .f32⟩
  | 121 => ⟨S4x8192x256, .f32⟩
  | 122 => ⟨S4x256x256, .f32⟩
  | 123 => ⟨S4x8192x256, .f32⟩
  | 124 => ⟨S256x4x256, .f32⟩
  | 125 => ⟨S256x1024, .f32⟩
  | 126 => ⟨S4x256x256, .f32⟩
  | 127 => ⟨S_, .f32⟩
  | _ => ⟨S8192x1024, .f32⟩

abbrev hbmTy0_1 (i : Nat) : BufTy := match i % 128 with
  | 0 => ⟨S256, .f32⟩
  | 1 => ⟨S1x1x256, .f32⟩
  | 2 => ⟨S4x256x256, .f32⟩
  | 3 => ⟨S4x256x256, .f32⟩
  | 4 => ⟨S_, .f32⟩
  | 5 => ⟨S256, .f32⟩
  | 6 => ⟨S4x256x256, .f32⟩
  | 7 => ⟨S_, .f32⟩
  | 8 => ⟨S4x256, .f32⟩
  | 9 => ⟨S4x256x1, .f32⟩
  | 10 => ⟨S4x256x256, .f32⟩
  | 11 => ⟨S4x256x256, .f32⟩
  | 12 => ⟨S4x256x1, .f32⟩
  | 13 => ⟨S_, .f32⟩
  | 14 => ⟨S4x256x1, .f32⟩
  | 15 => ⟨S4x256x1, .f32⟩
  | 16 => ⟨S_, .f32⟩
  | 17 => ⟨S4x256, .f32⟩
  | 18 => ⟨S4x256x256, .f32⟩
  | 19 => ⟨S4x256x256, .f32⟩
  | 20 => ⟨S4x256x256, .f32⟩
  | 21 => ⟨S4x256x256, .f32⟩
  | 22 => ⟨S4x256x256, .f32⟩
  | 23 => ⟨S1x256, .f32⟩
  | 24 => ⟨S256x4x256, .f32⟩
  | 25 => ⟨S256x1024, .f32⟩
  | 26 => ⟨S4x8192x256, .f32⟩
  | 27 => ⟨S_, .f32⟩
  | 28 => ⟨S256, .f32⟩
  | 29 => ⟨S1x1x256, .f32⟩
  | 30 => ⟨S4x8192x256, .f32⟩
  | 31 => ⟨S4x8192x256, .f32⟩
  | 32 => ⟨S_, .f32⟩
  | 33 => ⟨S256, .f32⟩
  | 34 => ⟨S4x8192x256, .f32⟩
  | 35 => ⟨S_, .f32⟩
  | 36 => ⟨S4x8192, .f32⟩
  | 37 => ⟨S4x8192x1, .f32⟩
  | 38 => ⟨S4x8192x256, .f32⟩
  | 39 => ⟨S4x8192x256, .f32⟩
  | 40 => ⟨S4x8192x1, .f32⟩
  | 41 => ⟨S_, .f32⟩
  | 42 => ⟨S4x8192x1, .f32⟩
  | 43 => ⟨S4x8192x1, .f32⟩
  | 44 => ⟨S_, .f32⟩
  | 45 => ⟨S4x8192, .f32⟩
  | 46 => ⟨S4x8192x256, .f32⟩
  | 47 => ⟨S4x8192x256, .f32⟩
  | 48 => ⟨S4x8192x256, .f32⟩
  | 49 => ⟨S4x8192x256, .f32⟩
  | 50 => ⟨S4x8192x256, .f32⟩
  | 51 => ⟨S1x256, .f32⟩
  | 52 => ⟨S8192x4x256, .f32⟩
  | 53 => ⟨S8192x1024, .f32⟩
  | 54 => ⟨S256x2048, .f32⟩
  | 55 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_7 : Ref sig .tc := ⟨.hbm, 56, rfl⟩
abbrev main_v43 : Ref sig .tc := ⟨.hbm, 57, rfl⟩
abbrev main_v44 : Ref sig .tc := ⟨.hbm, 58, rfl⟩
abbrev main_cst_8 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_9 : Ref sig .tc := ⟨.hbm, 65, rfl⟩
abbrev main_v50 : Ref sig .tc := ⟨.hbm, 66, rfl⟩
abbrev main_cst_10 : Ref sig .tc := ⟨.hbm, 67, rfl⟩
abbrev main_v51 : Ref sig .tc := ⟨.hbm, 68, rfl⟩
abbrev main_v52 : Ref sig .tc := ⟨.hbm, 69, rfl⟩
abbrev main_cst_11 : Ref sig .tc := ⟨.hbm, 70, rfl⟩
abbrev main_v53 : Ref sig .tc := ⟨.hbm, 71, rfl⟩
abbrev main_v54 : Ref sig .tc := ⟨.hbm, 72, rfl⟩
abbrev main_cst_12 : Ref sig .tc := ⟨.hbm, 73, rfl⟩
abbrev main_v55 : Ref sig .tc := ⟨.hbm, 74, rfl⟩
abbrev main_v56 : Ref sig .tc := ⟨.hbm, 75, rfl⟩
abbrev main_cst_13 : Ref sig .tc := ⟨.hbm, 76, rfl⟩
abbrev main_v57 : Ref sig .tc := ⟨.hbm, 77, rfl⟩
abbrev main_cst_14 : Ref sig .tc := ⟨.hbm, 78, rfl⟩
abbrev main_v58 : Ref sig .tc := ⟨.hbm, 79, rfl⟩
abbrev main_cst_15 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_16 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_17 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_cst_18 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_cst_19 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_cst_20 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_cst_21 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_cst_22 : Ref sig .tc := ⟨.hbm, 132, rfl⟩
abbrev main_v104 : Ref sig .tc := ⟨.hbm, 133, rfl⟩
abbrev main_v105 : Ref sig .tc := ⟨.hbm, 134, rfl⟩
abbrev main_cst_23 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_cst_24 : Ref sig .tc := ⟨.hbm, 141, rfl⟩
abbrev main_v111 : Ref sig .tc := ⟨.hbm, 142, rfl⟩
abbrev main_v112 : Ref sig .tc := ⟨.hbm, 143, rfl⟩
abbrev main_cst_25 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_cst_26 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_cst_27 : Ref sig .tc := ⟨.hbm, 160, rfl⟩
abbrev main_v127 : Ref sig .tc := ⟨.hbm, 161, rfl⟩
abbrev main_v128 : Ref sig .tc := ⟨.hbm, 162, rfl⟩
abbrev main_cst_28 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_cst_29 : Ref sig .tc := ⟨.hbm, 169, rfl⟩
abbrev main_v134 : Ref sig .tc := ⟨.hbm, 170, rfl⟩
abbrev main_v135 : Ref sig .tc := ⟨.hbm, 171, rfl⟩
abbrev main_cst_30 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩

abbrev nD : Nat := 1
abbrev τ : Topo := Topo.v7x

variable {F : FTy → Type} [FloatOps F]
-- ==== Kernel2.lean ====
abbrev S8192x2048 : Shape := ⟨2, ![8192, 2048]⟩
abbrev S8192x8192 : Shape := ⟨2, ![8192, 8192]⟩
abbrev S1024x2048 : Shape := ⟨2, ![1024, 2048]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x8192, .f32⟩
  | .hbm, ⟨3, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S8192x2048 : Shape := ⟨2, ![8192, 2048]⟩
abbrev S8192x8192 : Shape := ⟨2, ![8192, 8192]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x8192, .f32⟩
  | .hbm, ⟨3, _⟩ => ⟨S_, .f32⟩
  | .hbm, ⟨4, _⟩ => ⟨S8192x8192, .f32⟩
  | .hbm, ⟨5, _⟩ => ⟨S8192x8192, .f32⟩
  | .hbm, ⟨6, _⟩ => ⟨S_, .f32⟩
  | .hbm, ⟨7, _⟩ => ⟨S8192x8192, .f32⟩
  | .hbm, ⟨8, _⟩ => ⟨S8192x8192, .i1⟩
  | .hbm, ⟨9, _⟩ => ⟨S_, .f32⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x8192, .f32⟩
  | .hbm, ⟨19, _⟩ => ⟨S8192x8192, .f32⟩
  | .hbm, ⟨20, _⟩ => ⟨S_, .f32⟩
  | .hbm, ⟨21, _⟩ => ⟨S8192x8192, .f32⟩
  | .hbm, ⟨22, _⟩ => ⟨S8192x8192, .f32⟩
  | .hbm, ⟨23, _⟩ => ⟨S8192x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Kernel3.lean ====
abbrev S8192x8192 : Shape := ⟨2, ![8192, 8192]⟩
abbrev S8192x2048 : Shape := ⟨2, ![8192, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .bf16⟩
  | .hbm, ⟨2, _⟩ => ⟨S8192x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x8192 : Shape := ⟨2, ![8192, 8192]⟩
abbrev S8192x2048 : Shape := ⟨2, ![8192, 2048]⟩
abbrev S_ : Shape := ⟨0, ![]⟩
abbrev S2048x8192 : Shape := ⟨2, ![2048, 8192]⟩

abbrev nBuf : Space → Nat
  | .hbm => 10
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .bf16⟩
  | .hbm, ⟨2, _⟩ => ⟨S_, .f32⟩
  | .hbm, ⟨3, _⟩ => ⟨S8192x2048, .f32⟩
  | .hbm, ⟨4, _⟩ => ⟨S8192x8192, .f32⟩
  | .hbm, ⟨5, _⟩ => ⟨S8192x2048, .f32⟩
  | .hbm, ⟨6, _⟩ => ⟨S8192x2048, .f32⟩
  | .hbm, ⟨7, _⟩ => ⟨S2048x8192, .f32⟩
  | .hbm, ⟨8, _⟩ => ⟨S8192x2048, .f32⟩
  | .hbm, ⟨9, _⟩ => ⟨S8192x2048, .bf16⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S8192x8192 : Shape := ⟨2, ![8192, 8192]⟩
abbrev S2048x8192 : Shape := ⟨2, ![2048, 8192]⟩
abbrev S8192x2048 : Shape := ⟨2, ![8192, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x8192, .bf16⟩
  | .hbm, ⟨1, _⟩ => ⟨S2048x8192, .bf16⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x8192 : Shape := ⟨2, ![8192, 8192]⟩
abbrev S2048x8192 : Shape := ⟨2, ![2048, 8192]⟩
abbrev S_ : Shape := ⟨0, ![]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S2048x8192, .bf16⟩
  | .hbm, ⟨2, _⟩ => ⟨S_, .f32⟩
  | .hbm, ⟨3, _⟩ => ⟨S8192x2048, .f32⟩
  | .hbm, ⟨4, _⟩ => ⟨S2048x8192, .f32⟩
  | .hbm, ⟨5, _⟩ => ⟨S8192x8192, .f32⟩
  | .hbm, ⟨6, _⟩ => ⟨S8192x8192, .f32⟩
  | .hbm, ⟨7, _⟩ => ⟨S8192x2048, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S8192x2048 : Shape := ⟨2, ![8192, 2048]⟩
abbrev S8192x8192 : Shape := ⟨2, ![8192, 8192]⟩
abbrev S2048x8192 : Shape := ⟨2, ![2048, 8192]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x8192, .bf16⟩
  | .hbm, ⟨2, _⟩ => ⟨S2048x8192, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x2048 : Shape := ⟨2, ![8192, 2048]⟩
abbrev S8192x8192 : Shape := ⟨2, ![8192, 8192]⟩
abbrev S_ : Shape := ⟨0, ![]⟩
abbrev S2048x8192 : Shape := ⟨2, ![2048, 8192]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x8192, .bf16⟩
  | .hbm, ⟨2, _⟩ => ⟨S_, .f32⟩
  | .hbm, ⟨3, _⟩ => ⟨S2048x8192, .f32⟩
  | .hbm, ⟨4, _⟩ => ⟨S8192x2048, .f32⟩
  | .hbm, ⟨5, _⟩ => ⟨S8192x8192, .f32⟩
  | .hbm, ⟨6, _⟩ => ⟨S8192x8192, .f32⟩
  | .hbm, ⟨7, _⟩ => ⟨S8192x2048, .f32⟩
  | .hbm, ⟨8, _⟩ => ⟨S2048x8192, .f32⟩
  | .hbm, ⟨9, _⟩ => ⟨S2048x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S8192x15360 : Shape := ⟨2, ![8192, 15360]⟩
abbrev S2048x15360 : Shape := ⟨2, ![2048, 15360]⟩
abbrev S8192x2048 : Shape := ⟨2, ![8192, 2048]⟩
abbrev S1024x3072 : Shape := ⟨2, ![1024, 3072]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x15360, .bf16⟩
  | .hbm, ⟨1, _⟩ => ⟨S2048x15360, .bf16⟩
  | .hbm, ⟨2, _⟩ => ⟨S8192x2048, .f32⟩
  | .local _ .vmem, ⟨0, _⟩ => ⟨S1024x3072, .bf16⟩
  | .local _ .vmem, ⟨1, _⟩ => ⟨S1024x3072, .bf16⟩
  | .local _ .vmem, ⟨2, _⟩ => ⟨S1024x3072, .bf16⟩
  | .local _ .vmem, ⟨3, _⟩ => ⟨S1024x3072, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x15360, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 5], ![false, false, false]⟩

def k0_cond3 (i : grid0.Coords) : BitVec 1 :=
  let arg2 : BitVec 32 := BitVec.ofNat 32 (i 2).val
  let c4_i32 : BitVec 32 := 4#32
  let v9 : BitVec 1 := Scalar.cmpi .eq arg2 c4_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x15360 : Shape := ⟨2, ![8192, 15360]⟩
abbrev S2048x15360 : Shape := ⟨2, ![2048, 15360]⟩
abbrev S_ : Shape := ⟨0, ![]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x15360, .bf16⟩
  | .hbm, ⟨1, _⟩ => ⟨S2048x15360, .bf16⟩
  | .hbm, ⟨2, _⟩ => ⟨S_, .f32⟩
  | .hbm, ⟨3, _⟩ => ⟨S8192x2048, .f32⟩
  | .hbm, ⟨4, _⟩ => ⟨S2048x15360, .f32⟩
  | .hbm, ⟨5, _⟩ => ⟨S8192x15360, .f32⟩
  | .hbm, ⟨6, _⟩ => ⟨S8192x15360, .f32⟩
  | .hbm, ⟨7, _⟩ => ⟨S8192x2048, .f32⟩
  | _, _ => ⟨S8192x15360, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S8192x2048 : Shape := ⟨2, ![8192, 2048]⟩
abbrev S8192x15360 : Shape := ⟨2, ![8192, 15360]⟩
abbrev S2048x15360 : Shape := ⟨2, ![2048, 15360]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x15360, .bf16⟩
  | .hbm, ⟨2, _⟩ => ⟨S2048x15360, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 15, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x2048 : Shape := ⟨2, ![8192, 2048]⟩
abbrev S8192x15360 : Shape := ⟨2, ![8192, 15360]⟩
abbrev S_ : Shape := ⟨0, ![]⟩
abbrev S2048x15360 : Shape := ⟨2, ![2048, 15360]⟩
abbrev S15360x2048 : Shape := ⟨2, ![15360, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x15360, .bf16⟩
  | .hbm, ⟨2, _⟩ => ⟨S_, .f32⟩
  | .hbm, ⟨3, _⟩ => ⟨S2048x15360, .f32⟩
  | .hbm, ⟨4, _⟩ => ⟨S8192x2048, .f32⟩
  | .hbm, ⟨5, _⟩ => ⟨S8192x15360, .f32⟩
  | .hbm, ⟨6, _⟩ => ⟨S8192x15360, .f32⟩
  | .hbm, ⟨7, _⟩ => ⟨S15360x2048, .f32⟩
  | .hbm, ⟨8, _⟩ => ⟨S2048x15360, .f32⟩
  | .hbm, ⟨9, _⟩ => ⟨S2048x15360, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S_, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | .hbm, ⟨7, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S8192x2048 : Shape := ⟨2, ![8192, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S8192x2048 : Shape := ⟨2, ![8192, 2048]⟩
abbrev S2048x15360 : Shape := ⟨2, ![2048, 15360]⟩
abbrev S8192x15360 : Shape := ⟨2, ![8192, 15360]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x15360, .bf16⟩
  | .hbm, ⟨2, _⟩ => ⟨S8192x15360, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 15, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x2048 : Shape := ⟨2, ![8192, 2048]⟩
abbrev S2048x15360 : Shape := ⟨2, ![2048, 15360]⟩
abbrev S8192x15360 : Shape := ⟨2, ![8192, 15360]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x15360, .bf16⟩
  | .hbm, ⟨2, _⟩ => ⟨S8192x2048, .f32⟩
  | .hbm, ⟨3, _⟩ => ⟨S2048x15360, .f32⟩
  | .hbm, ⟨4, _⟩ => ⟨S8192x15360, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel11.lean ====
abbrev S8192x2048 : Shape := ⟨2, ![8192, 2048]⟩
abbrev S2048x8192 : Shape := ⟨2, ![2048, 8192]⟩
abbrev S8192x8192 : Shape := ⟨2, ![8192, 8192]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .bf16⟩
  | .hbm, ⟨2, _⟩ => ⟨S8192x8192, .f32⟩
  | .hbm, ⟨3, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference11Ideal.lean ====
abbrev S8192x2048 : Shape := ⟨2, ![8192, 2048]⟩
abbrev S2048x8192 : Shape := ⟨2, ![2048, 8192]⟩
abbrev S8192x8192 : Shape := ⟨2, ![8192, 8192]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .bf16⟩
  | .hbm, ⟨2, _⟩ => ⟨S8192x2048, .f32⟩
  | .hbm, ⟨3, _⟩ => ⟨S2048x8192, .f32⟩
  | .hbm, ⟨4, _⟩ => ⟨S8192x8192, .f32⟩
  | .hbm, ⟨5, _⟩ => ⟨S_, .f32⟩
  | .hbm, ⟨6, _⟩ => ⟨S8192x8192, .f32⟩
  | .hbm, ⟨7, _⟩ => ⟨S8192x8192, .f32⟩
  | .hbm, ⟨8, _⟩ => ⟨S8192x8192, .f32⟩
  | .hbm, ⟨9, _⟩ => ⟨S8192x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel12.lean ====
abbrev S8192x8192 : Shape := ⟨2, ![8192, 8192]⟩
abbrev S8192x2048 : Shape := ⟨2, ![8192, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 13
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .bf16⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference12Ideal.lean ====
abbrev S8192x8192 : Shape := ⟨2, ![8192, 8192]⟩
abbrev S8192x2048 : Shape := ⟨2, ![8192, 2048]⟩
abbrev S_ : Shape := ⟨0, ![]⟩
abbrev S8192 : Shape := ⟨1, ![8192]⟩

abbrev nBuf : Space → Nat
  | .hbm => 32
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .bf16⟩
  | .hbm, ⟨2, _⟩ => ⟨S8192x2048, .f32⟩
  | .hbm, ⟨3, _⟩ => ⟨S8192x2048, .f32⟩
  | .hbm, ⟨4, _⟩ => ⟨S8192x8192, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192, .f32⟩
  | .hbm, ⟨15, _⟩ => ⟨S_, .f32⟩
  | .hbm, ⟨16, _⟩ => ⟨S8192, .f32⟩
  | .hbm, ⟨17, _⟩ => ⟨S8192, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S8192, .f32⟩
  | .hbm, ⟨26, _⟩ => ⟨S_, .f32⟩
  | .hbm, ⟨27, _⟩ => ⟨S8192, .f32⟩
  | .hbm, ⟨28, _⟩ => ⟨S8192, .f32⟩
  | .hbm, ⟨29, _⟩ => ⟨S8192x2048, .f32⟩
  | .hbm, ⟨30, _⟩ => ⟨S8192x2048, .f32⟩
  | .hbm, ⟨31, _⟩ => ⟨S8192x2048, .bf16⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_cst_4 : Ref sig .tc := ⟨.hbm, 22, rfl⟩
abbrev main_cst_5 : Ref sig .tc := ⟨.hbm, 23, rfl⟩
abbrev main_v13 : Ref sig .tc := ⟨.hbm, 24, rfl⟩
abbrev main_v14 : Ref sig .tc := ⟨.hbm, 25, rfl⟩
abbrev main_cst_6 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩

abbrev nD : Nat := 1
abbrev τ : Topo := Topo.v7x

variable {F : FTy → Type} [FloatOps F]
-- ==== Kernel13.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference13Ideal.lean ====
abbrev S8192x2048 : Shape := ⟨2, ![8192, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel14.lean ====
abbrev S8192x1024 : Shape := ⟨2, ![8192, 1024]⟩
abbrev S1024x2048 : Shape := ⟨2, ![1024, 2048]⟩
abbrev S8192x2048 : Shape := ⟨2, ![8192, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x1024, .f32⟩
  | .hbm, ⟨3, _⟩ => ⟨S1024x2048, .f32⟩
  | .hbm, ⟨4, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel15.lean ====
abbrev S8192x2048 : Shape := ⟨2, ![8192, 2048]⟩
abbrev S1024x2048 : Shape := ⟨2, ![1024, 2048]⟩
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .f32⟩
  | .local _ .vmem, ⟨4, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S8192x2048 : Shape := ⟨2, ![8192, 2048]⟩
abbrev S1024x2048 : Shape := ⟨2, ![1024, 2048]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S_, .f32⟩
  | .hbm, ⟨3, _⟩ => ⟨S8192x1024, .f32⟩
  | .hbm, ⟨4, _⟩ => ⟨S1024x2048, .f32⟩
  | .hbm, ⟨5, _⟩ => ⟨S8192x2048, .f32⟩
  | .hbm, ⟨6, _⟩ => ⟨S8192x2048, .f32⟩
  | .hbm, ⟨7, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel16.lean ====
abbrev S8192x1024 : Shape := ⟨2, ![8192, 1024]⟩
abbrev S8192x2048 : Shape := ⟨2, ![8192, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S_, .f32⟩
  | .hbm, ⟨3, _⟩ => ⟨S1024x2048, .f32⟩
  | .hbm, ⟨4, _⟩ => ⟨S8192x1024, .f32⟩
  | .hbm, ⟨5, _⟩ => ⟨S8192x2048, .f32⟩
  | .hbm, ⟨6, _⟩ => ⟨S8192x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel17.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .bf16⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference17Ideal.lean ====
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 53
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S1x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S2048, .f32⟩
  | .hbm, ⟨33, _⟩ => ⟨S8192x2048, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x2048, .f32⟩
  | .hbm, ⟨38, _⟩ => ⟨S8192x2048, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S1x2048, .f32⟩
  | .hbm, ⟨51, _⟩ => ⟨S8192x2048, .f32⟩
  | .hbm, ⟨52, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel18.lean ====
abbrev S2048x3590 : Shape := ⟨2, ![2048, 3590]⟩
abbrev S128x3590 : Shape := ⟨2, ![128, 3590]⟩

abbrev nBuf : Space → Nat
  | .hbm => 7
  | .vmem => 14
  | .smem => 0
  | _ => 0

abbrev bufTy : (tb : Table) → Fin (tcTables nBuf tb) → BufTy
  | .hbm, ⟨0, _⟩ => ⟨S2048x3590, .f32⟩
  | .hbm, ⟨1, _⟩ => ⟨S2048x3590, .f32⟩
  | .hbm, ⟨2, _⟩ => ⟨S2048x3590, .f32⟩
  | .hbm, ⟨3, _⟩ => ⟨S2048x3590, .f32⟩
  | .hbm, ⟨4, _⟩ => ⟨S2048x3590, .f32⟩
  | .hbm, ⟨5, _⟩ => ⟨S2048x3590, .f32⟩
  | .hbm, ⟨6, _⟩ => ⟨S2048x3590, .f32⟩
  | .local _ .vmem, ⟨0, _⟩ => ⟨S128x3590, .f32⟩
  | .local _ .vmem, ⟨1, _⟩ => ⟨S128x3590, .f32⟩
  | .local _ .vmem, ⟨2, _⟩ => ⟨S128x3590, .f32⟩
  | .local _ .vmem, ⟨3, _⟩ => ⟨S128x3590, .f32⟩
  | .local _ .vmem, ⟨4, _⟩ => ⟨S128x3590, .f32⟩
  | .local _ .vmem, ⟨5, _⟩ => ⟨S128x3590, .f32⟩
  | .local _ .vmem, ⟨6, _⟩ => ⟨S128x3590, .f32⟩
  | .local _ .vmem, ⟨7, _⟩ => ⟨S128x3590, .f32⟩
  | .local _ .vmem, ⟨8, _⟩ => ⟨S128x3590, .f32⟩
  | .local _ .vmem, ⟨9, _⟩ => ⟨S128x3590, .f32⟩
  | .local _ .vmem, ⟨10, _⟩ => ⟨S128x3590, .f32⟩
  | .local _ .vmem, ⟨11, _⟩ => ⟨S128x3590, .f32⟩
  | .local _ .vmem, ⟨12, _⟩ => ⟨S128x3590, .f32⟩
  | .local _ .vmem, ⟨13, _⟩ => ⟨S128x3590, .f32⟩
  | _, _ => ⟨S2048x3590, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x3590 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x3590 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x3590 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x3590 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x3590 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x3590 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x3590 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel18Ideal.lean ====
variable {F : FTy → Type} [FloatOps F] [Named F]
def κ : String → Option EReal := fun
  | "inv_debias_m" => some ((10000000000 / 6513215599 : ℝ) : EReal)
  | "inv_debias_v" => some ((1000000000000000000000000000000 / 9955119790251790119955009999 : ℝ) : EReal)
  | _ => none
-- ==== Reference18Ideal.lean ====
abbrev S2048x3590 : Shape := ⟨2, ![2048, 3590]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S2048x3590, .f32⟩
  | .hbm, ⟨1, _⟩ => ⟨S2048x3590, .f32⟩
  | .hbm, ⟨2, _⟩ => ⟨S2048x3590, .f32⟩
  | .hbm, ⟨3, _⟩ => ⟨S2048x3590, .f32⟩
  | .hbm, ⟨4, _⟩ => ⟨S_, .f32⟩
  | .hbm, ⟨5, _⟩ => ⟨S2048x3590, .f32⟩
  | .hbm, ⟨6, _⟩ => ⟨S2048x3590, .f32⟩
  | .hbm, ⟨7, _⟩ => ⟨S_, .f32⟩
  | .hbm, ⟨8, _⟩ => ⟨S2048x3590, .f32⟩
  | .hbm, ⟨9, _⟩ => ⟨S2048x3590, .f32⟩
  | .hbm, ⟨10, _⟩ => ⟨S2048x3590, .f32⟩
  | .hbm, ⟨11, _⟩ => ⟨S_, .f32⟩
  | .hbm, ⟨12, _⟩ => ⟨S2048x3590, .f32⟩
  | .hbm, ⟨13, _⟩ => ⟨S2048x3590, .f32⟩
  | .hbm, ⟨14, _⟩ => ⟨S2048x3590, .f32⟩
  | .hbm, ⟨15, _⟩ => ⟨S_, .f32⟩
  | .hbm, ⟨16, _⟩ => ⟨S2048x3590, .f32⟩
  | .hbm, ⟨17, _⟩ => ⟨S2048x3590, .f32⟩
  | .hbm, ⟨18, _⟩ => ⟨S2048x3590, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S2048x3590, .f32⟩
  | .hbm, ⟨29, _⟩ => ⟨S2048x3590, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S2048x3590, .f32⟩
  | .hbm, ⟨40, _⟩ => ⟨S2048x3590, .f32⟩
  | .hbm, ⟨41, _⟩ => ⟨S2048x3590, .f32⟩
  | .hbm, ⟨42, _⟩ => ⟨S_, .f32⟩
  | .hbm, ⟨43, _⟩ => ⟨S2048x3590, .f32⟩
  | .hbm, ⟨44, _⟩ => ⟨S2048x3590, .f32⟩
  | .hbm, ⟨45, _⟩ => ⟨S2048x3590, .f32⟩
  | .hbm, ⟨46, _⟩ => ⟨S_, .f32⟩
  | .hbm, ⟨47, _⟩ => ⟨S2048x3590, .f32⟩
  | .hbm, ⟨48, _⟩ => ⟨S2048x3590, .f32⟩
  | .hbm, ⟨49, _⟩ => ⟨S2048x3590, .f32⟩
  | .hbm, ⟨50, _⟩ => ⟨S_, .f32⟩
  | .hbm, ⟨51, _⟩ => ⟨S2048x3590, .f32⟩
  | .hbm, ⟨52, _⟩ => ⟨S2048x3590, .f32⟩
  | _, _ => ⟨S2048x3590, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_cst_4 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_cst_7 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_9 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_10 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_11 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]
-- ==== Kernel19.lean ====
abbrev S2048x2048 : Shape := ⟨2, ![2048, 2048]⟩
abbrev S128x2048 : Shape := ⟨2, ![128, 2048]⟩

abbrev nBuf : Space → Nat
  | .hbm => 7
  | .vmem => 14
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel19Ideal.lean ====
variable {F : FTy → Type} [FloatOps F] [Named F]
def κ : String → Option EReal := fun
  | "inv_debias_m" => some ((10000000000 / 6513215599 : ℝ) : EReal)
  | "inv_debias_v" => some ((1000000000000000000000000000000 / 9955119790251790119955009999 : ℝ) : EReal)
  | _ => none
-- ==== Reference19Ideal.lean ====
abbrev S2048x2048 : Shape := ⟨2, ![2048, 2048]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S_, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S2048x2048, .f32⟩
  | .hbm, ⟨40, _⟩ => ⟨S2048x2048, .f32⟩
  | .hbm, ⟨41, _⟩ => ⟨S2048x2048, .f32⟩
  | .hbm, ⟨42, _⟩ => ⟨S_, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S_, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S_, .f32⟩
  | .hbm, ⟨51, _⟩ => ⟨S2048x2048, .f32⟩
  | .hbm, ⟨52, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_cst_4 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_cst_7 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_9 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_10 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_11 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]
-- ==== Kernel20.lean ====
abbrev S512x2048 : Shape := ⟨2, ![512, 2048]⟩
abbrev S128x2048 : Shape := ⟨2, ![128, 2048]⟩

abbrev nBuf : Space → Nat
  | .hbm => 7
  | .vmem => 14
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel20Ideal.lean ====
variable {F : FTy → Type} [FloatOps F] [Named F]
def κ : String → Option EReal := fun
  | "inv_debias_m" => some ((10000000000 / 6513215599 : ℝ) : EReal)
  | "inv_debias_v" => some ((1000000000000000000000000000000 / 9955119790251790119955009999 : ℝ) : EReal)
  | _ => none
-- ==== Reference20Ideal.lean ====
abbrev S512x2048 : Shape := ⟨2, ![512, 2048]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S_, .f32⟩
  | .hbm, ⟨5, _⟩ => ⟨S512x2048, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S_, .f32⟩
  | .hbm, ⟨12, _⟩ => ⟨S512x2048, .f32⟩
  | .hbm, ⟨13, _⟩ => ⟨S512x2048, .f32⟩
  | .hbm, ⟨14, _⟩ => ⟨S512x2048, .f32⟩
  | .hbm, ⟨15, _⟩ => ⟨S_, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S512x2048, .f32⟩
  | .hbm, ⟨29, _⟩ => ⟨S512x2048, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S512x2048, .f32⟩
  | .hbm, ⟨40, _⟩ => ⟨S512x2048, .f32⟩
  | .hbm, ⟨41, _⟩ => ⟨S512x2048, .f32⟩
  | .hbm, ⟨42, _⟩ => ⟨S_, .f32⟩
  | .hbm, ⟨43, _⟩ => ⟨S512x2048, .f32⟩
  | .hbm, ⟨44, _⟩ => ⟨S512x2048, .f32⟩
  | .hbm, ⟨45, _⟩ => ⟨S512x2048, .f32⟩
  | .hbm, ⟨46, _⟩ => ⟨S_, .f32⟩
  | .hbm, ⟨47, _⟩ => ⟨S512x2048, .f32⟩
  | .hbm, ⟨48, _⟩ => ⟨S512x2048, .f32⟩
  | .hbm, ⟨49, _⟩ => ⟨S512x2048, .f32⟩
  | .hbm, ⟨50, _⟩ => ⟨S_, .f32⟩
  | .hbm, ⟨51, _⟩ => ⟨S512x2048, .f32⟩
  | .hbm, ⟨52, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_cst_4 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_cst_7 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_9 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_10 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_11 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]
-- ==== Kernel21.lean ====
abbrev S1024x512 : Shape := ⟨2, ![1024, 512]⟩
abbrev S128x512 : Shape := ⟨2, ![128, 512]⟩

abbrev nBuf : Space → Nat
  | .hbm => 7
  | .vmem => 14
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel21Ideal.lean ====
variable {F : FTy → Type} [FloatOps F] [Named F]
def κ : String → Option EReal := fun
  | "inv_debias_m" => some ((10000000000 / 6513215599 : ℝ) : EReal)
  | "inv_debias_v" => some ((1000000000000000000000000000000 / 9955119790251790119955009999 : ℝ) : EReal)
  | _ => none
-- ==== Reference21Ideal.lean ====
abbrev S1024x512 : Shape := ⟨2, ![1024, 512]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S_, .f32⟩
  | .hbm, ⟨5, _⟩ => ⟨S1024x512, .f32⟩
  | .hbm, ⟨6, _⟩ => ⟨S1024x512, .f32⟩
  | .hbm, ⟨7, _⟩ => ⟨S_, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S_, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S_, .f32⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S1024x512, .f32⟩
  | .hbm, ⟨29, _⟩ => ⟨S1024x512, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S1024x512, .f32⟩
  | .hbm, ⟨40, _⟩ => ⟨S1024x512, .f32⟩
  | .hbm, ⟨41, _⟩ => ⟨S1024x512, .f32⟩
  | .hbm, ⟨42, _⟩ => ⟨S_, .f32⟩
  | .hbm, ⟨43, _⟩ => ⟨S1024x512, .f32⟩
  | .hbm, ⟨44, _⟩ => ⟨S1024x512, .f32⟩
  | .hbm, ⟨45, _⟩ => ⟨S1024x512, .f32⟩
  | .hbm, ⟨46, _⟩ => ⟨S_, .f32⟩
  | .hbm, ⟨47, _⟩ => ⟨S1024x512, .f32⟩
  | .hbm, ⟨48, _⟩ => ⟨S1024x512, .f32⟩
  | .hbm, ⟨49, _⟩ => ⟨S1024x512, .f32⟩
  | .hbm, ⟨50, _⟩ => ⟨S_, .f32⟩
  | .hbm, ⟨51, _⟩ => ⟨S1024x512, .f32⟩
  | .hbm, ⟨52, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_cst_4 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_cst_7 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_9 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_10 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_11 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]
-- ==== Kernel22.lean ====
abbrev S16x1024 : Shape := ⟨2, ![16, 1024]⟩

abbrev nBuf : Space → Nat
  | .hbm => 7
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S16x1024, .f32⟩
  | .hbm, ⟨2, _⟩ => ⟨S16x1024, .f32⟩
  | .hbm, ⟨3, _⟩ => ⟨S16x1024, .f32⟩
  | .hbm, ⟨4, _⟩ => ⟨S16x1024, .f32⟩
  | .hbm, ⟨5, _⟩ => ⟨S16x1024, .f32⟩
  | .hbm, ⟨6, _⟩ => ⟨S16x1024, .f32⟩
  | .local _ .vmem, ⟨0, _⟩ => ⟨S16x1024, .f32⟩
  | .local _ .vmem, ⟨1, _⟩ => ⟨S16x1024, .f32⟩
  | .local _ .vmem, ⟨2, _⟩ => ⟨S16x1024, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S16x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel22Ideal.lean ====
variable {F : FTy → Type} [FloatOps F] [Named F]
def κ : String → Option EReal := fun
  | "inv_debias_m" => some ((10000000000 / 6513215599 : ℝ) : EReal)
  | "inv_debias_v" => some ((1000000000000000000000000000000 / 9955119790251790119955009999 : ℝ) : EReal)
  | _ => none
-- ==== Reference22Ideal.lean ====
abbrev S16x1024 : Shape := ⟨2, ![16, 1024]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S16x1024, .f32⟩
  | .hbm, ⟨2, _⟩ => ⟨S16x1024, .f32⟩
  | .hbm, ⟨3, _⟩ => ⟨S16x1024, .f32⟩
  | .hbm, ⟨4, _⟩ => ⟨S_, .f32⟩
  | .hbm, ⟨5, _⟩ => ⟨S16x1024, .f32⟩
  | .hbm, ⟨6, _⟩ => ⟨S16x1024, .f32⟩
  | .hbm, ⟨7, _⟩ => ⟨S_, .f32⟩
  | .hbm, ⟨8, _⟩ => ⟨S16x1024, .f32⟩
  | .hbm, ⟨9, _⟩ => ⟨S16x1024, .f32⟩
  | .hbm, ⟨10, _⟩ => ⟨S16x1024, .f32⟩
  | .hbm, ⟨11, _⟩ => ⟨S_, .f32⟩
  | .hbm, ⟨12, _⟩ => ⟨S16x1024, .f32⟩
  | .hbm, ⟨13, _⟩ => ⟨S16x1024, .f32⟩
  | .hbm, ⟨14, _⟩ => ⟨S16x1024, .f32⟩
  | .hbm, ⟨15, _⟩ => ⟨S_, .f32⟩
  | .hbm, ⟨16, _⟩ => ⟨S16x1024, .f32⟩
  | .hbm, ⟨17, _⟩ => ⟨S16x1024, .f32⟩
  | .hbm, ⟨18, _⟩ => ⟨S16x1024, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S16x1024, .f32⟩
  | .hbm, ⟨29, _⟩ => ⟨S16x1024, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S16x1024, .f32⟩
  | .hbm, ⟨40, _⟩ => ⟨S16x1024, .f32⟩
  | .hbm, ⟨41, _⟩ => ⟨S16x1024, .f32⟩
  | .hbm, ⟨42, _⟩ => ⟨S_, .f32⟩
  | .hbm, ⟨43, _⟩ => ⟨S16x1024, .f32⟩
  | .hbm, ⟨44, _⟩ => ⟨S16x1024, .f32⟩
  | .hbm, ⟨45, _⟩ => ⟨S16x1024, .f32⟩
  | .hbm, ⟨46, _⟩ => ⟨S_, .f32⟩
  | .hbm, ⟨47, _⟩ => ⟨S16x1024, .f32⟩
  | .hbm, ⟨48, _⟩ => ⟨S16x1024, .f32⟩
  | .hbm, ⟨49, _⟩ => ⟨S16x1024, .f32⟩
  | .hbm, ⟨50, _⟩ => ⟨S_, .f32⟩
  | .hbm, ⟨51, _⟩ => ⟨S16x1024, .f32⟩
  | .hbm, ⟨52, _⟩ => ⟨S16x1024, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_cst_4 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_cst_7 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_9 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_10 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_11 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]
-- ==== Kernel23.lean ====
abbrev S8192x1024 : Shape := ⟨2, ![8192, 1024]⟩
abbrev S256x2048 : Shape := ⟨2, ![256, 2048]⟩
abbrev S1x256 : Shape := ⟨2, ![1, 256]⟩
abbrev S512x1024 : Shape := ⟨2, ![512, 1024]⟩
abbrev S256x1024 : Shape := ⟨2, ![256, 1024]⟩
abbrev S256x256 : Shape := ⟨2, ![256, 256]⟩
abbrev S512x256 : Shape := ⟨2, ![512, 256]⟩
abbrev S512 : Shape := ⟨1, ![512]⟩
abbrev S512x1 : Shape := ⟨2, ![512, 1]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S256x2048, .f32⟩
  | .hbm, ⟨2, _⟩ => ⟨S1x256, .f32⟩
  | .hbm, ⟨3, _⟩ => ⟨S1x256, .f32⟩
  | .hbm, ⟨4, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S256x2048, .f32⟩
  | .local _ .vmem, ⟨3, _⟩ => ⟨S1x256, .f32⟩
  | .local _ .vmem, ⟨4, _⟩ => ⟨S1x256, .f32⟩
  | .local _ .vmem, ⟨5, _⟩ => ⟨S512x1024, .bf16⟩
  | .local _ .vmem, ⟨6, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference23Ideal.lean ====
abbrev S8192x1024 : Shape := ⟨2, ![8192, 1024]⟩
abbrev S256x2048 : Shape := ⟨2, ![256, 2048]⟩
abbrev S1x256 : Shape := ⟨2, ![1, 256]⟩
abbrev S256x1024 : Shape := ⟨2, ![256, 1024]⟩
abbrev S8192x4x256 : Shape := ⟨3, ![8192, 4, 256]⟩
abbrev S4x8192x256 : Shape := ⟨3, ![4, 8192, 256]⟩
abbrev S256 : Shape := ⟨1, ![256]⟩
abbrev S_ : Shape := ⟨0, ![]⟩
abbrev S4x8192 : Shape := ⟨2, ![4, 8192]⟩
abbrev S4x8192x1 : Shape := ⟨3, ![4, 8192, 1]⟩
abbrev S1x1x256 : Shape := ⟨3, ![1, 1, 256]⟩
abbrev S256x4x256 : Shape := ⟨3, ![256, 4, 256]⟩
abbrev S4x256x256 : Shape := ⟨3, ![4, 256, 256]⟩
abbrev S4x256 : Shape := ⟨2, ![4, 256]⟩
abbrev S4x256x1 : Shape := ⟨3, ![4, 256, 1]⟩

abbrev nBuf : Space → Nat
  | .hbm => 68
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S256x2048, .f32⟩
  | .hbm, ⟨2, _⟩ => ⟨S1x256, .f32⟩
  | .hbm, ⟨3, _⟩ => ⟨S1x256, .f32⟩
  | .hbm, ⟨4, _⟩ => ⟨S256x1024, .f32⟩
  | .hbm, ⟨5, _⟩ => ⟨S256x1024, .f32⟩
  | .hbm, ⟨6, _⟩ => ⟨S8192x4x256, .f32⟩
  | .hbm, ⟨7, _⟩ => ⟨S4x8192x256, .f32⟩
  | .hbm, ⟨8, _⟩ => ⟨S256, .f32⟩
  | .hbm, ⟨9, _⟩ => ⟨S4x8192x256, .f32⟩
  | .hbm, ⟨10, _⟩ => ⟨S_, .f32⟩
  | .hbm, ⟨11, _⟩ => ⟨S4x8192, .f32⟩
  | .hbm, ⟨12, _⟩ => ⟨S4x8192x1, .f32⟩
  | .hbm, ⟨13, _⟩ => ⟨S_, .f32⟩
  | .hbm, ⟨14, _⟩ => ⟨S4x8192x1, .f32⟩
  | .hbm, ⟨15, _⟩ => ⟨S4x8192x1, .f32⟩
  | .hbm, ⟨16, _⟩ => ⟨S_, .f32⟩
  | .hbm, ⟨17, _⟩ => ⟨S4x8192x1, .f32⟩
  | .hbm, ⟨18, _⟩ => ⟨S4x8192x1, .f32⟩
  | .hbm, ⟨19, _⟩ => ⟨S4x8192x1, .f32⟩
  | .hbm, ⟨20, _⟩ => ⟨S4x8192x256, .f32⟩
  | .hbm, ⟨21, _⟩ => ⟨S4x8192x256, .f32⟩
  | .hbm, ⟨22, _⟩ => ⟨S1x1x256, .f32⟩
  | .hbm, ⟨23, _⟩ => ⟨S4x8192x256, .f32⟩
  | .hbm, ⟨24, _⟩ => ⟨S4x8192x256, .f32⟩
  | .hbm, ⟨25, _⟩ => ⟨S256x4x256, .f32⟩
  | .hbm, ⟨26, _⟩ => ⟨S4x256x256, .f32⟩
  | .hbm, ⟨27, _⟩ => ⟨S256, .f32⟩
  | .hbm, ⟨28, _⟩ => ⟨S4x256x256, .f32⟩
  | .hbm, ⟨29, _⟩ => ⟨S_, .f32⟩
  | .hbm, ⟨30, _⟩ => ⟨S4x256, .f32⟩
  | .hbm, ⟨31, _⟩ => ⟨S4x256x1, .f32⟩
  | .hbm, ⟨32, _⟩ => ⟨S_, .f32⟩
  | .hbm, ⟨33, _⟩ => ⟨S4x256x1, .f32⟩
  | .hbm, ⟨34, _⟩ => ⟨S4x256x1, .f32⟩
  | .hbm, ⟨35, _⟩ => ⟨S_, .f32⟩
  | .hbm, ⟨36, _⟩ => ⟨S4x256x1, .f32⟩
  | .hbm, ⟨37, _⟩ => ⟨S4x256x1, .f32⟩
  | .hbm, ⟨38, _⟩ => ⟨S4x256x1, .f32⟩
  | .hbm, ⟨39, _⟩ => ⟨S4x256x256, .f32⟩
  | .hbm, ⟨40, _⟩ => ⟨S4x256x256, .f32⟩
  | .hbm, ⟨41, _⟩ => ⟨S1x1x256, .f32⟩
  | .hbm, ⟨42, _⟩ => ⟨S4x256x256, .f32⟩
  | .hbm, ⟨43, _⟩ => ⟨S4x256x256, .f32⟩
  | .hbm, ⟨44, _⟩ => ⟨S256x4x256, .f32⟩
  | .hbm, ⟨45, _⟩ => ⟨S4x256x256, .f32⟩
  | .hbm, ⟨46, _⟩ => ⟨S4x8192x256, .f32⟩
  | .hbm, ⟨47, _⟩ => ⟨S_, .f32⟩
  | .hbm, ⟨48, _⟩ => ⟨S4x8192x256, .f32⟩
  | .hbm, ⟨49, _⟩ => ⟨S4x8192x256, .f32⟩
  | .hbm, ⟨50, _⟩ => ⟨S_, .f32⟩
  | .hbm, ⟨51, _⟩ => ⟨S4x8192, .f32⟩
  | .hbm, ⟨52, _⟩ => ⟨S_, .f32⟩
  | .hbm, ⟨53, _⟩ => ⟨S4x8192, .f32⟩
  | .hbm, ⟨54, _⟩ => ⟨S4x8192, .f32⟩
  | .hbm, ⟨55, _⟩ => ⟨S4x8192x1, .f32⟩
  | .hbm, ⟨56, _⟩ => ⟨S4x8192x256, .f32⟩
  | .hbm, ⟨57, _⟩ => ⟨S4x8192x256, .f32⟩
  | .hbm, ⟨58, _⟩ => ⟨S4x8192x256, .f32⟩
  | .hbm, ⟨59, _⟩ => ⟨S_, .f32⟩
  | .hbm, ⟨60, _⟩ => ⟨S4x8192, .f32⟩
  | .hbm, ⟨61, _⟩ => ⟨S4x8192x1, .f32⟩
  | .hbm, ⟨62, _⟩ => ⟨S4x8192x256, .f32⟩
  | .hbm, ⟨63, _⟩ => ⟨S4x8192x256, .f32⟩
  | .hbm, ⟨64, _⟩ => ⟨S4x8192x256, .f32⟩
  | .hbm, ⟨65, _⟩ => ⟨S8192x4x256, .f32⟩
  | .hbm, ⟨66, _⟩ => ⟨S8192x1024, .f32⟩
  | .hbm, ⟨67, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_5 : Ref sig .tc := ⟨.hbm, 47, rfl⟩
abbrev main_v37 : Ref sig .tc := ⟨.hbm, 48, rfl⟩
abbrev main_v38 : Ref sig .tc := ⟨.hbm, 49, rfl⟩
abbrev main_cst_6 : Ref sig .tc := ⟨.hbm, 50, rfl⟩
abbrev main_v39 : Ref sig .tc := ⟨.hbm, 51, rfl⟩
abbrev main_cst_7 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_8 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩

abbrev nD : Nat := 1
abbrev τ : Topo := Topo.v7x

variable {F : FTy → Type} [FloatOps F]
-- ==== Kernel24.lean ====
abbrev S8192x6144 : Shape := ⟨2, ![8192, 6144]⟩
abbrev S8192x2048 : Shape := ⟨2, ![8192, 2048]⟩
abbrev S256x2048 : Shape := ⟨2, ![256, 2048]⟩

abbrev nBuf : Space → Nat
  | .hbm => 11
  | .vmem => 26
  | .smem => 0
  | _ => 0

abbrev bufTy : (tb : Table) → Fin (tcTables nBuf tb) → BufTy
  | .hbm, ⟨0, _⟩ => ⟨S8192x6144, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .bf16⟩
  | .hbm, ⟨6, _⟩ => ⟨S8192x2048, .bf16⟩
  | .hbm, ⟨7, _⟩ => ⟨S8192x2048, .bf16⟩
  | .hbm, ⟨8, _⟩ => ⟨S8192x2048, .bf16⟩
  | .hbm, ⟨9, _⟩ => ⟨S8192x2048, .bf16⟩
  | .hbm, ⟨10, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .bf16⟩
  | .local _ .vmem, ⟨15, _⟩ => ⟨S256x2048, .bf16⟩
  | .local _ .vmem, ⟨16, _⟩ => ⟨S256x2048, .bf16⟩
  | .local _ .vmem, ⟨17, _⟩ => ⟨S256x2048, .bf16⟩
  | .local _ .vmem, ⟨18, _⟩ => ⟨S256x2048, .bf16⟩
  | .local _ .vmem, ⟨19, _⟩ => ⟨S256x2048, .bf16⟩
  | .local _ .vmem, ⟨20, _⟩ => ⟨S256x2048, .bf16⟩
  | .local _ .vmem, ⟨21, _⟩ => ⟨S256x2048, .bf16⟩
  | .local _ .vmem, ⟨22, _⟩ => ⟨S256x2048, .bf16⟩
  | .local _ .vmem, ⟨23, _⟩ => ⟨S256x2048, .bf16⟩
  | .local _ .vmem, ⟨24, _⟩ => ⟨S256x2048, .bf16⟩
  | .local _ .vmem, ⟨25, _⟩ => ⟨S256x2048, .bf16⟩
  | _, _ => ⟨S8192x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference24Ideal.lean ====
abbrev S8192x6144 : Shape := ⟨2, ![8192, 6144]⟩
abbrev S8192x2048 : Shape := ⟨2, ![8192, 2048]⟩
abbrev S_ : Shape := ⟨0, ![]⟩

abbrev nBuf : Space → Nat
  | .hbm => 66
  | .vmem => 0
  | .smem => 0
  | _ => 0

abbrev bufTy : (tb : Table) → Fin (tcTables nBuf tb) → BufTy
  | .hbm, ⟨0, _⟩ => ⟨S8192x6144, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S_, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S_, .f32⟩
  | .hbm, ⟨38, _⟩ => ⟨S8192x2048, .f32⟩
  | .hbm, ⟨39, _⟩ => ⟨S8192x2048, .f32⟩
  | .hbm, ⟨40, _⟩ => ⟨S_, .f32⟩
  | .hbm, ⟨41, _⟩ => ⟨S8192x2048, .f32⟩
  | .hbm, ⟨42, _⟩ => ⟨S8192x2048, .f32⟩
  | .hbm, ⟨43, _⟩ => ⟨S_, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S8192x2048, .f32⟩
  | .hbm, ⟨55, _⟩ => ⟨S8192x2048, .f32⟩
  | .hbm, ⟨56, _⟩ => ⟨S8192x2048, .f32⟩
  | .hbm, ⟨57, _⟩ => ⟨S8192x2048, .f32⟩
  | .hbm, ⟨58, _⟩ => ⟨S8192x2048, .f32⟩
  | .hbm, ⟨59, _⟩ => ⟨S8192x2048, .f32⟩
  | .hbm, ⟨60, _⟩ => ⟨S8192x2048, .bf16⟩
  | .hbm, ⟨61, _⟩ => ⟨S8192x2048, .bf16⟩
  | .hbm, ⟨62, _⟩ => ⟨S8192x2048, .bf16⟩
  | .hbm, ⟨63, _⟩ => ⟨S8192x2048, .bf16⟩
  | .hbm, ⟨64, _⟩ => ⟨S8192x2048, .bf16⟩
  | .hbm, ⟨65, _⟩ => ⟨S8192x2048, .bf16⟩
  | _, _ => ⟨S8192x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩

abbrev nD : Nat := 1
abbrev τ : Topo := Topo.v7x

variable {F : FTy → Type} [FloatOps F]
-- ==== Kernel25.lean ====
abbrev S8192x6144 : Shape := ⟨2, ![8192, 6144]⟩
abbrev S8192x2048 : Shape := ⟨2, ![8192, 2048]⟩
abbrev S256x2048 : Shape := ⟨2, ![256, 2048]⟩

abbrev nBuf : Space → Nat
  | .hbm => 5
  | .vmem => 14
  | .smem => 0
  | _ => 0

abbrev bufTy : (tb : Table) → Fin (tcTables nBuf tb) → BufTy
  | .hbm, ⟨0, _⟩ => ⟨S8192x6144, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .bf16⟩
  | .local _ .vmem, ⟨13, _⟩ => ⟨S256x2048, .bf16⟩
  | _, _ => ⟨S8192x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference25Ideal.lean ====
abbrev S8192x6144 : Shape := ⟨2, ![8192, 6144]⟩
abbrev S8192x2048 : Shape := ⟨2, ![8192, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8192x6144, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .bf16⟩
  | _, _ => ⟨S8192x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== Kernel26.lean ====
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference26Ideal.lean ====
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel27.lean ====
abbrev S8192x2048 : Shape := ⟨2, ![8192, 2048]⟩
abbrev S8x128 : Shape := ⟨2, ![8, 128]⟩
abbrev S512x2048 : Shape := ⟨2, ![512, 2048]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 2
  | .vmem => 3
  | .smem => 0
  | _ => 0

abbrev bufTy : (tb : Table) → Fin (tcTables nBuf tb) → BufTy
  | .hbm, ⟨0, _⟩ => ⟨S8192x2048, .f32⟩
  | .hbm, ⟨1, _⟩ => ⟨S8x128, .f32⟩
  | .local _ .vmem, ⟨0, _⟩ => ⟨S512x2048, .f32⟩
  | .local _ .vmem, ⟨1, _⟩ => ⟨S512x2048, .f32⟩
  | .local _ .vmem, ⟨2, _⟩ => ⟨S8x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== Reference27Ideal.lean ====
abbrev S8192x2048 : Shape := ⟨2, ![8192, 2048]⟩
abbrev S_ : Shape := ⟨0, ![]⟩
abbrev S8192 : Shape := ⟨1, ![8192]⟩
abbrev S8x128 : Shape := ⟨2, ![8, 128]⟩

abbrev nBuf : Space → Nat
  | .hbm => 15
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S_, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S_, .f32⟩
  | .hbm, ⟨8, _⟩ => ⟨S8192, .f32⟩
  | .hbm, ⟨9, _⟩ => ⟨S8192, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S8x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_cst_1 : Ref sig .tc := ⟨.hbm, 7, rfl⟩
abbrev main_v4 : Ref sig .tc := ⟨.hbm, 8, rfl⟩
abbrev main_v5 : Ref sig .tc := ⟨.hbm, 9, rfl⟩
abbrev main_cst_2 : Ref sig .tc := ⟨.hbm, 10, rfl⟩
abbrev main_v6 : Ref sig .tc := ⟨.hbm, 11, rfl⟩
abbrev main_cst_3 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== Kernel28.lean ====
abbrev S256x2048 : Shape := ⟨2, ![256, 2048]⟩
abbrev S1x2048 : Shape := ⟨2, ![1, 2048]⟩
abbrev S256 : Shape := ⟨1, ![256]⟩
abbrev S256x1 : Shape := ⟨2, ![256, 1]⟩

abbrev nBuf : Space → Nat
  | .hbm => 3
  | .vmem => 3
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S256x2048, .bf16⟩
  | .local _ .vmem, ⟨0, _⟩ => ⟨S256x2048, .f32⟩
  | .local _ .vmem, ⟨1, _⟩ => ⟨S1x2048, .f32⟩
  | .local _ .vmem, ⟨2, _⟩ => ⟨S256x2048, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference28Ideal.lean ====
abbrev S256x2048 : Shape := ⟨2, ![256, 2048]⟩
abbrev S1x2048 : Shape := ⟨2, ![1, 2048]⟩
abbrev S2048 : Shape := ⟨1, ![2048]⟩
abbrev S_ : Shape := ⟨0, ![]⟩
abbrev S256 : Shape := ⟨1, ![256]⟩
abbrev S256x1 : Shape := ⟨2, ![256, 1]⟩

abbrev nBuf : Space → Nat
  | .hbm => 20
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S2048, .f32⟩
  | .hbm, ⟨3, _⟩ => ⟨S256x2048, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x2048, .f32⟩
  | .hbm, ⟨15, _⟩ => ⟨S256x2048, .f32⟩
  | .hbm, ⟨16, _⟩ => ⟨S1x2048, .f32⟩
  | .hbm, ⟨17, _⟩ => ⟨S256x2048, .f32⟩
  | .hbm, ⟨18, _⟩ => ⟨S256x2048, .f32⟩
  | .hbm, ⟨19, _⟩ => ⟨S256x2048, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel29.lean ====
abbrev S256x2048 : Shape := ⟨2, ![256, 2048]⟩
abbrev S2048x2048 : Shape := ⟨2, ![2048, 2048]⟩
abbrev S2048x1024 : Shape := ⟨2, ![2048, 1024]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S256x2048, .bf16⟩
  | .hbm, ⟨1, _⟩ => ⟨S2048x2048, .bf16⟩
  | .hbm, ⟨2, _⟩ => ⟨S256x2048, .f32⟩
  | .local _ .vmem, ⟨0, _⟩ => ⟨S256x2048, .bf16⟩
  | .local _ .vmem, ⟨1, _⟩ => ⟨S2048x1024, .bf16⟩
  | .local _ .vmem, ⟨2, _⟩ => ⟨S2048x1024, .bf16⟩
  | .local _ .vmem, ⟨3, _⟩ => ⟨S256x1024, .f32⟩
  | .local _ .vmem, ⟨4, _⟩ => ⟨S256x1024, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference29Ideal.lean ====
abbrev S256x2048 : Shape := ⟨2, ![256, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S2048x2048, .bf16⟩
  | .hbm, ⟨2, _⟩ => ⟨S256x2048, .f32⟩
  | .hbm, ⟨3, _⟩ => ⟨S2048x2048, .f32⟩
  | .hbm, ⟨4, _⟩ => ⟨S256x2048, .f32⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel30.lean ====
abbrev S256x2048 : Shape := ⟨2, ![256, 2048]⟩
abbrev S2048x2048 : Shape := ⟨2, ![2048, 2048]⟩
abbrev S1024x2048 : Shape := ⟨2, ![1024, 2048]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S256x2048, .bf16⟩
  | .hbm, ⟨1, _⟩ => ⟨S2048x2048, .bf16⟩
  | .hbm, ⟨2, _⟩ => ⟨S256x2048, .f32⟩
  | .local _ .vmem, ⟨0, _⟩ => ⟨S256x2048, .bf16⟩
  | .local _ .vmem, ⟨1, _⟩ => ⟨S1024x2048, .bf16⟩
  | .local _ .vmem, ⟨2, _⟩ => ⟨S1024x2048, .bf16⟩
  | .local _ .vmem, ⟨3, _⟩ => ⟨S256x1024, .f32⟩
  | .local _ .vmem, ⟨4, _⟩ => ⟨S256x1024, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference30Ideal.lean ====
abbrev S256x2048 : Shape := ⟨2, ![256, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S2048x2048, .bf16⟩
  | .hbm, ⟨2, _⟩ => ⟨S_, .f32⟩
  | .hbm, ⟨3, _⟩ => ⟨S256x2048, .f32⟩
  | .hbm, ⟨4, _⟩ => ⟨S2048x2048, .f32⟩
  | .hbm, ⟨5, _⟩ => ⟨S256x2048, .f32⟩
  | .hbm, ⟨6, _⟩ => ⟨S256x2048, .f32⟩
  | .hbm, ⟨7, _⟩ => ⟨S256x2048, .f32⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel31.lean ====
abbrev S256x2048 : Shape := ⟨2, ![256, 2048]⟩
abbrev S2048x2048 : Shape := ⟨2, ![2048, 2048]⟩
abbrev S256x1024 : Shape := ⟨2, ![256, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S256x2048, .bf16⟩
  | .hbm, ⟨1, _⟩ => ⟨S256x2048, .bf16⟩
  | .hbm, ⟨2, _⟩ => ⟨S2048x2048, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S1024x1024, .bf16⟩
  | .local _ .vmem, ⟨5, _⟩ => ⟨S1024x1024, .bf16⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference31Ideal.lean ====
abbrev S256x2048 : Shape := ⟨2, ![256, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S256x2048, .bf16⟩
  | .hbm, ⟨2, _⟩ => ⟨S_, .f32⟩
  | .hbm, ⟨3, _⟩ => ⟨S2048x2048, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel32.lean ====
abbrev S256x2048 : Shape := ⟨2, ![256, 2048]⟩
abbrev S1x2048 : Shape := ⟨2, ![1, 2048]⟩
abbrev S256 : Shape := ⟨1, ![256]⟩
abbrev S256x1 : Shape := ⟨2, ![256, 1]⟩
abbrev S2048 : Shape := ⟨1, ![2048]⟩

abbrev nBuf : Space → Nat
  | .hbm => 4
  | .vmem => 4
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S256x2048, .f32⟩
  | .hbm, ⟨3, _⟩ => ⟨S1x2048, .f32⟩
  | .local _ .vmem, ⟨0, _⟩ => ⟨S256x2048, .f32⟩
  | .local _ .vmem, ⟨1, _⟩ => ⟨S1x2048, .f32⟩
  | .local _ .vmem, ⟨2, _⟩ => ⟨S256x2048, .f32⟩
  | .local _ .vmem, ⟨3, _⟩ => ⟨S1x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference32Ideal.lean ====
abbrev S256x2048 : Shape := ⟨2, ![256, 2048]⟩
abbrev S1x2048 : Shape := ⟨2, ![1, 2048]⟩
abbrev S2048 : Shape := ⟨1, ![2048]⟩
abbrev S_ : Shape := ⟨0, ![]⟩
abbrev S256 : Shape := ⟨1, ![256]⟩
abbrev S256x1 : Shape := ⟨2, ![256, 1]⟩

abbrev nBuf : Space → Nat
  | .hbm => 27
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S256x2048, .f32⟩
  | .hbm, ⟨3, _⟩ => ⟨S2048, .f32⟩
  | .hbm, ⟨4, _⟩ => ⟨S256x2048, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x2048, .f32⟩
  | .hbm, ⟨16, _⟩ => ⟨S256x2048, .f32⟩
  | .hbm, ⟨17, _⟩ => ⟨S1x2048, .f32⟩
  | .hbm, ⟨18, _⟩ => ⟨S256x2048, .f32⟩
  | .hbm, ⟨19, _⟩ => ⟨S256x2048, .f32⟩
  | .hbm, ⟨20, _⟩ => ⟨S256x2048, .f32⟩
  | .hbm, ⟨21, _⟩ => ⟨S_, .f32⟩
  | .hbm, ⟨22, _⟩ => ⟨S2048, .f32⟩
  | .hbm, ⟨23, _⟩ => ⟨S1x2048, .f32⟩
  | .hbm, ⟨24, _⟩ => ⟨S_, .f32⟩
  | .hbm, ⟨25, _⟩ => ⟨S2048, .f32⟩
  | .hbm, ⟨26, _⟩ => ⟨S1x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Kernel33.lean ====
abbrev S192x1024 : Shape := ⟨2, ![192, 1024]⟩
abbrev S24x1024 : Shape := ⟨2, ![24, 1024]⟩

abbrev nBuf : Space → Nat
  | .hbm => 2
  | .vmem => 2
  | .smem => 0
  | _ => 0

abbrev bufTy : (tb : Table) → Fin (tcTables nBuf tb) → BufTy
  | .hbm, ⟨0, _⟩ => ⟨S192x1024, .f32⟩
  | .hbm, ⟨1, _⟩ => ⟨S24x1024, .f32⟩
  | .local _ .vmem, ⟨0, _⟩ => ⟨S192x1024, .f32⟩
  | .local _ .vmem, ⟨1, _⟩ => ⟨S24x1024, .f32⟩
  | _, _ => ⟨S192x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S192x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference33Ideal.lean ====
abbrev S192x1024 : Shape := ⟨2, ![192, 1024]⟩
abbrev S8x24x1024 : Shape := ⟨3, ![8, 24, 1024]⟩
abbrev S_ : Shape := ⟨0, ![]⟩
abbrev S24x1024 : Shape := ⟨2, ![24, 1024]⟩

abbrev nBuf : Space → Nat
  | .hbm => 4
  | .vmem => 0
  | .smem => 0
  | _ => 0

abbrev bufTy : (tb : Table) → Fin (tcTables nBuf tb) → BufTy
  | .hbm, ⟨0, _⟩ => ⟨S192x1024, .f32⟩
  | .hbm, ⟨1, _⟩ => ⟨S8x24x1024, .f32⟩
  | .hbm, ⟨2, _⟩ => ⟨S_, .f32⟩
  | .hbm, ⟨3, _⟩ => ⟨S24x1024, .f32⟩
  | _, _ => ⟨S192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.MemMath.lean ====
/-
  The gradient of one head of the memory attention, row by row, over the extended reals: the norm with its gradient, the
  softmax with its gradient, and what holds of them when the numbers that enter are reals. A row's gradient of the logits
  sums to zero, and the gradient of the norm is linear in the gradient that reaches it.
-/
module

public import Idealize.ShloMosaic.PureOps.Ideal.Laws
public import Idealize.ShloMosaic.Lib.IdealHost
public import Mathlib.Algebra.BigOperators.Ring.Finset
public import Mathlib.Tactic.Ring
public import Mathlib.Tactic.FieldSimp

@[expose] public section

noncomputable section

namespace Cert.Rows

open Idealize.ShloMosaic

/-- A row of one head, or a row of logits: 256 numbers. -/
abbrev I := Fin 256

/-! ## The constants -/

abbrev c256 : EReal := Ideal.ofBits .f32 0x43800000#32
abbrev ceps : EReal := Ideal.ofBits .f32 0x358637BD#32
abbrev chalf : EReal := Ideal.ofBits .f32 0xBF000000#32
abbrev csc : EReal := Ideal.ofBits .f32 0x3D800000#32
abbrev cinf : EReal := Ideal.ofBits .f32 0xFF800000#32

theorem c256_eq : c256 = ((256 : ℝ) : EReal) := by
  simp [c256, Ideal.ofBits, Ideal.ieee, -EReal.coe_mul]; norm_num
theorem ceps_pos : ∃ r : ℝ, 0 < r ∧ ceps = (r : EReal) := by
  refine ⟨_, ?_, by simp [ceps, Ideal.ofBits, Ideal.ieee, -EReal.coe_mul]; rfl⟩
  positivity
theorem chalf_re : ∃ r : ℝ, chalf = (r : EReal) := by
  refine ⟨_, by simp [chalf, Ideal.ofBits, Ideal.ieee, -EReal.coe_mul]; rfl⟩
theorem csc_re : ∃ r : ℝ, csc = (r : EReal) := by
  refine ⟨_, by simp [csc, Ideal.ofBits, Ideal.ieee, -EReal.coe_mul]; rfl⟩
theorem cinf_eq : cinf = ⊥ := by
  simp [cinf, Ideal.ofBits, Ideal.ieee]

/-! ## Reals among the extended reals -/

/-- The number is a real. -/
def Re (x : EReal) : Prop := ∃ r : ℝ, x = (r : EReal)

theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

theorem Re.add {x y : EReal} : Re x → Re y → Re (x + y) := by
  rintro ⟨a, rfl⟩ ⟨b, rfl⟩; exact ⟨a + b, (EReal.coe_add a b).symm⟩
theorem Re.sub {x y : EReal} : Re x → Re y → Re (x - y) := by
  rintro ⟨a, rfl⟩ ⟨b, rfl⟩; exact ⟨a - b, (EReal.coe_sub a b).symm⟩
theorem Re.mul {x y : EReal} : Re x → Re y → Re (x * y) := by
  rintro ⟨a, rfl⟩ ⟨b, rfl⟩; exact ⟨a * b, (EReal.coe_mul a b).symm⟩
theorem Re.sum {ι : Type} {s : Finset ι} {f : ι → EReal} (h : ∀ i, Re (f i)) : Re (∑ i ∈ s, f i) := by
  choose g hg using h
  exact ⟨∑ i ∈ s, g i, by rw [coe_sum]; exact Finset.sum_congr rfl fun i _ => hg i⟩
theorem Re.zero : Re 0 := ⟨0, EReal.coe_zero.symm⟩
theorem Re.one : Re 1 := ⟨1, EReal.coe_one.symm⟩

/-- The number is a positive real. -/
def Pos (x : EReal) : Prop := ∃ r : ℝ, 0 < r ∧ x = (r : EReal)

theorem Pos.re {x : EReal} : Pos x → Re x := fun ⟨r, _, h⟩ => ⟨r, h⟩
theorem Pos.mul {x y : EReal} : Pos x → Pos y → Pos (x * y) := by
  rintro ⟨a, ha, rfl⟩ ⟨b, hb, rfl⟩; exact ⟨a * b, mul_pos ha hb, (EReal.coe_mul a b).symm⟩
theorem Re.div {x y : EReal} : Re x → Pos y → Re (Ideal.div x y) := by
  rintro ⟨a, rfl⟩ ⟨b, hb, rfl⟩
  exact ⟨a * (1 / b), by rw [Ideal.div_coe hb.ne', EReal.coe_mul]⟩
theorem Pos.rsqrt {x : EReal} : Pos x → Pos (Ideal.rsqrt x) := by
  rintro ⟨a, ha, rfl⟩
  refine ⟨(Real.sqrt a)⁻¹, inv_pos.mpr (Real.sqrt_pos.mpr ha), ?_⟩
  show (if a < 0 then ⊥ else if a = 0 then ⊤ else (((Real.sqrt a)⁻¹ : ℝ) : EReal)) = _
  rw [if_neg ha.le.not_gt, if_neg ha.ne']
theorem Re.exp {x : EReal} : Re x → Pos (Ideal.exp x) := by
  rintro ⟨a, rfl⟩; exact ⟨Real.exp a, Real.exp_pos a, rfl⟩
theorem Pos.sum {f : I → EReal} (h : ∀ i, Pos (f i)) : Pos (∑ i, f i) := by
  choose g hg hf using h
  exact ⟨∑ i, g i, Finset.sum_pos (fun i _ => hg i) Finset.univ_nonempty, by
    rw [coe_sum]; exact Finset.sum_congr rfl fun i _ => hf i⟩

/-- A real factor comes out of a sum of reals. -/
theorem mul_sum_re {ι : Type} (s : Finset ι) {c : EReal} {f : ι → EReal} (hc : Re c) (hf : ∀ i, Re (f i)) :
    c * ∑ i ∈ s, f i = ∑ i ∈ s, c * f i := by
  obtain ⟨c', rfl⟩ := hc
  choose g hg using hf
  have e : f = fun i => ((g i : ℝ) : EReal) := funext hg
  subst e
  rw [← coe_sum, ← EReal.coe_mul, Finset.mul_sum, coe_sum]
  exact Finset.sum_congr rfl fun i _ => EReal.coe_mul _ _

/-! ## The norm -/

/-- The mean square with the epsilon. -/
def ms (a : I → EReal) : EReal := Ideal.div (∑ e, a e * a e) c256 + ceps
def rs (a : I → EReal) : EReal := Ideal.rsqrt (ms a)
def hd (a : I → EReal) : EReal := chalf * Ideal.div (rs a) (ms a)
/-- The normalised row, before the gain. -/
def n0 (a : I → EReal) (d : I) : EReal := a d * rs a
/-- The normalised row. -/
def nrm (a g : I → EReal) (d : I) : EReal := n0 a d * g d
/-- The gradient through the norm's factor. -/
def cb (a t : I → EReal) : EReal := Ideal.div ((∑ e, a e * t e) * hd a) c256
/-- The gradient of the norm's argument, from the gradient `y` of the normalised row. -/
def vj (a g y : I → EReal) (d : I) : EReal :=
  y d * g d * rs a + a d * cb a (fun e => y e * g e) + cb a (fun e => y e * g e) * a d

theorem ms_pos {a : I → EReal} (h : ∀ i, Re (a i)) : Pos (ms a) := by
  choose b hb using h
  obtain ⟨e, he, hc⟩ := ceps_pos
  have e1 : a = fun i => ((b i : ℝ) : EReal) := funext hb
  subst e1
  refine ⟨(∑ i, b i * b i) * (1 / 256) + e, ?_, ?_⟩
  · have : 0 ≤ ∑ i, b i * b i := Finset.sum_nonneg fun i _ => mul_self_nonneg _
    positivity
  · unfold ms
    rw [hc, c256_eq, Ideal.div_coe (by norm_num), EReal.coe_add, EReal.coe_mul, coe_sum]
    simp only [EReal.coe_mul]
theorem rs_pos {a : I → EReal} (h : ∀ i, Re (a i)) : Pos (rs a) := (ms_pos h).rsqrt
theorem hd_re {a : I → EReal} (h : ∀ i, Re (a i)) : Re (hd a) :=
  Re.mul chalf_re ((rs_pos h).re.div (ms_pos h))
theorem n0_re {a : I → EReal} (h : ∀ i, Re (a i)) (d : I) : Re (n0 a d) := (h d).mul (rs_pos h).re
theorem nrm_re {a g : I → EReal} (h : ∀ i, Re (a i)) (hg : ∀ i, Re (g i)) (d : I) : Re (nrm a g d) :=
  (n0_re h d).mul (hg d)

/-- The gradient of the norm is linear in the gradient that reaches it. -/
theorem vj_sum {ι : Type} [Fintype ι] {a g : I → EReal} {y : ι → I → EReal} (ha : ∀ i, Re (a i)) (hg : ∀ i, Re (g i))
    (hy : ∀ t i, Re (y t i)) (d : I) : ∑ t, vj a g (y t) d = vj a g (fun e => ∑ t, y t e) d := by
  obtain ⟨ρ, -, hρ⟩ := rs_pos ha
  obtain ⟨η, hη⟩ := hd_re ha
  have hcb : ∀ t, cb a t = (∑ e, a e * t e) * (η : EReal) * ((1 / 256 : ℝ) : EReal) := fun t => by
    unfold cb; rw [hη, c256_eq, Ideal.div_coe (by norm_num)]
  unfold vj
  simp only [hcb, hρ]
  choose a' ha' using ha
  choose g' hg' using hg
  choose y' hy' using hy
  simp only [ha', hg', hy', ← EReal.coe_mul, ← coe_sum, ← EReal.coe_add]
  congr 1
  classical
  generalize (Finset.univ : Finset ι) = s
  induction s using Finset.induction_on with
  | empty => simp
  | insert t s h ih =>
    rw [Finset.sum_insert h, ih]
    simp only [Finset.sum_insert h, add_mul, mul_add, Finset.sum_add_distrib]
    ring

/-! ## The softmax of a row -/

/-- The logits of a query against the keys. -/
def lgt (x : I → EReal) (y : I → I → EReal) (j : I) : EReal := (∑ d, x d * y j d) * csc
def mx (l : I → EReal) : EReal := Finset.fold max cinf (fun x => l x) Finset.univ
def ex (l : I → EReal) (j : I) : EReal := Ideal.exp (l j - mx l)
def zs (l : I → EReal) : EReal := ∑ j, ex l j
def pr (l : I → EReal) (j : I) : EReal := Ideal.div (ex l j) (zs l)
def c0 (l dp : I → EReal) : EReal := 0 - ∑ j, dp j * Ideal.div 1 (zs l * zs l) * ex l j
/-- The gradient of the logits, from the gradient `dp` of the weights. -/
def dl (l dp : I → EReal) (j : I) : EReal := (Ideal.div (dp j) (zs l) + c0 l dp) * ex l j
/-- The gradient of the products of queries and keys. -/
def ds (l dp : I → EReal) (j : I) : EReal := dl l dp j * csc

theorem lgt_re {x : I → EReal} {y : I → I → EReal} (hx : ∀ i, Re (x i)) (hy : ∀ j i, Re (y j i)) (j : I) :
    Re (lgt x y j) := (Re.sum fun d => (hx d).mul (hy j d)).mul csc_re

/-- A row's largest logit is one of them. -/
theorem mx_mem (l : I → EReal) : ∃ j, mx l = l j := by
  have key : ∀ s : Finset I, Finset.fold max cinf (fun x => l x) s = ⊥ ∧ s = ∅ ∨
      ∃ j, Finset.fold max cinf (fun x => l x) s = l j := fun s => by
    classical
    induction s using Finset.induction_on with
    | empty => exact .inl ⟨by rw [Finset.fold_empty, cinf_eq], rfl⟩
    | insert a s h ih =>
      right
      rw [Finset.fold_insert h]
      rcases ih with ⟨h1, -⟩ | ⟨j, hj⟩
      · exact ⟨a, by rw [h1, max_eq_left bot_le]⟩
      · rw [hj]; rcases max_choice (l a) (l j) with e | e
        · exact ⟨a, e⟩
        · exact ⟨j, e⟩
  rcases key Finset.univ with ⟨-, h⟩ | h
  · exact absurd h Finset.univ_nonempty.ne_empty
  · exact h

theorem mx_re {l : I → EReal} (h : ∀ j, Re (l j)) : Re (mx l) := by
  obtain ⟨j, hj⟩ := mx_mem l; rw [hj]; exact h j
theorem ex_pos {l : I → EReal} (h : ∀ j, Re (l j)) (j : I) : Pos (ex l j) := ((h j).sub (mx_re h)).exp
theorem zs_pos {l : I → EReal} (h : ∀ j, Re (l j)) : Pos (zs l) := Pos.sum (ex_pos h)
theorem c0_re {l dp : I → EReal} (h : ∀ j, Re (l j)) (hd : ∀ j, Re (dp j)) : Re (c0 l dp) :=
  Re.zero.sub (Re.sum fun j => ((hd j).mul (Re.one.div ((zs_pos h).mul (zs_pos h)))).mul (ex_pos h j).re)
theorem dl_re {l dp : I → EReal} (h : ∀ j, Re (l j)) (hd : ∀ j, Re (dp j)) (j : I) : Re (dl l dp j) :=
  (((hd j).div (zs_pos h)).add (c0_re h hd)).mul (ex_pos h j).re
theorem ds_re {l dp : I → EReal} (h : ∀ j, Re (l j)) (hd : ∀ j, Re (dp j)) (j : I) : Re (ds l dp j) :=
  (dl_re h hd j).mul csc_re

/-- A row's gradient of the logits sums to zero. -/
theorem sum_neg_dl {l dp : I → EReal} (h : ∀ j, Re (l j)) (hd : ∀ j, Re (dp j)) : ∑ j, (0 - dl l dp j) = 0 := by
  obtain ⟨z, hz, ez⟩ := zs_pos h
  choose e he ee using fun j => ex_pos h j
  choose d ed using hd
  have hsum : ∑ j, e j = z := by
    have : zs l = ((∑ j, e j : ℝ) : EReal) := by
      rw [coe_sum]; exact Finset.sum_congr rfl fun j _ => ee j
    rw [ez] at this; exact (EReal.coe_injective this).symm
  unfold dl c0
  simp only [ez, ee, ed, ← EReal.coe_mul]
  simp only [Ideal.div_coe hz.ne', Ideal.div_coe (mul_pos hz hz).ne', one_mul]
  simp only [← EReal.coe_mul, ← coe_sum, ← EReal.coe_zero, ← EReal.coe_sub, ← EReal.coe_add]
  congr 1
  set T := ∑ x, d x * (1 / (z * z)) * e x with hT
  have hT' : T = (∑ x, d x * e x) / (z * z) := by
    rw [hT, Finset.sum_div]; exact Finset.sum_congr rfl fun x _ => by ring
  have : ∑ x, (0 - (d x * (1 / z) + (0 - T)) * e x) = T * (∑ x, e x) - (∑ x, d x * e x) / z := by
    rw [Finset.mul_sum, Finset.sum_div, ← Finset.sum_sub_distrib]
    exact Finset.sum_congr rfl fun x _ => by ring
  rw [this, hsum, hT']
  field_simp
  ring

end Cert.Rows
-- ==== Proof.MemHead.lean ====
/-
  One head of the backward pass of the memory attention, as the kernel computes it from one tile of 256 query rows:
  names for the arrays of one head, and for each value that the kernel's body passes from one of its parts to the next
  the name it has here. The four heads are the same function of their own columns.
-/
module

public import proofs.«01_k».proof.Proof.Gen.KernelIdeal.Skeleton

@[expose] public section

set_option synthInstance.maxSize 4096

noncomputable section

namespace Cert.KernelIdeal.Head

open Cert.KernelIdeal Cert.KernelIdeal.Gen
open Idealize.ShloMosaic Idealize.SL.Sem

variable {F : FTy → Type} [FloatOps F]

/-- The sum along each row. -/
def rsum (x : FVec F S256x256 .f32) : FVec F S256 .f32 := multiReduction .add [1] S256 x 0x00000000#32 reduces_S256x256_S256 (.inl rfl) rfl
/-- The sum along each row of a single column. -/
def rsum1 (x : FVec F S256x1 .f32) : FVec F S256 .f32 := multiReduction .add [1] S256 x 0x00000000#32 reduces_S256x1_S256 (.inl rfl) rfl
/-- The sum of each row's squares. -/
def sq (a : FVec F S256x256 .f32) : FVec F S256 .f32 := rsum (mulf a a)
def col (x : FVec F S256 .f32) : FVec F S256x1 .f32 := shapeCast S256x1 x shapeCasts_S256_S256x1
def wide (x : FVec F S256x1 .f32) : FVec F S256x256 .f32 := broadcastTo S256x256 x broadcasts_S256x1_S256x256
def tall (x : FVec F S1x256 .f32) : FVec F S256x256 .f32 := broadcastTo S256x256 x broadcasts_S1x256_S256x256
def kcol (w : BitVec 32) : FVec F S256x1 .f32 := broadcast S256x1 (Scalar.ofBits .f32 w)
def ksq (w : BitVec 32) : FVec F S256x256 .f32 := broadcast S256x256 (Scalar.ofBits .f32 w)

/-- The mean square of each row. -/
def mq (a : FVec F S256x256 .f32) : FVec F S256x1 .f32 := divf (col (sq a)) (kcol 0x43800000#32)
/-- The mean square with the norm's epsilon. -/
def ms (a : FVec F S256x256 .f32) : FVec F S256x1 .f32 := addf (mq a) (kcol 0x358637BD#32)
/-- The factor that the norm multiplies each row by. -/
def rs (a : FVec F S256x256 .f32) : FVec F S256x1 .f32 := rsqrt (ms a)
def rr (a : FVec F S256x256 .f32) : FVec F S256x1 .f32 := divf (rs a) (ms a)
/-- The derivative of that factor in the mean square. -/
def hd (a : FVec F S256x256 .f32) : FVec F S256x1 .f32 := mulf (kcol 0xBF000000#32) (rr a)
def rsb (a : FVec F S256x256 .f32) : FVec F S256x256 .f32 := wide (rs a)
/-- The normalised rows, before the gain. -/
def n0 (a : FVec F S256x256 .f32) : FVec F S256x256 .f32 := mulf a (rsb a)
/-- The normalised rows with the gain. -/
def nrm (a : FVec F S256x256 .f32) (g : FVec F S1x256 .f32) : FVec F S256x256 .f32 := mulf (n0 a) (tall g)

/-- A product along the columns of both. -/
def mnt (x y : FVec F S256x256 .f32) : FVec F S256x256 .f32 :=
  matmul dot_S256x256_S256x256_S256x256_1_1_0_0_n_n none x y (constant S256x256 .f32 0x00000000#32)
/-- A product along the rows of both. -/
def mtn (x y : FVec F S256x256 .f32) : FVec F S256x256 .f32 :=
  matmul dot_S256x256_S256x256_S256x256_0_0_1_1_n_n none x y (constant S256x256 .f32 0x00000000#32)
/-- A plain product. -/
def mnn (x y : FVec F S256x256 .f32) : FVec F S256x256 .f32 :=
  matmul dot_S256x256_S256x256_S256x256_1_0_0_1_n_n none x y (constant S256x256 .f32 0x00000000#32)

/-- The logits. -/
def lg (q k : FVec F S256x256 .f32) (gq gk : FVec F S1x256 .f32) : FVec F S256x256 .f32 := mulf (mnt (nrm q gq) (nrm k gk)) (ksq 0x3D800000#32)
/-- Each row's largest logit. -/
def mxv (l : FVec F S256x256 .f32) : FVec F S256 .f32 := multiReduction .maximumf [1] S256 l 0xFF800000#32 reduces_S256x256_S256 (.inl rfl) rfl
/-- One where the logit is the row's largest, zero elsewhere. -/
def msk (l : FVec F S256x256 .f32) : FVec F S256x256 .f32 := sitofp .f32 (extui 32 (cmpf .oeq l (wide (col (mxv l)))) natLt_1_32)
/-- How many logits of a row are its largest. -/
def cnt (l : FVec F S256x256 .f32) : FVec F S256 .f32 := rsum (msk l)
/-- The exponentials of the logits less the row's largest. -/
def ex (l : FVec F S256x256 .f32) : FVec F S256x256 .f32 := exp (subf l (wide (col (mxv l))))
/-- Their sum along each row. -/
def zs (l : FVec F S256x256 .f32) : FVec F S256x1 .f32 := col (rsum (ex l))
/-- The weights of the attention. -/
def pr (l : FVec F S256x256 .f32) : FVec F S256x256 .f32 := divf (ex l) (wide (zs l))
/-- One over the square of the sum. -/
def iz (l : FVec F S256x256 .f32) : FVec F S256x1 .f32 := divf (kcol 0x3F800000#32) (mulf (zs l) (zs l))

/-- The gradient of the values. -/
def dvm (o p : FVec F S256x256 .f32) : FVec F S256x256 .f32 := transpose S256x256 [1, 0] (mtn o p) transposes_S256x256_p1_0_S256x256
/-- The gradient of the weights. -/
def dpm (o v : FVec F S256x256 .f32) : FVec F S256x256 .f32 := mnt o v
/-- The gradient of the weights through the sum of the exponentials, with its sign. -/
def c0 (l dp : FVec F S256x256 .f32) : FVec F S256x1 .f32 := subf (kcol 0x00000000#32) (col (rsum (mulf (mulf dp (wide (iz l))) (ex l))))
def qt (l dp : FVec F S256x256 .f32) : FVec F S256x256 .f32 := divf dp (wide (zs l))
/-- The gradient of the logits, the row's largest held fixed. -/
def dl (l dp : FVec F S256x256 .f32) : FVec F S256x256 .f32 := mulf (addf (qt l dp) (wide (col (rsum1 (c0 l dp))))) (ex l)
def ndl (l dp : FVec F S256x256 .f32) : FVec F S256x256 .f32 := subf (ksq 0x00000000#32) (dl l dp)
/-- The gradient of the logits through the row's largest, shared out among the logits that attain it. -/
def dmx (l dp : FVec F S256x256 .f32) : FVec F S256x256 .f32 := mulf (wide (col (divf (rsum1 (col (rsum (ndl l dp)))) (cnt l)))) (msk l)
/-- The gradient of the products of queries and keys. -/
def dsm (l dp : FVec F S256x256 .f32) : FVec F S256x256 .f32 := mulf (addf (dl l dp) (dmx l dp)) (ksq 0x3D800000#32)

/-- The sum down each column of a product. -/
def gcol (x y : FVec F S256x256 .f32) : FVec F S1x256 .f32 :=
  shapeCast S1x256 (multiReduction .add [0] S256 (mulf x y) 0x00000000#32 reduces_S256x256_S256_2 (.inl rfl) rfl) shapeCasts_S256_S1x256
def yg (y : FVec F S256x256 .f32) (g : FVec F S1x256 .f32) : FVec F S256x256 .f32 := mulf y (tall g)
def atc (a t : FVec F S256x256 .f32) : FVec F S256x1 .f32 := col (rsum (mulf a t))
/-- The gradient of the norm through its factor, to be multiplied by the row. -/
def cb (a t : FVec F S256x256 .f32) : FVec F S256x256 .f32 := wide (col (rsum1 (divf (mulf (atc a t) (hd a)) (kcol 0x43800000#32))))
/-- The gradient of the norm's argument, from the gradient of the normalised rows. -/
def dx (a t : FVec F S256x256 .f32) : FVec F S256x256 .f32 := addf (addf (mulf t (rsb a)) (mulf a (cb a t))) (mulf (cb a t) a)

/-! ## The values passed between the parts of the body -/

theorem p22 (x0 : FVec F S256x1024 .f32) :
    k0_pay22 x0 = (ms (k0_pay14 x0)) := rfl
theorem p23 (x0 : FVec F S256x1024 .f32) :
    k0_pay23 x0 = (rs (k0_pay14 x0)) := rfl
theorem p24 (x0 : FVec F S256x1024 .f32) :
    k0_pay24 x0 = (hd (k0_pay14 x0)) := rfl
theorem p25 (x0 : FVec F S256x1024 .f32) :
    k0_pay25 x0 = (n0 (k0_pay14 x0)) := rfl
theorem p26 (x0 : FVec F S256x1024 .f32) (gq : FVec F S1x256 .f32) :
    k0_pay26 x0 gq = (nrm (k0_pay14 x0) gq) := rfl
theorem p27 (x1 : FVec F S256x2048 .f32) :
    k0_pay27 x1 = (sq (k0_pay3 x1)) := rfl
theorem p28 (k : FVec F S256x256 .f32) :
    k0_pay28 (sq k) = (ms k) := rfl
theorem p29 (k : FVec F S256x256 .f32) :
    k0_pay29 (sq k) = (rs k) := rfl
theorem p30 (k : FVec F S256x256 .f32) :
    k0_pay30 (sq k) = (hd k) := rfl
theorem p31 (k : FVec F S256x256 .f32) :
    k0_pay31 k (sq k) = (n0 k) := rfl
theorem p32 (k : FVec F S256x256 .f32) (gk : FVec F S1x256 .f32) :
    k0_pay32 gk k (sq k) = (nrm k gk) := rfl
theorem p33 (q : FVec F S256x256 .f32) (k : FVec F S256x256 .f32) (gq : FVec F S1x256 .f32) (gk : FVec F S1x256 .f32) :
    k0_pay33 gk k (nrm q gq) (sq k) = (lg q k gq gk) := rfl
theorem p34 (q : FVec F S256x256 .f32) (k : FVec F S256x256 .f32) (gq : FVec F S1x256 .f32) (gk : FVec F S1x256 .f32) :
    k0_pay34 gk k (nrm q gq) (sq k) = (mxv (lg q k gq gk)) := rfl
theorem p35 (q : FVec F S256x256 .f32) (k : FVec F S256x256 .f32) (gq : FVec F S1x256 .f32) (gk : FVec F S1x256 .f32) :
    k0_pay35 gk k (nrm q gq) (sq k) = (msk (lg q k gq gk)) := rfl
theorem p36 (q : FVec F S256x256 .f32) (k : FVec F S256x256 .f32) (gq : FVec F S1x256 .f32) (gk : FVec F S1x256 .f32) :
    k0_pay36 gk k (nrm q gq) (sq k) = (cnt (lg q k gq gk)) := rfl
theorem p37 (q : FVec F S256x256 .f32) (k : FVec F S256x256 .f32) (gq : FVec F S1x256 .f32) (gk : FVec F S1x256 .f32) :
    k0_pay37 gk k (nrm q gq) (sq k) = (ex (lg q k gq gk)) := rfl
theorem p38 (q : FVec F S256x256 .f32) (k : FVec F S256x256 .f32) (gq : FVec F S1x256 .f32) (gk : FVec F S1x256 .f32) :
    k0_pay38 gk k (nrm q gq) (sq k) = (zs (lg q k gq gk)) := rfl
theorem p39 (q : FVec F S256x256 .f32) (k : FVec F S256x256 .f32) (o : FVec F S256x256 .f32) (gq : FVec F S1x256 .f32) (gk : FVec F S1x256 .f32) :
    k0_pay39 gk k o (nrm q gq) (sq k) = (dvm o (pr (lg q k gq gk))) := rfl
theorem p40 (v : FVec F S256x256 .f32) (o : FVec F S256x256 .f32) :
    k0_pay40 v o = (dpm o v) := rfl
theorem p41 (q : FVec F S256x256 .f32) (k : FVec F S256x256 .f32) (v : FVec F S256x256 .f32) (o : FVec F S256x256 .f32) (gq : FVec F S1x256 .f32) (gk : FVec F S1x256 .f32) :
    k0_pay41 gk k v o (nrm q gq) (sq k) = (c0 (lg q k gq gk) (dpm o v)) := rfl
theorem p42 (q : FVec F S256x256 .f32) (k : FVec F S256x256 .f32) (v : FVec F S256x256 .f32) (o : FVec F S256x256 .f32) (gq : FVec F S1x256 .f32) (gk : FVec F S1x256 .f32) :
    k0_pay42 gk k v o (nrm q gq) (sq k) = (qt (lg q k gq gk) (dpm o v)) := rfl
theorem p43 (q : FVec F S256x256 .f32) (k : FVec F S256x256 .f32) (v : FVec F S256x256 .f32) (o : FVec F S256x256 .f32) (gq : FVec F S1x256 .f32) (gk : FVec F S1x256 .f32) :
    k0_pay43 (msk (lg q k gq gk)) (cnt (lg q k gq gk)) (ex (lg q k gq gk)) (c0 (lg q k gq gk) (dpm o v)) (qt (lg q k gq gk) (dpm o v)) = (dsm (lg q k gq gk) (dpm o v)) := rfl
theorem p44 (q : FVec F S256x256 .f32) (k : FVec F S256x256 .f32) (v : FVec F S256x256 .f32) (o : FVec F S256x256 .f32) (gq : FVec F S1x256 .f32) (gk : FVec F S1x256 .f32) :
    k0_pay44 (nrm q gq) (msk (lg q k gq gk)) (cnt (lg q k gq gk)) (ex (lg q k gq gk)) (c0 (lg q k gq gk) (dpm o v)) (qt (lg q k gq gk) (dpm o v)) = (mtn (dsm (lg q k gq gk) (dpm o v)) (nrm q gq)) := rfl
theorem p45 (q : FVec F S256x256 .f32) (k : FVec F S256x256 .f32) (v : FVec F S256x256 .f32) (o : FVec F S256x256 .f32) (gq : FVec F S1x256 .f32) (gk : FVec F S1x256 .f32) :
    k0_pay45 (nrm k gk) (msk (lg q k gq gk)) (cnt (lg q k gq gk)) (ex (lg q k gq gk)) (c0 (lg q k gq gk) (dpm o v)) (qt (lg q k gq gk) (dpm o v)) = (mnn (dsm (lg q k gq gk) (dpm o v)) (nrm k gk)) := rfl
theorem p46 (q : FVec F S256x256 .f32) (k : FVec F S256x256 .f32) (v : FVec F S256x256 .f32) (o : FVec F S256x256 .f32) (gq : FVec F S1x256 .f32) (gk : FVec F S1x256 .f32) :
    k0_pay46 (nrm q gq) (n0 k) (msk (lg q k gq gk)) (cnt (lg q k gq gk)) (ex (lg q k gq gk)) (c0 (lg q k gq gk) (dpm o v)) (qt (lg q k gq gk) (dpm o v)) = (gcol (n0 k) (mtn (dsm (lg q k gq gk) (dpm o v)) (nrm q gq))) := rfl
theorem p47 (q : FVec F S256x256 .f32) (k : FVec F S256x256 .f32) (v : FVec F S256x256 .f32) (o : FVec F S256x256 .f32) (gq : FVec F S1x256 .f32) (gk : FVec F S1x256 .f32) :
    k0_pay47 gk k (nrm q gq) (rs k) (hd k) (msk (lg q k gq gk)) (cnt (lg q k gq gk)) (ex (lg q k gq gk)) (c0 (lg q k gq gk) (dpm o v)) (qt (lg q k gq gk) (dpm o v)) = (dx k (yg (mtn (dsm (lg q k gq gk) (dpm o v)) (nrm q gq)) gk)) := rfl
theorem p48 (q : FVec F S256x256 .f32) (k : FVec F S256x256 .f32) (v : FVec F S256x256 .f32) (o : FVec F S256x256 .f32) (gq : FVec F S1x256 .f32) (gk : FVec F S1x256 .f32) :
    k0_pay48 (n0 q) (nrm k gk) (msk (lg q k gq gk)) (cnt (lg q k gq gk)) (ex (lg q k gq gk)) (c0 (lg q k gq gk) (dpm o v)) (qt (lg q k gq gk) (dpm o v)) = (gcol (n0 q) (mnn (dsm (lg q k gq gk) (dpm o v)) (nrm k gk))) := rfl
theorem p49 (q : FVec F S256x256 .f32) (k : FVec F S256x256 .f32) (v : FVec F S256x256 .f32) (o : FVec F S256x256 .f32) (gq : FVec F S1x256 .f32) (gk : FVec F S1x256 .f32) :
    k0_pay49 gq (nrm k gk) (msk (lg q k gq gk)) (cnt (lg q k gq gk)) (ex (lg q k gq gk)) (c0 (lg q k gq gk) (dpm o v)) (qt (lg q k gq gk) (dpm o v)) = (yg (mnn (dsm (lg q k gq gk) (dpm o v)) (nrm k gk)) gq) := rfl
theorem p50 (q : FVec F S256x256 .f32) (k : FVec F S256x256 .f32) (v : FVec F S256x256 .f32) (o : FVec F S256x256 .f32) (gq : FVec F S1x256 .f32) (gk : FVec F S1x256 .f32) :
    k0_pay50 gq q (nrm k gk) (msk (lg q k gq gk)) (cnt (lg q k gq gk)) (ex (lg q k gq gk)) (c0 (lg q k gq gk) (dpm o v)) (qt (lg q k gq gk) (dpm o v)) = (atc q (yg (mnn (dsm (lg q k gq gk) (dpm o v)) (nrm k gk)) gq)) := rfl
theorem p51 (q : FVec F S256x256 .f32) :
    k0_pay51 (rs q) = (rsb q) := rfl
theorem p52 (q : FVec F S256x256 .f32) (k : FVec F S256x256 .f32) (v : FVec F S256x256 .f32) (o : FVec F S256x256 .f32) (gq : FVec F S1x256 .f32) (gk : FVec F S1x256 .f32) :
    k0_pay52 q (hd q) (yg (mnn (dsm (lg q k gq gk) (dpm o v)) (nrm k gk)) gq) (atc q (yg (mnn (dsm (lg q k gq gk) (dpm o v)) (nrm k gk)) gq)) (rsb q) = (dx q (yg (mnn (dsm (lg q k gq gk) (dpm o v)) (nrm k gk)) gq)) := rfl
theorem p53 (q : FVec F S256x256 .f32) (k : FVec F S256x256 .f32) (v : FVec F S256x256 .f32) (o : FVec F S256x256 .f32) (gq : FVec F S1x256 .f32) (gk : FVec F S1x256 .f32) (a : FVec F S1x256 .f32) :
    k0_pay53 a (gcol (n0 q) (mnn (dsm (lg q k gq gk) (dpm o v)) (nrm k gk))) = addf a (gcol (n0 q) (mnn (dsm (lg q k gq gk) (dpm o v)) (nrm k gk))) := rfl
theorem p54 (q : FVec F S256x256 .f32) (k : FVec F S256x256 .f32) (v : FVec F S256x256 .f32) (o : FVec F S256x256 .f32) (gq : FVec F S1x256 .f32) (gk : FVec F S1x256 .f32) (a : FVec F S1x256 .f32) :
    k0_pay54 a (gcol (n0 k) (mtn (dsm (lg q k gq gk) (dpm o v)) (nrm q gq))) = addf a (gcol (n0 k) (mtn (dsm (lg q k gq gk) (dpm o v)) (nrm q gq))) := rfl
theorem p55 (q : FVec F S256x256 .f32) :
    k0_pay55 q = (ms q) := rfl
theorem p56 (q : FVec F S256x256 .f32) :
    k0_pay56 q = (rs q) := rfl
theorem p57 (q : FVec F S256x256 .f32) :
    k0_pay57 q = (hd q) := rfl
theorem p58 (q : FVec F S256x256 .f32) :
    k0_pay58 q = (n0 q) := rfl
theorem p59 (q : FVec F S256x256 .f32) (gq : FVec F S1x256 .f32) :
    k0_pay59 gq q = (nrm q gq) := rfl
theorem p60 (k : FVec F S256x256 .f32) :
    k0_pay60 k = (ms k) := rfl
theorem p61 (k : FVec F S256x256 .f32) :
    k0_pay61 k = (rs k) := rfl
theorem p62 (k : FVec F S256x256 .f32) :
    k0_pay62 k = (hd k) := rfl
theorem p63 (k : FVec F S256x256 .f32) :
    k0_pay63 k = (n0 k) := rfl
theorem p64 (k : FVec F S256x256 .f32) (gk : FVec F S1x256 .f32) :
    k0_pay64 gk k = (nrm k gk) := rfl
theorem p65 (q : FVec F S256x256 .f32) (k : FVec F S256x256 .f32) (gq : FVec F S1x256 .f32) (gk : FVec F S1x256 .f32) :
    k0_pay65 gq gk k q = (lg q k gq gk) := rfl
theorem p66 (q : FVec F S256x256 .f32) (k : FVec F S256x256 .f32) (gq : FVec F S1x256 .f32) (gk : FVec F S1x256 .f32) :
    k0_pay66 gq gk k q = (mxv (lg q k gq gk)) := rfl
theorem p67 (q : FVec F S256x256 .f32) (k : FVec F S256x256 .f32) (gq : FVec F S1x256 .f32) (gk : FVec F S1x256 .f32) :
    k0_pay67 (lg q k gq gk) (mxv (lg q k gq gk)) = (ex (lg q k gq gk)) := rfl
theorem p68 (q : FVec F S256x256 .f32) (k : FVec F S256x256 .f32) (gq : FVec F S1x256 .f32) (gk : FVec F S1x256 .f32) :
    k0_pay68 (lg q k gq gk) (mxv (lg q k gq gk)) = (zs (lg q k gq gk)) := rfl
theorem p69 (q : FVec F S256x256 .f32) (k : FVec F S256x256 .f32) (o : FVec F S256x256 .f32) (gq : FVec F S1x256 .f32) (gk : FVec F S1x256 .f32) :
    k0_pay69 o (lg q k gq gk) (mxv (lg q k gq gk)) = (dvm o (pr (lg q k gq gk))) := rfl
theorem p70 (q : FVec F S256x256 .f32) (k : FVec F S256x256 .f32) (v : FVec F S256x256 .f32) (o : FVec F S256x256 .f32) (gq : FVec F S1x256 .f32) (gk : FVec F S1x256 .f32) :
    k0_pay70 v o (lg q k gq gk) (mxv (lg q k gq gk)) = (dsm (lg q k gq gk) (dpm o v)) := rfl
theorem p71 (q : FVec F S256x256 .f32) (k : FVec F S256x256 .f32) (v : FVec F S256x256 .f32) (o : FVec F S256x256 .f32) (gq : FVec F S1x256 .f32) (gk : FVec F S1x256 .f32) :
    k0_pay71 v o (nrm q gq) (lg q k gq gk) (mxv (lg q k gq gk)) = (mtn (dsm (lg q k gq gk) (dpm o v)) (nrm q gq)) := rfl
theorem p72 (q : FVec F S256x256 .f32) (k : FVec F S256x256 .f32) (v : FVec F S256x256 .f32) (o : FVec F S256x256 .f32) (gq : FVec F S1x256 .f32) (gk : FVec F S1x256 .f32) :
    k0_pay72 (nrm k gk) (dsm (lg q k gq gk) (dpm o v)) = (mnn (dsm (lg q k gq gk) (dpm o v)) (nrm k gk)) := rfl
theorem p73 (q : FVec F S256x256 .f32) (k : FVec F S256x256 .f32) (v : FVec F S256x256 .f32) (o : FVec F S256x256 .f32) (gq : FVec F S1x256 .f32) (gk : FVec F S1x256 .f32) :
    k0_pay73 gk k (rs k) (hd k) (mtn (dsm (lg q k gq gk) (dpm o v)) (nrm q gq)) = (dx k (yg (mtn (dsm (lg q k gq gk) (dpm o v)) (nrm q gq)) gk)) := rfl
theorem p74 (q : FVec F S256x256 .f32) (k : FVec F S256x256 .f32) (v : FVec F S256x256 .f32) (o : FVec F S256x256 .f32) (gq : FVec F S1x256 .f32) (gk : FVec F S1x256 .f32) :
    k0_pay74 gq q (rs q) (hd q) (nrm k gk) (dsm (lg q k gq gk) (dpm o v)) = (dx q (yg (mnn (dsm (lg q k gq gk) (dpm o v)) (nrm k gk)) gq)) := rfl
theorem p75 (q : FVec F S256x256 .f32) (k : FVec F S256x256 .f32) (v : FVec F S256x256 .f32) (o : FVec F S256x256 .f32) (gq : FVec F S1x256 .f32) (gk : FVec F S1x256 .f32) (a : FVec F S1x256 .f32) :
    k0_pay75 a (n0 q) (nrm k gk) (dsm (lg q k gq gk) (dpm o v)) = addf a (gcol (n0 q) (mnn (dsm (lg q k gq gk) (dpm o v)) (nrm k gk))) := rfl
theorem p76 (q : FVec F S256x256 .f32) (k : FVec F S256x256 .f32) (v : FVec F S256x256 .f32) (o : FVec F S256x256 .f32) (gq : FVec F S1x256 .f32) (gk : FVec F S1x256 .f32) (a : FVec F S1x256 .f32) :
    k0_pay76 a (n0 k) (mtn (dsm (lg q k gq gk) (dpm o v)) (nrm q gq)) = addf a (gcol (n0 k) (mtn (dsm (lg q k gq gk) (dpm o v)) (nrm q gq))) := rfl
theorem p77 (q : FVec F S256x256 .f32) :
    k0_pay77 q = (mq q) := rfl
theorem p78 (q : FVec F S256x256 .f32) :
    k0_pay78 (mq q) (Scalar.ofBits .f32 0x358637BD#32) = (ms q) := rfl
theorem p79 (q : FVec F S256x256 .f32) :
    k0_pay79 (mq q) (Scalar.ofBits .f32 0x358637BD#32) = (rs q) := rfl
theorem p80 (q : FVec F S256x256 .f32) :
    k0_pay80 (mq q) (Scalar.ofBits .f32 0x358637BD#32) = (hd q) := rfl
theorem p81 (q : FVec F S256x256 .f32) :
    k0_pay81 q (mq q) (Scalar.ofBits .f32 0x358637BD#32) = (n0 q) := rfl
theorem p82 (q : FVec F S256x256 .f32) (gq : FVec F S1x256 .f32) :
    k0_pay82 gq q (mq q) (Scalar.ofBits .f32 0x358637BD#32) = (nrm q gq) := rfl
theorem p83 (k : FVec F S256x256 .f32) :
    k0_pay83 k = (ms k) := rfl
theorem p84 (k : FVec F S256x256 .f32) :
    k0_pay84 k = (rs k) := rfl
theorem p85 (k : FVec F S256x256 .f32) :
    k0_pay85 k = (hd k) := rfl
theorem p86 (k : FVec F S256x256 .f32) :
    k0_pay86 k = (n0 k) := rfl
theorem p87 (k : FVec F S256x256 .f32) (gk : FVec F S1x256 .f32) :
    k0_pay87 gk k = (nrm k gk) := rfl
theorem p88 (q : FVec F S256x256 .f32) (k : FVec F S256x256 .f32) (gq : FVec F S1x256 .f32) (gk : FVec F S1x256 .f32) :
    k0_pay88 gq gk k q (mq q) (Scalar.ofBits .f32 0x358637BD#32) = (lg q k gq gk) := rfl
theorem p89 (q : FVec F S256x256 .f32) (k : FVec F S256x256 .f32) (gq : FVec F S1x256 .f32) (gk : FVec F S1x256 .f32) :
    k0_pay89 gq gk k q (mq q) (Scalar.ofBits .f32 0x358637BD#32) = (mxv (lg q k gq gk)) := rfl
theorem p90 (q : FVec F S256x256 .f32) (k : FVec F S256x256 .f32) (gq : FVec F S1x256 .f32) (gk : FVec F S1x256 .f32) :
    k0_pay90 gq gk k q (mq q) (Scalar.ofBits .f32 0x358637BD#32) = (msk (lg q k gq gk)) := rfl
theorem p91 (q : FVec F S256x256 .f32) (k : FVec F S256x256 .f32) (gq : FVec F S1x256 .f32) (gk : FVec F S1x256 .f32) :
    k0_pay91 gq gk k q (mq q) (Scalar.ofBits .f32 0x358637BD#32) = (cnt (lg q k gq gk)) := rfl
theorem p92 (q : FVec F S256x256 .f32) (k : FVec F S256x256 .f32) (gq : FVec F S1x256 .f32) (gk : FVec F S1x256 .f32) :
    k0_pay92 gq gk k q (mq q) (Scalar.ofBits .f32 0x358637BD#32) = (ex (lg q k gq gk)) := rfl
theorem p93 (q : FVec F S256x256 .f32) (k : FVec F S256x256 .f32) (gq : FVec F S1x256 .f32) (gk : FVec F S1x256 .f32) :
    k0_pay93 gq gk k q (mq q) (Scalar.ofBits .f32 0x358637BD#32) = (zs (lg q k gq gk)) := rfl
theorem p94 (q : FVec F S256x256 .f32) (k : FVec F S256x256 .f32) (gq : FVec F S1x256 .f32) (gk : FVec F S1x256 .f32) :
    k0_pay94 gq gk k q (mq q) (Scalar.ofBits .f32 0x358637BD#32) = (iz (lg q k gq gk)) := rfl
theorem p95 (q : FVec F S256x256 .f32) (k : FVec F S256x256 .f32) (o : FVec F S256x256 .f32) (gq : FVec F S1x256 .f32) (gk : FVec F S1x256 .f32) :
    k0_pay95 gq gk k q o (mq q) (Scalar.ofBits .f32 0x358637BD#32) = (dvm o (pr (lg q k gq gk))) := rfl
theorem p96 (q : FVec F S256x256 .f32) (k : FVec F S256x256 .f32) (v : FVec F S256x256 .f32) (o : FVec F S256x256 .f32) (gq : FVec F S1x256 .f32) (gk : FVec F S1x256 .f32) :
    k0_pay96 v o (msk (lg q k gq gk)) (cnt (lg q k gq gk)) (ex (lg q k gq gk)) (zs (lg q k gq gk)) (iz (lg q k gq gk)) = (dsm (lg q k gq gk) (dpm o v)) := rfl
theorem p97 (q : FVec F S256x256 .f32) (k : FVec F S256x256 .f32) (v : FVec F S256x256 .f32) (o : FVec F S256x256 .f32) (gq : FVec F S1x256 .f32) (gk : FVec F S1x256 .f32) :
    k0_pay97 v o (nrm q gq) (msk (lg q k gq gk)) (cnt (lg q k gq gk)) (ex (lg q k gq gk)) (zs (lg q k gq gk)) (iz (lg q k gq gk)) = (mtn (dsm (lg q k gq gk) (dpm o v)) (nrm q gq)) := rfl
theorem p98 (q : FVec F S256x256 .f32) (k : FVec F S256x256 .f32) (v : FVec F S256x256 .f32) (o : FVec F S256x256 .f32) (gq : FVec F S1x256 .f32) (gk : FVec F S1x256 .f32) :
    k0_pay98 v o (nrm k gk) (msk (lg q k gq gk)) (cnt (lg q k gq gk)) (ex (lg q k gq gk)) (zs (lg q k gq gk)) (iz (lg q k gq gk)) = (mnn (dsm (lg q k gq gk) (dpm o v)) (nrm k gk)) := rfl
theorem p99 (q : FVec F S256x256 .f32) (k : FVec F S256x256 .f32) (v : FVec F S256x256 .f32) (o : FVec F S256x256 .f32) (gq : FVec F S1x256 .f32) (gk : FVec F S1x256 .f32) :
    k0_pay99 v o (nrm q gq) (n0 k) (msk (lg q k gq gk)) (cnt (lg q k gq gk)) (ex (lg q k gq gk)) (zs (lg q k gq gk)) (iz (lg q k gq gk)) = (gcol (n0 k) (mtn (dsm (lg q k gq gk) (dpm o v)) (nrm q gq))) := rfl
theorem p100 (q : FVec F S256x256 .f32) (k : FVec F S256x256 .f32) (v : FVec F S256x256 .f32) (o : FVec F S256x256 .f32) (gq : FVec F S1x256 .f32) (gk : FVec F S1x256 .f32) :
    k0_pay100 gk v o (nrm q gq) (msk (lg q k gq gk)) (cnt (lg q k gq gk)) (ex (lg q k gq gk)) (zs (lg q k gq gk)) (iz (lg q k gq gk)) = (yg (mtn (dsm (lg q k gq gk) (dpm o v)) (nrm q gq)) gk) := rfl
theorem p101 (q : FVec F S256x256 .f32) (k : FVec F S256x256 .f32) (v : FVec F S256x256 .f32) (o : FVec F S256x256 .f32) (gq : FVec F S1x256 .f32) (gk : FVec F S1x256 .f32) :
    k0_pay101 gk v o (nrm q gq) (rs k) (msk (lg q k gq gk)) (cnt (lg q k gq gk)) (ex (lg q k gq gk)) (zs (lg q k gq gk)) (iz (lg q k gq gk)) = (mulf (yg (mtn (dsm (lg q k gq gk) (dpm o v)) (nrm q gq)) gk) (rsb k)) := rfl
theorem p102 (q : FVec F S256x256 .f32) (k : FVec F S256x256 .f32) (v : FVec F S256x256 .f32) (o : FVec F S256x256 .f32) (gq : FVec F S1x256 .f32) (gk : FVec F S1x256 .f32) :
    k0_pay102 gk k v o (nrm q gq) (hd k) (msk (lg q k gq gk)) (cnt (lg q k gq gk)) (ex (lg q k gq gk)) (zs (lg q k gq gk)) (iz (lg q k gq gk)) = (cb k (yg (mtn (dsm (lg q k gq gk) (dpm o v)) (nrm q gq)) gk)) := rfl
theorem p103 (q : FVec F S256x256 .f32) (k : FVec F S256x256 .f32) (v : FVec F S256x256 .f32) (o : FVec F S256x256 .f32) (gq : FVec F S1x256 .f32) (gk : FVec F S1x256 .f32) :
    k0_pay103 gk k v o (nrm q gq) (hd k) (msk (lg q k gq gk)) (cnt (lg q k gq gk)) (ex (lg q k gq gk)) (zs (lg q k gq gk)) (iz (lg q k gq gk)) = (mulf k (cb k (yg (mtn (dsm (lg q k gq gk) (dpm o v)) (nrm q gq)) gk))) := rfl
theorem p104 (q : FVec F S256x256 .f32) (k : FVec F S256x256 .f32) (v : FVec F S256x256 .f32) (o : FVec F S256x256 .f32) (gq : FVec F S1x256 .f32) (gk : FVec F S1x256 .f32) :
    k0_pay104 k (mulf (yg (mtn (dsm (lg q k gq gk) (dpm o v)) (nrm q gq)) gk) (rsb k)) (cb k (yg (mtn (dsm (lg q k gq gk) (dpm o v)) (nrm q gq)) gk)) (mulf k (cb k (yg (mtn (dsm (lg q k gq gk) (dpm o v)) (nrm q gq)) gk))) = (dx k (yg (mtn (dsm (lg q k gq gk) (dpm o v)) (nrm q gq)) gk)) := rfl
theorem p105 (q : FVec F S256x256 .f32) (k : FVec F S256x256 .f32) (v : FVec F S256x256 .f32) (o : FVec F S256x256 .f32) (gq : FVec F S1x256 .f32) (gk : FVec F S1x256 .f32) :
    k0_pay105 gq q (rs q) (hd q) (mnn (dsm (lg q k gq gk) (dpm o v)) (nrm k gk)) = (dx q (yg (mnn (dsm (lg q k gq gk) (dpm o v)) (nrm k gk)) gq)) := rfl
theorem p106 (q : FVec F S256x256 .f32) (k : FVec F S256x256 .f32) (v : FVec F S256x256 .f32) (o : FVec F S256x256 .f32) (gq : FVec F S1x256 .f32) (gk : FVec F S1x256 .f32) (a : FVec F S1x256 .f32) :
    k0_pay106 a (n0 q) (mnn (dsm (lg q k gq gk) (dpm o v)) (nrm k gk)) = addf a (gcol (n0 q) (mnn (dsm (lg q k gq gk) (dpm o v)) (nrm k gk))) := rfl
theorem p107 (q : FVec F S256x256 .f32) (k : FVec F S256x256 .f32) (v : FVec F S256x256 .f32) (o : FVec F S256x256 .f32) (gq : FVec F S1x256 .f32) (gk : FVec F S1x256 .f32) (a : FVec F S1x256 .f32) :
    k0_pay107 a (gcol (n0 k) (mtn (dsm (lg q k gq gk) (dpm o v)) (nrm q gq))) = addf a (gcol (n0 k) (mtn (dsm (lg q k gq gk) (dpm o v)) (nrm q gq))) := rfl
theorem p108 (q : FVec F S256x256 .f32) :
    k0_pay108 q = (ms q) := rfl
theorem p109 (q : FVec F S256x256 .f32) :
    k0_pay109 q = (rs q) := rfl
theorem p110 (q : FVec F S256x256 .f32) :
    k0_pay110 q = (hd q) := rfl
theorem p111 (q : FVec F S256x256 .f32) :
    k0_pay111 q = (n0 q) := rfl
theorem p112 (q : FVec F S256x256 .f32) (gq : FVec F S1x256 .f32) :
    k0_pay112 gq q = (nrm q gq) := rfl
theorem p113 (k : FVec F S256x256 .f32) :
    k0_pay113 k = (ms k) := rfl
theorem p114 (k : FVec F S256x256 .f32) :
    k0_pay114 k = (rs k) := rfl
theorem p115 (k : FVec F S256x256 .f32) :
    k0_pay115 k = (rr k) := rfl
theorem p116 (k : FVec F S256x256 .f32) :
    k0_pay116 (rr k) = (hd k) := rfl
theorem p117 (k : FVec F S256x256 .f32) :
    k0_pay117 k (rs k) = (n0 k) := rfl
theorem p118 (k : FVec F S256x256 .f32) (gk : FVec F S1x256 .f32) :
    k0_pay118 gk k (rs k) = (nrm k gk) := rfl
theorem p119 (q : FVec F S256x256 .f32) (k : FVec F S256x256 .f32) (gq : FVec F S1x256 .f32) (gk : FVec F S1x256 .f32) :
    k0_pay119 gk k (nrm q gq) (rs k) = (lg q k gq gk) := rfl
theorem p120 (q : FVec F S256x256 .f32) (k : FVec F S256x256 .f32) (gq : FVec F S1x256 .f32) (gk : FVec F S1x256 .f32) :
    k0_pay120 gk k (nrm q gq) (rs k) = (mxv (lg q k gq gk)) := rfl
theorem p121 (q : FVec F S256x256 .f32) (k : FVec F S256x256 .f32) (gq : FVec F S1x256 .f32) (gk : FVec F S1x256 .f32) :
    k0_pay121 gk k (nrm q gq) (rs k) = (msk (lg q k gq gk)) := rfl
theorem p122 (q : FVec F S256x256 .f32) (k : FVec F S256x256 .f32) (gq : FVec F S1x256 .f32) (gk : FVec F S1x256 .f32) :
    k0_pay122 gk k (nrm q gq) (rs k) = (cnt (lg q k gq gk)) := rfl
theorem p123 (q : FVec F S256x256 .f32) (k : FVec F S256x256 .f32) (gq : FVec F S1x256 .f32) (gk : FVec F S1x256 .f32) :
    k0_pay123 gk k (nrm q gq) (rs k) = (ex (lg q k gq gk)) := rfl
theorem p124 (q : FVec F S256x256 .f32) (k : FVec F S256x256 .f32) (gq : FVec F S1x256 .f32) (gk : FVec F S1x256 .f32) :
    k0_pay124 gk k (nrm q gq) (rs k) = (zs (lg q k gq gk)) := rfl
theorem p125 (q : FVec F S256x256 .f32) (k : FVec F S256x256 .f32) (o : FVec F S256x256 .f32) (gq : FVec F S1x256 .f32) (gk : FVec F S1x256 .f32) :
    k0_pay125 gk k o (nrm q gq) (rs k) = (dvm o (pr (lg q k gq gk))) := rfl
theorem p126 (q : FVec F S256x256 .f32) (k : FVec F S256x256 .f32) (v : FVec F S256x256 .f32) (o : FVec F S256x256 .f32) (gq : FVec F S1x256 .f32) (gk : FVec F S1x256 .f32) :
    k0_pay126 gk k v o (nrm q gq) (rs k) = (dl (lg q k gq gk) (dpm o v)) := rfl
theorem p127 (q : FVec F S256x256 .f32) (k : FVec F S256x256 .f32) (v : FVec F S256x256 .f32) (o : FVec F S256x256 .f32) (gq : FVec F S1x256 .f32) (gk : FVec F S1x256 .f32) :
    k0_pay127 gk k v o (nrm q gq) (rs k) = (ndl (lg q k gq gk) (dpm o v)) := rfl
theorem p128 (q : FVec F S256x256 .f32) (k : FVec F S256x256 .f32) (v : FVec F S256x256 .f32) (o : FVec F S256x256 .f32) (gq : FVec F S1x256 .f32) (gk : FVec F S1x256 .f32) :
    k0_pay128 (msk (lg q k gq gk)) (cnt (lg q k gq gk)) (dl (lg q k gq gk) (dpm o v)) (ndl (lg q k gq gk) (dpm o v)) = (dsm (lg q k gq gk) (dpm o v)) := rfl
theorem p129 (q : FVec F S256x256 .f32) (k : FVec F S256x256 .f32) (v : FVec F S256x256 .f32) (o : FVec F S256x256 .f32) (gq : FVec F S1x256 .f32) (gk : FVec F S1x256 .f32) :
    k0_pay129 (nrm q gq) (msk (lg q k gq gk)) (cnt (lg q k gq gk)) (dl (lg q k gq gk) (dpm o v)) (ndl (lg q k gq gk) (dpm o v)) = (mtn (dsm (lg q k gq gk) (dpm o v)) (nrm q gq)) := rfl
theorem p130 (q : FVec F S256x256 .f32) (k : FVec F S256x256 .f32) (v : FVec F S256x256 .f32) (o : FVec F S256x256 .f32) (gq : FVec F S1x256 .f32) (gk : FVec F S1x256 .f32) :
    k0_pay130 (nrm k gk) (msk (lg q k gq gk)) (cnt (lg q k gq gk)) (dl (lg q k gq gk) (dpm o v)) (ndl (lg q k gq gk) (dpm o v)) = (mnn (dsm (lg q k gq gk) (dpm o v)) (nrm k gk)) := rfl
theorem p131 (q : FVec F S256x256 .f32) (k : FVec F S256x256 .f32) (v : FVec F S256x256 .f32) (o : FVec F S256x256 .f32) (gq : FVec F S1x256 .f32) (gk : FVec F S1x256 .f32) :
    k0_pay131 (nrm q gq) (n0 k) (msk (lg q k gq gk)) (cnt (lg q k gq gk)) (dl (lg q k gq gk) (dpm o v)) (ndl (lg q k gq gk) (dpm o v)) = (gcol (n0 k) (mtn (dsm (lg q k gq gk) (dpm o v)) (nrm q gq))) := rfl
theorem p132 (q : FVec F S256x256 .f32) (k : FVec F S256x256 .f32) (v : FVec F S256x256 .f32) (o : FVec F S256x256 .f32) (gq : FVec F S1x256 .f32) (gk : FVec F S1x256 .f32) :
    k0_pay132 gk k (nrm q gq) (rs k) (hd k) (msk (lg q k gq gk)) (cnt (lg q k gq gk)) (dl (lg q k gq gk) (dpm o v)) (ndl (lg q k gq gk) (dpm o v)) = (dx k (yg (mtn (dsm (lg q k gq gk) (dpm o v)) (nrm q gq)) gk)) := rfl
theorem p133 (q : FVec F S256x256 .f32) (k : FVec F S256x256 .f32) (v : FVec F S256x256 .f32) (o : FVec F S256x256 .f32) (gq : FVec F S1x256 .f32) (gk : FVec F S1x256 .f32) :
    k0_pay133 (n0 q) (nrm k gk) (msk (lg q k gq gk)) (cnt (lg q k gq gk)) (dl (lg q k gq gk) (dpm o v)) (ndl (lg q k gq gk) (dpm o v)) = (gcol (n0 q) (mnn (dsm (lg q k gq gk) (dpm o v)) (nrm k gk))) := rfl
theorem p134 (q : FVec F S256x256 .f32) (k : FVec F S256x256 .f32) (v : FVec F S256x256 .f32) (o : FVec F S256x256 .f32) (gq : FVec F S1x256 .f32) (gk : FVec F S1x256 .f32) :
    k0_pay134 gq (nrm k gk) (msk (lg q k gq gk)) (cnt (lg q k gq gk)) (dl (lg q k gq gk) (dpm o v)) (ndl (lg q k gq gk) (dpm o v)) = (yg (mnn (dsm (lg q k gq gk) (dpm o v)) (nrm k gk)) gq) := rfl
theorem p135 (q : FVec F S256x256 .f32) (k : FVec F S256x256 .f32) (v : FVec F S256x256 .f32) (o : FVec F S256x256 .f32) (gq : FVec F S1x256 .f32) (gk : FVec F S1x256 .f32) :
    k0_pay135 gq (rs q) (nrm k gk) (msk (lg q k gq gk)) (cnt (lg q k gq gk)) (dl (lg q k gq gk) (dpm o v)) (ndl (lg q k gq gk) (dpm o v)) = (mulf (yg (mnn (dsm (lg q k gq gk) (dpm o v)) (nrm k gk)) gq) (rsb q)) := rfl
theorem p136 (q : FVec F S256x256 .f32) (k : FVec F S256x256 .f32) (v : FVec F S256x256 .f32) (o : FVec F S256x256 .f32) (gq : FVec F S1x256 .f32) (gk : FVec F S1x256 .f32) :
    k0_pay136 gq q (hd q) (nrm k gk) (msk (lg q k gq gk)) (cnt (lg q k gq gk)) (dl (lg q k gq gk) (dpm o v)) (ndl (lg q k gq gk) (dpm o v)) = (cb q (yg (mnn (dsm (lg q k gq gk) (dpm o v)) (nrm k gk)) gq)) := rfl
theorem p137 (q : FVec F S256x256 .f32) (k : FVec F S256x256 .f32) (v : FVec F S256x256 .f32) (o : FVec F S256x256 .f32) (gq : FVec F S1x256 .f32) (gk : FVec F S1x256 .f32) (a : FVec F S1x256 .f32) :
    k0_pay137 a (gcol (n0 k) (mtn (dsm (lg q k gq gk) (dpm o v)) (nrm q gq))) = addf a (gcol (n0 k) (mtn (dsm (lg q k gq gk) (dpm o v)) (nrm q gq))) := rfl

end Cert.KernelIdeal.Head
-- ==== Proof.MemBlock.lean ====
/-
  What one point of the grid computes: the body's stores, from the blocks that the point reads. The first point stores
  zeros in the three sums and adds to them; every later point adds to what the point before left.
-/
module

public import proofs.«01_k».proof.Proof.MemHead
public import proofs.«01_k».proof.Proof.Gen.KernelIdeal.Frame
public import Idealize.ShloMosaic.Lib.Pipeline.Value
public import Idealize.ShloMosaic.Lib.Tactic

@[expose] public section

noncomputable section

namespace Cert.KernelIdeal.Head

open Cert.KernelIdeal Cert.KernelIdeal.Gen
open Idealize.ShloMosaic Idealize.ShloMosaic.TcCoe Idealize.SL.Sem

variable {F : FTy → Type} [FloatOps F]

theorem hz : (![0, 0] : Fin 2 → Nat) = fun _ => 0 := funext fun a => by fin_cases a <;> rfl

/-! ## One head: its five gradients, from its queries, keys, values, gains and the gradient of its output -/

abbrev HSq (F : FTy → Type) := FVec F S256x256 .f32
abbrev HRow (F : FTy → Type) := FVec F S1x256 .f32

/-- The gradient of the products of queries and keys. -/
def hds (q k v o : HSq F) (gq gk : HRow F) : HSq F := dsm (lg q k gq gk) (dpm o v)
/-- The gradient of the normalised queries. -/
def hdqn (q k v o : HSq F) (gq gk : HRow F) : HSq F := mnn (hds q k v o gq gk) (nrm k gk)
/-- The gradient of the normalised keys, from this tile's rows. -/
def hdkn (q k v o : HSq F) (gq gk : HRow F) : HSq F := mtn (hds q k v o gq gk) (nrm q gq)
def hdq (q k v o : HSq F) (gq gk : HRow F) : HSq F := dx q (yg (hdqn q k v o gq gk) gq)
def hdk (q k v o : HSq F) (gq gk : HRow F) : HSq F := dx k (yg (hdkn q k v o gq gk) gk)
def hdv (q k v o : HSq F) (gq gk : HRow F) : HSq F := dvm o (pr (lg q k gq gk))
def hdgq (q k v o : HSq F) (gq gk : HRow F) : HRow F := gcol (n0 q) (hdqn q k v o gq gk)
def hdgk (q k v o : HSq F) (gq gk : HRow F) : HRow F := gcol (n0 k) (hdkn q k v o gq gk)

/-! ## One tile: the four heads side by side, or summed -/

/-- The gradient of the tile's queries. -/
def dqB (x0 : FVec F S256x1024 .f32) (x1 : FVec F S256x2048 .f32) (x2 x3 : HRow F) (x4 : FVec F S256x1024 .f32) : FVec F S256x1024 .bf16 :=
  truncf .bf16 (concatenate S256x1024 1
    [⟨S256x256, hdq (k0_pay14 x0) (k0_pay3 x1) (k0_pay8 x1) (k0_pay18 x4) x2 x3⟩,
     ⟨S256x256, hdq (k0_pay15 x0) (k0_pay4 x1) (k0_pay9 x1) (k0_pay19 x4) x2 x3⟩,
     ⟨S256x256, hdq (k0_pay16 x0) (k0_pay5 x1) (k0_pay10 x1) (k0_pay20 x4) x2 x3⟩,
     ⟨S256x256, hdq (k0_pay17 x0) (k0_pay6 x1) (k0_pay11 x1) (k0_pay21 x4) x2 x3⟩]
    concatenates_S256x256_S256x256_S256x256_S256x256_S256x1024_d1) bitsLt_bf16_f32

/-- The tile's part of the gradient of the keys and values. -/
def dkvB (x0 : FVec F S256x1024 .f32) (x1 : FVec F S256x2048 .f32) (x2 x3 : HRow F) (x4 : FVec F S256x1024 .f32) : FVec F S256x2048 .f32 :=
  concatenate S256x2048 1
    [⟨S256x256, hdk (k0_pay14 x0) (k0_pay3 x1) (k0_pay8 x1) (k0_pay18 x4) x2 x3⟩,
     ⟨S256x256, hdk (k0_pay15 x0) (k0_pay4 x1) (k0_pay9 x1) (k0_pay19 x4) x2 x3⟩,
     ⟨S256x256, hdk (k0_pay16 x0) (k0_pay5 x1) (k0_pay10 x1) (k0_pay20 x4) x2 x3⟩,
     ⟨S256x256, hdk (k0_pay17 x0) (k0_pay6 x1) (k0_pay11 x1) (k0_pay21 x4) x2 x3⟩,
     ⟨S256x256, hdv (k0_pay14 x0) (k0_pay3 x1) (k0_pay8 x1) (k0_pay18 x4) x2 x3⟩,
     ⟨S256x256, hdv (k0_pay15 x0) (k0_pay4 x1) (k0_pay9 x1) (k0_pay19 x4) x2 x3⟩,
     ⟨S256x256, hdv (k0_pay16 x0) (k0_pay5 x1) (k0_pay10 x1) (k0_pay20 x4) x2 x3⟩,
     ⟨S256x256, hdv (k0_pay17 x0) (k0_pay6 x1) (k0_pay11 x1) (k0_pay21 x4) x2 x3⟩]
    concatenates_S256x256_S256x256_S256x256_S256x256_S256x256_S256x256_S256x256_S256x256_S256x2048_d1

def zrow : HRow F := broadcast S1x256 (Scalar.ofBits .f32 0x00000000#32)
def zkv : FVec F S256x2048 .f32 := broadcast S256x2048 (Scalar.ofBits .f32 0x00000000#32)

/-- The tile's part of the gradient of the queries' gain. -/
def dgqB (x0 : FVec F S256x1024 .f32) (x1 : FVec F S256x2048 .f32) (x2 x3 : HRow F) (x4 : FVec F S256x1024 .f32) : HRow F :=
  addf (addf (addf (addf zrow
    (hdgq (k0_pay14 x0) (k0_pay3 x1) (k0_pay8 x1) (k0_pay18 x4) x2 x3))
    (hdgq (k0_pay15 x0) (k0_pay4 x1) (k0_pay9 x1) (k0_pay19 x4) x2 x3))
    (hdgq (k0_pay16 x0) (k0_pay5 x1) (k0_pay10 x1) (k0_pay20 x4) x2 x3))
    (hdgq (k0_pay17 x0) (k0_pay6 x1) (k0_pay11 x1) (k0_pay21 x4) x2 x3)
/-- The tile's part of the gradient of the keys' gain. -/
def dgkB (x0 : FVec F S256x1024 .f32) (x1 : FVec F S256x2048 .f32) (x2 x3 : HRow F) (x4 : FVec F S256x1024 .f32) : HRow F :=
  addf (addf (addf (addf zrow
    (hdgk (k0_pay14 x0) (k0_pay3 x1) (k0_pay8 x1) (k0_pay18 x4) x2 x3))
    (hdgk (k0_pay15 x0) (k0_pay4 x1) (k0_pay9 x1) (k0_pay19 x4) x2 x3))
    (hdgk (k0_pay16 x0) (k0_pay5 x1) (k0_pay10 x1) (k0_pay20 x4) x2 x3))
    (hdgk (k0_pay17 x0) (k0_pay6 x1) (k0_pay11 x1) (k0_pay21 x4) x2 x3)

/-! ## The body's stores, in the two cases -/

theorem p1 (a y : HRow F) : k0_pay1 a y = addf y a := by
  unfold k0_pay1; simp only [shapeCast_self]
theorem p142 (a b y : HRow F) : k0_pay142 a b y = addf y (addf a b) := by
  unfold k0_pay142; simp only [shapeCast_self]
theorem p140 (a1 a2 a3 a4 a5 a6 a7 a8 : HSq F) (y : FVec F S256x2048 .f32) :
    k0_pay140 a1 a2 a3 a4 a5 a6 a7 a8 y = addf y (concatenate S256x2048 1
      [⟨S256x256, a2⟩, ⟨S256x256, a4⟩, ⟨S256x256, a6⟩, ⟨S256x256, a8⟩,
       ⟨S256x256, a1⟩, ⟨S256x256, a3⟩, ⟨S256x256, a5⟩, ⟨S256x256, a7⟩]
      concatenates_S256x256_S256x256_S256x256_S256x256_S256x256_S256x256_S256x256_S256x256_S256x2048_d1) := by
  unfold k0_pay140; simp only [shapeCast_self]

theorem outA5 (c : Dev nD) (i : grid0.Coords) (a1 : Memref sig .tc .vmem S256x1024 .f32) (h1 : a1.IsWhole) (a2 : Memref sig .tc .vmem S256x2048 .f32) (h2 : a2.IsWhole) (a3 : Memref sig .tc .vmem S1x256 .f32) (h3 : a3.IsWhole) (a4 : Memref sig .tc .vmem S1x256 .f32) (h4 : a4.IsWhole) (a5 : Memref sig .tc .vmem S256x1024 .f32) (h5 : a5.IsWhole) (a6 : Memref sig .tc .vmem S256x1024 .bf16) (h6 : a6.IsWhole) (a7 : Memref sig .tc .vmem S256x2048 .f32) (h7 : a7.IsWhole) (a8 : Memref sig .tc .vmem S1x256 .f32) (h8 : a8.IsWhole) (a9 : Memref sig .tc .vmem S1x256 .f32) (h9 : a9.IsWhole) (hc0 : cond0_0 i) (hc1 : cond0_1 i) (hc2 : cond0_2 i) (x0 : Vec F S256x1024 .f32) (x1 : Vec F S256x2048 .f32) (x2 : Vec F S1x256 .f32) (x3 : Vec F S1x256 .f32) (x4 : Vec F S256x1024 .f32) :
    out0_A_5 c i a1 h1 a2 h2 a3 h3 a4 h4 a5 h5 a6 h6 a7 h7 a8 h8 a9 h9 hc0 hc1 hc2 x0 x1 x2 x3 x4 = dqB x0 x1 x2 x3 x4 := by
  unfold out0_A_5
  rw [View.read_writes_eq_canon _ _ _ (cover0_A_5 c i a1 h1 a2 h2 a3 h3 a4 h4 a5 h5 a6 h6 a7 h7 a8 h8 a9 h9 hc0 hc1 hc2 x0 x1 x2 x3 x4)]
  unfold kernelRun0_A
  dsimp only
  sl_unfold_words
  rw [View.canon_unit_zero hz]
  simp only [View.readAt_eq_ld, h1.read_unread, h2.read_unread, h3.read_unread, h4.read_unread, h5.read_unread, View.ld_unit_zero (S := S256x1024) hz, View.ld_unit_zero (S := S256x2048) hz, View.ld_unit_zero (S := S1x256) hz]
  simp only [p22, p23, p24, p25, p26, p27, p28, p29, p30, p31, p32, p33, p34, p35, p36, p37, p38, p39, p40, p41, p42, p43, p44, p45, p46, p47, p48, p49, p50, p51, p52, p53, p54, p55, p56, p57, p58, p59, p60, p61, p62, p63, p64, p65, p66, p67, p68, p69, p70, p71, p72, p73, p74, p75, p76, p77, p78, p79, p80, p81, p82, p83, p84, p85, p86, p87, p88, p89, p90, p91, p92, p93, p94, p95, p96, p97, p98, p99, p100, p101, p102, p103, p104, p105, p106, p107, p108, p109, p110, p111, p112, p113, p114, p115, p116, p117, p118, p119, p120, p121, p122, p123, p124, p125, p126, p127, p128, p129, p130, p131, p132, p133, p134, p135, p136, p137, p1, p140, p142]
  rfl

theorem outA6 (c : Dev nD) (i : grid0.Coords) (a1 : Memref sig .tc .vmem S256x1024 .f32) (h1 : a1.IsWhole) (a2 : Memref sig .tc .vmem S256x2048 .f32) (h2 : a2.IsWhole) (a3 : Memref sig .tc .vmem S1x256 .f32) (h3 : a3.IsWhole) (a4 : Memref sig .tc .vmem S1x256 .f32) (h4 : a4.IsWhole) (a5 : Memref sig .tc .vmem S256x1024 .f32) (h5 : a5.IsWhole) (a6 : Memref sig .tc .vmem S256x1024 .bf16) (h6 : a6.IsWhole) (a7 : Memref sig .tc .vmem S256x2048 .f32) (h7 : a7.IsWhole) (a8 : Memref sig .tc .vmem S1x256 .f32) (h8 : a8.IsWhole) (a9 : Memref sig .tc .vmem S1x256 .f32) (h9 : a9.IsWhole) (hc0 : cond0_0 i) (hc1 : cond0_1 i) (hc2 : cond0_2 i) (x0 : Vec F S256x1024 .f32) (x1 : Vec F S256x2048 .f32) (x2 : Vec F S1x256 .f32) (x3 : Vec F S1x256 .f32) (x4 : Vec F S256x1024 .f32) :
    out0_A_6 c i a1 h1 a2 h2 a3 h3 a4 h4 a5 h5 a6 h6 a7 h7 a8 h8 a9 h9 hc0 hc1 hc2 x0 x1 x2 x3 x4 = addf zkv (dkvB x0 x1 x2 x3 x4) := by
  unfold out0_A_6
  rw [View.read_writes_eq_canon _ _ _ (cover0_A_6 c i a1 h1 a2 h2 a3 h3 a4 h4 a5 h5 a6 h6 a7 h7 a8 h8 a9 h9 hc0 hc1 hc2 x0 x1 x2 x3 x4)]
  unfold kernelRun0_A
  dsimp only
  sl_unfold_words
  rw [View.canon_cons_unit_zero (S := S256x2048) hz, View.readCov_unit_zero (S := S256x2048) _ hz]
  simp only [View.readAt_eq_ld, h1.read_unread, h2.read_unread, h3.read_unread, h4.read_unread, h5.read_unread, View.ld_unit_zero (S := S256x1024) hz, View.ld_unit_zero (S := S256x2048) hz, View.ld_unit_zero (S := S1x256) hz]
  simp only [p22, p23, p24, p25, p26, p27, p28, p29, p30, p31, p32, p33, p34, p35, p36, p37, p38, p39, p40, p41, p42, p43, p44, p45, p46, p47, p48, p49, p50, p51, p52, p53, p54, p55, p56, p57, p58, p59, p60, p61, p62, p63, p64, p65, p66, p67, p68, p69, p70, p71, p72, p73, p74, p75, p76, p77, p78, p79, p80, p81, p82, p83, p84, p85, p86, p87, p88, p89, p90, p91, p92, p93, p94, p95, p96, p97, p98, p99, p100, p101, p102, p103, p104, p105, p106, p107, p108, p109, p110, p111, p112, p113, p114, p115, p116, p117, p118, p119, p120, p121, p122, p123, p124, p125, p126, p127, p128, p129, p130, p131, p132, p133, p134, p135, p136, p137, p1, p140, p142]
  rfl

theorem outA7 (c : Dev nD) (i : grid0.Coords) (a1 : Memref sig .tc .vmem S256x1024 .f32) (h1 : a1.IsWhole) (a2 : Memref sig .tc .vmem S256x2048 .f32) (h2 : a2.IsWhole) (a3 : Memref sig .tc .vmem S1x256 .f32) (h3 : a3.IsWhole) (a4 : Memref sig .tc .vmem S1x256 .f32) (h4 : a4.IsWhole) (a5 : Memref sig .tc .vmem S256x1024 .f32) (h5 : a5.IsWhole) (a6 : Memref sig .tc .vmem S256x1024 .bf16) (h6 : a6.IsWhole) (a7 : Memref sig .tc .vmem S256x2048 .f32) (h7 : a7.IsWhole) (a8 : Memref sig .tc .vmem S1x256 .f32) (h8 : a8.IsWhole) (a9 : Memref sig .tc .vmem S1x256 .f32) (h9 : a9.IsWhole) (hc0 : cond0_0 i) (hc1 : cond0_1 i) (hc2 : cond0_2 i) (x0 : Vec F S256x1024 .f32) (x1 : Vec F S256x2048 .f32) (x2 : Vec F S1x256 .f32) (x3 : Vec F S1x256 .f32) (x4 : Vec F S256x1024 .f32) :
    out0_A_7 c i a1 h1 a2 h2 a3 h3 a4 h4 a5 h5 a6 h6 a7 h7 a8 h8 a9 h9 hc0 hc1 hc2 x0 x1 x2 x3 x4 = addf zrow (dgqB x0 x1 x2 x3 x4) := by
  unfold out0_A_7
  rw [View.read_writes_eq_canon _ _ _ (cover0_A_7 c i a1 h1 a2 h2 a3 h3 a4 h4 a5 h5 a6 h6 a7 h7 a8 h8 a9 h9 hc0 hc1 hc2 x0 x1 x2 x3 x4)]
  unfold kernelRun0_A
  dsimp only
  sl_unfold_words
  rw [View.canon_cons_unit_zero (S := S1x256) hz, View.readCov_unit_zero (S := S1x256) _ hz]
  simp only [View.readAt_eq_ld, h1.read_unread, h2.read_unread, h3.read_unread, h4.read_unread, h5.read_unread, View.ld_unit_zero (S := S256x1024) hz, View.ld_unit_zero (S := S256x2048) hz, View.ld_unit_zero (S := S1x256) hz]
  simp only [p22, p23, p24, p25, p26, p27, p28, p29, p30, p31, p32, p33, p34, p35, p36, p37, p38, p39, p40, p41, p42, p43, p44, p45, p46, p47, p48, p49, p50, p51, p52, p53, p54, p55, p56, p57, p58, p59, p60, p61, p62, p63, p64, p65, p66, p67, p68, p69, p70, p71, p72, p73, p74, p75, p76, p77, p78, p79, p80, p81, p82, p83, p84, p85, p86, p87, p88, p89, p90, p91, p92, p93, p94, p95, p96, p97, p98, p99, p100, p101, p102, p103, p104, p105, p106, p107, p108, p109, p110, p111, p112, p113, p114, p115, p116, p117, p118, p119, p120, p121, p122, p123, p124, p125, p126, p127, p128, p129, p130, p131, p132, p133, p134, p135, p136, p137, p1, p140, p142]
  rfl

theorem outA8 (c : Dev nD) (i : grid0.Coords) (a1 : Memref sig .tc .vmem S256x1024 .f32) (h1 : a1.IsWhole) (a2 : Memref sig .tc .vmem S256x2048 .f32) (h2 : a2.IsWhole) (a3 : Memref sig .tc .vmem S1x256 .f32) (h3 : a3.IsWhole) (a4 : Memref sig .tc .vmem S1x256 .f32) (h4 : a4.IsWhole) (a5 : Memref sig .tc .vmem S256x1024 .f32) (h5 : a5.IsWhole) (a6 : Memref sig .tc .vmem S256x1024 .bf16) (h6 : a6.IsWhole) (a7 : Memref sig .tc .vmem S256x2048 .f32) (h7 : a7.IsWhole) (a8 : Memref sig .tc .vmem S1x256 .f32) (h8 : a8.IsWhole) (a9 : Memref sig .tc .vmem S1x256 .f32) (h9 : a9.IsWhole) (hc0 : cond0_0 i) (hc1 : cond0_1 i) (hc2 : cond0_2 i) (x0 : Vec F S256x1024 .f32) (x1 : Vec F S256x2048 .f32) (x2 : Vec F S1x256 .f32) (x3 : Vec F S1x256 .f32) (x4 : Vec F S256x1024 .f32) :
    out0_A_8 c i a1 h1 a2 h2 a3 h3 a4 h4 a5 h5 a6 h6 a7 h7 a8 h8 a9 h9 hc0 hc1 hc2 x0 x1 x2 x3 x4 = addf zrow (dgkB x0 x1 x2 x3 x4) := by
  unfold out0_A_8
  rw [View.read_writes_eq_canon _ _ _ (cover0_A_8 c i a1 h1 a2 h2 a3 h3 a4 h4 a5 h5 a6 h6 a7 h7 a8 h8 a9 h9 hc0 hc1 hc2 x0 x1 x2 x3 x4)]
  unfold kernelRun0_A
  dsimp only
  sl_unfold_words
  rw [View.canon_cons_unit_zero (S := S1x256) hz, View.readCov_unit_zero (S := S1x256) _ hz]
  simp only [View.readAt_eq_ld, h1.read_unread, h2.read_unread, h3.read_unread, h4.read_unread, h5.read_unread, View.ld_unit_zero (S := S256x1024) hz, View.ld_unit_zero (S := S256x2048) hz, View.ld_unit_zero (S := S1x256) hz]
  simp only [p22, p23, p24, p25, p26, p27, p28, p29, p30, p31, p32, p33, p34, p35, p36, p37, p38, p39, p40, p41, p42, p43, p44, p45, p46, p47, p48, p49, p50, p51, p52, p53, p54, p55, p56, p57, p58, p59, p60, p61, p62, p63, p64, p65, p66, p67, p68, p69, p70, p71, p72, p73, p74, p75, p76, p77, p78, p79, p80, p81, p82, p83, p84, p85, p86, p87, p88, p89, p90, p91, p92, p93, p94, p95, p96, p97, p98, p99, p100, p101, p102, p103, p104, p105, p106, p107, p108, p109, p110, p111, p112, p113, p114, p115, p116, p117, p118, p119, p120, p121, p122, p123, p124, p125, p126, p127, p128, p129, p130, p131, p132, p133, p134, p135, p136, p137, p1, p140, p142]
  rfl

theorem outB5 (c : Dev nD) (i : grid0.Coords) (a1 : Memref sig .tc .vmem S256x1024 .f32) (h1 : a1.IsWhole) (a2 : Memref sig .tc .vmem S256x2048 .f32) (h2 : a2.IsWhole) (a3 : Memref sig .tc .vmem S1x256 .f32) (h3 : a3.IsWhole) (a4 : Memref sig .tc .vmem S1x256 .f32) (h4 : a4.IsWhole) (a5 : Memref sig .tc .vmem S256x1024 .f32) (h5 : a5.IsWhole) (a6 : Memref sig .tc .vmem S256x1024 .bf16) (h6 : a6.IsWhole) (a7 : Memref sig .tc .vmem S256x2048 .f32) (h7 : a7.IsWhole) (a8 : Memref sig .tc .vmem S1x256 .f32) (h8 : a8.IsWhole) (a9 : Memref sig .tc .vmem S1x256 .f32) (h9 : a9.IsWhole) (hc0 : ¬cond0_0 i) (hc1 : ¬cond0_1 i) (hc2 : ¬cond0_2 i) (x0 : Vec F S256x1024 .f32) (x1 : Vec F S256x2048 .f32) (x2 : Vec F S1x256 .f32) (x3 : Vec F S1x256 .f32) (x4 : Vec F S256x1024 .f32) (y6 : Vec F S256x2048 .f32) (y7 y8 : Vec F S1x256 .f32) :
    out0_B_5 c i a1 h1 a2 h2 a3 h3 a4 h4 a5 h5 a6 h6 a7 h7 a8 h8 a9 h9 hc0 hc1 hc2 x0 x1 x2 x3 x4 y6 y7 y8 = dqB x0 x1 x2 x3 x4 := by
  unfold out0_B_5
  rw [View.read_writes_eq_canon _ _ _ (cover0_B_5 c i a1 h1 a2 h2 a3 h3 a4 h4 a5 h5 a6 h6 a7 h7 a8 h8 a9 h9 hc0 hc1 hc2 x0 x1 x2 x3 x4 y6 y7 y8)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, View.ld_unit_zero (S := S256x1024) hz, View.ld_unit_zero (S := S256x2048) hz, View.ld_unit_zero (S := S1x256) hz]
  simp only [p22, p23, p24, p25, p26, p27, p28, p29, p30, p31, p32, p33, p34, p35, p36, p37, p38, p39, p40, p41, p42, p43, p44, p45, p46, p47, p48, p49, p50, p51, p52, p53, p54, p55, p56, p57, p58, p59, p60, p61, p62, p63, p64, p65, p66, p67, p68, p69, p70, p71, p72, p73, p74, p75, p76, p77, p78, p79, p80, p81, p82, p83, p84, p85, p86, p87, p88, p89, p90, p91, p92, p93, p94, p95, p96, p97, p98, p99, p100, p101, p102, p103, p104, p105, p106, p107, p108, p109, p110, p111, p112, p113, p114, p115, p116, p117, p118, p119, p120, p121, p122, p123, p124, p125, p126, p127, p128, p129, p130, p131, p132, p133, p134, p135, p136, p137, p1, p140, p142]
  rfl

theorem outB6 (c : Dev nD) (i : grid0.Coords) (a1 : Memref sig .tc .vmem S256x1024 .f32) (h1 : a1.IsWhole) (a2 : Memref sig .tc .vmem S256x2048 .f32) (h2 : a2.IsWhole) (a3 : Memref sig .tc .vmem S1x256 .f32) (h3 : a3.IsWhole) (a4 : Memref sig .tc .vmem S1x256 .f32) (h4 : a4.IsWhole) (a5 : Memref sig .tc .vmem S256x1024 .f32) (h5 : a5.IsWhole) (a6 : Memref sig .tc .vmem S256x1024 .bf16) (h6 : a6.IsWhole) (a7 : Memref sig .tc .vmem S256x2048 .f32) (h7 : a7.IsWhole) (a8 : Memref sig .tc .vmem S1x256 .f32) (h8 : a8.IsWhole) (a9 : Memref sig .tc .vmem S1x256 .f32) (h9 : a9.IsWhole) (hc0 : ¬cond0_0 i) (hc1 : ¬cond0_1 i) (hc2 : ¬cond0_2 i) (x0 : Vec F S256x1024 .f32) (x1 : Vec F S256x2048 .f32) (x2 : Vec F S1x256 .f32) (x3 : Vec F S1x256 .f32) (x4 : Vec F S256x1024 .f32) (y6 : Vec F S256x2048 .f32) (y7 y8 : Vec F S1x256 .f32) :
    out0_B_6 c i a1 h1 a2 h2 a3 h3 a4 h4 a5 h5 a6 h6 a7 h7 a8 h8 a9 h9 hc0 hc1 hc2 x0 x1 x2 x3 x4 y6 y7 y8 = addf y6 (dkvB x0 x1 x2 x3 x4) := by
  unfold out0_B_6
  rw [View.read_writes_eq_canon _ _ _ (cover0_B_6 c i a1 h1 a2 h2 a3 h3 a4 h4 a5 h5 a6 h6 a7 h7 a8 h8 a9 h9 hc0 hc1 hc2 x0 x1 x2 x3 x4 y6 y7 y8)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, View.ld_unit_zero (S := S256x1024) hz, View.ld_unit_zero (S := S256x2048) hz, View.ld_unit_zero (S := S1x256) hz]
  simp only [p22, p23, p24, p25, p26, p27, p28, p29, p30, p31, p32, p33, p34, p35, p36, p37, p38, p39, p40, p41, p42, p43, p44, p45, p46, p47, p48, p49, p50, p51, p52, p53, p54, p55, p56, p57, p58, p59, p60, p61, p62, p63, p64, p65, p66, p67, p68, p69, p70, p71, p72, p73, p74, p75, p76, p77, p78, p79, p80, p81, p82, p83, p84, p85, p86, p87, p88, p89, p90, p91, p92, p93, p94, p95, p96, p97, p98, p99, p100, p101, p102, p103, p104, p105, p106, p107, p108, p109, p110, p111, p112, p113, p114, p115, p116, p117, p118, p119, p120, p121, p122, p123, p124, p125, p126, p127, p128, p129, p130, p131, p132, p133, p134, p135, p136, p137, p1, p140, p142]
  rfl

theorem outB7 (c : Dev nD) (i : grid0.Coords) (a1 : Memref sig .tc .vmem S256x1024 .f32) (h1 : a1.IsWhole) (a2 : Memref sig .tc .vmem S256x2048 .f32) (h2 : a2.IsWhole) (a3 : Memref sig .tc .vmem S1x256 .f32) (h3 : a3.IsWhole) (a4 : Memref sig .tc .vmem S1x256 .f32) (h4 : a4.IsWhole) (a5 : Memref sig .tc .vmem S256x1024 .f32) (h5 : a5.IsWhole) (a6 : Memref sig .tc .vmem S256x1024 .bf16) (h6 : a6.IsWhole) (a7 : Memref sig .tc .vmem S256x2048 .f32) (h7 : a7.IsWhole) (a8 : Memref sig .tc .vmem S1x256 .f32) (h8 : a8.IsWhole) (a9 : Memref sig .tc .vmem S1x256 .f32) (h9 : a9.IsWhole) (hc0 : ¬cond0_0 i) (hc1 : ¬cond0_1 i) (hc2 : ¬cond0_2 i) (x0 : Vec F S256x1024 .f32) (x1 : Vec F S256x2048 .f32) (x2 : Vec F S1x256 .f32) (x3 : Vec F S1x256 .f32) (x4 : Vec F S256x1024 .f32) (y6 : Vec F S256x2048 .f32) (y7 y8 : Vec F S1x256 .f32) :
    out0_B_7 c i a1 h1 a2 h2 a3 h3 a4 h4 a5 h5 a6 h6 a7 h7 a8 h8 a9 h9 hc0 hc1 hc2 x0 x1 x2 x3 x4 y6 y7 y8 = addf y7 (dgqB x0 x1 x2 x3 x4) := by
  unfold out0_B_7
  rw [View.read_writes_eq_canon _ _ _ (cover0_B_7 c i a1 h1 a2 h2 a3 h3 a4 h4 a5 h5 a6 h6 a7 h7 a8 h8 a9 h9 hc0 hc1 hc2 x0 x1 x2 x3 x4 y6 y7 y8)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, View.ld_unit_zero (S := S256x1024) hz, View.ld_unit_zero (S := S256x2048) hz, View.ld_unit_zero (S := S1x256) hz]
  simp only [p22, p23, p24, p25, p26, p27, p28, p29, p30, p31, p32, p33, p34, p35, p36, p37, p38, p39, p40, p41, p42, p43, p44, p45, p46, p47, p48, p49, p50, p51, p52, p53, p54, p55, p56, p57, p58, p59, p60, p61, p62, p63, p64, p65, p66, p67, p68, p69, p70, p71, p72, p73, p74, p75, p76, p77, p78, p79, p80, p81, p82, p83, p84, p85, p86, p87, p88, p89, p90, p91, p92, p93, p94, p95, p96, p97, p98, p99, p100, p101, p102, p103, p104, p105, p106, p107, p108, p109, p110, p111, p112, p113, p114, p115, p116, p117, p118, p119, p120, p121, p122, p123, p124, p125, p126, p127, p128, p129, p130, p131, p132, p133, p134, p135, p136, p137, p1, p140, p142]
  rfl

theorem outB8 (c : Dev nD) (i : grid0.Coords) (a1 : Memref sig .tc .vmem S256x1024 .f32) (h1 : a1.IsWhole) (a2 : Memref sig .tc .vmem S256x2048 .f32) (h2 : a2.IsWhole) (a3 : Memref sig .tc .vmem S1x256 .f32) (h3 : a3.IsWhole) (a4 : Memref sig .tc .vmem S1x256 .f32) (h4 : a4.IsWhole) (a5 : Memref sig .tc .vmem S256x1024 .f32) (h5 : a5.IsWhole) (a6 : Memref sig .tc .vmem S256x1024 .bf16) (h6 : a6.IsWhole) (a7 : Memref sig .tc .vmem S256x2048 .f32) (h7 : a7.IsWhole) (a8 : Memref sig .tc .vmem S1x256 .f32) (h8 : a8.IsWhole) (a9 : Memref sig .tc .vmem S1x256 .f32) (h9 : a9.IsWhole) (hc0 : ¬cond0_0 i) (hc1 : ¬cond0_1 i) (hc2 : ¬cond0_2 i) (x0 : Vec F S256x1024 .f32) (x1 : Vec F S256x2048 .f32) (x2 : Vec F S1x256 .f32) (x3 : Vec F S1x256 .f32) (x4 : Vec F S256x1024 .f32) (y6 : Vec F S256x2048 .f32) (y7 y8 : Vec F S1x256 .f32) :
    out0_B_8 c i a1 h1 a2 h2 a3 h3 a4 h4 a5 h5 a6 h6 a7 h7 a8 h8 a9 h9 hc0 hc1 hc2 x0 x1 x2 x3 x4 y6 y7 y8 = addf y8 (dgkB x0 x1 x2 x3 x4) := by
  unfold out0_B_8
  rw [View.read_writes_eq_canon _ _ _ (cover0_B_8 c i a1 h1 a2 h2 a3 h3 a4 h4 a5 h5 a6 h6 a7 h7 a8 h8 a9 h9 hc0 hc1 hc2 x0 x1 x2 x3 x4 y6 y7 y8)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, View.ld_unit_zero (S := S256x1024) hz, View.ld_unit_zero (S := S256x2048) hz, View.ld_unit_zero (S := S1x256) hz]
  simp only [p22, p23, p24, p25, p26, p27, p28, p29, p30, p31, p32, p33, p34, p35, p36, p37, p38, p39, p40, p41, p42, p43, p44, p45, p46, p47, p48, p49, p50, p51, p52, p53, p54, p55, p56, p57, p58, p59, p60, p61, p62, p63, p64, p65, p66, p67, p68, p69, p70, p71, p72, p73, p74, p75, p76, p77, p78, p79, p80, p81, p82, p83, p84, p85, p86, p87, p88, p89, p90, p91, p92, p93, p94, p95, p96, p97, p98, p99, p100, p101, p102, p103, p104, p105, p106, p107, p108, p109, p110, p111, p112, p113, p114, p115, p116, p117, p118, p119, p120, p121, p122, p123, p124, p125, p126, p127, p128, p129, p130, p131, p132, p133, p134, p135, p136, p137, p1, p140, p142]
  rfl

end Cert.KernelIdeal.Head
-- ==== Proof.MemHeadAt.lean ====
/-
  One head's arrays at an index: each entry is the row's function of the rows that enter it. The part of the gradient of
  the logits that passes through a row's largest logit is zero, for a row's gradient sums to zero.
-/
module

public import proofs.«01_k».proof.Proof.MemMath
public import proofs.«01_k».proof.Proof.MemBlock
public import Idealize.ShloMosaic.Lib.Pointwise

@[expose] public section

set_option maxRecDepth 16384

noncomputable section

namespace Cert.KernelIdeal.Head

open Cert.KernelIdeal Cert.KernelIdeal.Gen
open Idealize.ShloMosaic Idealize.SL.Sem
open Cert.Rows (I Re)

/-- A row of a head's array. -/
def row (a : HSq Ideal) (r : I) : I → EReal := fun d => a (ix2 r d)
/-- A gain as a row. -/
def gv (g : HRow Ideal) : I → EReal := fun d => g (ix2 0 d)

variable (q k v o x y l dp a t : HSq Ideal) (g gq gk : HRow Ideal) (r s : I) (z : Fin 1)

theorem ms_at : ms a (ix2 r z) = Rows.ms (row a r) := by
  obtain rfl : z = 0 := Subsingleton.elim _ _
  pointwise [ms, mq, kcol, col, sq, rsum]; rfl
theorem rs_at : rs a (ix2 r z) = Rows.rs (row a r) := by
  pointwise [rs]; rw [ms_at]; rfl
theorem hd_at : hd a (ix2 r z) = Rows.hd (row a r) := by
  pointwise [hd, rr, kcol]; rw [ms_at, rs_at]; rfl
theorem n0_at : n0 a (ix2 r s) = Rows.n0 (row a r) s := by
  pointwise [n0, rsb, wide]; rw [rs_at]; rfl
theorem nrm_at : nrm a g (ix2 r s) = Rows.nrm (row a r) (gv g) s := by
  pointwise [nrm, tall]; rw [n0_at]; rfl
theorem cb_at : cb a t (ix2 r s) = Rows.cb (row a r) (row t r) := by
  pointwise [cb, atc, col, wide, rsum1, rsum, kcol]
  rw [Fin.sum_univ_one, hd_at]; rfl
theorem dx_at : dx a (yg y g) (ix2 r s) = Rows.vj (row a r) (gv g) (row y r) s := by
  have e : row (yg y g) r = fun e => row y r e * gv g e := by
    funext d; unfold row gv; pointwise [yg, tall]
  pointwise [dx, rsb, wide]
  rw [cb_at, rs_at, e]
  pointwise [yg, tall]
  rfl

theorem lg_at : lg q k gq gk (ix2 r s) =
    Rows.lgt (Rows.nrm (row q r) (gv gq)) (fun j => Rows.nrm (row k j) (gv gk)) s := by
  pointwise [lg, mnt, ksq]; simp only [nrm_at]; rfl
theorem dpm_at : dpm o v (ix2 r s) = ∑ d, row o r d * row v s d := by
  pointwise [dpm, mnt]; rfl
theorem mxv_at : mxv l (ix1 r) = Rows.mx (row l r) := by
  pointwise [mxv]; rfl
theorem ex_at : ex l (ix2 r s) = Rows.ex (row l r) s := by
  pointwise [ex, col, wide]; rw [mxv_at]; rfl
theorem zs_at : zs l (ix2 r z) = Rows.zs (row l r) := by
  pointwise [zs, col, rsum]; simp only [ex_at]; rfl
theorem pr_at : pr l (ix2 r s) = Rows.pr (row l r) s := by
  pointwise [pr, wide]; rw [ex_at, zs_at]; rfl
theorem c0_at : c0 l dp (ix2 r z) = Rows.c0 (row l r) (row dp r) := by
  pointwise [c0, iz, wide, col, rsum, kcol]; simp only [ex_at, zs_at]; rfl
theorem dl_at : dl l dp (ix2 r s) = Rows.dl (row l r) (row dp r) s := by
  pointwise [dl, qt, col, wide, rsum1]; rw [Fin.sum_univ_one, ex_at, zs_at, c0_at]; rfl

theorem msk_at : msk l (ix2 r s) = if row l r s = Rows.mx (row l r) then 1 else 0 := by
  pointwise [msk, col, wide]
  rw [mxv_at]
  by_cases h : row l r s = Rows.mx (row l r)
  · rw [if_pos h]
    have h' : l (ix2 r s) = Rows.mx (row l r) := h
    rw [decide_eq_true h']
    show (((1#32 : BitVec 32).toInt : ℝ) : EReal) = 1
    simp
  · rw [if_neg h]
    have h' : ¬ l (ix2 r s) = Rows.mx (row l r) := h
    rw [decide_eq_false h']
    show (((0#32 : BitVec 32).toInt : ℝ) : EReal) = 0
    simp

theorem cnt_ne : cnt l (ix1 r) ≠ 0 := by
  have e : cnt l (ix1 r) = ∑ x, msk l (ix2 r x) := by pointwise [cnt, rsum]
  rw [e]
  simp only [msk_at]
  obtain ⟨j, hj⟩ := Rows.mx_mem (row l r)
  have h1 : (1 : EReal) ≤ ∑ x, if row l r x = Rows.mx (row l r) then (1 : EReal) else 0 := by
    have := Finset.single_le_sum (s := Finset.univ) (f := fun x => if row l r x = Rows.mx (row l r) then (1 : EReal) else 0)
      (fun i _ => by split <;> norm_num) (Finset.mem_univ j)
    rwa [if_pos hj.symm] at this
  intro h0
  rw [h0] at h1
  exact absurd h1 (by norm_num)

theorem dmx_at (hl : ∀ j, Re (row l r j)) (hd : ∀ j, Re (row dp r j)) : dmx l dp (ix2 r s) = 0 := by
  pointwise [dmx, ndl, col, wide, rsum1, rsum, ksq]
  simp only [dl_at]
  rw [Fin.sum_univ_one, Rows.sum_neg_dl hl hd]
  unfold Ideal.div
  rw [if_neg (cnt_ne l r), zero_mul, zero_mul]

theorem dsm_at (hl : ∀ j, Re (row l r j)) (hd : ∀ j, Re (row dp r j)) :
    dsm l dp (ix2 r s) = Rows.ds (row l r) (row dp r) s := by
  pointwise [dsm, ksq]
  rw [dmx_at l dp r s hl hd, dl_at, add_zero]; rfl

/-! ## The five gradients of one head -/

/-- The row's logits. -/
abbrev lrow : I → EReal := Rows.lgt (Rows.nrm (row q r) (gv gq)) (fun j => Rows.nrm (row k j) (gv gk))
/-- The row's gradient of the weights. -/
abbrev dprow : I → EReal := fun j => ∑ d, row o r d * row v j d

theorem row_lg : row (lg q k gq gk) r = lrow q k gq gk r := funext fun j => lg_at q k gq gk r j
theorem row_dpm : row (dpm o v) r = dprow v o r := funext fun j => dpm_at v o r j

structure Reals : Prop where
  q : ∀ r d, Re (row q r d)
  k : ∀ r d, Re (row k r d)
  v : ∀ r d, Re (row v r d)
  o : ∀ r d, Re (row o r d)
  gq : ∀ d, Re (gv gq d)
  gk : ∀ d, Re (gv gk d)

variable {q k v o gq gk}

theorem lrow_re (h : Reals q k v o gq gk) (j : I) : Re (lrow q k gq gk r j) :=
  Rows.lgt_re (Rows.nrm_re (h.q r) h.gq) (fun j => Rows.nrm_re (h.k j) h.gk) j
theorem dprow_re (h : Reals q k v o gq gk) (j : I) : Re (dprow v o r j) :=
  Re.sum fun d => (h.o r d).mul (h.v j d)

theorem hds_at (h : Reals q k v o gq gk) : hds q k v o gq gk (ix2 r s) = Rows.ds (lrow q k gq gk r) (dprow v o r) s := by
  unfold hds
  rw [dsm_at _ _ r s (by rw [row_lg]; exact lrow_re r h) (by rw [row_dpm]; exact dprow_re r h), row_lg, row_dpm]

/-- The row's gradient of the normalised queries. -/
abbrev dqn (q k v o : HSq Ideal) (gq gk : HRow Ideal) (r d : I) : EReal :=
  ∑ j, Rows.ds (lrow q k gq gk r) (dprow v o r) j * Rows.nrm (row k j) (gv gk) d
/-- The tile's gradient of the normalised keys. -/
abbrev dkn (q k v o : HSq Ideal) (gq gk : HRow Ideal) (j d : I) : EReal :=
  ∑ r, Rows.ds (lrow q k gq gk r) (dprow v o r) j * Rows.nrm (row q r) (gv gq) d

theorem hdqn_at (h : Reals q k v o gq gk) : hdqn q k v o gq gk (ix2 r s) = dqn q k v o gq gk r s := by
  unfold hdqn
  pointwise [mnn]
  simp only [hds_at _ _ h, nrm_at]
theorem hdkn_at (h : Reals q k v o gq gk) : hdkn q k v o gq gk (ix2 r s) = dkn q k v o gq gk r s := by
  unfold hdkn
  pointwise [mtn]
  simp only [hds_at _ _ h, nrm_at]
theorem hdq_at (h : Reals q k v o gq gk) :
    hdq q k v o gq gk (ix2 r s) = Rows.vj (row q r) (gv gq) (dqn q k v o gq gk r) s := by
  unfold hdq
  rw [dx_at, show row (hdqn q k v o gq gk) r = dqn q k v o gq gk r from funext fun d => hdqn_at r d h]
theorem hdk_at (h : Reals q k v o gq gk) :
    hdk q k v o gq gk (ix2 r s) = Rows.vj (row k r) (gv gk) (dkn q k v o gq gk r) s := by
  unfold hdk
  rw [dx_at, show row (hdkn q k v o gq gk) r = dkn q k v o gq gk r from funext fun d => hdkn_at r d h]
theorem hdv_at : hdv q k v o gq gk (ix2 r s) = ∑ i, row o i s * Rows.pr (lrow q k gq gk i) r := by
  unfold hdv
  pointwise [dvm, mtn]
  simp only [pr_at, row_lg]
  rfl
theorem hdgq_at (h : Reals q k v o gq gk) :
    hdgq q k v o gq gk (ix2 z s) = ∑ i, Rows.n0 (row q i) s * dqn q k v o gq gk i s := by
  unfold hdgq
  pointwise [gcol]
  simp only [n0_at, hdqn_at _ _ h]
theorem hdgk_at (h : Reals q k v o gq gk) :
    hdgk q k v o gq gk (ix2 z s) = ∑ i, Rows.n0 (row k i) s * dkn q k v o gq gk i s := by
  unfold hdgk
  pointwise [gcol]
  simp only [n0_at, hdkn_at _ _ h]

end Cert.KernelIdeal.Head
-- ==== Proof.MemGrid.lean ====
/-
  What the result arrays hold when the grid has run: the first holds each tile's gradient of the queries in the tile's
  rows; the other three hold the sums of the thirty-two tiles' parts.
-/
module

public import proofs.«01_k».proof.Proof.MemBlock
public import proofs.«01_k».proof.Proof.Gen.KernelIdeal.Value
public import Idealize.ShloMosaic.Lib.Pointwise

@[expose] public section

noncomputable section

namespace Cert.KernelIdeal.Head

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

/-- The tile of 256 rows that point `t` reads. -/
def tile (A : FVec Ideal S8192x1024 .f32) (t : Fin 32) : FVec Ideal S256x1024 .f32 :=
  fun j => A (ix2 ⟨256 * t.val + (j 0).val, by have := (j 0).isLt; change (j 0).val < 256 at this; omega⟩ (j 1))

/-- The grid's points are the thirty-two tiles. -/
def pt (t : Fin 32) : Fin cfg0.N := t.cast N_0.symm

abbrev A0 : FVec Ideal S8192x1024 .f32 := m ((c : Thread nD τ).loc main_arg0)
abbrev A1 : FVec Ideal S256x2048 .f32 := m ((c : Thread nD τ).loc main_arg1)
abbrev A2 : FVec Ideal S1x256 .f32 := m ((c : Thread nD τ).loc main_arg2)
abbrev A3 : FVec Ideal S1x256 .f32 := m ((c : Thread nD τ).loc main_arg3)
abbrev A4 : FVec Ideal S8192x1024 .f32 := m ((c : Thread nD τ).loc main_arg4)

theorem index0 (t : Fin cfg0.N) : win0_0.index t 0 = t.val := (by decide +kernel : ∀ t : Fin grid0.N, win0_0.index t 0 = t.val) t
theorem index0' (t : Fin cfg0.N) : win0_0.index t 1 = 0 := (by decide +kernel : ∀ t : Fin grid0.N, win0_0.index t 1 = 0) t
theorem index4 (t : Fin cfg0.N) : win0_4.index t 0 = t.val := (by decide +kernel : ∀ t : Fin grid0.N, win0_4.index t 0 = t.val) t
theorem index4' (t : Fin cfg0.N) : win0_4.index t 1 = 0 := (by decide +kernel : ∀ t : Fin grid0.N, win0_4.index t 1 = 0) t
theorem index5 (t : Fin cfg0.N) : win0_5.index t 0 = t.val := (by decide +kernel : ∀ t : Fin grid0.N, win0_5.index t 0 = t.val) t
theorem index5' (t : Fin cfg0.N) : win0_5.index t 1 = 0 := (by decide +kernel : ∀ t : Fin grid0.N, win0_5.index t 1 = 0) t

theorem iblk0 (t : Fin cfg0.N) : iblk m c 0 t = tile (A0 m c) (t.cast N_0) := by
  funext j
  unfold iblk; rw [View.read_apply]; unfold tile
  show V m c _ _ = _
  unfold V
  congr 1
  funext a
  apply Fin.ext
  match a with
  | ⟨0, _⟩ => show win0_0.index t 0 * 256 + 1 * (j 0).val = 256 * t.val + (j 0).val; rw [index0]; omega
  | ⟨1, _⟩ => show win0_0.index t 1 * 1024 + 1 * (j 1).val = (j 1).val; rw [index0']; omega

theorem iblk4 (t : Fin cfg0.N) : iblk m c 4 t = tile (A4 m c) (t.cast N_0) := by
  funext j
  unfold iblk; rw [View.read_apply]; unfold tile
  show V m c _ _ = _
  unfold V
  congr 1
  funext a
  apply Fin.ext
  match a with
  | ⟨0, _⟩ => show win0_4.index t 0 * 256 + 1 * (j 0).val = 256 * t.val + (j 0).val; rw [index4]; omega
  | ⟨1, _⟩ => show win0_4.index t 1 * 1024 + 1 * (j 1).val = (j 1).val; rw [index4']; omega

theorem zero1 (t : Fin cfg0.N) (a : Fin 2) : win0_1.index t a = 0 :=
  (by decide +kernel : ∀ (t : Fin grid0.N) (a : Fin 2), win0_1.index t a = 0) t a
theorem zero2 (t : Fin cfg0.N) (a : Fin 2) : win0_2.index t a = 0 :=
  (by decide +kernel : ∀ (t : Fin grid0.N) (a : Fin 2), win0_2.index t a = 0) t a
theorem zero3 (t : Fin cfg0.N) (a : Fin 2) : win0_3.index t a = 0 :=
  (by decide +kernel : ∀ (t : Fin grid0.N) (a : Fin 2), win0_3.index t a = 0) t a
theorem zero6 (t : Fin cfg0.N) (a : Fin 2) : win0_6.index t a = 0 :=
  (by decide +kernel : ∀ (t : Fin grid0.N) (a : Fin 2), win0_6.index t a = 0) t a
theorem zero7 (t : Fin cfg0.N) (a : Fin 2) : win0_7.index t a = 0 :=
  (by decide +kernel : ∀ (t : Fin grid0.N) (a : Fin 2), win0_7.index t a = 0) t a
theorem zero8 (t : Fin cfg0.N) (a : Fin 2) : win0_8.index t a = 0 :=
  (by decide +kernel : ∀ (t : Fin grid0.N) (a : Fin 2), win0_8.index t a = 0) t a

theorem iblk1 (t : Fin cfg0.N) : iblk m c 1 t = A1 m c := by
  have hz' : (fun a => win0_1.index t a * main_arg1.ty.shape.size a) = fun _ => 0 :=
    funext fun a => by rw [zero1 t a, Nat.zero_mul]
  exact Memref.read_access_unit_zero (Elt Ideal) main_arg1 hz' (fun a => by rw [congrFun hz' a]; simp) (A1 m c)

theorem iblk2 (t : Fin cfg0.N) : iblk m c 2 t = A2 m c := by
  have hz' : (fun a => win0_2.index t a * main_arg2.ty.shape.size a) = fun _ => 0 :=
    funext fun a => by rw [zero2 t a, Nat.zero_mul]
  exact Memref.read_access_unit_zero (Elt Ideal) main_arg2 hz' (fun a => by rw [congrFun hz' a]; simp) (A2 m c)

theorem iblk3 (t : Fin cfg0.N) : iblk m c 3 t = A3 m c := by
  have hz' : (fun a => win0_3.index t a * main_arg3.ty.shape.size a) = fun _ => 0 :=
    funext fun a => by rw [zero3 t a, Nat.zero_mul]
  exact Memref.read_access_unit_zero (Elt Ideal) main_arg3 hz' (fun a => by rw [congrFun hz' a]; simp) (A3 m c)

/-! ## The tiles' parts, and what the staging buffers hold after each point -/

abbrev dqT (t : Fin 32) : FVec Ideal S256x1024 .bf16 := dqB (tile (A0 m c) t) (A1 m c) (A2 m c) (A3 m c) (tile (A4 m c) t)
abbrev dkvT (t : Fin 32) : FVec Ideal S256x2048 .f32 := dkvB (tile (A0 m c) t) (A1 m c) (A2 m c) (A3 m c) (tile (A4 m c) t)
abbrev dgqT (t : Fin 32) : FVec Ideal S1x256 .f32 := dgqB (tile (A0 m c) t) (A1 m c) (A2 m c) (A3 m c) (tile (A4 m c) t)
abbrev dgkT (t : Fin 32) : FVec Ideal S1x256 .f32 := dgkB (tile (A0 m c) t) (A1 m c) (A2 m c) (A3 m c) (tile (A4 m c) t)

theorem outs0 (t : Fin cfg0.N) (h : t.val = 0) : outsAt0 m c t.val t.isLt =
    (dqT m c (t.cast N_0), addf zkv (dkvT m c (t.cast N_0)), addf zrow (dgqT m c (t.cast N_0)), addf zrow (dgkT m c (t.cast N_0))) := by
  have h0 : t.val % 32 = 0 := by omega
  rw [outsAt0_A m c t h0 h0 h0, outA5, outA6, outA7, outA8, iblk0, iblk1, iblk2, iblk3, iblk4]

theorem outs1 (n : ℕ) (h : n + 1 < cfg0.N) : outsAt0 m c (n + 1) h =
    (dqT m c ⟨n + 1, by rw [← N_0]; exact h⟩,
     addf (outsAt0 m c n (Nat.lt_of_succ_lt h)).2.1 (dkvT m c ⟨n + 1, by rw [← N_0]; exact h⟩),
     addf (outsAt0 m c n (Nat.lt_of_succ_lt h)).2.2.1 (dgqT m c ⟨n + 1, by rw [← N_0]; exact h⟩),
     addf (outsAt0 m c n (Nat.lt_of_succ_lt h)).2.2.2 (dgkT m c ⟨n + 1, by rw [← N_0]; exact h⟩)) := by
  have hN : cfg0.N = 32 := N_0
  have h0 : ¬(⟨n + 1, h⟩ : Fin cfg0.N).val % 32 = 0 := by dsimp only; omega
  rw [outsAt0_B m c ⟨n + 1, h⟩ h0 h0 h0, outB5, outB6, outB7, outB8, iblk0, iblk1, iblk2, iblk3, iblk4]
  rfl

/-- A tile's part of a sum, zero beyond the last tile. -/
def upTo {ι : Type} (f : Fin 32 → ι → EReal) (t : ℕ) (j : ι) : EReal := if h : t < 32 then f ⟨t, h⟩ j else 0

theorem sum_upTo {ι : Type} (f : Fin 32 → ι → EReal) (j : ι) : ∑ t ∈ Finset.range 32, upTo f t j = ∑ t, f t j := by
  rw [Finset.sum_range]
  exact Finset.sum_congr rfl fun t _ => dif_pos t.isLt

theorem zrow_at (j : S1x256.Idx) : (zrow (F := Ideal)) j = 0 := by
  rw [eq_ix2 j]; pointwise [zrow]
theorem zkv_at (j : S256x2048.Idx) : (zkv (F := Ideal)) j = 0 := by
  rw [eq_ix2 j]; pointwise [zkv]

/-- After point `n` each of the three sums holds the parts of the tiles up to `n`. -/
theorem sums : ∀ (n : ℕ) (h : n < cfg0.N),
    (∀ j, (outsAt0 m c n h).2.1 j = ∑ t ∈ Finset.range (n + 1), upTo (dkvT m c) t j)
    ∧ (∀ j, (outsAt0 m c n h).2.2.1 j = ∑ t ∈ Finset.range (n + 1), upTo (dgqT m c) t j)
    ∧ (∀ j, (outsAt0 m c n h).2.2.2 j = ∑ t ∈ Finset.range (n + 1), upTo (dgkT m c) t j)
  | 0, h => by
    have e := outs0 m c ⟨0, h⟩ rfl
    dsimp only at e
    rw [e]
    refine ⟨fun j => ?_, fun j => ?_, fun j => ?_⟩
    · rw [Finset.sum_range_one]; show zkv j + _ = _; rw [zkv_at, zero_add]; rfl
    · rw [Finset.sum_range_one]; show zrow j + _ = _; rw [zrow_at, zero_add]; rfl
    · rw [Finset.sum_range_one]; show zrow j + _ = _; rw [zrow_at, zero_add]; rfl
  | n + 1, h => by
    have hN : n + 1 < 32 := by rw [← N_0]; exact h
    obtain ⟨a, b, d⟩ := sums n (Nat.lt_of_succ_lt h)
    rw [outs1]
    refine ⟨fun j => ?_, fun j => ?_, fun j => ?_⟩
    · rw [Finset.sum_range_succ]; show (outsAt0 m c n _).2.1 j + _ = _; rw [a j]; unfold upTo; rw [dif_pos hN]
    · rw [Finset.sum_range_succ]; show (outsAt0 m c n _).2.2.1 j + _ = _; rw [b j]; unfold upTo; rw [dif_pos hN]
    · rw [Finset.sum_range_succ]; show (outsAt0 m c n _).2.2.2 j + _ = _; rw [d j]; unfold upTo; rw [dif_pos hN]

theorem dq_at : ∀ (n : ℕ) (h : n < cfg0.N), (outsAt0 m c n h).1 = dqT m c ⟨n, by rw [← N_0]; exact h⟩
  | 0, h => by have e := outs0 m c ⟨0, h⟩ rfl; dsimp only at e; rw [e]; rfl
  | n + 1, h => by rw [outs1]

/-! ## The four result arrays -/

/-- The last point. -/
abbrev last : Fin cfg0.N := pt 31

/-- The gradient of the queries: row `r` lies in tile `r / 256`. -/
def dqR : FVec Ideal S8192x1024 .bf16 :=
  fun j => dqT m c ⟨(j 0).val / 256, by have := (j 0).isLt; change (j 0).val < 8192 at this; omega⟩
    (ix2 ⟨(j 0).val % 256, Nat.mod_lt _ (by decide)⟩ (j 1))
def dkvR : FVec Ideal S256x2048 .f32 := fun j => ∑ t, dkvT m c t j
def dgqR : FVec Ideal S1x256 .f32 := fun j => ∑ t, dgqT m c t j
def dgkR : FVec Ideal S1x256 .f32 := fun j => ∑ t, dgkT m c t j

theorem dqR_at (t : Fin 32) (j : S256x1024.Idx) (i : S8192x1024.Idx) (h0 : (i 0).val = 256 * t.val + (j 0).val)
    (h1 : (i 1).val = (j 1).val) : dqR m c i = dqT m c t j := by
  have hj : (j 0).val < 256 := (j 0).isLt
  have e0 : ∀ h, (⟨(i 0).val / 256, h⟩ : Fin 32) = t := fun h => Fin.ext (by show (i 0).val / 256 = _; omega)
  have e1 : ∀ h, (ix2 ⟨(i 0).val % 256, h⟩ (i 1) : S256x1024.Idx) = j := fun h => by
    funext a
    match a with
    | ⟨0, _⟩ => exact Fin.ext (by show (i 0).val % 256 = (j 0).val; omega)
    | ⟨1, _⟩ => exact Fin.ext h1
  unfold dqR
  rw [e0, e1]

theorem flushedQ (t : Fin cfg0.N) (hf : (cfg0.win 5).flush t = true) :
    (dats m 0 c).flushed 5 t = ((cfg0.win 5).blk t).view.read (Elt Ideal) (dqR m c) := by
  rw [Value.flushed5, dq_at]
  funext j
  rw [View.read_apply]
  exact (dqR_at m c (t.cast N_0) j (((cfg0.win 5).blk t).view.emb j)
    (by show win0_5.index t 0 * 256 + 1 * (j 0).val = 256 * t.val + (j 0).val; rw [index5]; omega)
    (by show win0_5.index t 1 * 1024 + 1 * (j 1).val = (j 1).val; rw [index5']; omega)).symm

theorem flushedKV (t : Fin cfg0.N) (hf : (cfg0.win 6).flush t = true) :
    (dats m 0 c).flushed 6 t = ((cfg0.win 6).blk t).view.read (Elt Ideal) (dkvR m c) := by
  have hN : cfg0.N = 32 := N_0
  have h31 : t.val = 31 := by have := (flush0_6 t).mp hf; have := t.isLt; omega
  obtain rfl : t = last := Fin.ext h31
  rw [Value.flushed6]
  have hz' : (fun a => win0_6.index last a * main_v0_1.ty.shape.size a) = fun _ => 0 :=
    funext fun a => by rw [zero6 last a, Nat.zero_mul]
  have hr := Memref.read_access_unit_zero (Elt Ideal) main_v0_1 hz' (fun a => by rw [congrFun hz' a]; simp) (dkvR m c)
  refine Eq.trans ?_ hr.symm
  funext j
  exact ((sums m c 31 last.isLt).1 j).trans (sum_upTo _ j)

theorem flushedGQ (t : Fin cfg0.N) (hf : (cfg0.win 7).flush t = true) :
    (dats m 0 c).flushed 7 t = ((cfg0.win 7).blk t).view.read (Elt Ideal) (dgqR m c) := by
  have hN : cfg0.N = 32 := N_0
  have h31 : t.val = 31 := by have := (flush0_7 t).mp hf; have := t.isLt; omega
  obtain rfl : t = last := Fin.ext h31
  rw [Value.flushed7]
  have hz' : (fun a => win0_7.index last a * main_v0_2.ty.shape.size a) = fun _ => 0 :=
    funext fun a => by rw [zero7 last a, Nat.zero_mul]
  have hr := Memref.read_access_unit_zero (Elt Ideal) main_v0_2 hz' (fun a => by rw [congrFun hz' a]; simp) (dgqR m c)
  refine Eq.trans ?_ hr.symm
  funext j
  exact ((sums m c 31 last.isLt).2.1 j).trans (sum_upTo _ j)

theorem flushedGK (t : Fin cfg0.N) (hf : (cfg0.win 8).flush t = true) :
    (dats m 0 c).flushed 8 t = ((cfg0.win 8).blk t).view.read (Elt Ideal) (dgkR m c) := by
  have hN : cfg0.N = 32 := N_0
  have h31 : t.val = 31 := by have := (flush0_8 t).mp hf; have := t.isLt; omega
  obtain rfl : t = last := Fin.ext h31
  rw [Value.flushed8]
  have hz' : (fun a => win0_8.index last a * main_v0_3.ty.shape.size a) = fun _ => 0 :=
    funext fun a => by rw [zero8 last a, Nat.zero_mul]
  have hr := Memref.read_access_unit_zero (Elt Ideal) main_v0_3 hz' (fun a => by rw [congrFun hz' a]; simp) (dgkR m c)
  refine Eq.trans ?_ hr.symm
  funext j
  exact ((sums m c 31 last.isLt).2.2 j).trans (sum_upTo _ j)

theorem finalQ : (dats m 0 c).arrAt 5 cfg0.N = dqR m c :=
  (dats m 0 c).arrAt_eq_of_cover 5 (dqR m c) (flushedQ m c) fun i =>
    have h0 : (i 0 : Nat) < 8192 := (i 0).isLt
    have h1 : (i 1 : Nat) < 1024 := (i 1).isLt
    have h2 : (i 0 : Nat) / 256 < 32 := by omega
    ⟨pt ⟨(i 0 : Nat) / 256, h2⟩, flush0_5 _, by
      show i ∈ ((View.whole main_v0_0).slice (win0_5.rect (pt ⟨(i 0 : Nat) / 256, h2⟩))).set
      rw [View.set_slice_whole, Rect.mem_set_unit]
      intro a
      match a with
      | ⟨0, _⟩ =>
        show win0_5.index (pt ⟨(i 0 : Nat) / 256, h2⟩) 0 * 256 ≤ (i 0 : Nat) ∧ (i 0 : Nat) < win0_5.index (pt ⟨(i 0 : Nat) / 256, h2⟩) 0 * 256 + 256
        rw [index5]; show (i 0 : Nat) / 256 * 256 ≤ _ ∧ _ < (i 0 : Nat) / 256 * 256 + 256; omega
      | ⟨1, _⟩ =>
        show win0_5.index (pt ⟨(i 0 : Nat) / 256, h2⟩) 1 * 1024 ≤ (i 1 : Nat) ∧ (i 1 : Nat) < win0_5.index (pt ⟨(i 0 : Nat) / 256, h2⟩) 1 * 1024 + 1024
        rw [index5']; omega⟩

theorem finalKV : (dats m 0 c).arrAt 6 cfg0.N = dkvR m c :=
  (dats m 0 c).arrAt_eq_of_cover 6 (dkvR m c) (flushedKV m c) fun i =>
    have h0 : (i 0 : Nat) < 256 := (i 0).isLt
    have h1 : (i 1 : Nat) < 2048 := (i 1).isLt
    ⟨last, (flush0_6 last).mpr rfl, by
      show i ∈ ((View.whole main_v0_1).slice (win0_6.rect last)).set
      rw [View.set_slice_whole, Rect.mem_set_unit]
      intro a
      match a with
      | ⟨0, _⟩ =>
        show win0_6.index last 0 * 256 ≤ (i 0 : Nat) ∧ (i 0 : Nat) < win0_6.index last 0 * 256 + 256
        rw [zero6 last 0]; omega
      | ⟨1, _⟩ =>
        show win0_6.index last 1 * 2048 ≤ (i 1 : Nat) ∧ (i 1 : Nat) < win0_6.index last 1 * 2048 + 2048
        rw [zero6 last 1]; omega⟩

theorem finalGQ : (dats m 0 c).arrAt 7 cfg0.N = dgqR m c :=
  (dats m 0 c).arrAt_eq_of_cover 7 (dgqR m c) (flushedGQ m c) fun i =>
    have h0 : (i 0 : Nat) < 1 := (i 0).isLt
    have h1 : (i 1 : Nat) < 256 := (i 1).isLt
    ⟨last, (flush0_7 last).mpr rfl, by
      show i ∈ ((View.whole main_v0_2).slice (win0_7.rect last)).set
      rw [View.set_slice_whole, Rect.mem_set_unit]
      intro a
      match a with
      | ⟨0, _⟩ =>
        show win0_7.index last 0 * 1 ≤ (i 0 : Nat) ∧ (i 0 : Nat) < win0_7.index last 0 * 1 + 1
        rw [zero7 last 0]; omega
      | ⟨1, _⟩ =>
        show win0_7.index last 1 * 256 ≤ (i 1 : Nat) ∧ (i 1 : Nat) < win0_7.index last 1 * 256 + 256
        rw [zero7 last 1]; omega⟩

theorem finalGK : (dats m 0 c).arrAt 8 cfg0.N = dgkR m c :=
  (dats m 0 c).arrAt_eq_of_cover 8 (dgkR m c) (flushedGK m c) fun i =>
    have h0 : (i 0 : Nat) < 1 := (i 0).isLt
    have h1 : (i 1 : Nat) < 256 := (i 1).isLt
    ⟨last, (flush0_8 last).mpr rfl, by
      show i ∈ ((View.whole main_v0_3).slice (win0_8.rect last)).set
      rw [View.set_slice_whole, Rect.mem_set_unit]
      intro a
      match a with
      | ⟨0, _⟩ =>
        show win0_8.index last 0 * 1 ≤ (i 0 : Nat) ∧ (i 0 : Nat) < win0_8.index last 0 * 1 + 1
        rw [zero8 last 0]; omega
      | ⟨1, _⟩ =>
        show win0_8.index last 1 * 256 ≤ (i 1 : Nat) ∧ (i 1 : Nat) < win0_8.index last 1 * 256 + 256
        rw [zero8 last 1]; omega⟩

/-- The run: every execution ends with the four results as above and the arguments as they were. -/
theorem run : θ_run defs (onTc (τ := τ) (main (F := Ideal))) ⟨m, fun _ => 0, ρ⟩ fun r => ∀ c : Dev nD,
      r.2.mem ((c : Thread nD τ).loc main_v0_0) = dqR m c
      ∧ r.2.mem ((c : Thread nD τ).loc main_v0_1) = dkvR m c
      ∧ r.2.mem ((c : Thread nD τ).loc main_v0_2) = dgqR m c
      ∧ r.2.mem ((c : Thread nD τ).loc main_v0_3) = dgkR m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => by
    have e := h c
    rw [finalQ, finalKV, finalGQ, finalGK] at e
    exact e) (Value.run_blocks m ρ)

end Cert.KernelIdeal.Head
-- ==== Proof.MemValue.lean ====
/-
  The four gradients of the memory attention as functions of the five arguments, and the kernel's result arrays equal to
  them where the arguments are reals: the sums over the 8192 query rows are cut into thirty-two tiles of 256, and the
  gradient of the keys' norm, taken by the kernel of each tile's part, is linear.
-/
module

public import proofs.«01_k».proof.Proof.MemHeadAt
public import proofs.«01_k».proof.Proof.MemGrid

@[expose] public section

set_option maxRecDepth 16384

noncomputable section

namespace Cert.KernelIdeal.Head

open Cert.KernelIdeal Cert.KernelIdeal.Gen
open Idealize.ShloMosaic Idealize.ShloMosaic.TcCoe Idealize.SL.Sem
open Cert.Rows (I Re)

/-! ## Rows and columns -/

/-- Column `d` of head `h` among the 1024 columns of four heads. -/
def cc (h : Fin 4) (d : I) : Fin 1024 := ⟨256 * h.val + d.val, by omega⟩
/-- The same among the keys' and the values' 2048 columns. -/
def ck (h : Fin 4) (d : I) : Fin 2048 := ⟨256 * h.val + d.val, by omega⟩
def cv (h : Fin 4) (d : I) : Fin 2048 := ⟨1024 + (256 * h.val + d.val), by omega⟩
/-- Row `r` of tile `t`. -/
def tr (t : Fin 32) (r : I) : Fin 8192 := ⟨256 * t.val + r.val, by omega⟩

theorem sum_rows {M : Type} [AddCommMonoid M] (f : Fin 8192 → M) : ∑ i, f i = ∑ t, ∑ r, f (tr t r) := by
  rw [← Fintype.sum_prod_type' (fun t r => f (tr t r))]
  exact (Equiv.sum_comp (finProdFinEquiv (m := 32) (n := 256)) f).symm.trans
    (Finset.sum_congr rfl fun p _ => congrArg f (Fin.ext (by
      show p.2.val + 256 * p.1.val = 256 * p.1.val + p.2.val; omega)))

theorem cc_surj (c : Fin 1024) : ∃ h d, c = cc h d :=
  ⟨⟨c.val / 256, by omega⟩, ⟨c.val % 256, by omega⟩, Fin.ext (by show c.val = 256 * (c.val / 256) + c.val % 256; omega)⟩
theorem ckv_surj (c : Fin 2048) : (∃ h d, c = ck h d) ∨ ∃ h d, c = cv h d := by
  by_cases h : c.val < 1024
  · exact .inl ⟨⟨c.val / 256, by omega⟩, ⟨c.val % 256, by omega⟩,
      Fin.ext (by show c.val = 256 * (c.val / 256) + c.val % 256; omega)⟩
  · exact .inr ⟨⟨(c.val - 1024) / 256, by omega⟩, ⟨(c.val - 1024) % 256, by omega⟩,
      Fin.ext (by show c.val = 1024 + (256 * ((c.val - 1024) / 256) + (c.val - 1024) % 256); omega)⟩

/-! ## The gradients -/

section spec
variable (A0 : FVec Ideal S8192x1024 .f32) (A1 : FVec Ideal S256x2048 .f32) (A2 A3 : FVec Ideal S1x256 .f32)
  (A4 : FVec Ideal S8192x1024 .f32)

/-- Row `i` of head `h` of the queries, or of the gradient of the output. -/
def qh (A : FVec Ideal S8192x1024 .f32) (h : Fin 4) (i : Fin 8192) : I → EReal := fun d => A (ix2 i (cc h d))
def kh (A : FVec Ideal S256x2048 .f32) (h : Fin 4) (j : I) : I → EReal := fun d => A (ix2 j (ck h d))
def vh (A : FVec Ideal S256x2048 .f32) (h : Fin 4) (j : I) : I → EReal := fun d => A (ix2 j (cv h d))

/-- A query's logits. -/
def gL (h : Fin 4) (i : Fin 8192) : I → EReal :=
  Rows.lgt (Rows.nrm (qh A0 h i) (gv A2)) (fun j => Rows.nrm (kh A1 h j) (gv A3))
/-- The gradient of its weights. -/
def gP (h : Fin 4) (i : Fin 8192) : I → EReal := fun j => ∑ d, qh A4 h i d * vh A1 h j d
/-- The gradient of its products with the keys. -/
def gS (h : Fin 4) (i : Fin 8192) : I → EReal := Rows.ds (gL A0 A1 A2 A3 h i) (gP A1 A4 h i)
/-- The gradient of the normalised queries. -/
def gQn (h : Fin 4) (i : Fin 8192) : I → EReal := fun d => ∑ j, gS A0 A1 A2 A3 A4 h i j * Rows.nrm (kh A1 h j) (gv A3) d
/-- The gradient of the normalised keys. -/
def gKn (h : Fin 4) (j : I) : I → EReal := fun d => ∑ i, gS A0 A1 A2 A3 A4 h i j * Rows.nrm (qh A0 h i) (gv A2) d
def gQ (h : Fin 4) (i : Fin 8192) : I → EReal := Rows.vj (qh A0 h i) (gv A2) (gQn A0 A1 A2 A3 A4 h i)
def gK (h : Fin 4) (j : I) : I → EReal := Rows.vj (kh A1 h j) (gv A3) (gKn A0 A1 A2 A3 A4 h j)
def gV (h : Fin 4) (j : I) : I → EReal := fun d => ∑ i, qh A4 h i d * Rows.pr (gL A0 A1 A2 A3 h i) j
def gGq : I → EReal := fun d => ∑ h, ∑ i, Rows.n0 (qh A0 h i) d * gQn A0 A1 A2 A3 A4 h i d
def gGk : I → EReal := fun d => ∑ h, ∑ j, Rows.n0 (kh A1 h j) d * gKn A0 A1 A2 A3 A4 h j d
end spec

/-! ## The tile's values at an index -/

/-- Head `h` of a tile of queries. -/
def hq (x : FVec Ideal S256x1024 .f32) (h : Fin 4) : HSq Ideal := fun j => x (ix2 (j 0) (cc h (j 1)))
def hk (x : FVec Ideal S256x2048 .f32) (h : Fin 4) : HSq Ideal := fun j => x (ix2 (j 0) (ck h (j 1)))
def hv (x : FVec Ideal S256x2048 .f32) (h : Fin 4) : HSq Ideal := fun j => x (ix2 (j 0) (cv h (j 1)))

section slices
variable (x : FVec Ideal S256x1024 .f32) (w : FVec Ideal S256x2048 .f32)

theorem s14 : k0_pay14 x = hq x 0 := by
  funext j; rw [eq_ix2 j]; pointwise [k0_pay14]; unfold hq cc; congr 2 <;> apply Fin.ext <;> simp
theorem s15 : k0_pay15 x = hq x 1 := by
  funext j; rw [eq_ix2 j]; pointwise [k0_pay15]; unfold hq cc; congr 2 <;> apply Fin.ext <;> simp
theorem s16 : k0_pay16 x = hq x 2 := by
  funext j; rw [eq_ix2 j]; pointwise [k0_pay16]; unfold hq cc; congr 2 <;> apply Fin.ext <;> simp
theorem s17 : k0_pay17 x = hq x 3 := by
  funext j; rw [eq_ix2 j]; pointwise [k0_pay17]; unfold hq cc; congr 2 <;> apply Fin.ext <;> simp
theorem s18 : k0_pay18 x = hq x 0 := by
  funext j; rw [eq_ix2 j]; pointwise [k0_pay18]; unfold hq cc; congr 2 <;> apply Fin.ext <;> simp
theorem s19 : k0_pay19 x = hq x 1 := by
  funext j; rw [eq_ix2 j]; pointwise [k0_pay19]; unfold hq cc; congr 2 <;> apply Fin.ext <;> simp
theorem s20 : k0_pay20 x = hq x 2 := by
  funext j; rw [eq_ix2 j]; pointwise [k0_pay20]; unfold hq cc; congr 2 <;> apply Fin.ext <;> simp
theorem s21 : k0_pay21 x = hq x 3 := by
  funext j; rw [eq_ix2 j]; pointwise [k0_pay21]; unfold hq cc; congr 2 <;> apply Fin.ext <;> simp
theorem s3 : k0_pay3 w = hk w 0 := by
  funext j; rw [eq_ix2 j]; pointwise [k0_pay3, k0_pay2]; unfold hk ck; congr 2 <;> apply Fin.ext <;> simp
theorem s4 : k0_pay4 w = hk w 1 := by
  funext j; rw [eq_ix2 j]; pointwise [k0_pay4, k0_pay2]; unfold hk ck; congr 2 <;> apply Fin.ext <;> simp
theorem s5 : k0_pay5 w = hk w 2 := by
  funext j; rw [eq_ix2 j]; pointwise [k0_pay5, k0_pay2]; unfold hk ck; congr 2 <;> apply Fin.ext <;> simp
theorem s6 : k0_pay6 w = hk w 3 := by
  funext j; rw [eq_ix2 j]; pointwise [k0_pay6, k0_pay2]; unfold hk ck; congr 2 <;> apply Fin.ext <;> simp
theorem s8 : k0_pay8 w = hv w 0 := by
  funext j; rw [eq_ix2 j]; pointwise [k0_pay8, k0_pay7]; unfold hv cv; congr 2 <;> apply Fin.ext <;> simp
theorem s9 : k0_pay9 w = hv w 1 := by
  funext j; rw [eq_ix2 j]; pointwise [k0_pay9, k0_pay7]; unfold hv cv; congr 2 <;> apply Fin.ext <;> simp
theorem s10 : k0_pay10 w = hv w 2 := by
  funext j; rw [eq_ix2 j]; pointwise [k0_pay10, k0_pay7]; unfold hv cv; congr 2 <;> apply Fin.ext <;> simp
theorem s11 : k0_pay11 w = hv w 3 := by
  funext j; rw [eq_ix2 j]; pointwise [k0_pay11, k0_pay7]; unfold hv cv; congr 2 <;> apply Fin.ext <;> simp
end slices

section block
variable (x0 : FVec Ideal S256x1024 .f32) (x1 : FVec Ideal S256x2048 .f32) (x2 x3 : HRow Ideal) (x4 : FVec Ideal S256x1024 .f32)

theorem pick4 (f0 f1 f2 f3 : HSq Ideal) (h : Fin 4) (r d : I) : concatenate S256x1024 1
    [⟨S256x256, f0⟩, ⟨S256x256, f1⟩, ⟨S256x256, f2⟩, ⟨S256x256, f3⟩]
    concatenates_S256x256_S256x256_S256x256_S256x256_S256x1024_d1 (ix2 r (cc h d)) = (![f0, f1, f2, f3] h) (ix2 r d) := by
  pointwise
  have hd := d.isLt
  match h with
  | ⟨0, _⟩ =>
    rw [dif_pos (by show (256 * 0 + d.val) < 256; omega)]
    exact congrArg f0 (congrArg (ix2 r) (Fin.ext (by show (256 * 0 + d.val) = d.val; omega)))
  | ⟨1, _⟩ =>
    rw [dif_neg (by show ¬ (256 * 1 + d.val) < 256; omega), dif_pos (by show (256 * 1 + d.val) - 256 < 256; omega)]
    exact congrArg f1 (congrArg (ix2 r) (Fin.ext (by show (256 * 1 + d.val) - 256 = d.val; omega)))
  | ⟨2, _⟩ =>
    rw [dif_neg (by show ¬ (256 * 2 + d.val) < 256; omega), dif_neg (by show ¬ (256 * 2 + d.val) - 256 < 256; omega), dif_pos (by show (256 * 2 + d.val) - 256 - 256 < 256; omega)]
    exact congrArg f2 (congrArg (ix2 r) (Fin.ext (by show (256 * 2 + d.val) - 256 - 256 = d.val; omega)))
  | ⟨3, _⟩ =>
    rw [dif_neg (by show ¬ (256 * 3 + d.val) < 256; omega), dif_neg (by show ¬ (256 * 3 + d.val) - 256 < 256; omega), dif_neg (by show ¬ (256 * 3 + d.val) - 256 - 256 < 256; omega)]
    exact congrArg f3 (congrArg (ix2 r) (Fin.ext (by show (256 * 3 + d.val) - 256 - 256 - 256 = d.val; omega)))
theorem pick8k (f0 f1 f2 f3 f4 f5 f6 f7 : HSq Ideal) (h : Fin 4) (r d : I) : concatenate S256x2048 1
    [⟨S256x256, f0⟩, ⟨S256x256, f1⟩, ⟨S256x256, f2⟩, ⟨S256x256, f3⟩, ⟨S256x256, f4⟩, ⟨S256x256, f5⟩, ⟨S256x256, f6⟩, ⟨S256x256, f7⟩]
    concatenates_S256x256_S256x256_S256x256_S256x256_S256x256_S256x256_S256x256_S256x256_S256x2048_d1 (ix2 r (ck h d)) = (![f0, f1, f2, f3] h) (ix2 r d) := by
  pointwise
  have hd := d.isLt
  match h with
  | ⟨0, _⟩ =>
    rw [dif_pos (by show (256 * 0 + d.val) < 256; omega)]
    exact congrArg f0 (congrArg (ix2 r) (Fin.ext (by show (256 * 0 + d.val) = d.val; omega)))
  | ⟨1, _⟩ =>
    rw [dif_neg (by show ¬ (256 * 1 + d.val) < 256; omega), dif_pos (by show (256 * 1 + d.val) - 256 < 256; omega)]
    exact congrArg f1 (congrArg (ix2 r) (Fin.ext (by show (256 * 1 + d.val) - 256 = d.val; omega)))
  | ⟨2, _⟩ =>
    rw [dif_neg (by show ¬ (256 * 2 + d.val) < 256; omega), dif_neg (by show ¬ (256 * 2 + d.val) - 256 < 256; omega), dif_pos (by show (256 * 2 + d.val) - 256 - 256 < 256; omega)]
    exact congrArg f2 (congrArg (ix2 r) (Fin.ext (by show (256 * 2 + d.val) - 256 - 256 = d.val; omega)))
  | ⟨3, _⟩ =>
    rw [dif_neg (by show ¬ (256 * 3 + d.val) < 256; omega), dif_neg (by show ¬ (256 * 3 + d.val) - 256 < 256; omega), dif_neg (by show ¬ (256 * 3 + d.val) - 256 - 256 < 256; omega), dif_pos (by show (256 * 3 + d.val) - 256 - 256 - 256 < 256; omega)]
    exact congrArg f3 (congrArg (ix2 r) (Fin.ext (by show (256 * 3 + d.val) - 256 - 256 - 256 = d.val; omega)))
theorem pick8v (f0 f1 f2 f3 f4 f5 f6 f7 : HSq Ideal) (h : Fin 4) (r d : I) : concatenate S256x2048 1
    [⟨S256x256, f0⟩, ⟨S256x256, f1⟩, ⟨S256x256, f2⟩, ⟨S256x256, f3⟩, ⟨S256x256, f4⟩, ⟨S256x256, f5⟩, ⟨S256x256, f6⟩, ⟨S256x256, f7⟩]
    concatenates_S256x256_S256x256_S256x256_S256x256_S256x256_S256x256_S256x256_S256x256_S256x2048_d1 (ix2 r (cv h d)) = (![f4, f5, f6, f7] h) (ix2 r d) := by
  pointwise
  have hd := d.isLt
  match h with
  | ⟨0, _⟩ =>
    rw [dif_neg (by show ¬ (1024 + (256 * 0 + d.val)) < 256; omega), dif_neg (by show ¬ (1024 + (256 * 0 + d.val)) - 256 < 256; omega), dif_neg (by show ¬ (1024 + (256 * 0 + d.val)) - 256 - 256 < 256; omega), dif_neg (by show ¬ (1024 + (256 * 0 + d.val)) - 256 - 256 - 256 < 256; omega), dif_pos (by show (1024 + (256 * 0 + d.val)) - 256 - 256 - 256 - 256 < 256; omega)]
    exact congrArg f4 (congrArg (ix2 r) (Fin.ext (by show (1024 + (256 * 0 + d.val)) - 256 - 256 - 256 - 256 = d.val; omega)))
  | ⟨1, _⟩ =>
    rw [dif_neg (by show ¬ (1024 + (256 * 1 + d.val)) < 256; omega), dif_neg (by show ¬ (1024 + (256 * 1 + d.val)) - 256 < 256; omega), dif_neg (by show ¬ (1024 + (256 * 1 + d.val)) - 256 - 256 < 256; omega), dif_neg (by show ¬ (1024 + (256 * 1 + d.val)) - 256 - 256 - 256 < 256; omega), dif_neg (by show ¬ (1024 + (256 * 1 + d.val)) - 256 - 256 - 256 - 256 < 256; omega), dif_pos (by show (1024 + (256 * 1 + d.val)) - 256 - 256 - 256 - 256 - 256 < 256; omega)]
    exact congrArg f5 (congrArg (ix2 r) (Fin.ext (by show (1024 + (256 * 1 + d.val)) - 256 - 256 - 256 - 256 - 256 = d.val; omega)))
  | ⟨2, _⟩ =>
    rw [dif_neg (by show ¬ (1024 + (256 * 2 + d.val)) < 256; omega), dif_neg (by show ¬ (1024 + (256 * 2 + d.val)) - 256 < 256; omega), dif_neg (by show ¬ (1024 + (256 * 2 + d.val)) - 256 - 256 < 256; omega), dif_neg (by show ¬ (1024 + (256 * 2 + d.val)) - 256 - 256 - 256 < 256; omega), dif_neg (by show ¬ (1024 + (256 * 2 + d.val)) - 256 - 256 - 256 - 256 < 256; omega), dif_neg (by show ¬ (1024 + (256 * 2 + d.val)) - 256 - 256 - 256 - 256 - 256 < 256; omega), dif_pos (by show (1024 + (256 * 2 + d.val)) - 256 - 256 - 256 - 256 - 256 - 256 < 256; omega)]
    exact congrArg f6 (congrArg (ix2 r) (Fin.ext (by show (1024 + (256 * 2 + d.val)) - 256 - 256 - 256 - 256 - 256 - 256 = d.val; omega)))
  | ⟨3, _⟩ =>
    rw [dif_neg (by show ¬ (1024 + (256 * 3 + d.val)) < 256; omega), dif_neg (by show ¬ (1024 + (256 * 3 + d.val)) - 256 < 256; omega), dif_neg (by show ¬ (1024 + (256 * 3 + d.val)) - 256 - 256 < 256; omega), dif_neg (by show ¬ (1024 + (256 * 3 + d.val)) - 256 - 256 - 256 < 256; omega), dif_neg (by show ¬ (1024 + (256 * 3 + d.val)) - 256 - 256 - 256 - 256 < 256; omega), dif_neg (by show ¬ (1024 + (256 * 3 + d.val)) - 256 - 256 - 256 - 256 - 256 < 256; omega), dif_neg (by show ¬ (1024 + (256 * 3 + d.val)) - 256 - 256 - 256 - 256 - 256 - 256 < 256; omega)]
    exact congrArg f7 (congrArg (ix2 r) (Fin.ext (by show (1024 + (256 * 3 + d.val)) - 256 - 256 - 256 - 256 - 256 - 256 - 256 = d.val; omega)))

theorem dqB_at (h : Fin 4) (r d : I) : dqB x0 x1 x2 x3 x4 (ix2 r (cc h d)) =
    hdq (hq x0 h) (hk x1 h) (hv x1 h) (hq x4 h) x2 x3 (ix2 r d) := by
  refine Eq.trans (pick4 _ _ _ _ h r d) ?_
  simp only [s14, s15, s16, s17, s18, s19, s20, s21, s3, s4, s5, s6, s8, s9, s10, s11]
  match h with
  | ⟨0, _⟩ => rfl
  | ⟨1, _⟩ => rfl
  | ⟨2, _⟩ => rfl
  | ⟨3, _⟩ => rfl

theorem dkB_at (h : Fin 4) (r d : I) : dkvB x0 x1 x2 x3 x4 (ix2 r (ck h d)) =
    hdk (hq x0 h) (hk x1 h) (hv x1 h) (hq x4 h) x2 x3 (ix2 r d) := by
  refine Eq.trans (pick8k _ _ _ _ _ _ _ _ h r d) ?_
  simp only [s14, s15, s16, s17, s18, s19, s20, s21, s3, s4, s5, s6, s8, s9, s10, s11]
  match h with
  | ⟨0, _⟩ => rfl
  | ⟨1, _⟩ => rfl
  | ⟨2, _⟩ => rfl
  | ⟨3, _⟩ => rfl

theorem dvB_at (h : Fin 4) (r d : I) : dkvB x0 x1 x2 x3 x4 (ix2 r (cv h d)) =
    hdv (hq x0 h) (hk x1 h) (hv x1 h) (hq x4 h) x2 x3 (ix2 r d) := by
  refine Eq.trans (pick8v _ _ _ _ _ _ _ _ h r d) ?_
  simp only [s14, s15, s16, s17, s18, s19, s20, s21, s3, s4, s5, s6, s8, s9, s10, s11]
  match h with
  | ⟨0, _⟩ => rfl
  | ⟨1, _⟩ => rfl
  | ⟨2, _⟩ => rfl
  | ⟨3, _⟩ => rfl
theorem dgqB_at (z : Fin 1) (d : I) : dgqB x0 x1 x2 x3 x4 (ix2 z d) =
    ∑ h, hdgq (hq x0 h) (hk x1 h) (hv x1 h) (hq x4 h) x2 x3 (ix2 z d) := by
  unfold dgqB
  simp only [s14, s15, s16, s17, s18, s19, s20, s21, s3, s4, s5, s6, s8, s9, s10, s11]
  pointwise [zrow]
  rw [Fin.sum_univ_four]
theorem dgkB_at (z : Fin 1) (d : I) : dgkB x0 x1 x2 x3 x4 (ix2 z d) =
    ∑ h, hdgk (hq x0 h) (hk x1 h) (hv x1 h) (hq x4 h) x2 x3 (ix2 z d) := by
  unfold dgkB
  simp only [s14, s15, s16, s17, s18, s19, s20, s21, s3, s4, s5, s6, s8, s9, s10, s11]
  pointwise [zrow]
  rw [Fin.sum_univ_four]
end block

end Cert.KernelIdeal.Head
-- ==== Proof.MemSum.lean ====
/-
  The kernel's four result arrays are the four gradients, where the arguments are reals.
-/
module

public import proofs.«01_k».proof.Proof.MemValue

@[expose] public section

set_option maxRecDepth 16384

noncomputable section

namespace Cert.KernelIdeal.Head

open Cert.KernelIdeal Cert.KernelIdeal.Gen
open Idealize.ShloMosaic Idealize.ShloMosaic.TcCoe Idealize.SL.Sem
open Cert.Rows (I Re)

/-- The five arguments are reals throughout. -/
structure RealArgs (A0 : FVec Ideal S8192x1024 .f32) (A1 : FVec Ideal S256x2048 .f32) (A2 A3 : FVec Ideal S1x256 .f32)
    (A4 : FVec Ideal S8192x1024 .f32) : Prop where
  q : ∀ i, Re (A0 i)
  kv : ∀ i, Re (A1 i)
  gq : ∀ i, Re (A2 i)
  gk : ∀ i, Re (A3 i)
  o : ∀ i, Re (A4 i)

theorem tr_surj (i : Fin 8192) : ∃ t r, i = tr t r :=
  ⟨⟨i.val / 256, by omega⟩, ⟨i.val % 256, by omega⟩, Fin.ext (by show i.val = 256 * (i.val / 256) + i.val % 256; omega)⟩

section
variable {A0 : FVec Ideal S8192x1024 .f32} {A1 : FVec Ideal S256x2048 .f32} {A2 A3 : FVec Ideal S1x256 .f32}
  {A4 : FVec Ideal S8192x1024 .f32} (R : RealArgs A0 A1 A2 A3 A4)
include R

theorem reals (t : Fin 32) (h : Fin 4) :
    Reals (hq (tile A0 t) h) (hk A1 h) (hv A1 h) (hq (tile A4 t) h) A2 A3 where
  q _ _ := R.q _
  k _ _ := R.kv _
  v _ _ := R.kv _
  o _ _ := R.o _
  gq _ := R.gq _
  gk _ := R.gk _

theorem gS_re (h : Fin 4) (i : Fin 8192) (j : I) : Re (gS A0 A1 A2 A3 A4 h i j) :=
  Rows.ds_re (Rows.lgt_re (Rows.nrm_re (fun _ => R.q _) fun _ => R.gq _) fun _ => Rows.nrm_re (fun _ => R.kv _) fun _ => R.gk _)
    (fun _ => Re.sum fun _ => (R.o _).mul (R.kv _)) j

/-- The tiles' parts of the gradient of the normalised keys add up to it. -/
theorem sum_dkn (h : Fin 4) (j d : I) :
    ∑ t, dkn (hq (tile A0 t) h) (hk A1 h) (hv A1 h) (hq (tile A4 t) h) A2 A3 j d = gKn A0 A1 A2 A3 A4 h j d := by
  unfold gKn
  rw [sum_rows]
  rfl

theorem dkn_re (t : Fin 32) (h : Fin 4) (j d : I) :
    Re (dkn (hq (tile A0 t) h) (hk A1 h) (hv A1 h) (hq (tile A4 t) h) A2 A3 j d) :=
  Re.sum fun r => (gS_re R h (tr t r) j).mul (Rows.nrm_re (fun _ => R.q _) (fun _ => R.gq _) d)
end

variable (m : (ℓ : Loc nD τ sig) → Buf (Elt Ideal) ℓ) (c : Dev nD)
  (R : RealArgs (A0 m c) (A1 m c) (A2 m c) (A3 m c) (A4 m c))
include R

theorem dqR_eq (h : Fin 4) (i : Fin 8192) (d : I) :
    dqR m c (ix2 i (cc h d)) = gQ (A0 m c) (A1 m c) (A2 m c) (A3 m c) (A4 m c) h i d := by
  obtain ⟨t, r, rfl⟩ := tr_surj i
  rw [dqR_at m c t (ix2 r (cc h d)) (ix2 (tr t r) (cc h d)) rfl rfl]
  refine (dqB_at ..).trans ?_
  rw [hdq_at _ _ (reals R t h)]
  rfl

theorem dkR_eq (h : Fin 4) (j d : I) :
    dkvR m c (ix2 j (ck h d)) = gK (A0 m c) (A1 m c) (A2 m c) (A3 m c) (A4 m c) h j d := by
  unfold dkvR gK
  refine (Finset.sum_congr rfl fun t _ => (dkB_at ..).trans (hdk_at _ _ (reals R t h))).trans ?_
  refine (Rows.vj_sum (a := kh (A1 m c) h j) (g := gv (A3 m c)) (y := fun t => dkn (hq (tile (A0 m c) t) h) (hk (A1 m c) h)
    (hv (A1 m c) h) (hq (tile (A4 m c) t) h) (A2 m c) (A3 m c) j) (fun _ => R.kv _) (fun _ => R.gk _) (fun t i => dkn_re R t h j i) d).trans ?_
  exact congrFun (congrArg _ (funext fun e => sum_dkn R h j e)) d

theorem dvR_eq (h : Fin 4) (j d : I) :
    dkvR m c (ix2 j (cv h d)) = gV (A0 m c) (A1 m c) (A2 m c) (A3 m c) (A4 m c) h j d := by
  unfold dkvR gV
  rw [sum_rows]
  exact Finset.sum_congr rfl fun t _ => (dvB_at ..).trans (hdv_at ..)

theorem dgqR_eq (z : Fin 1) (d : I) :
    dgqR m c (ix2 z d) = gGq (A0 m c) (A1 m c) (A2 m c) (A3 m c) (A4 m c) d := by
  unfold dgqR gGq
  refine (Finset.sum_congr rfl fun t _ => (dgqB_at ..).trans (Finset.sum_congr rfl fun h _ => hdgq_at _ _ (reals R t h))).trans ?_
  rw [Finset.sum_comm]
  refine Finset.sum_congr rfl fun h _ => ?_
  rw [sum_rows]
  rfl

theorem dgkR_eq (z : Fin 1) (d : I) :
    dgkR m c (ix2 z d) = gGk (A0 m c) (A1 m c) (A2 m c) (A3 m c) (A4 m c) d := by
  unfold dgkR gGk
  refine (Finset.sum_congr rfl fun t _ => (dgkB_at ..).trans (Finset.sum_congr rfl fun h _ => hdgk_at _ _ (reals R t h))).trans ?_
  rw [Finset.sum_comm]
  refine Finset.sum_congr rfl fun h _ => ?_
  rw [Finset.sum_comm]
  refine Finset.sum_congr rfl fun j _ => ?_
  rw [← sum_dkn R h j d]
  exact (Rows.mul_sum_re Finset.univ (Rows.n0_re (fun _ => R.kv _) d) fun t => dkn_re R t h j d).symm

end Cert.KernelIdeal.Head
-- ==== Proof.MemRef.lean ====
/-
  What the reference computes: its arrays at an index are the row functions of the arguments' rows, and its four results
  are the four gradients, on all extended reals.
-/
module

public import proofs.«01_k».proof.Proof.MemSum
public import proofs.«01_k».proof.Proof.Gen.ReferenceIdeal.Run
public import Idealize.ShloMosaic.Lib.Tactic.CleanTypes

@[expose] public section

set_option maxRecDepth 16384

noncomputable section

namespace Cert.ReferenceIdeal.Grad

open Cert.ReferenceIdeal Cert.ReferenceIdeal.Gen Cert.ReferenceIdeal.Value
open Idealize.ShloMosaic Idealize.ShloMosaic.TcCoe Idealize.SL.Sem
open Cert.Rows (I Re)
open Cert.KernelIdeal.Head (cc ck cv qh kh vh gv gL gP gS gQn gKn gQ gK gV gGq gGk)

variable (V0 : Valuation τ sig (Elt Ideal))

abbrev B0 : FVec Ideal S8192x1024 .f32 := V0 (Proc.devRef .tc main_arg0)
abbrev B1 : FVec Ideal S256x2048 .f32 := V0 (Proc.devRef .tc main_arg1)
abbrev B2 : FVec Ideal S1x256 .f32 := V0 (Proc.devRef .tc main_arg2)
abbrev B3 : FVec Ideal S1x256 .f32 := V0 (Proc.devRef .tc main_arg3)
abbrev B4 : FVec Ideal S8192x1024 .f32 := V0 (Proc.devRef .tc main_arg4)

variable (h : Fin 4) (i : Fin 8192) (j d : I) (z : Fin 1)

/-! ## The operations at an index, over any arrays -/

section ops
variable (l p : FVec Ideal S4x8192x256 .f32) (w : FVec Ideal S4x8192 .f32) (s : FVec Ideal S4x8192x1 .f32)

theorem ex_op : (Host.exp (subf l (broadcastInDim S4x8192x256 ![0, 1, 2] bcast_S4x8192x1_S4x8192x256_0_1_2 (broadcastInDim S4x8192x1 ![0, 1] bcast_S4x8192_S4x8192x1_0_1 (maximumf (broadcastInDim S4x8192 ![] bcast_S_S4x8192 (constant S_ .f32 0xFF800000#32)) w)))) : FVec Ideal S4x8192x256 .f32) (ix3 h i j)
    = Ideal.exp (l (ix3 h i j) - w (ix2 h i)) := by
  pointwise
  have e : max Rows.cinf (w (ix2 h i)) = w (ix2 h i) := by rw [Rows.cinf_eq]; exact max_eq_right bot_le
  exact congrArg (fun t => Ideal.exp (l (ix3 h i j) - t)) e

theorem zs_op : (broadcastInDim S4x8192x1 ![0, 1] bcast_S4x8192_S4x8192x1_0_1 (Host.reduceAdd l (constant S_ .f32 0x00000000#32) reducesTo_S4x8192x256_S4x8192_d2 h_S_) : FVec Ideal S4x8192x1 .f32) (ix3 h i z)
    = ∑ j, l (ix3 h i j) := by
  pointwise

theorem pr_op : (Host.divf l (broadcastInDim S4x8192x256 ![0, 1, 2] bcast_S4x8192x1_S4x8192x256_0_1_2 s) : FVec Ideal S4x8192x256 .f32) (ix3 h i j)
    = Ideal.div (l (ix3 h i j)) (s (ix3 h i 0)) := by
  pointwise

theorem ds_op : (mulf (mulf (addf (Host.divf p (broadcastInDim S4x8192x256 ![0, 1, 2] bcast_S4x8192x1_S4x8192x256_0_1_2 s)) (broadcastInDim S4x8192x256 ![0, 1] bcast_S4x8192_S4x8192x256_0_1 (Host.reduceAdd (Host.negf (shapeCast _ (Host.reduceAdd (mulf (mulf p (broadcastInDim S4x8192x256 ![0, 1, 2] bcast_S4x8192x1_S4x8192x256_0_1_2 (Host.divf (broadcastInDim S4x8192x1 ![] bcast_S_S4x8192x1 (constant S_ .f32 0x3F800000#32)) (mulf s s)))) l) (constant S_ .f32 0x00000000#32) reducesTo_S4x8192x256_S4x8192_d2 h_S_) shapeCasts_S4x8192_S4x8192x1)) (constant S_ .f32 0x00000000#32) reducesTo_S4x8192x1_S4x8192_d2 h_S_))) l) (broadcastInDim S4x8192x256 ![] bcast_S_S4x8192x256 (constant S_ .f32 0x3D800000#32)) : FVec Ideal S4x8192x256 .f32) (ix3 h i j)
    = (Ideal.div (p (ix3 h i j)) (s (ix3 h i 0)) + (0 - ∑ x, p (ix3 h i x) * Ideal.div 1 (s (ix3 h i 0) * s (ix3 h i 0)) * l (ix3 h i x))) * l (ix3 h i j) * Rows.csc := by
  pointwise
  rw [Fin.sum_univ_one, zero_sub]
end ops

/-! ## The named arrays -/

theorem v3_at : (res_main_v3 V0 (ix3 h i d) : EReal) = qh (B0 V0) h i d := by
  unfold res_main_v3; clean_types; pointwise
  exact congrArg (fun c => B0 V0 (ix2 i c)) (Fin.ext (by show h.val * 256 + d.val = 256 * h.val + d.val; omega))
theorem v77_at : (res_main_v77 V0 (ix3 h i d) : EReal) = qh (B4 V0) h i d := by
  unfold res_main_v77; clean_types; pointwise
  exact congrArg (fun c => B4 V0 (ix2 i c)) (Fin.ext (by show h.val * 256 + d.val = 256 * h.val + d.val; omega))
theorem v22_at : (res_main_v22 V0 (ix3 h j d) : EReal) = kh (B1 V0) h j d := by
  unfold res_main_v22; clean_types; pointwise
  exact congrArg (fun c => B1 V0 (ix2 j c)) (Fin.ext (by show h.val * 256 + d.val = 256 * h.val + d.val; omega))
theorem v41_at : (res_main_v41 V0 (ix3 h j d) : EReal) = vh (B1 V0) h j d := by
  unfold res_main_v41; clean_types; pointwise
  exact congrArg (fun c => B1 V0 (ix2 j c)) (Fin.ext (by show 1024 + (h.val * 256 + d.val) = 1024 + (256 * h.val + d.val); omega))
theorem v18_at (y z : Fin 1) : (res_main_v18 V0 (ix3 y z d) : EReal) = gv (B2 V0) d := by
  unfold res_main_v18; clean_types; pointwise; rfl
theorem v37_at (y z : Fin 1) : (res_main_v37 V0 (ix3 y z d) : EReal) = gv (B3 V0) d := by
  unfold res_main_v37; clean_types; pointwise; rfl
theorem v11_at : (res_main_v11 V0 (ix3 h i z) : EReal) = Rows.ms (qh (B0 V0) h i) := by
  unfold res_main_v11; clean_types; pointwise; simp only [v3_at]; rfl
theorem v30_at : (res_main_v30 V0 (ix3 h j z) : EReal) = Rows.ms (kh (B1 V0) h j) := by
  unfold res_main_v30; clean_types; pointwise; simp only [v22_at]; rfl
theorem v12_at : (res_main_v12 V0 (ix3 h i z) : EReal) = Rows.rs (qh (B0 V0) h i) := by
  unfold res_main_v12; clean_types; pointwise; simp only [v11_at]; rfl
theorem v31_at : (res_main_v31 V0 (ix3 h j z) : EReal) = Rows.rs (kh (B1 V0) h j) := by
  unfold res_main_v31; clean_types; pointwise; simp only [v30_at]; rfl
theorem v17_at : (res_main_v17 V0 (ix3 h i d) : EReal) = Rows.n0 (qh (B0 V0) h i) d := by
  unfold res_main_v17; clean_types; pointwise; simp only [v12_at, v3_at]; rfl
theorem v36_at : (res_main_v36 V0 (ix3 h j d) : EReal) = Rows.n0 (kh (B1 V0) h j) d := by
  unfold res_main_v36; clean_types; pointwise; simp only [v31_at, v22_at]; rfl
theorem v20_at : (res_main_v20 V0 (ix3 h i d) : EReal) = Rows.nrm (qh (B0 V0) h i) (gv (B2 V0)) d := by
  unfold res_main_v20; clean_types; pointwise; simp only [v17_at, v18_at]; rfl
theorem v39_at : (res_main_v39 V0 (ix3 h j d) : EReal) = Rows.nrm (kh (B1 V0) h j) (gv (B3 V0)) d := by
  unfold res_main_v39; clean_types; pointwise; simp only [v36_at, v37_at]; rfl

/-- A query's logits, of the arguments. -/
abbrev lr : I → EReal := gL (B0 V0) (B1 V0) (B2 V0) (B3 V0) h i

theorem v44_at : (res_main_v44 V0 (ix3 h i j) : EReal) = lr V0 h i j := by
  unfold res_main_v44; clean_types; pointwise; simp only [v20_at, v39_at]; rfl
theorem v45_at : (res_main_v45 V0 (ix2 h i) : EReal) = Rows.mx (lr V0 h i) := by
  unfold res_main_v45; clean_types; pointwise; simp only [v44_at]; rfl
theorem v65_at : (res_main_v65 V0 (ix3 h i j) : EReal) = Rows.ex (lr V0 h i) j := by
  refine (ex_op h i j (res_main_v44 V0) (res_main_v45 V0)).trans ?_
  exact congrArg Ideal.exp (congrArg₂ (fun a b : EReal => a - b) (v44_at V0 h i j) (v45_at V0 h i))
theorem v67_at : (res_main_v67 V0 (ix3 h i z) : EReal) = Rows.zs (lr V0 h i) :=
  (zs_op h i z (res_main_v65 V0)).trans (Finset.sum_congr rfl fun j _ => v65_at V0 h i j)
theorem v69_at : (res_main_v69 V0 (ix3 h i j) : EReal) = Rows.pr (lr V0 h i) j :=
  (pr_op h i j (res_main_v65 V0) (res_main_v67 V0)).trans (congrArg₂ Ideal.div (v65_at V0 h i j) (v67_at V0 h i 0))
theorem v80_at : (res_main_v80 V0 (ix3 h i j) : EReal) = gP (B1 V0) (B4 V0) h i j := by
  unfold res_main_v80; clean_types; pointwise; simp only [v77_at, v41_at]; rfl
theorem v94_at : (res_main_v94 V0 (ix3 h i j) : EReal) = gS (B0 V0) (B1 V0) (B2 V0) (B3 V0) (B4 V0) h i j := by
  refine (ds_op h i j (res_main_v65 V0) (res_main_v80 V0) (res_main_v67 V0)).trans ?_
  rw [v80_at, v67_at, v65_at]
  simp only [v80_at, v65_at]
  rfl
theorem v95_at : (res_main_v95 V0 (ix3 h j d) : EReal) = gKn (B0 V0) (B1 V0) (B2 V0) (B3 V0) (B4 V0) h j d := by
  unfold res_main_v95; clean_types; pointwise; simp only [v94_at, v20_at]; rfl
theorem v96_at : (res_main_v96 V0 (ix3 h i d) : EReal) = gQn (B0 V0) (B1 V0) (B2 V0) (B3 V0) (B4 V0) h i d := by
  unfold res_main_v96; clean_types; pointwise; simp only [v94_at, v39_at]; rfl
theorem v103_at : (res_main_v103 V0 (ix3 h j d) : EReal) = gKn (B0 V0) (B1 V0) (B2 V0) (B3 V0) (B4 V0) h j d * gv (B3 V0) d := by
  unfold res_main_v103; clean_types; pointwise; simp only [v95_at, v37_at]
theorem v126_at : (res_main_v126 V0 (ix3 h i d) : EReal) = gQn (B0 V0) (B1 V0) (B2 V0) (B3 V0) (B4 V0) h i d * gv (B2 V0) d := by
  unfold res_main_v126; clean_types; pointwise; simp only [v96_at, v18_at]
theorem v114_at : (res_main_v114 V0 (ix3 h j d) : EReal)
    = Rows.cb (kh (B1 V0) h j) (fun e => gKn (B0 V0) (B1 V0) (B2 V0) (B3 V0) (B4 V0) h j e * gv (B3 V0) e) := by
  unfold res_main_v114; clean_types; pointwise; rw [Fin.sum_univ_one]
  simp only [v22_at, v103_at, v31_at, v30_at]; rfl
theorem v137_at : (res_main_v137 V0 (ix3 h i d) : EReal)
    = Rows.cb (qh (B0 V0) h i) (fun e => gQn (B0 V0) (B1 V0) (B2 V0) (B3 V0) (B4 V0) h i e * gv (B2 V0) e) := by
  unfold res_main_v137; clean_types; pointwise; rw [Fin.sum_univ_one]
  simp only [v3_at, v126_at, v12_at, v11_at]; rfl

end Cert.ReferenceIdeal.Grad
-- ==== Proof.MemRes.lean ====
/-
  The reference's four results at an index: the four gradients of its arguments.
-/
module

public import proofs.«01_k».proof.Proof.MemRef
public import proofs.«01_k».proof.Proof.Gen.ReferenceIdeal.Run
public import Idealize.ShloMosaic.Lib.Tactic.CleanTypes

@[expose] public section

set_option maxRecDepth 16384

noncomputable section

namespace Cert.ReferenceIdeal.Grad

open Cert.ReferenceIdeal Cert.ReferenceIdeal.Gen Cert.ReferenceIdeal.Value
open Idealize.ShloMosaic Idealize.ShloMosaic.TcCoe Idealize.SL.Sem
open Cert.Rows (I Re)
open Cert.KernelIdeal.Head (cc ck cv qh kh vh gv gL gP gS gQn gKn gQ gK gV gGq gGk)

variable (V0 : Valuation τ sig (Elt Ideal))

/-! ## Heads, columns, and a sum over two axes -/

section
variable (h : Fin 4) (d : I)
theorem cc_head : (⟨(cc h d).val / 256, by omega⟩ : Fin 4) = h :=
  Fin.ext (by show (256 * h.val + d.val) / 256 = h.val; omega)
theorem cc_at : (⟨(cc h d).val % 256, by omega⟩ : Fin 256) = d :=
  Fin.ext (by show (256 * h.val + d.val) % 256 = d.val; omega)
theorem ck_head : (⟨(ck h d).val / 256, by
    have e : (ck h d).val / 256 = h.val := by show (256 * h.val + d.val) / 256 = h.val; omega
    rw [e]; exact h.isLt⟩ : Fin 4) = h :=
  Fin.ext (by show (256 * h.val + d.val) / 256 = h.val; omega)
theorem ck_at : (⟨(ck h d).val % 256, by omega⟩ : Fin 256) = d :=
  Fin.ext (by show (256 * h.val + d.val) % 256 = d.val; omega)
theorem cv_head : (⟨((cv h d).val - 1024) / 256, by
    have e : ((cv h d).val - 1024) / 256 = h.val := by show (1024 + (256 * h.val + d.val) - 1024) / 256 = h.val; omega
    rw [e]; exact h.isLt⟩ : Fin 4) = h :=
  Fin.ext (by show (1024 + (256 * h.val + d.val) - 1024) / 256 = h.val; omega)
theorem cv_at : (⟨((cv h d).val - 1024) % 256, by omega⟩ : Fin 256) = d :=
  Fin.ext (by show (1024 + (256 * h.val + d.val) - 1024) % 256 = d.val; omega)
end

/-- A sum of an array over its first two axes. -/
theorem sum01 {n0 n1 n2 : ℕ} (h : (⟨3, ![n0, n1, n2]⟩ : Shape).ReducesTo [0, 1] ⟨1, ![n2]⟩)
    (v : (⟨3, ![n0, n1, n2]⟩ : Shape).Idx → EReal) (a : EReal) (d : Fin n2) :
    Ideal.hostReduceAdd h v a (ix1 d) = a + ∑ x : Fin n0, ∑ y : Fin n1, v (ix3 x y d) := by
  refine congrArg (a + ·) ((Finset.sum_nbij' (t := (Finset.univ : Finset (Fin n0 × Fin n1)))
    (g := fun k => v (ix3 k.1 k.2 d)) (fun i => (i 0, i 1)) (fun k => ix3 k.1 k.2 d)
    (fun _ _ => Finset.mem_univ _) (fun k _ => ?_) (fun i hi => ?_) (fun _ _ => rfl) (fun i hi => ?_)).trans
    (Fintype.sum_prod_type _))
  · refine Finset.mem_filter.mpr ⟨Finset.mem_univ _, ?_⟩
    funext b; apply Fin.ext
    match b with
    | ⟨0, _⟩ => rfl
  all_goals
    have e : i = ix3 (i 0) (i 1) d := by
      have e2 := congrArg Fin.val (congrFun (Finset.mem_filter.mp hi).2 0)
      funext b; apply Fin.ext
      match b with
      | ⟨0, _⟩ => rfl
      | ⟨1, _⟩ => rfl
      | ⟨2, _⟩ => exact e2
  · exact e.symm
  · exact congrArg v e

/-! ## The four results -/

def r146 : FVec Ideal S8192x1024 .bf16 := truncf .bf16 (shapeCast _ (transpose S8192x4x256 [1, 0, 2] (addf (addf (mulf (res_main_v126 V0) (broadcastInDim S4x8192x256 ![0, 1, 2] bcast_S4x8192x1_S4x8192x256_0_1_2 (res_main_v12 V0))) (mulf (res_main_v3 V0) (res_main_v137 V0))) (mulf (res_main_v137 V0) (res_main_v3 V0))) transposes_S4x8192x256_S8192x4x256_1_0_2) shapeCasts_S8192x4x256_S8192x1024) bitsLt_bf16_f32
def r145 : FVec Ideal S256x2048 .f32 := concatenate S256x2048 1 [⟨S256x1024, (shapeCast _ (transpose S256x4x256 [1, 0, 2] (addf (addf (mulf (res_main_v103 V0) (broadcastInDim S4x256x256 ![0, 1, 2] bcast_S4x256x1_S4x256x256_0_1_2 (res_main_v31 V0))) (mulf (res_main_v22 V0) (res_main_v114 V0))) (mulf (res_main_v114 V0) (res_main_v22 V0))) transposes_S4x256x256_S256x4x256_1_0_2) shapeCasts_S256x4x256_S256x1024)⟩, ⟨S256x1024, (shapeCast _ (transpose S256x4x256 [1, 0, 2] (transpose S4x256x256 [0, 2, 1] (Host.dotGeneral (φ₁ := .f32) (φ₂ := .f32) dot_S4x8192x256_S4x8192x256_S4x256x256_1_1_2_2_0_0 none (res_main_v77 V0) (res_main_v69 V0)) transposes_S4x256x256_S4x256x256_0_2_1) transposes_S4x256x256_S256x4x256_1_0_2) shapeCasts_S256x4x256_S256x1024)⟩] concatenates_S256x1024_S256x1024_S256x2048_d1
def r142 : FVec Ideal S1x256 .f32 := broadcastInDim S1x256 ![1] bcast_S256_S1x256_1 (Host.reduceAdd (shapeCast _ (Host.reduceAdd (mulf (res_main_v17 V0) (res_main_v96 V0)) (constant S_ .f32 0x00000000#32) reducesTo_S4x8192x256_S256_d0_1 h_S_) shapeCasts_S256_S1x1x256) (constant S_ .f32 0x00000000#32) reducesTo_S1x1x256_S256_d0_1 h_S_)
def r119 : FVec Ideal S1x256 .f32 := broadcastInDim S1x256 ![1] bcast_S256_S1x256_1 (Host.reduceAdd (shapeCast _ (Host.reduceAdd (mulf (res_main_v36 V0) (res_main_v95 V0)) (constant S_ .f32 0x00000000#32) reducesTo_S4x256x256_S256_d0_1 h_S_) shapeCasts_S256_S1x1x256) (constant S_ .f32 0x00000000#32) reducesTo_S1x1x256_S256_d0_1 h_S_)

variable (h : Fin 4) (i : Fin 8192) (j d : I) (z : Fin 1)

theorem r146_at : (r146 V0 (ix2 i (cc h d)) : EReal) = gQ (B0 V0) (B1 V0) (B2 V0) (B3 V0) (B4 V0) h i d := by
  unfold r146; clean_types; pointwise
  rw [cc_head, cc_at]
  simp only [v126_at, v12_at, v3_at, v137_at]; rfl
theorem r145_at : (r145 V0 (ix2 j (ck h d)) : EReal) = gK (B0 V0) (B1 V0) (B2 V0) (B3 V0) (B4 V0) h j d := by
  unfold r145; clean_types; pointwise
  rw [dif_pos (by show 256 * h.val + d.val < 1024; omega), ck_head, ck_at]
  simp only [v103_at, v31_at, v22_at, v114_at]; rfl
theorem r145_at' : (r145 V0 (ix2 j (cv h d)) : EReal) = gV (B0 V0) (B1 V0) (B2 V0) (B3 V0) (B4 V0) h j d := by
  unfold r145; clean_types; pointwise
  rw [dif_neg (by show ¬ 1024 + (256 * h.val + d.val) < 1024; omega), cv_head, cv_at]
  simp only [v77_at, v69_at]; rfl
theorem r142_at : (r142 V0 (ix2 z d) : EReal) = gGq (B0 V0) (B1 V0) (B2 V0) (B3 V0) (B4 V0) d := by
  unfold r142; clean_types; pointwise; rw [sum01]; pointwise
  rw [Fin.sum_univ_one, Fin.sum_univ_one, sum01, zero_add]
  refine Finset.sum_congr rfl fun h _ => Finset.sum_congr rfl fun i _ => ?_
  exact congrArg₂ (fun a b : EReal => a * b) (v17_at V0 h i d) (v96_at V0 h i d)
theorem r119_at : (r119 V0 (ix2 z d) : EReal) = gGk (B0 V0) (B1 V0) (B2 V0) (B3 V0) (B4 V0) d := by
  unfold r119; clean_types; pointwise; rw [sum01]; pointwise
  rw [Fin.sum_univ_one, Fin.sum_univ_one, sum01, zero_add]
  refine Finset.sum_congr rfl fun h _ => Finset.sum_congr rfl fun j _ => ?_
  exact congrArg₂ (fun a b : EReal => a * b) (v36_at V0 h j d) (v95_at V0 h j d)

end Cert.ReferenceIdeal.Grad
-- ==== Proof.MemClaim.lean ====
/-
  The value claim: on finite arguments the kernel ends with the four gradients the reference computes.
-/
module

public import proofs.«01_k».proof.Defs
public import proofs.«01_k».proof.Proof.MemRes
public import proofs.«01_k».proof.Proof.Gen.Pre_finite
public import Idealize.ShloMosaic.Lib.Quiescent

@[expose] public section

set_option maxRecDepth 16384

noncomputable section

namespace Cert.Proof

open Idealize.ShloMosaic Idealize.ShloMosaic.TcCoe Idealize.SL.Sem Idealize.ShloMosaic.StableHlo
open Cert.Rows (I Re)
open Cert.KernelIdeal.Head (cc ck cv cc_surj ckv_surj RealArgs)

/-! ## The precondition -/

theorem ctop_eq : Ideal.ofBits .f32 0x7F800000#32 = ⊤ := by
  simp [Ideal.ofBits, Ideal.ieee]

/-- A number whose absolute value is below infinity is a real. -/
theorem re_of_lt {x : EReal} (h : Ideal.cmp .olt (max x (-x)) (Ideal.ofBits .f32 0x7F800000#32) = 1#1) : Re x := by
  rw [ctop_eq] at h
  have h' : max x (-x) < ⊤ := by
    by_contra hn
    simp [Ideal.cmp, hn] at h
  induction x with
  | bot => simp at h'
  | coe r => exact ⟨r, rfl⟩
  | top => simp at h'

section
variable (m : (ℓ : Loc Cert.KernelIdeal.nD Cert.KernelIdeal.τ Cert.KernelIdeal.sig) → Buf (Elt Ideal) ℓ)
  (c : Dev Cert.KernelIdeal.nD)

theorem realArgs (h : Cert.Pre_KernelIdeal_finite (hPre_finite := Cert.Pre_finite.Gen.facts) m) :
    RealArgs (Cert.KernelIdeal.Head.A0 m c) (Cert.KernelIdeal.Head.A1 m c) (Cert.KernelIdeal.Head.A2 m c)
      (Cert.KernelIdeal.Head.A3 m c) (Cert.KernelIdeal.Head.A4 m c) where
  q i := re_of_lt (congrFun (h c).1 i)
  kv i := re_of_lt (congrFun (h c).2.1 i)
  gq i := re_of_lt (congrFun (h c).2.2.1 i)
  gk i := re_of_lt (congrFun (h c).2.2.2.1 i)
  o i := re_of_lt (congrFun (h c).2.2.2.2 i)
end

/-! ## Kernel and reference -/

section
variable (m : (ℓ : Loc Cert.KernelIdeal.nD Cert.KernelIdeal.τ Cert.KernelIdeal.sig) → Buf (Elt Ideal) ℓ)
  (V : Valuation Cert.ReferenceIdeal.τ Cert.ReferenceIdeal.sig (Elt Ideal)) (c : Dev Cert.KernelIdeal.nD)
  (R : RealArgs (Cert.KernelIdeal.Head.A0 m c) (Cert.KernelIdeal.Head.A1 m c) (Cert.KernelIdeal.Head.A2 m c)
      (Cert.KernelIdeal.Head.A3 m c) (Cert.KernelIdeal.Head.A4 m c))
  (e0 : Cert.ReferenceIdeal.Grad.B0 V = Cert.KernelIdeal.Head.A0 m c)
  (e1 : Cert.ReferenceIdeal.Grad.B1 V = Cert.KernelIdeal.Head.A1 m c)
  (e2 : Cert.ReferenceIdeal.Grad.B2 V = Cert.KernelIdeal.Head.A2 m c)
  (e3 : Cert.ReferenceIdeal.Grad.B3 V = Cert.KernelIdeal.Head.A3 m c)
  (e4 : Cert.ReferenceIdeal.Grad.B4 V = Cert.KernelIdeal.Head.A4 m c)
include R e0 e1 e2 e3 e4

theorem eq_q : (Cert.ReferenceIdeal.Grad.r146 V : Cert.KernelIdeal.S8192x1024.Idx → EReal) = Cert.KernelIdeal.Head.dqR m c := by
  funext j
  obtain ⟨h, d, hd⟩ := cc_surj (j 1)
  have ej : j = ix2 (j 0) (cc h d) := by rw [← hd]; exact eq_ix2 j
  rw [ej]
  refine (Cert.ReferenceIdeal.Grad.r146_at V h (j 0) d).trans ?_
  rw [e0, e1, e2, e3, e4]
  exact (Cert.KernelIdeal.Head.dqR_eq m c R h (j 0) d).symm

theorem eq_kv : Cert.ReferenceIdeal.Grad.r145 V = Cert.KernelIdeal.Head.dkvR m c := by
  funext j
  rcases ckv_surj (j 1) with ⟨h, d, hd⟩ | ⟨h, d, hd⟩
  · have ej : j = ix2 (j 0) (ck h d) := by rw [← hd]; exact eq_ix2 j
    rw [ej]
    refine (Cert.ReferenceIdeal.Grad.r145_at V h (j 0) d).trans ?_
    rw [e0, e1, e2, e3, e4]
    exact (Cert.KernelIdeal.Head.dkR_eq m c R h (j 0) d).symm
  · have ej : j = ix2 (j 0) (cv h d) := by rw [← hd]; exact eq_ix2 j
    rw [ej]
    refine (Cert.ReferenceIdeal.Grad.r145_at' V h (j 0) d).trans ?_
    rw [e0, e1, e2, e3, e4]
    exact (Cert.KernelIdeal.Head.dvR_eq m c R h (j 0) d).symm

theorem eq_gq : Cert.ReferenceIdeal.Grad.r142 V = Cert.KernelIdeal.Head.dgqR m c := by
  funext j
  rw [eq_ix2 j]
  refine (Cert.ReferenceIdeal.Grad.r142_at V (j 1) (j 0)).trans ?_
  rw [e0, e1, e2, e3, e4]
  exact (Cert.KernelIdeal.Head.dgqR_eq m c R (j 0) (j 1)).symm

theorem eq_gk : Cert.ReferenceIdeal.Grad.r119 V = Cert.KernelIdeal.Head.dgkR m c := by
  funext j
  rw [eq_ix2 j]
  refine (Cert.ReferenceIdeal.Grad.r119_at V (j 1) (j 0)).trans ?_
  rw [e0, e1, e2, e3, e4]
  exact (Cert.KernelIdeal.Head.dgkR_eq m c R (j 0) (j 1)).symm
end

theorem algebraic : Cert.algebraic_KernelIdeal_ReferenceIdeal_pre_finite
    (hKernelIdeal := Cert.KernelIdeal.Gen.facts) (hReferenceIdeal := Cert.ReferenceIdeal.Gen.facts)
    (hPre_finite := Cert.Pre_finite.Gen.facts) := by
  intro m g m' g' hm ha
  refine ⟨Cert.KernelIdeal.Head.dqR m, Cert.KernelIdeal.Head.dkvR m, Cert.KernelIdeal.Head.dgqR m,
    Cert.KernelIdeal.Head.dgkR m, Cert.KernelIdeal.Head.run m g, ?_⟩
  refine (θ_run Cert.ReferenceIdeal.defs _ _).mono (fun r h c => ?_) (Cert.ReferenceIdeal.Value.run m' g')
  obtain ⟨h0, h1, h2, h3, h4⟩ := h c
  obtain ⟨a0, a1, a2, a3, a4⟩ := ha c
  have R := realArgs m c hm
  exact ⟨h0.trans (eq_q m (launchContents m' c) c R a0 a1 a2 a3 a4),
    h1.trans (eq_kv m (launchContents m' c) c R a0 a1 a2 a3 a4),
    h2.trans (eq_gq m (launchContents m' c) c R a0 a1 a2 a3 a4),
    h3.trans (eq_gk m (launchContents m' c) c R a0 a1 a2 a3 a4), h4⟩

/-! ## The reference's frame -/

theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0) :=
  (θ_run Cert.ReferenceIdeal.defs _ _).mono
    (fun r h => ⟨fun c => (h c).2.2.2.2, sem_eq_zero_of_no_sems (by decide) _⟩) (Cert.ReferenceIdeal.Value.run m g)

end Cert.Proof
-- ==== Proof.Products.lean ====
/-
  Products of matrices taken in pieces: an entry as a sum over all the products' terms, whether the terms arrive in one
  piece or in several that a running sum collects.
-/
module

public import proofs.«01_k».proof.Proof.MemClaim

@[expose] public section

noncomputable section

namespace Cert.Products

open Idealize.ShloMosaic
open Finset (range)

/-- A matrix's entry in row `i` and column `j`, zero outside the matrix. -/
def ent {a b : ℕ} (A : (⟨2, ![a, b]⟩ : Shape).Idx → EReal) (i j : ℕ) : EReal :=
  if h : i < a ∧ j < b then A (ix2 ⟨i, h.1⟩ ⟨j, h.2⟩) else 0

theorem ent_of {a b : ℕ} (A : (⟨2, ![a, b]⟩ : Shape).Idx → EReal) (x : (⟨2, ![a, b]⟩ : Shape).Idx) {i j : ℕ}
    (hi : (x 0).val = i) (hj : (x 1).val = j) : A x = ent A i j := by
  subst hi; subst hj
  unfold ent
  rw [dif_pos ⟨(x 0).isLt, (x 1).isLt⟩]
  exact congrArg A (eq_ix2 x)

theorem ent_ix {a b : ℕ} (A : (⟨2, ![a, b]⟩ : Shape).Idx → EReal) (i : Fin a) (j : Fin b) :
    ent A i.val j.val = A (ix2 i j) := (ent_of A (ix2 i j) rfl rfl).symm

/-- The entry in row `i` and column `j` of the product of `A` and `B`, summed over `K` terms; the product of `A`
    and the transposed `B`; of the transposed `A` and `B`. -/
def nn {a b d e : ℕ} (A : (⟨2, ![a, b]⟩ : Shape).Idx → EReal) (B : (⟨2, ![d, e]⟩ : Shape).Idx → EReal) (K i j : ℕ) : EReal :=
  ∑ k ∈ range K, ent A i k * ent B k j
def nt {a b d e : ℕ} (A : (⟨2, ![a, b]⟩ : Shape).Idx → EReal) (B : (⟨2, ![d, e]⟩ : Shape).Idx → EReal) (K i j : ℕ) : EReal :=
  ∑ k ∈ range K, ent A i k * ent B j k
def tn {a b d e : ℕ} (A : (⟨2, ![a, b]⟩ : Shape).Idx → EReal) (B : (⟨2, ![d, e]⟩ : Shape).Idx → EReal) (K i j : ℕ) : EReal :=
  ∑ k ∈ range K, ent A k i * ent B k j

theorem nn_eq {a K b : ℕ} (A : (⟨2, ![a, K]⟩ : Shape).Idx → EReal) (B : (⟨2, ![K, b]⟩ : Shape).Idx → EReal)
    (i : Fin a) (j : Fin b) : nn A B K i.val j.val = ∑ k : Fin K, A (ix2 i k) * B (ix2 k j) := by
  unfold nn; rw [Finset.sum_range]; simp only [ent_ix]
theorem nt_eq {a K b : ℕ} (A : (⟨2, ![a, K]⟩ : Shape).Idx → EReal) (B : (⟨2, ![b, K]⟩ : Shape).Idx → EReal)
    (i : Fin a) (j : Fin b) : nt A B K i.val j.val = ∑ k : Fin K, A (ix2 i k) * B (ix2 j k) := by
  unfold nt; rw [Finset.sum_range]; simp only [ent_ix]
theorem tn_eq {a K b : ℕ} (A : (⟨2, ![K, a]⟩ : Shape).Idx → EReal) (B : (⟨2, ![K, b]⟩ : Shape).Idx → EReal)
    (i : Fin a) (j : Fin b) : tn A B K i.val j.val = ∑ k : Fin K, A (ix2 k i) * B (ix2 k j) := by
  unfold tn; rw [Finset.sum_range]; simp only [ent_ix]

/-! ## Products taken block by block

Block `q` of a result with `nj` blocks side by side is block `(q / nj, q % nj)`, each of 1024 rows and columns. -/

section
variable {a b d e : ℕ} (A : (⟨2, ![a, b]⟩ : Shape).Idx → EReal) (B : (⟨2, ![d, e]⟩ : Shape).Idx → EReal) (nj : ℕ)

/-- The term `k` of the entry `(p, r)` of block `q`, for the three products. -/
def nnB (p r q k : ℕ) : EReal := ent A (1024 * (q / nj) + p) k * ent B k (1024 * (q % nj) + r)
def ntB (p r q k : ℕ) : EReal := ent A (1024 * (q / nj) + p) k * ent B (1024 * (q % nj) + r) k
def tnB (p r q k : ℕ) : EReal := ent A k (1024 * (q / nj) + p) * ent B k (1024 * (q % nj) + r)

/-- A product of two blocks is a stretch of the terms. -/
theorem nn_part {L q s : ℕ} (x : (⟨2, ![1024, L]⟩ : Shape).Idx → EReal) (y : (⟨2, ![L, 1024]⟩ : Shape).Idx → EReal)
    (hx : ∀ (p : Fin 1024) (k : Fin L), x (ix2 p k) = ent A (1024 * (q / nj) + p.val) (L * s + k.val))
    (hy : ∀ (k : Fin L) (r : Fin 1024), y (ix2 k r) = ent B (L * s + k.val) (1024 * (q % nj) + r.val)) (p r : Fin 1024) :
    nn x y L p.val r.val = ∑ k ∈ range L, nnB A B nj p.val r.val q (L * s + k) := by
  rw [nn_eq, Finset.sum_range]
  exact Finset.sum_congr rfl fun k _ => congrArg₂ (· * ·) (hx p k) (hy k r)
theorem nt_part {L q s : ℕ} (x : (⟨2, ![1024, L]⟩ : Shape).Idx → EReal) (y : (⟨2, ![1024, L]⟩ : Shape).Idx → EReal)
    (hx : ∀ (p : Fin 1024) (k : Fin L), x (ix2 p k) = ent A (1024 * (q / nj) + p.val) (L * s + k.val))
    (hy : ∀ (r : Fin 1024) (k : Fin L), y (ix2 r k) = ent B (1024 * (q % nj) + r.val) (L * s + k.val)) (p r : Fin 1024) :
    nt x y L p.val r.val = ∑ k ∈ range L, ntB A B nj p.val r.val q (L * s + k) := by
  rw [nt_eq, Finset.sum_range]
  exact Finset.sum_congr rfl fun k _ => congrArg₂ (· * ·) (hx p k) (hy r k)
theorem tn_part {L q s : ℕ} (x : (⟨2, ![L, 1024]⟩ : Shape).Idx → EReal) (y : (⟨2, ![L, 1024]⟩ : Shape).Idx → EReal)
    (hx : ∀ (k : Fin L) (p : Fin 1024), x (ix2 k p) = ent A (L * s + k.val) (1024 * (q / nj) + p.val))
    (hy : ∀ (k : Fin L) (r : Fin 1024), y (ix2 k r) = ent B (L * s + k.val) (1024 * (q % nj) + r.val)) (p r : Fin 1024) :
    tn x y L p.val r.val = ∑ k ∈ range L, tnB A B nj p.val r.val q (L * s + k) := by
  rw [tn_eq, Finset.sum_range]
  exact Finset.sum_congr rfl fun k _ => congrArg₂ (· * ·) (hx k p) (hy k r)

/-- Row `i` and column `j` lie in block `nj * (i / 1024) + j / 1024`. -/
theorem place {nj i j : ℕ} (hj : j / 1024 < nj) : 1024 * ((nj * (i / 1024) + j / 1024) / nj) + i % 1024 = i
    ∧ 1024 * ((nj * (i / 1024) + j / 1024) % nj) + j % 1024 = j := by
  rw [Nat.mul_add_div (Nat.zero_lt_of_lt hj), Nat.div_eq_of_lt hj, Nat.mul_add_mod, Nat.mod_eq_of_lt hj]
  omega

theorem nn_sum {nj i j : ℕ} (hj : j / 1024 < nj) (K : ℕ) :
    ∑ k ∈ range K, nnB A B nj (i % 1024) (j % 1024) (nj * (i / 1024) + j / 1024) k = nn A B K i j := by
  unfold nnB nn; rw [(place hj).1, (place hj).2]
theorem nt_sum {nj i j : ℕ} (hj : j / 1024 < nj) (K : ℕ) :
    ∑ k ∈ range K, ntB A B nj (i % 1024) (j % 1024) (nj * (i / 1024) + j / 1024) k = nt A B K i j := by
  unfold ntB nt; rw [(place hj).1, (place hj).2]
theorem tn_sum {nj i j : ℕ} (hj : j / 1024 < nj) (K : ℕ) :
    ∑ k ∈ range K, tnB A B nj (i % 1024) (j % 1024) (nj * (i / 1024) + j / 1024) k = tn A B K i j := by
  unfold tnB tn; rw [(place hj).1, (place hj).2]
end

/-- A running sum that starts anew every `J` points and takes in `L` terms at each point. -/
theorem run_total {N J L : ℕ} (hJ : 0 < J) (s : (n : ℕ) → n < N → EReal) (g : ℕ → ℕ → EReal)
    (h0 : ∀ n h, n % J = 0 → s n h = ∑ κ ∈ range L, g (n / J) (L * (n % J) + κ))
    (hs : ∀ n (h : n + 1 < N), (n + 1) % J ≠ 0 →
      s (n + 1) h = s n (Nat.lt_of_succ_lt h) + ∑ κ ∈ range L, g ((n + 1) / J) (L * ((n + 1) % J) + κ)) :
    ∀ n h, s n h = ∑ κ ∈ range (L * (n % J + 1)), g (n / J) κ
  | 0, h => by
    rw [h0 0 h (Nat.zero_mod J), Nat.zero_mod]
    simp only [Nat.mul_zero, Nat.zero_add, Nat.mul_one]
  | n + 1, h => by
    by_cases e : (n + 1) % J = 0
    · rw [h0 _ h e, e]
      simp only [Nat.mul_zero, Nat.zero_add, Nat.mul_one]
    · have r := Nat.mod_lt n hJ
      have d := Nat.div_add_mod n J
      have hr : n % J + 1 < J := by
        by_contra hn
        have h1 : n + 1 = J * (n / J + 1) := by rw [Nat.mul_add]; omega
        exact e (by rw [h1, Nat.mul_mod_right])
      have h1 : n + 1 = n % J + 1 + J * (n / J) := by omega
      have em : (n + 1) % J = n % J + 1 := by
        conv_lhs => rw [h1]
        rw [Nat.add_mul_mod_self_left, Nat.mod_eq_of_lt hr]
      have ed : (n + 1) / J = n / J := by
        conv_lhs => rw [h1]
        rw [Nat.add_mul_div_left _ _ hJ, Nat.div_eq_of_lt hr, Nat.zero_add]
      rw [hs n h e, run_total hJ s g h0 hs n, em, ed, Nat.mul_add L (n % J + 1) 1, Nat.mul_one, Finset.sum_range_add]

/-- The number two, as the programs write it. -/
abbrev two : EReal := Ideal.ofBits .f32 0x40000000#32

/-- The square of the positive part. -/
def relu2 (u : EReal) : EReal := max u 0 * max u 0

/-- Below zero the squared positive part has the gradient zero, which is twice the positive part there. -/
theorem relu_grad (v u : EReal) : (if 0 < u then v * (two * max u 0) else 0) = v * (two * max u 0) := by
  split_ifs with h
  · rfl
  · rw [max_eq_right (not_lt.mp h), mul_zero, mul_zero]

/-- The offsets of a rectangle that starts at the origin. -/
theorem origin : (![0, 0] : Fin 2 → Nat) = fun _ => 0 := by
  funext a; match a with | ⟨0, _⟩ => rfl | ⟨1, _⟩ => rfl

end Cert.Products
-- ==== Proof.OutDx.lean ====
/-
  The gradient of the output projection's argument: each block of the result is one product of two blocks.
-/
module

public import proofs.«01_k».proof.Proof.Products
public import proofs.«01_k».proof.Proof.Gen.Kernel8Ideal.Value
public import proofs.«01_k».proof.Proof.Gen.Reference8Ideal.Run

@[expose] public section

noncomputable section

namespace Cert.Kernel8Ideal.Product

open Cert.Kernel8Ideal Cert.Kernel8Ideal.Gen Cert.Products
open Idealize.ShloMosaic Idealize.ShloMosaic.TcCoe Idealize.SL.Sem Idealize.ShloMosaic.StableHlo
open Finset (range)

/-! ## A block of the result -/

theorem result (x : Vec Ideal S1024x2048 .bf16) (y : Vec Ideal S1024x2048 .bf16) (p r : Fin 1024) :
    (out0_2 (F := Ideal) x y (ix2 p r) : EReal) = nt x y 2048 p.val r.val := by
  unfold out0_2
  rw [View.canon_unit_zero origin]
  simp only [View.ld_unit_zero (S := S1024x2048) origin]
  rw [nt_eq]; pointwise [k0_pay1]

variable (m : (ℓ : Loc nD τ sig) → Buf (Elt Ideal) ℓ) (ρ : Dev nD → PrngReg) (c : Dev nD)

abbrev A : FVec Ideal S8192x2048 .bf16 := m ((c : Thread nD τ).loc main_arg0)
abbrev B : FVec Ideal S2048x2048 .bf16 := m ((c : Thread nD τ).loc main_arg1)

theorem index : ∀ t : Fin cfg0.N, win0_0.index t 0 = t.val / 2 ∧ win0_0.index t 1 = 0
    ∧ win0_1.index t 0 = t.val % 2 ∧ win0_1.index t 1 = 0 :=
  (by decide +kernel : ∀ t : Fin grid0.N, _)
theorem index' : ∀ t : Fin cfg0.N, win0_2.index t 0 = t.val / 2 ∧ win0_2.index t 1 = t.val % 2 :=
  (by decide +kernel : ∀ t : Fin grid0.N, _)

theorem block0 (t : Fin cfg0.N) (p : Fin 1024) (k : Fin 2048) :
    iblk m c 0 t (ix2 p k) = ent (A m c) (1024 * (t.val / 2) + p.val) (2048 * 0 + k.val) := by
  unfold iblk; rw [View.read_apply]
  refine ent_of (A m c) _ ?_ ?_
  · show win0_0.index t 0 * 1024 + 1 * p.val = _; rw [(index t).1]; omega
  · show win0_0.index t 1 * 2048 + 1 * k.val = _; rw [(index t).2.1]; omega

theorem block1 (t : Fin cfg0.N) (p : Fin 1024) (k : Fin 2048) :
    iblk m c 1 t (ix2 p k) = ent (B m c) (1024 * (t.val % 2) + p.val) (2048 * 0 + k.val) := by
  unfold iblk; rw [View.read_apply]
  refine ent_of (B m c) _ ?_ ?_
  · show win0_1.index t 0 * 1024 + 1 * p.val = _; rw [(index t).2.2.1]; omega
  · show win0_1.index t 1 * 2048 + 1 * k.val = _; rw [(index t).2.2.2]; omega

theorem part (t : Fin cfg0.N) (p r : Fin 1024) : nt (a := 1024) (b := 2048) (d := 1024) (e := 2048) (iblk m c 0 t) (iblk m c 1 t) 2048 p.val r.val
    = nt (A m c) (B m c) 2048 (1024 * (t.val / 2) + p.val) (1024 * (t.val % 2) + r.val) := by
  refine (nt_part (A m c) (B m c) 2 (s := 0) _ _ (block0 m c t) (block1 m c t) p r).trans ?_
  unfold nt ntB
  simp only [Nat.mul_zero, Nat.zero_add]

/-! ## The result -/

def R : FVec Ideal S8192x2048 .f32 := fun i => nt (A m c) (B m c) 2048 (i 0).val (i 1).val

theorem flushed (t : Fin cfg0.N) (hf : (cfg0.win 2).flush t = true) :
    (dats m 0 c).flushed 2 t = ((cfg0.win 2).blk t).view.read (Elt Ideal) (R m c) := by
  rw [Value.flushed2]
  funext j
  rw [View.read_apply]
  have e0 : (((cfg0.win 2).blk t).view.emb j 0).val = 1024 * (t.val / 2) + (j 0).val := by
    show win0_2.index t 0 * 1024 + 1 * (j 0).val = _; rw [(index' t).1]; omega
  have e1 : (((cfg0.win 2).blk t).view.emb j 1).val = 1024 * (t.val % 2) + (j 1).val := by
    show win0_2.index t 1 * 1024 + 1 * (j 1).val = _; rw [(index' t).2]; omega
  show (out0_2 (F := Ideal) (iblk m c 0 t) (iblk m c 1 t) j : EReal) = R m c _
  unfold R
  rw [e0, e1]
  refine ((congrArg (out0_2 (F := Ideal) (iblk m c 0 t) (iblk m c 1 t)) (eq_ix2 j)).trans (result _ _ (j 0) (j 1))).trans ?_
  exact part m c t (j 0) (j 1)

theorem final : (dats m 0 c).arrAt 2 cfg0.N = R m c :=
  (dats m 0 c).arrAt_eq_of_cover 2 (R m c) (flushed m c) fun i =>
    have h0 : (i 0 : Nat) < 8192 := (i 0).isLt
    have h1 : (i 1 : Nat) < 2048 := (i 1).isLt
    have hN : 2 * ((i 0 : Nat) / 1024) + (i 1 : Nat) / 1024 < cfg0.N := by rw [show cfg0.N = 16 from N_0]; omega
    ⟨⟨_, hN⟩, flush0_2 _, by
      show i ∈ ((View.whole main_v0).slice (win0_2.rect ⟨_, hN⟩)).set
      rw [View.set_slice_whole, Rect.mem_set_unit]
      intro a
      match a with
      | ⟨0, _⟩ =>
        show win0_2.index ⟨_, hN⟩ 0 * 1024 ≤ (i 0 : Nat) ∧ (i 0 : Nat) < win0_2.index ⟨_, hN⟩ 0 * 1024 + 1024
        rw [(index' _).1]; dsimp only; omega
      | ⟨1, _⟩ =>
        show win0_2.index ⟨_, hN⟩ 1 * 1024 ≤ (i 1 : Nat) ∧ (i 1 : Nat) < win0_2.index ⟨_, hN⟩ 1 * 1024 + 1024
        rw [(index' _).2]; dsimp only; omega⟩

theorem run : θ_run defs (onTc (τ := τ) (main (F := Ideal))) ⟨m, fun _ => 0, ρ⟩ fun r => ∀ c : Dev nD,
      r.2.mem ((c : Thread nD τ).loc main_v0) = R m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

theorem value (i : Fin 8192) (j : Fin 2048) : (R m c (ix2 i j) : EReal)
    = nt (A m c) (B m c) 2048 i.val j.val := rfl

end Cert.Kernel8Ideal.Product

namespace Cert.Reference8Ideal.Product

open Cert.Reference8Ideal Cert.Reference8Ideal.Gen Cert.Products
open Idealize.ShloMosaic Idealize.ShloMosaic.TcCoe Idealize.SL.Sem Idealize.ShloMosaic.StableHlo

theorem at_entry (X : FVec Ideal S8192x2048 .f32) (Y : FVec Ideal S2048x2048 .f32) (i : Fin 8192) (j : Fin 2048) :
    ((Host.dotGeneral (φ₁ := .f32) (φ₂ := .f32) dot_S8192x2048_S2048x2048_S8192x2048_1_1_0_0_n_n none X Y) (ix2 i j) : EReal)
      = nt X Y 2048 i.val j.val := by
  rw [nt_eq]; clean_types; pointwise

end Cert.Reference8Ideal.Product

namespace Cert.Proof

open Idealize.ShloMosaic Idealize.ShloMosaic.TcCoe Idealize.SL.Sem Idealize.ShloMosaic.StableHlo

theorem algebraic8 : Cert.algebraic_Kernel8Ideal_Reference8Ideal
    (hKernel8Ideal := Cert.Kernel8Ideal.Gen.facts) (hReference8Ideal := Cert.Reference8Ideal.Gen.facts) := by
  intro m g m' g' hm ha
  refine ⟨Cert.Kernel8Ideal.Product.R m, Cert.Kernel8Ideal.Product.run m g, ?_⟩
  refine (θ_run Cert.Reference8Ideal.defs _ _).mono (fun r h c => ⟨(h c).1.trans ?_, (h c).2⟩) (Cert.Reference8Ideal.Value.run m' g')
  rw [(ha c).1, (ha c).2]
  funext i
  rw [eq_ix2 i]
  exact (Cert.Reference8Ideal.Product.at_entry _ _ (i 0) (i 1)).trans (Cert.Kernel8Ideal.Product.value m c (i 0) (i 1)).symm

theorem frame8 : Cert.quiescent_Reference8Ideal (hReference8Ideal := Cert.Reference8Ideal.Gen.facts) := fun m g _ =>
  (θ_run Cert.Reference8Ideal.defs _ _).mono
    (fun r h => ⟨fun c => (h c).2, sem_eq_zero_of_no_sems (by decide) _⟩) (Cert.Reference8Ideal.Value.run m g)

end Cert.Proof
-- ==== Proof.InProj.lean ====
/-
  The input projection: each block of the result is one product of two blocks.
-/
module

public import proofs.«01_k».proof.Proof.OutDx
public import proofs.«01_k».proof.Proof.Gen.Kernel10Ideal.Value
public import proofs.«01_k».proof.Proof.Gen.Reference10Ideal.Run

@[expose] public section

noncomputable section

namespace Cert.Kernel10Ideal.Product

open Cert.Kernel10Ideal Cert.Kernel10Ideal.Gen Cert.Products
open Idealize.ShloMosaic Idealize.ShloMosaic.TcCoe Idealize.SL.Sem Idealize.ShloMosaic.StableHlo
open Finset (range)

/-! ## A block of the result -/

theorem result (x : Vec Ideal S1024x2048 .bf16) (y : Vec Ideal S2048x1024 .bf16) (p r : Fin 1024) :
    (out0_2 (F := Ideal) x y (ix2 p r) : EReal) = nn x y 2048 p.val r.val := by
  unfold out0_2
  rw [View.canon_unit_zero origin]
  simp only [View.ld_unit_zero (S := S1024x2048) origin, View.ld_unit_zero (S := S2048x1024) origin]
  rw [nn_eq]; pointwise [k0_pay1]

variable (m : (ℓ : Loc nD τ sig) → Buf (Elt Ideal) ℓ) (ρ : Dev nD → PrngReg) (c : Dev nD)

abbrev A : FVec Ideal S8192x2048 .bf16 := m ((c : Thread nD τ).loc main_arg0)
abbrev B : FVec Ideal S2048x15360 .bf16 := m ((c : Thread nD τ).loc main_arg1)

theorem index : ∀ t : Fin cfg0.N, win0_0.index t 0 = t.val / 15 ∧ win0_0.index t 1 = 0
    ∧ win0_1.index t 0 = 0 ∧ win0_1.index t 1 = t.val % 15 :=
  (by decide +kernel : ∀ t : Fin grid0.N, _)
theorem index' : ∀ t : Fin cfg0.N, win0_2.index t 0 = t.val / 15 ∧ win0_2.index t 1 = t.val % 15 :=
  (by decide +kernel : ∀ t : Fin grid0.N, _)

theorem block0 (t : Fin cfg0.N) (p : Fin 1024) (k : Fin 2048) :
    iblk m c 0 t (ix2 p k) = ent (A m c) (1024 * (t.val / 15) + p.val) (2048 * 0 + k.val) := by
  unfold iblk; rw [View.read_apply]
  refine ent_of (A m c) _ ?_ ?_
  · show win0_0.index t 0 * 1024 + 1 * p.val = _; rw [(index t).1]; omega
  · show win0_0.index t 1 * 2048 + 1 * k.val = _; rw [(index t).2.1]; omega

theorem block1 (t : Fin cfg0.N) (k : Fin 2048) (p : Fin 1024) :
    iblk m c 1 t (ix2 k p) = ent (B m c) (2048 * 0 + k.val) (1024 * (t.val % 15) + p.val) := by
  unfold iblk; rw [View.read_apply]
  refine ent_of (B m c) _ ?_ ?_
  · show win0_1.index t 0 * 2048 + 1 * k.val = _; rw [(index t).2.2.1]; omega
  · show win0_1.index t 1 * 1024 + 1 * p.val = _; rw [(index t).2.2.2]; omega

theorem part (t : Fin cfg0.N) (p r : Fin 1024) : nn (a := 1024) (b := 2048) (d := 2048) (e := 1024) (iblk m c 0 t) (iblk m c 1 t) 2048 p.val r.val
    = nn (A m c) (B m c) 2048 (1024 * (t.val / 15) + p.val) (1024 * (t.val % 15) + r.val) := by
  refine (nn_part (A m c) (B m c) 15 (s := 0) _ _ (block0 m c t) (block1 m c t) p r).trans ?_
  unfold nn nnB
  simp only [Nat.mul_zero, Nat.zero_add]

/-! ## The result -/

def R : FVec Ideal S8192x15360 .f32 := fun i => nn (A m c) (B m c) 2048 (i 0).val (i 1).val

theorem flushed (t : Fin cfg0.N) (hf : (cfg0.win 2).flush t = true) :
    (dats m 0 c).flushed 2 t = ((cfg0.win 2).blk t).view.read (Elt Ideal) (R m c) := by
  rw [Value.flushed2]
  funext j
  rw [View.read_apply]
  have e0 : (((cfg0.win 2).blk t).view.emb j 0).val = 1024 * (t.val / 15) + (j 0).val := by
    show win0_2.index t 0 * 1024 + 1 * (j 0).val = _; rw [(index' t).1]; omega
  have e1 : (((cfg0.win 2).blk t).view.emb j 1).val = 1024 * (t.val % 15) + (j 1).val := by
    show win0_2.index t 1 * 1024 + 1 * (j 1).val = _; rw [(index' t).2]; omega
  show (out0_2 (F := Ideal) (iblk m c 0 t) (iblk m c 1 t) j : EReal) = R m c _
  unfold R
  rw [e0, e1]
  refine ((congrArg (out0_2 (F := Ideal) (iblk m c 0 t) (iblk m c 1 t)) (eq_ix2 j)).trans (result _ _ (j 0) (j 1))).trans ?_
  exact part m c t (j 0) (j 1)

theorem final : (dats m 0 c).arrAt 2 cfg0.N = R m c :=
  (dats m 0 c).arrAt_eq_of_cover 2 (R m c) (flushed m c) fun i =>
    have h0 : (i 0 : Nat) < 8192 := (i 0).isLt
    have h1 : (i 1 : Nat) < 15360 := (i 1).isLt
    have hN : 15 * ((i 0 : Nat) / 1024) + (i 1 : Nat) / 1024 < cfg0.N := by rw [show cfg0.N = 120 from N_0]; omega
    ⟨⟨_, hN⟩, flush0_2 _, by
      show i ∈ ((View.whole main_v0).slice (win0_2.rect ⟨_, hN⟩)).set
      rw [View.set_slice_whole, Rect.mem_set_unit]
      intro a
      match a with
      | ⟨0, _⟩ =>
        show win0_2.index ⟨_, hN⟩ 0 * 1024 ≤ (i 0 : Nat) ∧ (i 0 : Nat) < win0_2.index ⟨_, hN⟩ 0 * 1024 + 1024
        rw [(index' _).1]; dsimp only; omega
      | ⟨1, _⟩ =>
        show win0_2.index ⟨_, hN⟩ 1 * 1024 ≤ (i 1 : Nat) ∧ (i 1 : Nat) < win0_2.index ⟨_, hN⟩ 1 * 1024 + 1024
        rw [(index' _).2]; dsimp only; omega⟩

theorem run : θ_run defs (onTc (τ := τ) (main (F := Ideal))) ⟨m, fun _ => 0, ρ⟩ fun r => ∀ c : Dev nD,
      r.2.mem ((c : Thread nD τ).loc main_v0) = R m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

theorem value (i : Fin 8192) (j : Fin 15360) : (R m c (ix2 i j) : EReal)
    = nn (A m c) (B m c) 2048 i.val j.val := rfl

end Cert.Kernel10Ideal.Product

namespace Cert.Reference10Ideal.Product

open Cert.Reference10Ideal Cert.Reference10Ideal.Gen Cert.Products
open Idealize.ShloMosaic Idealize.ShloMosaic.TcCoe Idealize.SL.Sem Idealize.ShloMosaic.StableHlo

theorem at_entry (X : FVec Ideal S8192x2048 .f32) (Y : FVec Ideal S2048x15360 .f32) (i : Fin 8192) (j : Fin 15360) :
    ((Host.dotGeneral (φ₁ := .f32) (φ₂ := .f32) dot_S8192x2048_S2048x15360_S8192x15360_1_0_0_1_n_n none X Y) (ix2 i j) : EReal)
      = nn X Y 2048 i.val j.val := by
  rw [nn_eq]; clean_types; pointwise

end Cert.Reference10Ideal.Product

namespace Cert.Proof

open Idealize.ShloMosaic Idealize.ShloMosaic.TcCoe Idealize.SL.Sem Idealize.ShloMosaic.StableHlo

theorem algebraic10 : Cert.algebraic_Kernel10Ideal_Reference10Ideal
    (hKernel10Ideal := Cert.Kernel10Ideal.Gen.facts) (hReference10Ideal := Cert.Reference10Ideal.Gen.facts) := by
  intro m g m' g' hm ha
  refine ⟨Cert.Kernel10Ideal.Product.R m, Cert.Kernel10Ideal.Product.run m g, ?_⟩
  refine (θ_run Cert.Reference10Ideal.defs _ _).mono (fun r h c => ⟨(h c).1.trans ?_, (h c).2⟩) (Cert.Reference10Ideal.Value.run m' g')
  rw [(ha c).1, (ha c).2]
  funext i
  rw [eq_ix2 i]
  exact (Cert.Reference10Ideal.Product.at_entry _ _ (i 0) (i 1)).trans (Cert.Kernel10Ideal.Product.value m c (i 0) (i 1)).symm

theorem frame10 : Cert.quiescent_Reference10Ideal (hReference10Ideal := Cert.Reference10Ideal.Gen.facts) := fun m g _ =>
  (θ_run Cert.Reference10Ideal.defs _ _).mono
    (fun r h => ⟨fun c => (h c).2, sem_eq_zero_of_no_sems (by decide) _⟩) (Cert.Reference10Ideal.Value.run m g)

end Cert.Proof
-- ==== Proof.Ff2Dw.lean ====
/-
  The gradient of the second feed-forward weight: a block of the result is summed over four pieces of the rows.
-/
module

public import proofs.«01_k».proof.Proof.InProj
public import proofs.«01_k».proof.Proof.Gen.Kernel3Ideal.Value
public import proofs.«01_k».proof.Proof.Gen.Reference3Ideal.Run

@[expose] public section

noncomputable section

namespace Cert.Kernel3Ideal.Product

open Cert.Kernel3Ideal Cert.Kernel3Ideal.Gen Cert.Products
open Idealize.ShloMosaic Idealize.ShloMosaic.TcCoe Idealize.SL.Sem Idealize.ShloMosaic.StableHlo
open Finset (range)

/-! ## What each point leaves in the running sum and in the result's buffer -/

section
variable (c : Dev nD) (i : grid0.Coords) (a3 : Memref sig .tc .vmem S2048x1024 .bf16) (h3 : a3.IsWhole)
  (a4 : Memref sig .tc .vmem S2048x1024 .bf16) (h4 : a4.IsWhole) (a5 : Memref sig .tc .vmem S1024x1024 .bf16) (h5 : a5.IsWhole)
  (a6 : Memref sig .tc .vmem S1024x1024 .f32) (h6 : a6.IsWhole) (x : Vec Ideal S2048x1024 .bf16) (y : Vec Ideal S2048x1024 .bf16)
  (s : Vec Ideal S1024x1024 .f32)

theorem first (k0 : cond0_0 i) (k1 : ¬cond0_1 i) (k2 : ¬cond0_2 i) :
    sout0_A_0 c i a3 h3 a4 h4 a5 h5 a6 h6 k0 k1 k2 x y = k0_pay1 (F := Ideal) x y := by
  unfold sout0_A_0
  rw [View.read_writes_eq_canon _ _ _ (scover0_A_0 c i a3 h3 a4 h4 a5 h5 a6 h6 k0 k1 k2 x y)]
  unfold kernelRun0_A; dsimp only
  rw [View.canon_unit_zero origin]
  unfold k0_pay2
  simp only [View.readAt_eq_ld, h3.read_unread, h4.read_unread, View.ld_unit_zero (S := S2048x1024) origin, shapeCast_self]

theorem next (k0 : ¬cond0_0 i) (k1 : cond0_1 i) (k2 : ¬cond0_2 i) :
    sout0_B_0 c i a3 h3 a4 h4 a5 h5 a6 h6 k0 k1 k2 x y s = addf s (k0_pay1 (F := Ideal) x y) := by
  unfold sout0_B_0
  rw [View.read_writes_eq_canon _ _ _ (scover0_B_0 c i a3 h3 a4 h4 a5 h5 a6 h6 k0 k1 k2 x y s)]
  unfold kernelRun0_B; dsimp only
  rw [View.canon_unit_zero origin]
  unfold k0_pay3
  simp only [View.readAt_eq_ld, h3.read_unread, h4.read_unread, h6.read_unread, View.ld_unit_zero (S := S2048x1024) origin,
    View.ld_unit_zero (S := S1024x1024) origin, shapeCast_self]

theorem last (k0 : ¬cond0_0 i) (k1 : cond0_1 i) (k2 : cond0_2 i) :
    sout0_C_0 c i a3 h3 a4 h4 a5 h5 a6 h6 k0 k1 k2 x y s = addf s (k0_pay1 (F := Ideal) x y) := by
  unfold sout0_C_0
  rw [View.read_writes_eq_canon _ _ _ (scover0_C_0 c i a3 h3 a4 h4 a5 h5 a6 h6 k0 k1 k2 x y s)]
  unfold kernelRun0_C; dsimp only
  sl_unfold_words
  rw [View.canon_unit_zero origin]
  unfold k0_pay3
  simp only [View.readAt_eq_ld, h3.read_unread, h4.read_unread, h6.read_unread, View.ld_unit_zero (S := S2048x1024) origin,
    View.ld_unit_zero (S := S1024x1024) origin, shapeCast_self]

theorem result (k0 : ¬cond0_0 i) (k1 : cond0_1 i) (k2 : cond0_2 i) :
    out0_C_2 c i a3 h3 a4 h4 a5 h5 a6 h6 k0 k1 k2 x y s = k0_pay4 (F := Ideal) (addf s (k0_pay1 (F := Ideal) x y)) := by
  unfold out0_C_2
  rw [View.read_writes_eq_canon _ _ _ (cover0_C_2 c i a3 h3 a4 h4 a5 h5 a6 h6 k0 k1 k2 x y s)]
  unfold kernelRun0_C; dsimp only
  sl_unfold_words
  rw [View.canon_unit_zero origin, View.readCov_unit_zero _ origin]
  unfold k0_pay3
  simp only [View.readAt_eq_ld, h3.read_unread, h4.read_unread, h6.read_unread, View.ld_unit_zero (S := S2048x1024) origin,
    View.ld_unit_zero (S := S1024x1024) origin, shapeCast_self]

theorem part_at (p r : Fin 1024) : (k0_pay1 (F := Ideal) x y (ix2 p r) : EReal) = tn x y 2048 p.val r.val := by
  rw [tn_eq]; pointwise [k0_pay1]
end

/-! ## The blocks read at a point, and the running sum -/

variable (m : (ℓ : Loc nD τ sig) → Buf (Elt Ideal) ℓ) (c : Dev nD)

abbrev A : FVec Ideal S8192x8192 .bf16 := m ((c : Thread nD τ).loc main_arg0)
abbrev B : FVec Ideal S8192x2048 .bf16 := m ((c : Thread nD τ).loc main_arg1)

theorem index : ∀ t : Fin cfg0.N, win0_0.index t 0 = t.val % 4 ∧ win0_0.index t 1 = t.val / 4 / 2
    ∧ win0_1.index t 0 = t.val % 4 ∧ win0_1.index t 1 = t.val / 4 % 2 :=
  (by decide +kernel : ∀ t : Fin grid0.N, _)

theorem block0 (t : Fin cfg0.N) (k : Fin 2048) (p : Fin 1024) :
    iblk m c 0 t (ix2 k p) = ent (A m c) (2048 * (t.val % 4) + k.val) (1024 * (t.val / 4 / 2) + p.val) := by
  unfold iblk; rw [View.read_apply]
  refine ent_of (A m c) _ ?_ ?_
  · show win0_0.index t 0 * 2048 + 1 * k.val = _; rw [(index t).1]; omega
  · show win0_0.index t 1 * 1024 + 1 * p.val = _; rw [(index t).2.1]; omega

theorem block1 (t : Fin cfg0.N) (k : Fin 2048) (p : Fin 1024) :
    iblk m c 1 t (ix2 k p) = ent (B m c) (2048 * (t.val % 4) + k.val) (1024 * (t.val / 4 % 2) + p.val) := by
  unfold iblk; rw [View.read_apply]
  refine ent_of (B m c) _ ?_ ?_
  · show win0_1.index t 0 * 2048 + 1 * k.val = _; rw [(index t).2.2.1]; omega
  · show win0_1.index t 1 * 1024 + 1 * p.val = _; rw [(index t).2.2.2]; omega

theorem part (t : Fin cfg0.N) (p r : Fin 1024) : (k0_pay1 (F := Ideal) (iblk m c 0 t) (iblk m c 1 t) (ix2 p r) : EReal)
    = ∑ k ∈ range 2048, tnB (A m c) (B m c) 2 p.val r.val (t.val / 4) (2048 * (t.val % 4) + k) :=
  (part_at _ _ p r).trans (tn_part (A m c) (B m c) 2 _ _ (block0 m c t) (block1 m c t) p r)

theorem total (p r : Fin 1024) : ∀ (n : ℕ) (h : n < cfg0.N), ((outsAt0 m c n h).2 (ix2 p r) : EReal)
    = ∑ k ∈ range (2048 * (n % 4 + 1)), tnB (A m c) (B m c) 2 p.val r.val (n / 4) k := by
  refine run_total (by decide) (fun n h => ((outsAt0 m c n h).2 (ix2 p r) : EReal)) _ (fun n h e => ?_) (fun n h e => ?_)
  · have := outsAt0_A m c ⟨n, h⟩ e (by dsimp only; omega) (by dsimp only; omega)
    dsimp only at this ⊢
    rw [this, first]
    exact part m c ⟨n, h⟩ p r
  · by_cases e3 : (n + 1) % 4 = 3
    · have := outsAt0_C m c ⟨n + 1, h⟩ e (by dsimp only; omega) e3
      dsimp only at this ⊢
      rw [this, last]
      exact congrArg (_ + ·) (part m c ⟨n + 1, h⟩ p r)
    · have := outsAt0_B m c ⟨n + 1, h⟩ e (by dsimp only; omega) e3
      dsimp only at this ⊢
      rw [this, next]
      exact congrArg (_ + ·) (part m c ⟨n + 1, h⟩ p r)

theorem final (n : ℕ) (h : n < cfg0.N) (e : n % 4 = 3) : (outsAt0 m c n h).1 = k0_pay4 (F := Ideal) (outsAt0 m c n h).2 := by
  have := outsAt0_C m c ⟨n, h⟩ (by dsimp only; omega) (by dsimp only; omega) e
  dsimp only at this
  rw [this, last, result]

theorem value (i : Fin 8192) (j : Fin 2048) : (Value.G2 m c (ix2 i j) : EReal) = tn (A m c) (B m c) 8192 i.val j.val := by
  have hi := i.isLt
  have hj := j.isLt
  have hp : Value.pt2Of (ix2 i j) = 4 * (2 * (i.val / 1024) + j.val / 1024) + 3 := by
    show 4 * (2 * (i.val / 1024 - 0) + 1 * (j.val / 1024 - 0)) + 3 = _; omega
  have hN : Value.pt2Of (ix2 i j) < cfg0.N := by rw [hp, show cfg0.N = 64 from N_0]; omega
  have hl : Value.loc2Of (ix2 i j) = ix2 ⟨i.val % 1024, Nat.mod_lt _ (by decide)⟩ ⟨j.val % 1024, Nat.mod_lt _ (by decide)⟩ := by
    funext a; match a with | ⟨0, _⟩ => rfl | ⟨1, _⟩ => rfl
  unfold Value.G2
  rw [dif_pos hN, ← Value.outsAt0_sweep m c _ hN, final m c _ hN (by rw [hp]; omega), hl]
  refine (total m c _ _ _ hN).trans ?_
  rw [show 2048 * (Value.pt2Of (ix2 i j) % 4 + 1) = 8192 by rw [hp]; omega,
    show Value.pt2Of (ix2 i j) / 4 = 2 * (i.val / 1024) + j.val / 1024 by rw [hp]; omega]
  exact tn_sum (A m c) (B m c) (by omega) 8192

end Cert.Kernel3Ideal.Product

namespace Cert.Reference3Ideal.Product

open Cert.Reference3Ideal Cert.Reference3Ideal.Gen Cert.Products
open Idealize.ShloMosaic Idealize.ShloMosaic.TcCoe Idealize.SL.Sem Idealize.ShloMosaic.StableHlo

theorem at_entry (X : FVec Ideal S8192x8192 .f32) (Y : FVec Ideal S8192x2048 .f32) (i : Fin 8192) (j : Fin 2048) :
    ((truncf .bf16 (transpose S8192x2048 [1, 0] (Host.dotGeneral (φ₁ := .f32) (φ₂ := .f32) dot_S8192x2048_S8192x8192_S2048x8192_0_0_1_1_n_n none Y X)
      transposes_S2048x8192_S8192x2048_1_0) bitsLt_bf16_f32) (ix2 i j) : EReal)
      = tn X Y 8192 i.val j.val := by
  rw [tn_eq]; clean_types; pointwise
  exact Finset.sum_congr rfl fun k _ => mul_comm _ _

end Cert.Reference3Ideal.Product

namespace Cert.Proof

open Idealize.ShloMosaic Idealize.ShloMosaic.TcCoe Idealize.SL.Sem Idealize.ShloMosaic.StableHlo

theorem algebraic3 : Cert.algebraic_Kernel3Ideal_Reference3Ideal
    (hKernel3Ideal := Cert.Kernel3Ideal.Gen.facts) (hReference3Ideal := Cert.Reference3Ideal.Gen.facts) := by
  intro m g m' g' hm ha
  refine ⟨Cert.Kernel3Ideal.Value.G2 m, Cert.Kernel3Ideal.Value.run m g, ?_⟩
  refine (θ_run Cert.Reference3Ideal.defs _ _).mono (fun r h c => ⟨(h c).1.trans ?_, (h c).2⟩) (Cert.Reference3Ideal.Value.run m' g')
  rw [(ha c).1, (ha c).2]
  funext i
  rw [eq_ix2 i]
  exact (Cert.Reference3Ideal.Product.at_entry _ _ (i 0) (i 1)).trans (Cert.Kernel3Ideal.Product.value m c (i 0) (i 1)).symm

theorem frame3 : Cert.quiescent_Reference3Ideal (hReference3Ideal := Cert.Reference3Ideal.Gen.facts) := fun m g _ =>
  (θ_run Cert.Reference3Ideal.defs _ _).mono
    (fun r h => ⟨fun c => (h c).2, sem_eq_zero_of_no_sems (by decide) _⟩) (Cert.Reference3Ideal.Value.run m g)

end Cert.Proof
-- ==== Proof.Ff1Dx.lean ====
/-
  The gradient of the first feed-forward product's argument: a block of the result is summed over four pieces of the hidden columns.
-/
module

public import proofs.«01_k».proof.Proof.Ff2Dw
public import proofs.«01_k».proof.Proof.Gen.Kernel4Ideal.Value
public import proofs.«01_k».proof.Proof.Gen.Reference4Ideal.Run

@[expose] public section

noncomputable section

namespace Cert.Kernel4Ideal.Product

open Cert.Kernel4Ideal Cert.Kernel4Ideal.Gen Cert.Products
open Idealize.ShloMosaic Idealize.ShloMosaic.TcCoe Idealize.SL.Sem Idealize.ShloMosaic.StableHlo
open Finset (range)

/-! ## What each point leaves in the running sum and in the result's buffer -/

section
variable (c : Dev nD) (i : grid0.Coords) (a3 : Memref sig .tc .vmem S1024x2048 .bf16) (h3 : a3.IsWhole)
  (a4 : Memref sig .tc .vmem S1024x2048 .bf16) (h4 : a4.IsWhole) (a5 : Memref sig .tc .vmem S1024x1024 .f32) (h5 : a5.IsWhole)
  (a6 : Memref sig .tc .vmem S1024x1024 .f32) (h6 : a6.IsWhole) (x : Vec Ideal S1024x2048 .bf16) (y : Vec Ideal S1024x2048 .bf16)
  (s : Vec Ideal S1024x1024 .f32)

theorem first (k0 : cond0_0 i) (k1 : ¬cond0_1 i) (k2 : ¬cond0_2 i) :
    sout0_A_0 c i a3 h3 a4 h4 a5 h5 a6 h6 k0 k1 k2 x y = k0_pay1 (F := Ideal) x y := by
  unfold sout0_A_0
  rw [View.read_writes_eq_canon _ _ _ (scover0_A_0 c i a3 h3 a4 h4 a5 h5 a6 h6 k0 k1 k2 x y)]
  unfold kernelRun0_A; dsimp only
  rw [View.canon_unit_zero origin]
  unfold k0_pay2
  simp only [View.readAt_eq_ld, h3.read_unread, h4.read_unread, View.ld_unit_zero (S := S1024x2048) origin, shapeCast_self]

theorem next (k0 : ¬cond0_0 i) (k1 : cond0_1 i) (k2 : ¬cond0_2 i) :
    sout0_B_0 c i a3 h3 a4 h4 a5 h5 a6 h6 k0 k1 k2 x y s = addf s (k0_pay1 (F := Ideal) x y) := by
  unfold sout0_B_0
  rw [View.read_writes_eq_canon _ _ _ (scover0_B_0 c i a3 h3 a4 h4 a5 h5 a6 h6 k0 k1 k2 x y s)]
  unfold kernelRun0_B; dsimp only
  rw [View.canon_unit_zero origin]
  unfold k0_pay3
  simp only [View.readAt_eq_ld, h3.read_unread, h4.read_unread, h6.read_unread, View.ld_unit_zero (S := S1024x2048) origin,
    View.ld_unit_zero (S := S1024x1024) origin, shapeCast_self]

theorem last (k0 : ¬cond0_0 i) (k1 : cond0_1 i) (k2 : cond0_2 i) :
    sout0_C_0 c i a3 h3 a4 h4 a5 h5 a6 h6 k0 k1 k2 x y s = addf s (k0_pay1 (F := Ideal) x y) := by
  unfold sout0_C_0
  rw [View.read_writes_eq_canon _ _ _ (scover0_C_0 c i a3 h3 a4 h4 a5 h5 a6 h6 k0 k1 k2 x y s)]
  unfold kernelRun0_C; dsimp only
  sl_unfold_words
  rw [View.canon_unit_zero origin]
  unfold k0_pay3
  simp only [View.readAt_eq_ld, h3.read_unread, h4.read_unread, h6.read_unread, View.ld_unit_zero (S := S1024x2048) origin,
    View.ld_unit_zero (S := S1024x1024) origin, shapeCast_self]

theorem result (k0 : ¬cond0_0 i) (k1 : cond0_1 i) (k2 : cond0_2 i) :
    out0_C_2 c i a3 h3 a4 h4 a5 h5 a6 h6 k0 k1 k2 x y s = (addf s (k0_pay1 (F := Ideal) x y)) := by
  unfold out0_C_2
  rw [View.read_writes_eq_canon _ _ _ (cover0_C_2 c i a3 h3 a4 h4 a5 h5 a6 h6 k0 k1 k2 x y s)]
  unfold kernelRun0_C; dsimp only
  sl_unfold_words
  rw [View.canon_unit_zero origin, View.readCov_unit_zero _ origin]
  unfold k0_pay3
  simp only [View.readAt_eq_ld, h3.read_unread, h4.read_unread, h6.read_unread, View.ld_unit_zero (S := S1024x2048) origin,
    View.ld_unit_zero (S := S1024x1024) origin, shapeCast_self]

theorem part_at (p r : Fin 1024) : (k0_pay1 (F := Ideal) x y (ix2 p r) : EReal) = nt x y 2048 p.val r.val := by
  rw [nt_eq]; pointwise [k0_pay1]
end

/-! ## The blocks read at a point, and the running sum -/

variable (m : (ℓ : Loc nD τ sig) → Buf (Elt Ideal) ℓ) (c : Dev nD)

abbrev A : FVec Ideal S8192x8192 .bf16 := m ((c : Thread nD τ).loc main_arg0)
abbrev B : FVec Ideal S2048x8192 .bf16 := m ((c : Thread nD τ).loc main_arg1)

theorem index : ∀ t : Fin cfg0.N, win0_0.index t 0 = t.val / 4 / 2 ∧ win0_0.index t 1 = t.val % 4
    ∧ win0_1.index t 0 = t.val / 4 % 2 ∧ win0_1.index t 1 = t.val % 4 :=
  (by decide +kernel : ∀ t : Fin grid0.N, _)

theorem block0 (t : Fin cfg0.N) (p : Fin 1024) (k : Fin 2048) :
    iblk m c 0 t (ix2 p k) = ent (A m c) (1024 * (t.val / 4 / 2) + p.val) (2048 * (t.val % 4) + k.val) := by
  unfold iblk; rw [View.read_apply]
  refine ent_of (A m c) _ ?_ ?_
  · show win0_0.index t 0 * 1024 + 1 * p.val = _; rw [(index t).1]; omega
  · show win0_0.index t 1 * 2048 + 1 * k.val = _; rw [(index t).2.1]; omega

theorem block1 (t : Fin cfg0.N) (p : Fin 1024) (k : Fin 2048) :
    iblk m c 1 t (ix2 p k) = ent (B m c) (1024 * (t.val / 4 % 2) + p.val) (2048 * (t.val % 4) + k.val) := by
  unfold iblk; rw [View.read_apply]
  refine ent_of (B m c) _ ?_ ?_
  · show win0_1.index t 0 * 1024 + 1 * p.val = _; rw [(index t).2.2.1]; omega
  · show win0_1.index t 1 * 2048 + 1 * k.val = _; rw [(index t).2.2.2]; omega

theorem part (t : Fin cfg0.N) (p r : Fin 1024) : (k0_pay1 (F := Ideal) (iblk m c 0 t) (iblk m c 1 t) (ix2 p r) : EReal)
    = ∑ k ∈ range 2048, ntB (A m c) (B m c) 2 p.val r.val (t.val / 4) (2048 * (t.val % 4) + k) :=
  (part_at _ _ p r).trans (nt_part (A m c) (B m c) 2 _ _ (block0 m c t) (block1 m c t) p r)

theorem total (p r : Fin 1024) : ∀ (n : ℕ) (h : n < cfg0.N), ((outsAt0 m c n h).2 (ix2 p r) : EReal)
    = ∑ k ∈ range (2048 * (n % 4 + 1)), ntB (A m c) (B m c) 2 p.val r.val (n / 4) k := by
  refine run_total (by decide) (fun n h => ((outsAt0 m c n h).2 (ix2 p r) : EReal)) _ (fun n h e => ?_) (fun n h e => ?_)
  · have := outsAt0_A m c ⟨n, h⟩ e (by dsimp only; omega) (by dsimp only; omega)
    dsimp only at this ⊢
    rw [this, first]
    exact part m c ⟨n, h⟩ p r
  · by_cases e3 : (n + 1) % 4 = 3
    · have := outsAt0_C m c ⟨n + 1, h⟩ e (by dsimp only; omega) e3
      dsimp only at this ⊢
      rw [this, last]
      exact congrArg (_ + ·) (part m c ⟨n + 1, h⟩ p r)
    · have := outsAt0_B m c ⟨n + 1, h⟩ e (by dsimp only; omega) e3
      dsimp only at this ⊢
      rw [this, next]
      exact congrArg (_ + ·) (part m c ⟨n + 1, h⟩ p r)

theorem final (n : ℕ) (h : n < cfg0.N) (e : n % 4 = 3) : (outsAt0 m c n h).1 = (outsAt0 m c n h).2 := by
  have := outsAt0_C m c ⟨n, h⟩ (by dsimp only; omega) (by dsimp only; omega) e
  dsimp only at this
  rw [this, last, result]

theorem value (i : Fin 8192) (j : Fin 2048) : (Value.G2 m c (ix2 i j) : EReal) = nt (A m c) (B m c) 8192 i.val j.val := by
  have hi := i.isLt
  have hj := j.isLt
  have hp : Value.pt2Of (ix2 i j) = 4 * (2 * (i.val / 1024) + j.val / 1024) + 3 := by
    show 4 * (2 * (i.val / 1024 - 0) + 1 * (j.val / 1024 - 0)) + 3 = _; omega
  have hN : Value.pt2Of (ix2 i j) < cfg0.N := by rw [hp, show cfg0.N = 64 from N_0]; omega
  have hl : Value.loc2Of (ix2 i j) = ix2 ⟨i.val % 1024, Nat.mod_lt _ (by decide)⟩ ⟨j.val % 1024, Nat.mod_lt _ (by decide)⟩ := by
    funext a; match a with | ⟨0, _⟩ => rfl | ⟨1, _⟩ => rfl
  unfold Value.G2
  rw [dif_pos hN, ← Value.outsAt0_sweep m c _ hN, final m c _ hN (by rw [hp]; omega), hl]
  refine (total m c _ _ _ hN).trans ?_
  rw [show 2048 * (Value.pt2Of (ix2 i j) % 4 + 1) = 8192 by rw [hp]; omega,
    show Value.pt2Of (ix2 i j) / 4 = 2 * (i.val / 1024) + j.val / 1024 by rw [hp]; omega]
  exact nt_sum (A m c) (B m c) (by omega) 8192

end Cert.Kernel4Ideal.Product

namespace Cert.Reference4Ideal.Product

open Cert.Reference4Ideal Cert.Reference4Ideal.Gen Cert.Products
open Idealize.ShloMosaic Idealize.ShloMosaic.TcCoe Idealize.SL.Sem Idealize.ShloMosaic.StableHlo

theorem at_entry (X : FVec Ideal S8192x8192 .f32) (Y : FVec Ideal S2048x8192 .f32) (i : Fin 8192) (j : Fin 2048) :
    ((Host.dotGeneral (φ₁ := .f32) (φ₂ := .f32) dot_S8192x8192_S2048x8192_S8192x2048_1_1_0_0_n_n none X Y) (ix2 i j) : EReal)
      = nt X Y 8192 i.val j.val := by
  rw [nt_eq]; clean_types; pointwise

end Cert.Reference4Ideal.Product

namespace Cert.Proof

open Idealize.ShloMosaic Idealize.ShloMosaic.TcCoe Idealize.SL.Sem Idealize.ShloMosaic.StableHlo

theorem algebraic4 : Cert.algebraic_Kernel4Ideal_Reference4Ideal
    (hKernel4Ideal := Cert.Kernel4Ideal.Gen.facts) (hReference4Ideal := Cert.Reference4Ideal.Gen.facts) := by
  intro m g m' g' hm ha
  refine ⟨Cert.Kernel4Ideal.Value.G2 m, Cert.Kernel4Ideal.Value.run m g, ?_⟩
  refine (θ_run Cert.Reference4Ideal.defs _ _).mono (fun r h c => ⟨(h c).1.trans ?_, (h c).2⟩) (Cert.Reference4Ideal.Value.run m' g')
  rw [(ha c).1, (ha c).2]
  funext i
  rw [eq_ix2 i]
  exact (Cert.Reference4Ideal.Product.at_entry _ _ (i 0) (i 1)).trans (Cert.Kernel4Ideal.Product.value m c (i 0) (i 1)).symm

theorem frame4 : Cert.quiescent_Reference4Ideal (hReference4Ideal := Cert.Reference4Ideal.Gen.facts) := fun m g _ =>
  (θ_run Cert.Reference4Ideal.defs _ _).mono
    (fun r h => ⟨fun c => (h c).2, sem_eq_zero_of_no_sems (by decide) _⟩) (Cert.Reference4Ideal.Value.run m g)

end Cert.Proof
-- ==== Proof.Ff1Dw.lean ====
/-
  The gradient of the first feed-forward weight: a block of the result is summed over four pieces of the rows.
-/
module

public import proofs.«01_k».proof.Proof.Ff1Dx
public import proofs.«01_k».proof.Proof.Gen.Kernel5Ideal.Value
public import proofs.«01_k».proof.Proof.Gen.Reference5Ideal.Run

@[expose] public section

noncomputable section

namespace Cert.Kernel5Ideal.Product

open Cert.Kernel5Ideal Cert.Kernel5Ideal.Gen Cert.Products
open Idealize.ShloMosaic Idealize.ShloMosaic.TcCoe Idealize.SL.Sem Idealize.ShloMosaic.StableHlo
open Finset (range)

/-! ## What each point leaves in the running sum and in the result's buffer -/

section
variable (c : Dev nD) (i : grid0.Coords) (a3 : Memref sig .tc .vmem S2048x1024 .bf16) (h3 : a3.IsWhole)
  (a4 : Memref sig .tc .vmem S2048x1024 .bf16) (h4 : a4.IsWhole) (a5 : Memref sig .tc .vmem S1024x1024 .bf16) (h5 : a5.IsWhole)
  (a6 : Memref sig .tc .vmem S1024x1024 .f32) (h6 : a6.IsWhole) (x : Vec Ideal S2048x1024 .bf16) (y : Vec Ideal S2048x1024 .bf16)
  (s : Vec Ideal S1024x1024 .f32)

theorem first (k0 : cond0_0 i) (k1 : ¬cond0_1 i) (k2 : ¬cond0_2 i) :
    sout0_A_0 c i a3 h3 a4 h4 a5 h5 a6 h6 k0 k1 k2 x y = k0_pay1 (F := Ideal) x y := by
  unfold sout0_A_0
  rw [View.read_writes_eq_canon _ _ _ (scover0_A_0 c i a3 h3 a4 h4 a5 h5 a6 h6 k0 k1 k2 x y)]
  unfold kernelRun0_A; dsimp only
  rw [View.canon_unit_zero origin]
  unfold k0_pay2
  simp only [View.readAt_eq_ld, h3.read_unread, h4.read_unread, View.ld_unit_zero (S := S2048x1024) origin, shapeCast_self]

theorem next (k0 : ¬cond0_0 i) (k1 : cond0_1 i) (k2 : ¬cond0_2 i) :
    sout0_B_0 c i a3 h3 a4 h4 a5 h5 a6 h6 k0 k1 k2 x y s = addf s (k0_pay1 (F := Ideal) x y) := by
  unfold sout0_B_0
  rw [View.read_writes_eq_canon _ _ _ (scover0_B_0 c i a3 h3 a4 h4 a5 h5 a6 h6 k0 k1 k2 x y s)]
  unfold kernelRun0_B; dsimp only
  rw [View.canon_unit_zero origin]
  unfold k0_pay3
  simp only [View.readAt_eq_ld, h3.read_unread, h4.read_unread, h6.read_unread, View.ld_unit_zero (S := S2048x1024) origin,
    View.ld_unit_zero (S := S1024x1024) origin, shapeCast_self]

theorem last (k0 : ¬cond0_0 i) (k1 : cond0_1 i) (k2 : cond0_2 i) :
    sout0_C_0 c i a3 h3 a4 h4 a5 h5 a6 h6 k0 k1 k2 x y s = addf s (k0_pay1 (F := Ideal) x y) := by
  unfold sout0_C_0
  rw [View.read_writes_eq_canon _ _ _ (scover0_C_0 c i a3 h3 a4 h4 a5 h5 a6 h6 k0 k1 k2 x y s)]
  unfold kernelRun0_C; dsimp only
  sl_unfold_words
  rw [View.canon_unit_zero origin]
  unfold k0_pay3
  simp only [View.readAt_eq_ld, h3.read_unread, h4.read_unread, h6.read_unread, View.ld_unit_zero (S := S2048x1024) origin,
    View.ld_unit_zero (S := S1024x1024) origin, shapeCast_self]

theorem result (k0 : ¬cond0_0 i) (k1 : cond0_1 i) (k2 : cond0_2 i) :
    out0_C_2 c i a3 h3 a4 h4 a5 h5 a6 h6 k0 k1 k2 x y s = k0_pay4 (F := Ideal) (addf s (k0_pay1 (F := Ideal) x y)) := by
  unfold out0_C_2
  rw [View.read_writes_eq_canon _ _ _ (cover0_C_2 c i a3 h3 a4 h4 a5 h5 a6 h6 k0 k1 k2 x y s)]
  unfold kernelRun0_C; dsimp only
  sl_unfold_words
  rw [View.canon_unit_zero origin, View.readCov_unit_zero _ origin]
  unfold k0_pay3
  simp only [View.readAt_eq_ld, h3.read_unread, h4.read_unread, h6.read_unread, View.ld_unit_zero (S := S2048x1024) origin,
    View.ld_unit_zero (S := S1024x1024) origin, shapeCast_self]

theorem part_at (p r : Fin 1024) : (k0_pay1 (F := Ideal) x y (ix2 p r) : EReal) = tn x y 2048 p.val r.val := by
  rw [tn_eq]; pointwise [k0_pay1]
end

/-! ## The blocks read at a point, and the running sum -/

variable (m : (ℓ : Loc nD τ sig) → Buf (Elt Ideal) ℓ) (c : Dev nD)

abbrev A : FVec Ideal S8192x2048 .bf16 := m ((c : Thread nD τ).loc main_arg0)
abbrev B : FVec Ideal S8192x8192 .bf16 := m ((c : Thread nD τ).loc main_arg1)

theorem index : ∀ t : Fin cfg0.N, win0_0.index t 0 = t.val % 4 ∧ win0_0.index t 1 = t.val / 4 / 8
    ∧ win0_1.index t 0 = t.val % 4 ∧ win0_1.index t 1 = t.val / 4 % 8 :=
  (by decide +kernel : ∀ t : Fin grid0.N, _)

theorem block0 (t : Fin cfg0.N) (k : Fin 2048) (p : Fin 1024) :
    iblk m c 0 t (ix2 k p) = ent (A m c) (2048 * (t.val % 4) + k.val) (1024 * (t.val / 4 / 8) + p.val) := by
  unfold iblk; rw [View.read_apply]
  refine ent_of (A m c) _ ?_ ?_
  · show win0_0.index t 0 * 2048 + 1 * k.val = _; rw [(index t).1]; omega
  · show win0_0.index t 1 * 1024 + 1 * p.val = _; rw [(index t).2.1]; omega

theorem block1 (t : Fin cfg0.N) (k : Fin 2048) (p : Fin 1024) :
    iblk m c 1 t (ix2 k p) = ent (B m c) (2048 * (t.val % 4) + k.val) (1024 * (t.val / 4 % 8) + p.val) := by
  unfold iblk; rw [View.read_apply]
  refine ent_of (B m c) _ ?_ ?_
  · show win0_1.index t 0 * 2048 + 1 * k.val = _; rw [(index t).2.2.1]; omega
  · show win0_1.index t 1 * 1024 + 1 * p.val = _; rw [(index t).2.2.2]; omega

theorem part (t : Fin cfg0.N) (p r : Fin 1024) : (k0_pay1 (F := Ideal) (iblk m c 0 t) (iblk m c 1 t) (ix2 p r) : EReal)
    = ∑ k ∈ range 2048, tnB (A m c) (B m c) 8 p.val r.val (t.val / 4) (2048 * (t.val % 4) + k) :=
  (part_at _ _ p r).trans (tn_part (A m c) (B m c) 8 _ _ (block0 m c t) (block1 m c t) p r)

theorem total (p r : Fin 1024) : ∀ (n : ℕ) (h : n < cfg0.N), ((outsAt0 m c n h).2 (ix2 p r) : EReal)
    = ∑ k ∈ range (2048 * (n % 4 + 1)), tnB (A m c) (B m c) 8 p.val r.val (n / 4) k := by
  refine run_total (by decide) (fun n h => ((outsAt0 m c n h).2 (ix2 p r) : EReal)) _ (fun n h e => ?_) (fun n h e => ?_)
  · have := outsAt0_A m c ⟨n, h⟩ e (by dsimp only; omega) (by dsimp only; omega)
    dsimp only at this ⊢
    rw [this, first]
    exact part m c ⟨n, h⟩ p r
  · by_cases e3 : (n + 1) % 4 = 3
    · have := outsAt0_C m c ⟨n + 1, h⟩ e (by dsimp only; omega) e3
      dsimp only at this ⊢
      rw [this, last]
      exact congrArg (_ + ·) (part m c ⟨n + 1, h⟩ p r)
    · have := outsAt0_B m c ⟨n + 1, h⟩ e (by dsimp only; omega) e3
      dsimp only at this ⊢
      rw [this, next]
      exact congrArg (_ + ·) (part m c ⟨n + 1, h⟩ p r)

theorem final (n : ℕ) (h : n < cfg0.N) (e : n % 4 = 3) : (outsAt0 m c n h).1 = k0_pay4 (F := Ideal) (outsAt0 m c n h).2 := by
  have := outsAt0_C m c ⟨n, h⟩ (by dsimp only; omega) (by dsimp only; omega) e
  dsimp only at this
  rw [this, last, result]

theorem value (i : Fin 2048) (j : Fin 8192) : (Value.G2 m c (ix2 i j) : EReal) = tn (A m c) (B m c) 8192 i.val j.val := by
  have hi := i.isLt
  have hj := j.isLt
  have hp : Value.pt2Of (ix2 i j) = 4 * (8 * (i.val / 1024) + j.val / 1024) + 3 := by
    show 4 * (8 * (i.val / 1024 - 0) + 1 * (j.val / 1024 - 0)) + 3 = _; omega
  have hN : Value.pt2Of (ix2 i j) < cfg0.N := by rw [hp, show cfg0.N = 64 from N_0]; omega
  have hl : Value.loc2Of (ix2 i j) = ix2 ⟨i.val % 1024, Nat.mod_lt _ (by decide)⟩ ⟨j.val % 1024, Nat.mod_lt _ (by decide)⟩ := by
    funext a; match a with | ⟨0, _⟩ => rfl | ⟨1, _⟩ => rfl
  unfold Value.G2
  rw [dif_pos hN, ← Value.outsAt0_sweep m c _ hN, final m c _ hN (by rw [hp]; omega), hl]
  refine (total m c _ _ _ hN).trans ?_
  rw [show 2048 * (Value.pt2Of (ix2 i j) % 4 + 1) = 8192 by rw [hp]; omega,
    show Value.pt2Of (ix2 i j) / 4 = 8 * (i.val / 1024) + j.val / 1024 by rw [hp]; omega]
  exact tn_sum (A m c) (B m c) (by omega) 8192

end Cert.Kernel5Ideal.Product

namespace Cert.Reference5Ideal.Product

open Cert.Reference5Ideal Cert.Reference5Ideal.Gen Cert.Products
open Idealize.ShloMosaic Idealize.ShloMosaic.TcCoe Idealize.SL.Sem Idealize.ShloMosaic.StableHlo

theorem at_entry (X : FVec Ideal S8192x2048 .f32) (Y : FVec Ideal S8192x8192 .f32) (i : Fin 2048) (j : Fin 8192) :
    ((truncf .bf16 (transpose S2048x8192 [1, 0] (Host.dotGeneral (φ₁ := .f32) (φ₂ := .f32) dot_S8192x8192_S8192x2048_S8192x2048_0_0_1_1_n_n none Y X)
      transposes_S8192x2048_S2048x8192_1_0) bitsLt_bf16_f32) (ix2 i j) : EReal)
      = tn X Y 8192 i.val j.val := by
  rw [tn_eq]; clean_types; pointwise
  exact Finset.sum_congr rfl fun k _ => mul_comm _ _

end Cert.Reference5Ideal.Product

namespace Cert.Proof

open Idealize.ShloMosaic Idealize.ShloMosaic.TcCoe Idealize.SL.Sem Idealize.ShloMosaic.StableHlo

theorem algebraic5 : Cert.algebraic_Kernel5Ideal_Reference5Ideal
    (hKernel5Ideal := Cert.Kernel5Ideal.Gen.facts) (hReference5Ideal := Cert.Reference5Ideal.Gen.facts) := by
  intro m g m' g' hm ha
  refine ⟨Cert.Kernel5Ideal.Value.G2 m, Cert.Kernel5Ideal.Value.run m g, ?_⟩
  refine (θ_run Cert.Reference5Ideal.defs _ _).mono (fun r h c => ⟨(h c).1.trans ?_, (h c).2⟩) (Cert.Reference5Ideal.Value.run m' g')
  rw [(ha c).1, (ha c).2]
  funext i
  rw [eq_ix2 i]
  exact (Cert.Reference5Ideal.Product.at_entry _ _ (i 0) (i 1)).trans (Cert.Kernel5Ideal.Product.value m c (i 0) (i 1)).symm

theorem frame5 : Cert.quiescent_Reference5Ideal (hReference5Ideal := Cert.Reference5Ideal.Gen.facts) := fun m g _ =>
  (θ_run Cert.Reference5Ideal.defs _ _).mono
    (fun r h => ⟨fun c => (h c).2, sem_eq_zero_of_no_sems (by decide) _⟩) (Cert.Reference5Ideal.Value.run m g)

end Cert.Proof
-- ==== Proof.InDx.lean ====
/-
  The gradient of the input projection's argument: a block of the result is summed over five pieces of the projection's columns.
-/
module

public import proofs.«01_k».proof.Proof.Ff1Dw
public import proofs.«01_k».proof.Proof.Gen.Kernel6Ideal.Value
public import proofs.«01_k».proof.Proof.Gen.Reference6Ideal.Run

@[expose] public section

noncomputable section

namespace Cert.Kernel6Ideal.Product

open Cert.Kernel6Ideal Cert.Kernel6Ideal.Gen Cert.Products
open Idealize.ShloMosaic Idealize.ShloMosaic.TcCoe Idealize.SL.Sem Idealize.ShloMosaic.StableHlo
open Finset (range)

/-! ## What each point leaves in the running sum and in the result's buffer -/

section
variable (c : Dev nD) (i : grid0.Coords) (a3 : Memref sig .tc .vmem S1024x3072 .bf16) (h3 : a3.IsWhole)
  (a4 : Memref sig .tc .vmem S1024x3072 .bf16) (h4 : a4.IsWhole) (a5 : Memref sig .tc .vmem S1024x1024 .f32) (h5 : a5.IsWhole)
  (a6 : Memref sig .tc .vmem S1024x1024 .f32) (h6 : a6.IsWhole) (x : Vec Ideal S1024x3072 .bf16) (y : Vec Ideal S1024x3072 .bf16)
  (s : Vec Ideal S1024x1024 .f32)

theorem first (k0 : cond0_0 i) (k1 : ¬cond0_1 i) (k2 : ¬cond0_2 i) :
    sout0_A_0 c i a3 h3 a4 h4 a5 h5 a6 h6 k0 k1 k2 x y = k0_pay1 (F := Ideal) x y := by
  unfold sout0_A_0
  rw [View.read_writes_eq_canon _ _ _ (scover0_A_0 c i a3 h3 a4 h4 a5 h5 a6 h6 k0 k1 k2 x y)]
  unfold kernelRun0_A; dsimp only
  rw [View.canon_unit_zero origin]
  unfold k0_pay2
  simp only [View.readAt_eq_ld, h3.read_unread, h4.read_unread, View.ld_unit_zero (S := S1024x3072) origin, shapeCast_self]

theorem next (k0 : ¬cond0_0 i) (k1 : cond0_1 i) (k2 : ¬cond0_2 i) :
    sout0_B_0 c i a3 h3 a4 h4 a5 h5 a6 h6 k0 k1 k2 x y s = addf s (k0_pay1 (F := Ideal) x y) := by
  unfold sout0_B_0
  rw [View.read_writes_eq_canon _ _ _ (scover0_B_0 c i a3 h3 a4 h4 a5 h5 a6 h6 k0 k1 k2 x y s)]
  unfold kernelRun0_B; dsimp only
  rw [View.canon_unit_zero origin]
  unfold k0_pay3
  simp only [View.readAt_eq_ld, h3.read_unread, h4.read_unread, h6.read_unread, View.ld_unit_zero (S := S1024x3072) origin,
    View.ld_unit_zero (S := S1024x1024) origin, shapeCast_self]

theorem last (k0 : ¬cond0_0 i) (k1 : cond0_1 i) (k2 : cond0_2 i) :
    sout0_C_0 c i a3 h3 a4 h4 a5 h5 a6 h6 k0 k1 k2 x y s = addf s (k0_pay1 (F := Ideal) x y) := by
  unfold sout0_C_0
  rw [View.read_writes_eq_canon _ _ _ (scover0_C_0 c i a3 h3 a4 h4 a5 h5 a6 h6 k0 k1 k2 x y s)]
  unfold kernelRun0_C; dsimp only
  sl_unfold_words
  rw [View.canon_unit_zero origin]
  unfold k0_pay3
  simp only [View.readAt_eq_ld, h3.read_unread, h4.read_unread, h6.read_unread, View.ld_unit_zero (S := S1024x3072) origin,
    View.ld_unit_zero (S := S1024x1024) origin, shapeCast_self]

theorem result (k0 : ¬cond0_0 i) (k1 : cond0_1 i) (k2 : cond0_2 i) :
    out0_C_2 c i a3 h3 a4 h4 a5 h5 a6 h6 k0 k1 k2 x y s = (addf s (k0_pay1 (F := Ideal) x y)) := by
  unfold out0_C_2
  rw [View.read_writes_eq_canon _ _ _ (cover0_C_2 c i a3 h3 a4 h4 a5 h5 a6 h6 k0 k1 k2 x y s)]
  unfold kernelRun0_C; dsimp only
  sl_unfold_words
  rw [View.canon_unit_zero origin, View.readCov_unit_zero _ origin]
  unfold k0_pay3
  simp only [View.readAt_eq_ld, h3.read_unread, h4.read_unread, h6.read_unread, View.ld_unit_zero (S := S1024x3072) origin,
    View.ld_unit_zero (S := S1024x1024) origin, shapeCast_self]

theorem part_at (p r : Fin 1024) : (k0_pay1 (F := Ideal) x y (ix2 p r) : EReal) = nt x y 3072 p.val r.val := by
  rw [nt_eq]; pointwise [k0_pay1]
end

/-! ## The blocks read at a point, and the running sum -/

variable (m : (ℓ : Loc nD τ sig) → Buf (Elt Ideal) ℓ) (c : Dev nD)

abbrev A : FVec Ideal S8192x15360 .bf16 := m ((c : Thread nD τ).loc main_arg0)
abbrev B : FVec Ideal S2048x15360 .bf16 := m ((c : Thread nD τ).loc main_arg1)

theorem index : ∀ t : Fin cfg0.N, win0_0.index t 0 = t.val / 5 / 2 ∧ win0_0.index t 1 = t.val % 5
    ∧ win0_1.index t 0 = t.val / 5 % 2 ∧ win0_1.index t 1 = t.val % 5 :=
  (by decide +kernel : ∀ t : Fin grid0.N, _)

theorem block0 (t : Fin cfg0.N) (p : Fin 1024) (k : Fin 3072) :
    iblk m c 0 t (ix2 p k) = ent (A m c) (1024 * (t.val / 5 / 2) + p.val) (3072 * (t.val % 5) + k.val) := by
  unfold iblk; rw [View.read_apply]
  refine ent_of (A m c) _ ?_ ?_
  · show win0_0.index t 0 * 1024 + 1 * p.val = _; rw [(index t).1]; omega
  · show win0_0.index t 1 * 3072 + 1 * k.val = _; rw [(index t).2.1]; omega

theorem block1 (t : Fin cfg0.N) (p : Fin 1024) (k : Fin 3072) :
    iblk m c 1 t (ix2 p k) = ent (B m c) (1024 * (t.val / 5 % 2) + p.val) (3072 * (t.val % 5) + k.val) := by
  unfold iblk; rw [View.read_apply]
  refine ent_of (B m c) _ ?_ ?_
  · show win0_1.index t 0 * 1024 + 1 * p.val = _; rw [(index t).2.2.1]; omega
  · show win0_1.index t 1 * 3072 + 1 * k.val = _; rw [(index t).2.2.2]; omega

theorem part (t : Fin cfg0.N) (p r : Fin 1024) : (k0_pay1 (F := Ideal) (iblk m c 0 t) (iblk m c 1 t) (ix2 p r) : EReal)
    = ∑ k ∈ range 3072, ntB (A m c) (B m c) 2 p.val r.val (t.val / 5) (3072 * (t.val % 5) + k) :=
  (part_at _ _ p r).trans (nt_part (A m c) (B m c) 2 _ _ (block0 m c t) (block1 m c t) p r)

theorem total (p r : Fin 1024) : ∀ (n : ℕ) (h : n < cfg0.N), ((outsAt0 m c n h).2 (ix2 p r) : EReal)
    = ∑ k ∈ range (3072 * (n % 5 + 1)), ntB (A m c) (B m c) 2 p.val r.val (n / 5) k := by
  refine run_total (by decide) (fun n h => ((outsAt0 m c n h).2 (ix2 p r) : EReal)) _ (fun n h e => ?_) (fun n h e => ?_)
  · have := outsAt0_A m c ⟨n, h⟩ e (by dsimp only; omega) (by dsimp only; omega)
    dsimp only at this ⊢
    rw [this, first]
    exact part m c ⟨n, h⟩ p r
  · by_cases e3 : (n + 1) % 5 = 4
    · have := outsAt0_C m c ⟨n + 1, h⟩ e (by dsimp only; omega) e3
      dsimp only at this ⊢
      rw [this, last]
      exact congrArg (_ + ·) (part m c ⟨n + 1, h⟩ p r)
    · have := outsAt0_B m c ⟨n + 1, h⟩ e (by dsimp only; omega) e3
      dsimp only at this ⊢
      rw [this, next]
      exact congrArg (_ + ·) (part m c ⟨n + 1, h⟩ p r)

theorem final (n : ℕ) (h : n < cfg0.N) (e : n % 5 = 4) : (outsAt0 m c n h).1 = (outsAt0 m c n h).2 := by
  have := outsAt0_C m c ⟨n, h⟩ (by dsimp only; omega) (by dsimp only; omega) e
  dsimp only at this
  rw [this, last, result]

theorem value (i : Fin 8192) (j : Fin 2048) : (Value.G2 m c (ix2 i j) : EReal) = nt (A m c) (B m c) 15360 i.val j.val := by
  have hi := i.isLt
  have hj := j.isLt
  have hp : Value.pt2Of (ix2 i j) = 5 * (2 * (i.val / 1024) + j.val / 1024) + 4 := by
    show 5 * (2 * (i.val / 1024 - 0) + 1 * (j.val / 1024 - 0)) + 4 = _; omega
  have hN : Value.pt2Of (ix2 i j) < cfg0.N := by rw [hp, show cfg0.N = 80 from N_0]; omega
  have hl : Value.loc2Of (ix2 i j) = ix2 ⟨i.val % 1024, Nat.mod_lt _ (by decide)⟩ ⟨j.val % 1024, Nat.mod_lt _ (by decide)⟩ := by
    funext a; match a with | ⟨0, _⟩ => rfl | ⟨1, _⟩ => rfl
  unfold Value.G2
  rw [dif_pos hN, ← Value.outsAt0_sweep m c _ hN, final m c _ hN (by rw [hp]; omega), hl]
  refine (total m c _ _ _ hN).trans ?_
  rw [show 3072 * (Value.pt2Of (ix2 i j) % 5 + 1) = 15360 by rw [hp]; omega,
    show Value.pt2Of (ix2 i j) / 5 = 2 * (i.val / 1024) + j.val / 1024 by rw [hp]; omega]
  exact nt_sum (A m c) (B m c) (by omega) 15360

end Cert.Kernel6Ideal.Product

namespace Cert.Reference6Ideal.Product

open Cert.Reference6Ideal Cert.Reference6Ideal.Gen Cert.Products
open Idealize.ShloMosaic Idealize.ShloMosaic.TcCoe Idealize.SL.Sem Idealize.ShloMosaic.StableHlo

theorem at_entry (X : FVec Ideal S8192x15360 .f32) (Y : FVec Ideal S2048x15360 .f32) (i : Fin 8192) (j : Fin 2048) :
    ((Host.dotGeneral (φ₁ := .f32) (φ₂ := .f32) dot_S8192x15360_S2048x15360_S8192x2048_1_1_0_0_n_n none X Y) (ix2 i j) : EReal)
      = nt X Y 15360 i.val j.val := by
  rw [nt_eq]; clean_types; pointwise

end Cert.Reference6Ideal.Product

namespace Cert.Proof

open Idealize.ShloMosaic Idealize.ShloMosaic.TcCoe Idealize.SL.Sem Idealize.ShloMosaic.StableHlo

theorem algebraic6 : Cert.algebraic_Kernel6Ideal_Reference6Ideal
    (hKernel6Ideal := Cert.Kernel6Ideal.Gen.facts) (hReference6Ideal := Cert.Reference6Ideal.Gen.facts) := by
  intro m g m' g' hm ha
  refine ⟨Cert.Kernel6Ideal.Value.G2 m, Cert.Kernel6Ideal.Value.run m g, ?_⟩
  refine (θ_run Cert.Reference6Ideal.defs _ _).mono (fun r h c => ⟨(h c).1.trans ?_, (h c).2⟩) (Cert.Reference6Ideal.Value.run m' g')
  rw [(ha c).1, (ha c).2]
  funext i
  rw [eq_ix2 i]
  exact (Cert.Reference6Ideal.Product.at_entry _ _ (i 0) (i 1)).trans (Cert.Kernel6Ideal.Product.value m c (i 0) (i 1)).symm

theorem frame6 : Cert.quiescent_Reference6Ideal (hReference6Ideal := Cert.Reference6Ideal.Gen.facts) := fun m g _ =>
  (θ_run Cert.Reference6Ideal.defs _ _).mono
    (fun r h => ⟨fun c => (h c).2, sem_eq_zero_of_no_sems (by decide) _⟩) (Cert.Reference6Ideal.Value.run m g)

end Cert.Proof
-- ==== Proof.InDw.lean ====
/-
  The gradient of the input projection's weight: a block of the result is summed over four pieces of the rows.
-/
module

public import proofs.«01_k».proof.Proof.InDx
public import proofs.«01_k».proof.Proof.Gen.Kernel7Ideal.Value
public import proofs.«01_k».proof.Proof.Gen.Reference7Ideal.Run

@[expose] public section

noncomputable section

namespace Cert.Kernel7Ideal.Product

open Cert.Kernel7Ideal Cert.Kernel7Ideal.Gen Cert.Products
open Idealize.ShloMosaic Idealize.ShloMosaic.TcCoe Idealize.SL.Sem Idealize.ShloMosaic.StableHlo
open Finset (range)

/-! ## What each point leaves in the running sum and in the result's buffer -/

section
variable (c : Dev nD) (i : grid0.Coords) (a3 : Memref sig .tc .vmem S2048x1024 .bf16) (h3 : a3.IsWhole)
  (a4 : Memref sig .tc .vmem S2048x1024 .bf16) (h4 : a4.IsWhole) (a5 : Memref sig .tc .vmem S1024x1024 .bf16) (h5 : a5.IsWhole)
  (a6 : Memref sig .tc .vmem S1024x1024 .f32) (h6 : a6.IsWhole) (x : Vec Ideal S2048x1024 .bf16) (y : Vec Ideal S2048x1024 .bf16)
  (s : Vec Ideal S1024x1024 .f32)

theorem first (k0 : cond0_0 i) (k1 : ¬cond0_1 i) (k2 : ¬cond0_2 i) :
    sout0_A_0 c i a3 h3 a4 h4 a5 h5 a6 h6 k0 k1 k2 x y = k0_pay1 (F := Ideal) x y := by
  unfold sout0_A_0
  rw [View.read_writes_eq_canon _ _ _ (scover0_A_0 c i a3 h3 a4 h4 a5 h5 a6 h6 k0 k1 k2 x y)]
  unfold kernelRun0_A; dsimp only
  rw [View.canon_unit_zero origin]
  unfold k0_pay2
  simp only [View.readAt_eq_ld, h3.read_unread, h4.read_unread, View.ld_unit_zero (S := S2048x1024) origin, shapeCast_self]

theorem next (k0 : ¬cond0_0 i) (k1 : cond0_1 i) (k2 : ¬cond0_2 i) :
    sout0_B_0 c i a3 h3 a4 h4 a5 h5 a6 h6 k0 k1 k2 x y s = addf s (k0_pay1 (F := Ideal) x y) := by
  unfold sout0_B_0
  rw [View.read_writes_eq_canon _ _ _ (scover0_B_0 c i a3 h3 a4 h4 a5 h5 a6 h6 k0 k1 k2 x y s)]
  unfold kernelRun0_B; dsimp only
  rw [View.canon_unit_zero origin]
  unfold k0_pay3
  simp only [View.readAt_eq_ld, h3.read_unread, h4.read_unread, h6.read_unread, View.ld_unit_zero (S := S2048x1024) origin,
    View.ld_unit_zero (S := S1024x1024) origin, shapeCast_self]

theorem last (k0 : ¬cond0_0 i) (k1 : cond0_1 i) (k2 : cond0_2 i) :
    sout0_C_0 c i a3 h3 a4 h4 a5 h5 a6 h6 k0 k1 k2 x y s = addf s (k0_pay1 (F := Ideal) x y) := by
  unfold sout0_C_0
  rw [View.read_writes_eq_canon _ _ _ (scover0_C_0 c i a3 h3 a4 h4 a5 h5 a6 h6 k0 k1 k2 x y s)]
  unfold kernelRun0_C; dsimp only
  sl_unfold_words
  rw [View.canon_unit_zero origin]
  unfold k0_pay3
  simp only [View.readAt_eq_ld, h3.read_unread, h4.read_unread, h6.read_unread, View.ld_unit_zero (S := S2048x1024) origin,
    View.ld_unit_zero (S := S1024x1024) origin, shapeCast_self]

theorem result (k0 : ¬cond0_0 i) (k1 : cond0_1 i) (k2 : cond0_2 i) :
    out0_C_2 c i a3 h3 a4 h4 a5 h5 a6 h6 k0 k1 k2 x y s = k0_pay4 (F := Ideal) (addf s (k0_pay1 (F := Ideal) x y)) := by
  unfold out0_C_2
  rw [View.read_writes_eq_canon _ _ _ (cover0_C_2 c i a3 h3 a4 h4 a5 h5 a6 h6 k0 k1 k2 x y s)]
  unfold kernelRun0_C; dsimp only
  sl_unfold_words
  rw [View.canon_unit_zero origin, View.readCov_unit_zero _ origin]
  unfold k0_pay3
  simp only [View.readAt_eq_ld, h3.read_unread, h4.read_unread, h6.read_unread, View.ld_unit_zero (S := S2048x1024) origin,
    View.ld_unit_zero (S := S1024x1024) origin, shapeCast_self]

theorem part_at (p r : Fin 1024) : (k0_pay1 (F := Ideal) x y (ix2 p r) : EReal) = tn x y 2048 p.val r.val := by
  rw [tn_eq]; pointwise [k0_pay1]
end

/-! ## The blocks read at a point, and the running sum -/

variable (m : (ℓ : Loc nD τ sig) → Buf (Elt Ideal) ℓ) (c : Dev nD)

abbrev A : FVec Ideal S8192x2048 .bf16 := m ((c : Thread nD τ).loc main_arg0)
abbrev B : FVec Ideal S8192x15360 .bf16 := m ((c : Thread nD τ).loc main_arg1)

theorem index : ∀ t : Fin cfg0.N, win0_0.index t 0 = t.val % 4 ∧ win0_0.index t 1 = t.val / 4 / 15
    ∧ win0_1.index t 0 = t.val % 4 ∧ win0_1.index t 1 = t.val / 4 % 15 :=
  (by decide +kernel : ∀ t : Fin grid0.N, _)

theorem block0 (t : Fin cfg0.N) (k : Fin 2048) (p : Fin 1024) :
    iblk m c 0 t (ix2 k p) = ent (A m c) (2048 * (t.val % 4) + k.val) (1024 * (t.val / 4 / 15) + p.val) := by
  unfold iblk; rw [View.read_apply]
  refine ent_of (A m c) _ ?_ ?_
  · show win0_0.index t 0 * 2048 + 1 * k.val = _; rw [(index t).1]; omega
  · show win0_0.index t 1 * 1024 + 1 * p.val = _; rw [(index t).2.1]; omega

theorem block1 (t : Fin cfg0.N) (k : Fin 2048) (p : Fin 1024) :
    iblk m c 1 t (ix2 k p) = ent (B m c) (2048 * (t.val % 4) + k.val) (1024 * (t.val / 4 % 15) + p.val) := by
  unfold iblk; rw [View.read_apply]
  refine ent_of (B m c) _ ?_ ?_
  · show win0_1.index t 0 * 2048 + 1 * k.val = _; rw [(index t).2.2.1]; omega
  · show win0_1.index t 1 * 1024 + 1 * p.val = _; rw [(index t).2.2.2]; omega

theorem part (t : Fin cfg0.N) (p r : Fin 1024) : (k0_pay1 (F := Ideal) (iblk m c 0 t) (iblk m c 1 t) (ix2 p r) : EReal)
    = ∑ k ∈ range 2048, tnB (A m c) (B m c) 15 p.val r.val (t.val / 4) (2048 * (t.val % 4) + k) :=
  (part_at _ _ p r).trans (tn_part (A m c) (B m c) 15 _ _ (block0 m c t) (block1 m c t) p r)

theorem total (p r : Fin 1024) : ∀ (n : ℕ) (h : n < cfg0.N), ((outsAt0 m c n h).2 (ix2 p r) : EReal)
    = ∑ k ∈ range (2048 * (n % 4 + 1)), tnB (A m c) (B m c) 15 p.val r.val (n / 4) k := by
  refine run_total (by decide) (fun n h => ((outsAt0 m c n h).2 (ix2 p r) : EReal)) _ (fun n h e => ?_) (fun n h e => ?_)
  · have := outsAt0_A m c ⟨n, h⟩ e (by dsimp only; omega) (by dsimp only; omega)
    dsimp only at this ⊢
    rw [this, first]
    exact part m c ⟨n, h⟩ p r
  · by_cases e3 : (n + 1) % 4 = 3
    · have := outsAt0_C m c ⟨n + 1, h⟩ e (by dsimp only; omega) e3
      dsimp only at this ⊢
      rw [this, last]
      exact congrArg (_ + ·) (part m c ⟨n + 1, h⟩ p r)
    · have := outsAt0_B m c ⟨n + 1, h⟩ e (by dsimp only; omega) e3
      dsimp only at this ⊢
      rw [this, next]
      exact congrArg (_ + ·) (part m c ⟨n + 1, h⟩ p r)

theorem final (n : ℕ) (h : n < cfg0.N) (e : n % 4 = 3) : (outsAt0 m c n h).1 = k0_pay4 (F := Ideal) (outsAt0 m c n h).2 := by
  have := outsAt0_C m c ⟨n, h⟩ (by dsimp only; omega) (by dsimp only; omega) e
  dsimp only at this
  rw [this, last, result]

theorem value (i : Fin 2048) (j : Fin 15360) : (Value.G2 m c (ix2 i j) : EReal) = tn (A m c) (B m c) 8192 i.val j.val := by
  have hi := i.isLt
  have hj := j.isLt
  have hp : Value.pt2Of (ix2 i j) = 4 * (15 * (i.val / 1024) + j.val / 1024) + 3 := by
    show 4 * (15 * (i.val / 1024 - 0) + 1 * (j.val / 1024 - 0)) + 3 = _; omega
  have hN : Value.pt2Of (ix2 i j) < cfg0.N := by rw [hp, show cfg0.N = 120 from N_0]; omega
  have hl : Value.loc2Of (ix2 i j) = ix2 ⟨i.val % 1024, Nat.mod_lt _ (by decide)⟩ ⟨j.val % 1024, Nat.mod_lt _ (by decide)⟩ := by
    funext a; match a with | ⟨0, _⟩ => rfl | ⟨1, _⟩ => rfl
  unfold Value.G2
  rw [dif_pos hN, ← Value.outsAt0_sweep m c _ hN, final m c _ hN (by rw [hp]; omega), hl]
  refine (total m c _ _ _ hN).trans ?_
  rw [show 2048 * (Value.pt2Of (ix2 i j) % 4 + 1) = 8192 by rw [hp]; omega,
    show Value.pt2Of (ix2 i j) / 4 = 15 * (i.val / 1024) + j.val / 1024 by rw [hp]; omega]
  exact tn_sum (A m c) (B m c) (by omega) 8192

end Cert.Kernel7Ideal.Product

namespace Cert.Reference7Ideal.Product

open Cert.Reference7Ideal Cert.Reference7Ideal.Gen Cert.Products
open Idealize.ShloMosaic Idealize.ShloMosaic.TcCoe Idealize.SL.Sem Idealize.ShloMosaic.StableHlo

theorem at_entry (X : FVec Ideal S8192x2048 .f32) (Y : FVec Ideal S8192x15360 .f32) (i : Fin 2048) (j : Fin 15360) :
    ((truncf .bf16 (transpose S2048x15360 [1, 0] (Host.dotGeneral (φ₁ := .f32) (φ₂ := .f32) dot_S8192x15360_S8192x2048_S15360x2048_0_0_1_1_n_n none Y X)
      transposes_S15360x2048_S2048x15360_1_0) bitsLt_bf16_f32) (ix2 i j) : EReal)
      = tn X Y 8192 i.val j.val := by
  rw [tn_eq]; clean_types; pointwise
  exact Finset.sum_congr rfl fun k _ => mul_comm _ _

end Cert.Reference7Ideal.Product

namespace Cert.Proof

open Idealize.ShloMosaic Idealize.ShloMosaic.TcCoe Idealize.SL.Sem Idealize.ShloMosaic.StableHlo

theorem algebraic7 : Cert.algebraic_Kernel7Ideal_Reference7Ideal
    (hKernel7Ideal := Cert.Kernel7Ideal.Gen.facts) (hReference7Ideal := Cert.Reference7Ideal.Gen.facts) := by
  intro m g m' g' hm ha
  refine ⟨Cert.Kernel7Ideal.Value.G2 m, Cert.Kernel7Ideal.Value.run m g, ?_⟩
  refine (θ_run Cert.Reference7Ideal.defs _ _).mono (fun r h c => ⟨(h c).1.trans ?_, (h c).2⟩) (Cert.Reference7Ideal.Value.run m' g')
  rw [(ha c).1, (ha c).2]
  funext i
  rw [eq_ix2 i]
  exact (Cert.Reference7Ideal.Product.at_entry _ _ (i 0) (i 1)).trans (Cert.Kernel7Ideal.Product.value m c (i 0) (i 1)).symm

theorem frame7 : Cert.quiescent_Reference7Ideal (hReference7Ideal := Cert.Reference7Ideal.Gen.facts) := fun m g _ =>
  (θ_run Cert.Reference7Ideal.defs _ _).mono
    (fun r h => ⟨fun c => (h c).2, sem_eq_zero_of_no_sems (by decide) _⟩) (Cert.Reference7Ideal.Value.run m g)

end Cert.Proof
-- ==== Proof.OutDw.lean ====
/-
  The gradient of the output projection's weight: a block of the result is summed over four pieces of the rows.
-/
module

public import proofs.«01_k».proof.Proof.InDw
public import proofs.«01_k».proof.Proof.Gen.Kernel9Ideal.Value
public import proofs.«01_k».proof.Proof.Gen.Reference9Ideal.Run

@[expose] public section

noncomputable section

namespace Cert.Kernel9Ideal.Product

open Cert.Kernel9Ideal Cert.Kernel9Ideal.Gen Cert.Products
open Idealize.ShloMosaic Idealize.ShloMosaic.TcCoe Idealize.SL.Sem Idealize.ShloMosaic.StableHlo
open Finset (range)

/-! ## What each point leaves in the running sum and in the result's buffer -/

section
variable (c : Dev nD) (i : grid0.Coords) (a3 : Memref sig .tc .vmem S2048x1024 .bf16) (h3 : a3.IsWhole)
  (a4 : Memref sig .tc .vmem S2048x1024 .bf16) (h4 : a4.IsWhole) (a5 : Memref sig .tc .vmem S1024x1024 .bf16) (h5 : a5.IsWhole)
  (a6 : Memref sig .tc .vmem S1024x1024 .f32) (h6 : a6.IsWhole) (x : Vec Ideal S2048x1024 .bf16) (y : Vec Ideal S2048x1024 .bf16)
  (s : Vec Ideal S1024x1024 .f32)

theorem first (k0 : cond0_0 i) (k1 : ¬cond0_1 i) (k2 : ¬cond0_2 i) :
    sout0_A_0 c i a3 h3 a4 h4 a5 h5 a6 h6 k0 k1 k2 x y = k0_pay1 (F := Ideal) x y := by
  unfold sout0_A_0
  rw [View.read_writes_eq_canon _ _ _ (scover0_A_0 c i a3 h3 a4 h4 a5 h5 a6 h6 k0 k1 k2 x y)]
  unfold kernelRun0_A; dsimp only
  rw [View.canon_unit_zero origin]
  unfold k0_pay2
  simp only [View.readAt_eq_ld, h3.read_unread, h4.read_unread, View.ld_unit_zero (S := S2048x1024) origin, shapeCast_self]

theorem next (k0 : ¬cond0_0 i) (k1 : cond0_1 i) (k2 : ¬cond0_2 i) :
    sout0_B_0 c i a3 h3 a4 h4 a5 h5 a6 h6 k0 k1 k2 x y s = addf s (k0_pay1 (F := Ideal) x y) := by
  unfold sout0_B_0
  rw [View.read_writes_eq_canon _ _ _ (scover0_B_0 c i a3 h3 a4 h4 a5 h5 a6 h6 k0 k1 k2 x y s)]
  unfold kernelRun0_B; dsimp only
  rw [View.canon_unit_zero origin]
  unfold k0_pay3
  simp only [View.readAt_eq_ld, h3.read_unread, h4.read_unread, h6.read_unread, View.ld_unit_zero (S := S2048x1024) origin,
    View.ld_unit_zero (S := S1024x1024) origin, shapeCast_self]

theorem last (k0 : ¬cond0_0 i) (k1 : cond0_1 i) (k2 : cond0_2 i) :
    sout0_C_0 c i a3 h3 a4 h4 a5 h5 a6 h6 k0 k1 k2 x y s = addf s (k0_pay1 (F := Ideal) x y) := by
  unfold sout0_C_0
  rw [View.read_writes_eq_canon _ _ _ (scover0_C_0 c i a3 h3 a4 h4 a5 h5 a6 h6 k0 k1 k2 x y s)]
  unfold kernelRun0_C; dsimp only
  sl_unfold_words
  rw [View.canon_unit_zero origin]
  unfold k0_pay3
  simp only [View.readAt_eq_ld, h3.read_unread, h4.read_unread, h6.read_unread, View.ld_unit_zero (S := S2048x1024) origin,
    View.ld_unit_zero (S := S1024x1024) origin, shapeCast_self]

theorem result (k0 : ¬cond0_0 i) (k1 : cond0_1 i) (k2 : cond0_2 i) :
    out0_C_2 c i a3 h3 a4 h4 a5 h5 a6 h6 k0 k1 k2 x y s = k0_pay4 (F := Ideal) (addf s (k0_pay1 (F := Ideal) x y)) := by
  unfold out0_C_2
  rw [View.read_writes_eq_canon _ _ _ (cover0_C_2 c i a3 h3 a4 h4 a5 h5 a6 h6 k0 k1 k2 x y s)]
  unfold kernelRun0_C; dsimp only
  sl_unfold_words
  rw [View.canon_unit_zero origin, View.readCov_unit_zero _ origin]
  unfold k0_pay3
  simp only [View.readAt_eq_ld, h3.read_unread, h4.read_unread, h6.read_unread, View.ld_unit_zero (S := S2048x1024) origin,
    View.ld_unit_zero (S := S1024x1024) origin, shapeCast_self]

theorem part_at (p r : Fin 1024) : (k0_pay1 (F := Ideal) x y (ix2 p r) : EReal) = tn x y 2048 p.val r.val := by
  rw [tn_eq]; pointwise [k0_pay1]
end

/-! ## The blocks read at a point, and the running sum -/

variable (m : (ℓ : Loc nD τ sig) → Buf (Elt Ideal) ℓ) (c : Dev nD)

abbrev A : FVec Ideal S8192x2048 .bf16 := m ((c : Thread nD τ).loc main_arg0)
abbrev B : FVec Ideal S8192x2048 .bf16 := m ((c : Thread nD τ).loc main_arg1)

theorem index : ∀ t : Fin cfg0.N, win0_0.index t 0 = t.val % 4 ∧ win0_0.index t 1 = t.val / 4 / 2
    ∧ win0_1.index t 0 = t.val % 4 ∧ win0_1.index t 1 = t.val / 4 % 2 :=
  (by decide +kernel : ∀ t : Fin grid0.N, _)

theorem block0 (t : Fin cfg0.N) (k : Fin 2048) (p : Fin 1024) :
    iblk m c 0 t (ix2 k p) = ent (A m c) (2048 * (t.val % 4) + k.val) (1024 * (t.val / 4 / 2) + p.val) := by
  unfold iblk; rw [View.read_apply]
  refine ent_of (A m c) _ ?_ ?_
  · show win0_0.index t 0 * 2048 + 1 * k.val = _; rw [(index t).1]; omega
  · show win0_0.index t 1 * 1024 + 1 * p.val = _; rw [(index t).2.1]; omega

theorem block1 (t : Fin cfg0.N) (k : Fin 2048) (p : Fin 1024) :
    iblk m c 1 t (ix2 k p) = ent (B m c) (2048 * (t.val % 4) + k.val) (1024 * (t.val / 4 % 2) + p.val) := by
  unfold iblk; rw [View.read_apply]
  refine ent_of (B m c) _ ?_ ?_
  · show win0_1.index t 0 * 2048 + 1 * k.val = _; rw [(index t).2.2.1]; omega
  · show win0_1.index t 1 * 1024 + 1 * p.val = _; rw [(index t).2.2.2]; omega

theorem part (t : Fin cfg0.N) (p r : Fin 1024) : (k0_pay1 (F := Ideal) (iblk m c 0 t) (iblk m c 1 t) (ix2 p r) : EReal)
    = ∑ k ∈ range 2048, tnB (A m c) (B m c) 2 p.val r.val (t.val / 4) (2048 * (t.val % 4) + k) :=
  (part_at _ _ p r).trans (tn_part (A m c) (B m c) 2 _ _ (block0 m c t) (block1 m c t) p r)

theorem total (p r : Fin 1024) : ∀ (n : ℕ) (h : n < cfg0.N), ((outsAt0 m c n h).2 (ix2 p r) : EReal)
    = ∑ k ∈ range (2048 * (n % 4 + 1)), tnB (A m c) (B m c) 2 p.val r.val (n / 4) k := by
  refine run_total (by decide) (fun n h => ((outsAt0 m c n h).2 (ix2 p r) : EReal)) _ (fun n h e => ?_) (fun n h e => ?_)
  · have := outsAt0_A m c ⟨n, h⟩ e (by dsimp only; omega) (by dsimp only; omega)
    dsimp only at this ⊢
    rw [this, first]
    exact part m c ⟨n, h⟩ p r
  · by_cases e3 : (n + 1) % 4 = 3
    · have := outsAt0_C m c ⟨n + 1, h⟩ e (by dsimp only; omega) e3
      dsimp only at this ⊢
      rw [this, last]
      exact congrArg (_ + ·) (part m c ⟨n + 1, h⟩ p r)
    · have := outsAt0_B m c ⟨n + 1, h⟩ e (by dsimp only; omega) e3
      dsimp only at this ⊢
      rw [this, next]
      exact congrArg (_ + ·) (part m c ⟨n + 1, h⟩ p r)

theorem final (n : ℕ) (h : n < cfg0.N) (e : n % 4 = 3) : (outsAt0 m c n h).1 = k0_pay4 (F := Ideal) (outsAt0 m c n h).2 := by
  have := outsAt0_C m c ⟨n, h⟩ (by dsimp only; omega) (by dsimp only; omega) e
  dsimp only at this
  rw [this, last, result]

theorem value (i : Fin 2048) (j : Fin 2048) : (Value.G2 m c (ix2 i j) : EReal) = tn (A m c) (B m c) 8192 i.val j.val := by
  have hi := i.isLt
  have hj := j.isLt
  have hp : Value.pt2Of (ix2 i j) = 4 * (2 * (i.val / 1024) + j.val / 1024) + 3 := by
    show 4 * (2 * (i.val / 1024 - 0) + 1 * (j.val / 1024 - 0)) + 3 = _; omega
  have hN : Value.pt2Of (ix2 i j) < cfg0.N := by rw [hp, show cfg0.N = 16 from N_0]; omega
  have hl : Value.loc2Of (ix2 i j) = ix2 ⟨i.val % 1024, Nat.mod_lt _ (by decide)⟩ ⟨j.val % 1024, Nat.mod_lt _ (by decide)⟩ := by
    funext a; match a with | ⟨0, _⟩ => rfl | ⟨1, _⟩ => rfl
  unfold Value.G2
  rw [dif_pos hN, ← Value.outsAt0_sweep m c _ hN, final m c _ hN (by rw [hp]; omega), hl]
  refine (total m c _ _ _ hN).trans ?_
  rw [show 2048 * (Value.pt2Of (ix2 i j) % 4 + 1) = 8192 by rw [hp]; omega,
    show Value.pt2Of (ix2 i j) / 4 = 2 * (i.val / 1024) + j.val / 1024 by rw [hp]; omega]
  exact tn_sum (A m c) (B m c) (by omega) 8192

end Cert.Kernel9Ideal.Product

namespace Cert.Reference9Ideal.Product

open Cert.Reference9Ideal Cert.Reference9Ideal.Gen Cert.Products
open Idealize.ShloMosaic Idealize.ShloMosaic.TcCoe Idealize.SL.Sem Idealize.ShloMosaic.StableHlo

theorem at_entry (X : FVec Ideal S8192x2048 .f32) (Y : FVec Ideal S8192x2048 .f32) (i : Fin 2048) (j : Fin 2048) :
    ((truncf .bf16 (transpose S2048x2048 [1, 0] (Host.dotGeneral (φ₁ := .f32) (φ₂ := .f32) dot_S8192x2048_S8192x2048_S2048x2048_0_0_1_1_n_n none Y X)
      transposes_S2048x2048_S2048x2048_1_0) bitsLt_bf16_f32) (ix2 i j) : EReal)
      = tn X Y 8192 i.val j.val := by
  rw [tn_eq]; clean_types; pointwise
  exact Finset.sum_congr rfl fun k _ => mul_comm _ _

end Cert.Reference9Ideal.Product

namespace Cert.Proof

open Idealize.ShloMosaic Idealize.ShloMosaic.TcCoe Idealize.SL.Sem Idealize.ShloMosaic.StableHlo

theorem algebraic9 : Cert.algebraic_Kernel9Ideal_Reference9Ideal
    (hKernel9Ideal := Cert.Kernel9Ideal.Gen.facts) (hReference9Ideal := Cert.Reference9Ideal.Gen.facts) := by
  intro m g m' g' hm ha
  refine ⟨Cert.Kernel9Ideal.Value.G2 m, Cert.Kernel9Ideal.Value.run m g, ?_⟩
  refine (θ_run Cert.Reference9Ideal.defs _ _).mono (fun r h c => ⟨(h c).1.trans ?_, (h c).2⟩) (Cert.Reference9Ideal.Value.run m' g')
  rw [(ha c).1, (ha c).2]
  funext i
  rw [eq_ix2 i]
  exact (Cert.Reference9Ideal.Product.at_entry _ _ (i 0) (i 1)).trans (Cert.Kernel9Ideal.Product.value m c (i 0) (i 1)).symm

theorem frame9 : Cert.quiescent_Reference9Ideal (hReference9Ideal := Cert.Reference9Ideal.Gen.facts) := fun m g _ =>
  (θ_run Cert.Reference9Ideal.defs _ _).mono
    (fun r h => ⟨fun c => (h c).2, sem_eq_zero_of_no_sems (by decide) _⟩) (Cert.Reference9Ideal.Value.run m g)

end Cert.Proof
-- ==== Proof.OutProj.lean ====
/-
  The output projection added to its residual: each block of the result is one product of two blocks, and a block added.
-/
module

public import proofs.«01_k».proof.Proof.OutDw
public import proofs.«01_k».proof.Proof.Gen.Kernel13Ideal.Value
public import proofs.«01_k».proof.Proof.Gen.Reference13Ideal.Run

@[expose] public section

noncomputable section

namespace Cert.Kernel13Ideal.Product

open Cert.Kernel13Ideal Cert.Kernel13Ideal.Gen Cert.Products
open Idealize.ShloMosaic Idealize.ShloMosaic.TcCoe Idealize.SL.Sem Idealize.ShloMosaic.StableHlo
open Finset (range)

/-! ## A block of the result -/

theorem result (x : Vec Ideal S1024x2048 .bf16) (y : Vec Ideal S2048x1024 .bf16) (z : Vec Ideal S1024x1024 .f32) (p r : Fin 1024) :
    (out0_3 (F := Ideal) x y z (ix2 p r) : EReal) = nn x y 2048 p.val r.val + z (ix2 p r) := by
  unfold out0_3
  rw [View.canon_unit_zero origin]
  simp only [View.ld_unit_zero (S := S1024x2048) origin, View.ld_unit_zero (S := S2048x1024) origin, View.ld_unit_zero (S := S1024x1024) origin]
  rw [nn_eq]; pointwise [k0_pay1]

variable (m : (ℓ : Loc nD τ sig) → Buf (Elt Ideal) ℓ) (ρ : Dev nD → PrngReg) (c : Dev nD)

abbrev A : FVec Ideal S8192x2048 .bf16 := m ((c : Thread nD τ).loc main_arg0)
abbrev B : FVec Ideal S2048x2048 .bf16 := m ((c : Thread nD τ).loc main_arg1)
abbrev C : FVec Ideal S8192x2048 .f32 := m ((c : Thread nD τ).loc main_arg2)

theorem index : ∀ t : Fin cfg0.N, win0_0.index t 0 = t.val / 2 ∧ win0_0.index t 1 = 0
    ∧ win0_1.index t 0 = 0 ∧ win0_1.index t 1 = t.val % 2 :=
  (by decide +kernel : ∀ t : Fin grid0.N, _)
theorem index' : ∀ t : Fin cfg0.N, win0_2.index t 0 = t.val / 2 ∧ win0_2.index t 1 = t.val % 2
    ∧ win0_3.index t 0 = t.val / 2 ∧ win0_3.index t 1 = t.val % 2 :=
  (by decide +kernel : ∀ t : Fin grid0.N, _)

theorem block0 (t : Fin cfg0.N) (p : Fin 1024) (k : Fin 2048) :
    iblk m c 0 t (ix2 p k) = ent (A m c) (1024 * (t.val / 2) + p.val) (2048 * 0 + k.val) := by
  unfold iblk; rw [View.read_apply]
  refine ent_of (A m c) _ ?_ ?_
  · show win0_0.index t 0 * 1024 + 1 * p.val = _; rw [(index t).1]; omega
  · show win0_0.index t 1 * 2048 + 1 * k.val = _; rw [(index t).2.1]; omega

theorem block1 (t : Fin cfg0.N) (k : Fin 2048) (p : Fin 1024) :
    iblk m c 1 t (ix2 k p) = ent (B m c) (2048 * 0 + k.val) (1024 * (t.val % 2) + p.val) := by
  unfold iblk; rw [View.read_apply]
  refine ent_of (B m c) _ ?_ ?_
  · show win0_1.index t 0 * 2048 + 1 * k.val = _; rw [(index t).2.2.1]; omega
  · show win0_1.index t 1 * 1024 + 1 * p.val = _; rw [(index t).2.2.2]; omega

theorem block2 (t : Fin cfg0.N) (p r : Fin 1024) :
    iblk m c 2 t (ix2 p r) = ent (C m c) (1024 * (t.val / 2) + p.val) (1024 * (t.val % 2) + r.val) := by
  unfold iblk; rw [View.read_apply]
  refine ent_of (C m c) _ ?_ ?_
  · show win0_2.index t 0 * 1024 + 1 * p.val = _; rw [(index' t).1]; omega
  · show win0_2.index t 1 * 1024 + 1 * r.val = _; rw [(index' t).2.1]; omega

theorem part (t : Fin cfg0.N) (p r : Fin 1024) : nn (a := 1024) (b := 2048) (d := 2048) (e := 1024) (iblk m c 0 t) (iblk m c 1 t) 2048 p.val r.val
    = nn (A m c) (B m c) 2048 (1024 * (t.val / 2) + p.val) (1024 * (t.val % 2) + r.val) := by
  refine (nn_part (A m c) (B m c) 2 (s := 0) _ _ (block0 m c t) (block1 m c t) p r).trans ?_
  unfold nn nnB
  simp only [Nat.mul_zero, Nat.zero_add]

/-! ## The result -/

def R : FVec Ideal S8192x2048 .f32 := fun i => nn (A m c) (B m c) 2048 (i 0).val (i 1).val + ent (C m c) (i 0).val (i 1).val

theorem flushed (t : Fin cfg0.N) (hf : (cfg0.win 3).flush t = true) :
    (dats m 0 c).flushed 3 t = ((cfg0.win 3).blk t).view.read (Elt Ideal) (R m c) := by
  rw [Value.flushed3]
  funext j
  rw [View.read_apply]
  have e0 : (((cfg0.win 3).blk t).view.emb j 0).val = 1024 * (t.val / 2) + (j 0).val := by
    show win0_3.index t 0 * 1024 + 1 * (j 0).val = _; rw [(index' t).2.2.1]; omega
  have e1 : (((cfg0.win 3).blk t).view.emb j 1).val = 1024 * (t.val % 2) + (j 1).val := by
    show win0_3.index t 1 * 1024 + 1 * (j 1).val = _; rw [(index' t).2.2.2]; omega
  show (out0_3 (F := Ideal) (iblk m c 0 t) (iblk m c 1 t) (iblk m c 2 t) j : EReal) = R m c _
  unfold R
  rw [e0, e1]
  refine ((congrArg (out0_3 (F := Ideal) (iblk m c 0 t) (iblk m c 1 t) (iblk m c 2 t)) (eq_ix2 j)).trans (result _ _ _ (j 0) (j 1))).trans ?_
  rw [block2 m c t (j 0) (j 1)]
  rw [part m c t (j 0) (j 1)]

theorem final : (dats m 0 c).arrAt 3 cfg0.N = R m c :=
  (dats m 0 c).arrAt_eq_of_cover 3 (R m c) (flushed m c) fun i =>
    have h0 : (i 0 : Nat) < 8192 := (i 0).isLt
    have h1 : (i 1 : Nat) < 2048 := (i 1).isLt
    have hN : 2 * ((i 0 : Nat) / 1024) + (i 1 : Nat) / 1024 < cfg0.N := by rw [show cfg0.N = 16 from N_0]; omega
    ⟨⟨_, hN⟩, flush0_3 _, by
      show i ∈ ((View.whole main_v0).slice (win0_3.rect ⟨_, hN⟩)).set
      rw [View.set_slice_whole, Rect.mem_set_unit]
      intro a
      match a with
      | ⟨0, _⟩ =>
        show win0_3.index ⟨_, hN⟩ 0 * 1024 ≤ (i 0 : Nat) ∧ (i 0 : Nat) < win0_3.index ⟨_, hN⟩ 0 * 1024 + 1024
        rw [(index' _).2.2.1]; dsimp only; omega
      | ⟨1, _⟩ =>
        show win0_3.index ⟨_, hN⟩ 1 * 1024 ≤ (i 1 : Nat) ∧ (i 1 : Nat) < win0_3.index ⟨_, hN⟩ 1 * 1024 + 1024
        rw [(index' _).2.2.2]; dsimp only; omega⟩

theorem run : θ_run defs (onTc (τ := τ) (main (F := Ideal))) ⟨m, fun _ => 0, ρ⟩ fun r => ∀ c : Dev nD,
      r.2.mem ((c : Thread nD τ).loc main_v0) = R m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

theorem value (i : Fin 8192) (j : Fin 2048) : (R m c (ix2 i j) : EReal)
    = nn (A m c) (B m c) 2048 i.val j.val + C m c (ix2 i j) := by
  rw [← ent_ix (C m c)]; rfl

end Cert.Kernel13Ideal.Product

namespace Cert.Reference13Ideal.Product

open Cert.Reference13Ideal Cert.Reference13Ideal.Gen Cert.Products
open Idealize.ShloMosaic Idealize.ShloMosaic.TcCoe Idealize.SL.Sem Idealize.ShloMosaic.StableHlo

theorem at_entry (X : FVec Ideal S8192x2048 .f32) (Y : FVec Ideal S2048x2048 .f32) (Z : FVec Ideal S8192x2048 .f32) (i : Fin 8192) (j : Fin 2048) :
    ((addf Z (Host.dotGeneral (φ₁ := .f32) (φ₂ := .f32) dot_S8192x2048_S2048x2048_S8192x2048_1_0_0_1_n_n none X Y)) (ix2 i j) : EReal)
      = nn X Y 2048 i.val j.val + Z (ix2 i j) := by
  rw [nn_eq]; clean_types; pointwise
  exact add_comm _ _

end Cert.Reference13Ideal.Product

namespace Cert.Proof

open Idealize.ShloMosaic Idealize.ShloMosaic.TcCoe Idealize.SL.Sem Idealize.ShloMosaic.StableHlo

theorem algebraic13 : Cert.algebraic_Kernel13Ideal_Reference13Ideal
    (hKernel13Ideal := Cert.Kernel13Ideal.Gen.facts) (hReference13Ideal := Cert.Reference13Ideal.Gen.facts) := by
  intro m g m' g' hm ha
  refine ⟨Cert.Kernel13Ideal.Product.R m, Cert.Kernel13Ideal.Product.run m g, ?_⟩
  refine (θ_run Cert.Reference13Ideal.defs _ _).mono (fun r h c => ⟨(h c).1.trans ?_, (h c).2⟩) (Cert.Reference13Ideal.Value.run m' g')
  rw [(ha c).1, (ha c).2.1, (ha c).2.2]
  funext i
  rw [eq_ix2 i]
  exact (Cert.Reference13Ideal.Product.at_entry _ _ _ (i 0) (i 1)).trans (Cert.Kernel13Ideal.Product.value m c (i 0) (i 1)).symm

theorem frame13 : Cert.quiescent_Reference13Ideal (hReference13Ideal := Cert.Reference13Ideal.Gen.facts) := fun m g _ =>
  (θ_run Cert.Reference13Ideal.defs _ _).mono
    (fun r h => ⟨fun c => (h c).2, sem_eq_zero_of_no_sems (by decide) _⟩) (Cert.Reference13Ideal.Value.run m g)

end Cert.Proof
-- ==== Proof.Ff2Dx.lean ====
/-
  The gradient of the second feed-forward product's argument, taken back through the squared positive part: each block of
  the result is one product of two blocks, times twice the positive part of a block.
-/
module

public import proofs.«01_k».proof.Proof.OutProj
public import proofs.«01_k».proof.Proof.Gen.Kernel2Ideal.Value
public import proofs.«01_k».proof.Proof.Gen.Reference2Ideal.Run

@[expose] public section

noncomputable section

namespace Cert.Kernel2Ideal.Product

open Cert.Kernel2Ideal Cert.Kernel2Ideal.Gen Cert.Products
open Idealize.ShloMosaic Idealize.ShloMosaic.TcCoe Idealize.SL.Sem Idealize.ShloMosaic.StableHlo
open Finset (range)

/-! ## A block of the result -/

theorem result (x : Vec Ideal S1024x2048 .bf16) (y : Vec Ideal S1024x2048 .bf16) (z : Vec Ideal S1024x1024 .f32) (p r : Fin 1024) :
    (out0_3 (F := Ideal) x y z (ix2 p r) : EReal) = nt x y 2048 p.val r.val * (two * max (z (ix2 p r)) 0) := by
  unfold out0_3
  rw [View.canon_unit_zero origin]
  simp only [View.ld_unit_zero (S := S1024x2048) origin, View.ld_unit_zero (S := S1024x1024) origin]
  rw [nt_eq]; pointwise [k0_pay1]

variable (m : (ℓ : Loc nD τ sig) → Buf (Elt Ideal) ℓ) (ρ : Dev nD → PrngReg) (c : Dev nD)

abbrev A : FVec Ideal S8192x2048 .bf16 := m ((c : Thread nD τ).loc main_arg0)
abbrev B : FVec Ideal S8192x2048 .bf16 := m ((c : Thread nD τ).loc main_arg1)
abbrev C : FVec Ideal S8192x8192 .f32 := m ((c : Thread nD τ).loc main_arg2)

theorem index : ∀ t : Fin cfg0.N, win0_0.index t 0 = t.val / 8 ∧ win0_0.index t 1 = 0
    ∧ win0_1.index t 0 = t.val % 8 ∧ win0_1.index t 1 = 0 :=
  (by decide +kernel : ∀ t : Fin grid0.N, _)
theorem index' : ∀ t : Fin cfg0.N, win0_2.index t 0 = t.val / 8 ∧ win0_2.index t 1 = t.val % 8
    ∧ win0_3.index t 0 = t.val / 8 ∧ win0_3.index t 1 = t.val % 8 :=
  (by decide +kernel : ∀ t : Fin grid0.N, _)

theorem block0 (t : Fin cfg0.N) (p : Fin 1024) (k : Fin 2048) :
    iblk m c 0 t (ix2 p k) = ent (A m c) (1024 * (t.val / 8) + p.val) (2048 * 0 + k.val) := by
  unfold iblk; rw [View.read_apply]
  refine ent_of (A m c) _ ?_ ?_
  · show win0_0.index t 0 * 1024 + 1 * p.val = _; rw [(index t).1]; omega
  · show win0_0.index t 1 * 2048 + 1 * k.val = _; rw [(index t).2.1]; omega

theorem block1 (t : Fin cfg0.N) (p : Fin 1024) (k : Fin 2048) :
    iblk m c 1 t (ix2 p k) = ent (B m c) (1024 * (t.val % 8) + p.val) (2048 * 0 + k.val) := by
  unfold iblk; rw [View.read_apply]
  refine ent_of (B m c) _ ?_ ?_
  · show win0_1.index t 0 * 1024 + 1 * p.val = _; rw [(index t).2.2.1]; omega
  · show win0_1.index t 1 * 2048 + 1 * k.val = _; rw [(index t).2.2.2]; omega

theorem block2 (t : Fin cfg0.N) (p r : Fin 1024) :
    iblk m c 2 t (ix2 p r) = ent (C m c) (1024 * (t.val / 8) + p.val) (1024 * (t.val % 8) + r.val) := by
  unfold iblk; rw [View.read_apply]
  refine ent_of (C m c) _ ?_ ?_
  · show win0_2.index t 0 * 1024 + 1 * p.val = _; rw [(index' t).1]; omega
  · show win0_2.index t 1 * 1024 + 1 * r.val = _; rw [(index' t).2.1]; omega

theorem part (t : Fin cfg0.N) (p r : Fin 1024) : nt (a := 1024) (b := 2048) (d := 1024) (e := 2048) (iblk m c 0 t) (iblk m c 1 t) 2048 p.val r.val
    = nt (A m c) (B m c) 2048 (1024 * (t.val / 8) + p.val) (1024 * (t.val % 8) + r.val) := by
  refine (nt_part (A m c) (B m c) 8 (s := 0) _ _ (block0 m c t) (block1 m c t) p r).trans ?_
  unfold nt ntB
  simp only [Nat.mul_zero, Nat.zero_add]

/-! ## The result -/

def R : FVec Ideal S8192x8192 .bf16 := fun i => nt (A m c) (B m c) 2048 (i 0).val (i 1).val * (two * max (ent (C m c) (i 0).val (i 1).val) 0)

theorem flushed (t : Fin cfg0.N) (hf : (cfg0.win 3).flush t = true) :
    (dats m 0 c).flushed 3 t = ((cfg0.win 3).blk t).view.read (Elt Ideal) (R m c) := by
  rw [Value.flushed3]
  funext j
  rw [View.read_apply]
  have e0 : (((cfg0.win 3).blk t).view.emb j 0).val = 1024 * (t.val / 8) + (j 0).val := by
    show win0_3.index t 0 * 1024 + 1 * (j 0).val = _; rw [(index' t).2.2.1]; omega
  have e1 : (((cfg0.win 3).blk t).view.emb j 1).val = 1024 * (t.val % 8) + (j 1).val := by
    show win0_3.index t 1 * 1024 + 1 * (j 1).val = _; rw [(index' t).2.2.2]; omega
  show (out0_3 (F := Ideal) (iblk m c 0 t) (iblk m c 1 t) (iblk m c 2 t) j : EReal) = R m c _
  unfold R
  rw [e0, e1]
  refine ((congrArg (out0_3 (F := Ideal) (iblk m c 0 t) (iblk m c 1 t) (iblk m c 2 t)) (eq_ix2 j)).trans (result _ _ _ (j 0) (j 1))).trans ?_
  rw [block2 m c t (j 0) (j 1)]
  rw [part m c t (j 0) (j 1)]

theorem final : (dats m 0 c).arrAt 3 cfg0.N = R m c :=
  (dats m 0 c).arrAt_eq_of_cover 3 (R m c) (flushed m c) fun i =>
    have h0 : (i 0 : Nat) < 8192 := (i 0).isLt
    have h1 : (i 1 : Nat) < 8192 := (i 1).isLt
    have hN : 8 * ((i 0 : Nat) / 1024) + (i 1 : Nat) / 1024 < cfg0.N := by rw [show cfg0.N = 64 from N_0]; omega
    ⟨⟨_, hN⟩, flush0_3 _, by
      show i ∈ ((View.whole main_v0).slice (win0_3.rect ⟨_, hN⟩)).set
      rw [View.set_slice_whole, Rect.mem_set_unit]
      intro a
      match a with
      | ⟨0, _⟩ =>
        show win0_3.index ⟨_, hN⟩ 0 * 1024 ≤ (i 0 : Nat) ∧ (i 0 : Nat) < win0_3.index ⟨_, hN⟩ 0 * 1024 + 1024
        rw [(index' _).2.2.1]; dsimp only; omega
      | ⟨1, _⟩ =>
        show win0_3.index ⟨_, hN⟩ 1 * 1024 ≤ (i 1 : Nat) ∧ (i 1 : Nat) < win0_3.index ⟨_, hN⟩ 1 * 1024 + 1024
        rw [(index' _).2.2.2]; dsimp only; omega⟩

theorem run : θ_run defs (onTc (τ := τ) (main (F := Ideal))) ⟨m, fun _ => 0, ρ⟩ fun r => ∀ c : Dev nD,
      r.2.mem ((c : Thread nD τ).loc main_v0) = R m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

theorem value (i : Fin 8192) (j : Fin 8192) : (R m c (ix2 i j) : EReal)
    = nt (A m c) (B m c) 2048 i.val j.val * (two * max (C m c (ix2 i j)) 0) := by
  rw [← ent_ix (C m c)]; rfl

end Cert.Kernel2Ideal.Product

namespace Cert.Reference2Ideal.Product

open Cert.Reference2Ideal Cert.Reference2Ideal.Gen Cert.Products
open Idealize.ShloMosaic Idealize.ShloMosaic.TcCoe Idealize.SL.Sem Idealize.ShloMosaic.StableHlo

theorem at_entry (X : FVec Ideal S8192x2048 .f32) (Y : FVec Ideal S8192x2048 .f32) (Z : FVec Ideal S8192x8192 .f32) (i : Fin 8192) (j : Fin 8192) :
    ((truncf .bf16 (select (cmpf .ogt Z (broadcastInDim S8192x8192 ![] bcast_S_S8192x8192 (constant S_ .f32 0x00000000#32))) (mulf (Host.dotGeneral (φ₁ := .f32) (φ₂ := .f32) dot_S8192x2048_S8192x2048_S8192x8192_1_1_0_0_n_n none X Y) (mulf (broadcastInDim S8192x8192 ![] bcast_S_S8192x8192 (constant S_ .f32 0x40000000#32)) (maximumf Z (broadcastInDim S8192x8192 ![] bcast_S_S8192x8192 (constant S_ .f32 0x00000000#32))))) (broadcastInDim S8192x8192 ![] bcast_S_S8192x8192 (constant S_ .f32 0x00000000#32))) bitsLt_bf16_f32) (ix2 i j) : EReal)
      = nt X Y 2048 i.val j.val * (two * max (Z (ix2 i j)) 0) := by
  rw [nt_eq]; clean_types; pointwise
  exact relu_grad _ _

end Cert.Reference2Ideal.Product

namespace Cert.Proof

open Idealize.ShloMosaic Idealize.ShloMosaic.TcCoe Idealize.SL.Sem Idealize.ShloMosaic.StableHlo

theorem algebraic2 : Cert.algebraic_Kernel2Ideal_Reference2Ideal
    (hKernel2Ideal := Cert.Kernel2Ideal.Gen.facts) (hReference2Ideal := Cert.Reference2Ideal.Gen.facts) := by
  intro m g m' g' hm ha
  refine ⟨Cert.Kernel2Ideal.Product.R m, Cert.Kernel2Ideal.Product.run m g, ?_⟩
  refine (θ_run Cert.Reference2Ideal.defs _ _).mono (fun r h c => ⟨(h c).1.trans ?_, (h c).2⟩) (Cert.Reference2Ideal.Value.run m' g')
  rw [(ha c).1, (ha c).2.1, (ha c).2.2]
  funext i
  rw [eq_ix2 i]
  exact (Cert.Reference2Ideal.Product.at_entry _ _ _ (i 0) (i 1)).trans (Cert.Kernel2Ideal.Product.value m c (i 0) (i 1)).symm

theorem frame2 : Cert.quiescent_Reference2Ideal (hReference2Ideal := Cert.Reference2Ideal.Gen.facts) := fun m g _ =>
  (θ_run Cert.Reference2Ideal.defs _ _).mono
    (fun r h => ⟨fun c => (h c).2, sem_eq_zero_of_no_sems (by decide) _⟩) (Cert.Reference2Ideal.Value.run m g)

end Cert.Proof
-- ==== Proof.Ff1.lean ====
/-
  The first feed-forward product and its squared positive part: each block of the two results is one product of two
  blocks, and the square of its positive part.
-/
module

public import proofs.«01_k».proof.Proof.Ff2Dx
public import proofs.«01_k».proof.Proof.Gen.Kernel11Ideal.Value
public import proofs.«01_k».proof.Proof.Gen.Reference11Ideal.Run

@[expose] public section

noncomputable section

namespace Cert.Kernel11Ideal.Product

open Cert.Kernel11Ideal Cert.Kernel11Ideal.Gen Cert.Products
open Idealize.ShloMosaic Idealize.ShloMosaic.TcCoe Idealize.SL.Sem Idealize.ShloMosaic.StableHlo
open Finset (range)

/-! ## A block of the result -/

theorem result (x : Vec Ideal S1024x2048 .bf16) (y : Vec Ideal S2048x1024 .bf16) (p r : Fin 1024) :
    (out0_2 (F := Ideal) x y (ix2 p r) : EReal) = nn x y 2048 p.val r.val := by
  unfold out0_2
  rw [View.canon_unit_zero origin]
  simp only [View.ld_unit_zero (S := S1024x2048) origin, View.ld_unit_zero (S := S2048x1024) origin]
  rw [nn_eq]; pointwise [k0_pay1]

theorem result3 (x : Vec Ideal S1024x2048 .bf16) (y : Vec Ideal S2048x1024 .bf16) (p r : Fin 1024) :
    (out0_3 (F := Ideal) x y (ix2 p r) : EReal) = relu2 (nn x y 2048 p.val r.val) := by
  unfold out0_3
  rw [View.canon_unit_zero origin]
  simp only [View.ld_unit_zero (S := S1024x2048) origin, View.ld_unit_zero (S := S2048x1024) origin]
  rw [nn_eq]; unfold relu2; pointwise [k0_pay2, k0_pay1]

variable (m : (ℓ : Loc nD τ sig) → Buf (Elt Ideal) ℓ) (ρ : Dev nD → PrngReg) (c : Dev nD)

abbrev A : FVec Ideal S8192x2048 .bf16 := m ((c : Thread nD τ).loc main_arg0)
abbrev B : FVec Ideal S2048x8192 .bf16 := m ((c : Thread nD τ).loc main_arg1)

theorem index : ∀ t : Fin cfg0.N, win0_0.index t 0 = t.val / 8 ∧ win0_0.index t 1 = 0
    ∧ win0_1.index t 0 = 0 ∧ win0_1.index t 1 = t.val % 8 :=
  (by decide +kernel : ∀ t : Fin grid0.N, _)
theorem index' : ∀ t : Fin cfg0.N, win0_2.index t 0 = t.val / 8 ∧ win0_2.index t 1 = t.val % 8
    ∧ win0_3.index t 0 = t.val / 8 ∧ win0_3.index t 1 = t.val % 8 :=
  (by decide +kernel : ∀ t : Fin grid0.N, _)

theorem block0 (t : Fin cfg0.N) (p : Fin 1024) (k : Fin 2048) :
    iblk m c 0 t (ix2 p k) = ent (A m c) (1024 * (t.val / 8) + p.val) (2048 * 0 + k.val) := by
  unfold iblk; rw [View.read_apply]
  refine ent_of (A m c) _ ?_ ?_
  · show win0_0.index t 0 * 1024 + 1 * p.val = _; rw [(index t).1]; omega
  · show win0_0.index t 1 * 2048 + 1 * k.val = _; rw [(index t).2.1]; omega

theorem block1 (t : Fin cfg0.N) (k : Fin 2048) (p : Fin 1024) :
    iblk m c 1 t (ix2 k p) = ent (B m c) (2048 * 0 + k.val) (1024 * (t.val % 8) + p.val) := by
  unfold iblk; rw [View.read_apply]
  refine ent_of (B m c) _ ?_ ?_
  · show win0_1.index t 0 * 2048 + 1 * k.val = _; rw [(index t).2.2.1]; omega
  · show win0_1.index t 1 * 1024 + 1 * p.val = _; rw [(index t).2.2.2]; omega

theorem part (t : Fin cfg0.N) (p r : Fin 1024) : nn (a := 1024) (b := 2048) (d := 2048) (e := 1024) (iblk m c 0 t) (iblk m c 1 t) 2048 p.val r.val
    = nn (A m c) (B m c) 2048 (1024 * (t.val / 8) + p.val) (1024 * (t.val % 8) + r.val) := by
  refine (nn_part (A m c) (B m c) 8 (s := 0) _ _ (block0 m c t) (block1 m c t) p r).trans ?_
  unfold nn nnB
  simp only [Nat.mul_zero, Nat.zero_add]

/-! ## The result -/

def R : FVec Ideal S8192x8192 .f32 := fun i => nn (A m c) (B m c) 2048 (i 0).val (i 1).val

theorem flushed (t : Fin cfg0.N) (hf : (cfg0.win 2).flush t = true) :
    (dats m 0 c).flushed 2 t = ((cfg0.win 2).blk t).view.read (Elt Ideal) (R m c) := by
  rw [Value.flushed2]
  funext j
  rw [View.read_apply]
  have e0 : (((cfg0.win 2).blk t).view.emb j 0).val = 1024 * (t.val / 8) + (j 0).val := by
    show win0_2.index t 0 * 1024 + 1 * (j 0).val = _; rw [(index' t).1]; omega
  have e1 : (((cfg0.win 2).blk t).view.emb j 1).val = 1024 * (t.val % 8) + (j 1).val := by
    show win0_2.index t 1 * 1024 + 1 * (j 1).val = _; rw [(index' t).2.1]; omega
  show (out0_2 (F := Ideal) (iblk m c 0 t) (iblk m c 1 t) j : EReal) = R m c _
  unfold R
  rw [e0, e1]
  refine ((congrArg (out0_2 (F := Ideal) (iblk m c 0 t) (iblk m c 1 t)) (eq_ix2 j)).trans (result _ _ (j 0) (j 1))).trans ?_
  exact part m c t (j 0) (j 1)

theorem final : (dats m 0 c).arrAt 2 cfg0.N = R m c :=
  (dats m 0 c).arrAt_eq_of_cover 2 (R m c) (flushed m c) fun i =>
    have h0 : (i 0 : Nat) < 8192 := (i 0).isLt
    have h1 : (i 1 : Nat) < 8192 := (i 1).isLt
    have hN : 8 * ((i 0 : Nat) / 1024) + (i 1 : Nat) / 1024 < cfg0.N := by rw [show cfg0.N = 64 from N_0]; omega
    ⟨⟨_, hN⟩, flush0_2 _, by
      show i ∈ ((View.whole main_v0_0).slice (win0_2.rect ⟨_, hN⟩)).set
      rw [View.set_slice_whole, Rect.mem_set_unit]
      intro a
      match a with
      | ⟨0, _⟩ =>
        show win0_2.index ⟨_, hN⟩ 0 * 1024 ≤ (i 0 : Nat) ∧ (i 0 : Nat) < win0_2.index ⟨_, hN⟩ 0 * 1024 + 1024
        rw [(index' _).1]; dsimp only; omega
      | ⟨1, _⟩ =>
        show win0_2.index ⟨_, hN⟩ 1 * 1024 ≤ (i 1 : Nat) ∧ (i 1 : Nat) < win0_2.index ⟨_, hN⟩ 1 * 1024 + 1024
        rw [(index' _).2.1]; dsimp only; omega⟩

def R3 : FVec Ideal S8192x8192 .bf16 := fun i => relu2 (nn (A m c) (B m c) 2048 (i 0).val (i 1).val)

theorem flushed3 (t : Fin cfg0.N) (hf : (cfg0.win 3).flush t = true) :
    (dats m 0 c).flushed 3 t = ((cfg0.win 3).blk t).view.read (Elt Ideal) (R3 m c) := by
  rw [Value.flushed3]
  funext j
  rw [View.read_apply]
  have e0 : (((cfg0.win 3).blk t).view.emb j 0).val = 1024 * (t.val / 8) + (j 0).val := by
    show win0_3.index t 0 * 1024 + 1 * (j 0).val = _; rw [(index' t).2.2.1]; omega
  have e1 : (((cfg0.win 3).blk t).view.emb j 1).val = 1024 * (t.val % 8) + (j 1).val := by
    show win0_3.index t 1 * 1024 + 1 * (j 1).val = _; rw [(index' t).2.2.2]; omega
  show (out0_3 (F := Ideal) (iblk m c 0 t) (iblk m c 1 t) j : EReal) = R3 m c _
  unfold R3
  rw [e0, e1]
  refine ((congrArg (out0_3 (F := Ideal) (iblk m c 0 t) (iblk m c 1 t)) (eq_ix2 j)).trans (result3 _ _ (j 0) (j 1))).trans ?_
  exact congrArg relu2 (part m c t (j 0) (j 1))

theorem final3 : (dats m 0 c).arrAt 3 cfg0.N = R3 m c :=
  (dats m 0 c).arrAt_eq_of_cover 3 (R3 m c) (flushed3 m c) fun i =>
    have h0 : (i 0 : Nat) < 8192 := (i 0).isLt
    have h1 : (i 1 : Nat) < 8192 := (i 1).isLt
    have hN : 8 * ((i 0 : Nat) / 1024) + (i 1 : Nat) / 1024 < cfg0.N := by rw [show cfg0.N = 64 from N_0]; omega
    ⟨⟨_, hN⟩, flush0_3 _, by
      show i ∈ ((View.whole main_v0_1).slice (win0_3.rect ⟨_, hN⟩)).set
      rw [View.set_slice_whole, Rect.mem_set_unit]
      intro a
      match a with
      | ⟨0, _⟩ =>
        show win0_3.index ⟨_, hN⟩ 0 * 1024 ≤ (i 0 : Nat) ∧ (i 0 : Nat) < win0_3.index ⟨_, hN⟩ 0 * 1024 + 1024
        rw [(index' _).2.2.1]; dsimp only; omega
      | ⟨1, _⟩ =>
        show win0_3.index ⟨_, hN⟩ 1 * 1024 ≤ (i 1 : Nat) ∧ (i 1 : Nat) < win0_3.index ⟨_, hN⟩ 1 * 1024 + 1024
        rw [(index' _).2.2.2]; dsimp only; omega⟩

theorem run : θ_run defs (onTc (τ := τ) (main (F := Ideal))) ⟨m, fun _ => 0, ρ⟩ fun r => ∀ c : Dev nD,
      r.2.mem ((c : Thread nD τ).loc main_v0_0) = R m c
      ∧ r.2.mem ((c : Thread nD τ).loc main_v0_1) = R3 m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2.1.trans (final3 m c), (h c).2.2⟩) (Value.run_blocks m ρ)

theorem value (i : Fin 8192) (j : Fin 8192) : (R m c (ix2 i j) : EReal)
    = nn (A m c) (B m c) 2048 i.val j.val := rfl
theorem value3 (i : Fin 8192) (j : Fin 8192) : (R3 m c (ix2 i j) : EReal)
    = relu2 (nn (A m c) (B m c) 2048 i.val j.val) := rfl

end Cert.Kernel11Ideal.Product

namespace Cert.Reference11Ideal.Product

open Cert.Reference11Ideal Cert.Reference11Ideal.Gen Cert.Products
open Idealize.ShloMosaic Idealize.ShloMosaic.TcCoe Idealize.SL.Sem Idealize.ShloMosaic.StableHlo

theorem at_entry (X : FVec Ideal S8192x2048 .f32) (Y : FVec Ideal S2048x8192 .f32) (i : Fin 8192) (j : Fin 8192) :
    ((Host.dotGeneral (φ₁ := .f32) (φ₂ := .f32) dot_S8192x2048_S2048x8192_S8192x8192_1_0_0_1_n_n none X Y) (ix2 i j) : EReal)
      = nn X Y 2048 i.val j.val := by
  rw [nn_eq]; clean_types; pointwise

theorem square_at (D : FVec Ideal S8192x8192 .f32) (i : Fin 8192) (j : Fin 8192) :
    (truncf .bf16 (mulf (maximumf D (broadcastInDim S8192x8192 ![] bcast_S_S8192x8192 (constant S_ .f32 0x00000000#32)))
      (maximumf D (broadcastInDim S8192x8192 ![] bcast_S_S8192x8192 (constant S_ .f32 0x00000000#32)))) bitsLt_bf16_f32 (ix2 i j) : EReal)
      = relu2 (D (ix2 i j)) := by
  unfold relu2; clean_types; pointwise

end Cert.Reference11Ideal.Product

namespace Cert.Proof

open Idealize.ShloMosaic Idealize.ShloMosaic.TcCoe Idealize.SL.Sem Idealize.ShloMosaic.StableHlo

theorem algebraic11 : Cert.algebraic_Kernel11Ideal_Reference11Ideal
    (hKernel11Ideal := Cert.Kernel11Ideal.Gen.facts) (hReference11Ideal := Cert.Reference11Ideal.Gen.facts) := by
  intro m g m' g' hm ha
  refine ⟨Cert.Kernel11Ideal.Product.R m, Cert.Kernel11Ideal.Product.R3 m, Cert.Kernel11Ideal.Product.run m g, ?_⟩
  refine (θ_run Cert.Reference11Ideal.defs _ _).mono (fun r h c => ⟨(h c).1.trans ?_, (h c).2.1.trans ?_, (h c).2.2⟩) (Cert.Reference11Ideal.Value.run m' g')
  · rw [(ha c).1, (ha c).2]
    funext i
    rw [eq_ix2 i]
    exact (Cert.Reference11Ideal.Product.at_entry _ _ (i 0) (i 1)).trans (Cert.Kernel11Ideal.Product.value m c (i 0) (i 1)).symm
  · rw [(ha c).1, (ha c).2]
    funext i
    rw [eq_ix2 i]
    exact (Cert.Reference11Ideal.Product.square_at _ (i 0) (i 1)).trans
      ((congrArg Cert.Products.relu2 (Cert.Reference11Ideal.Product.at_entry _ _ (i 0) (i 1))).trans (Cert.Kernel11Ideal.Product.value3 m c (i 0) (i 1)).symm)

theorem frame11 : Cert.quiescent_Reference11Ideal (hReference11Ideal := Cert.Reference11Ideal.Gen.facts) := fun m g _ =>
  (θ_run Cert.Reference11Ideal.defs _ _).mono
    (fun r h => ⟨fun c => (h c).2.2, sem_eq_zero_of_no_sems (by decide) _⟩) (Cert.Reference11Ideal.Value.run m g)

end Cert.Proof
-- ==== Proof.Loss.lean ====
/-
  The gradient of half the mean square of a residual: the program multiplies the residual by one number, the reference
  divides a half by the number of columns and doubles.
-/
module

public import proofs.«01_k».proof.Proof.Ff1

@[expose] public section

noncomputable section

namespace Cert.Products

open Idealize.ShloMosaic

/-- What the program makes of a product's entry, the residual stream's and the target's. -/
def loss (p x t : EReal) : EReal := (p + x - t) * Ideal.ofBits .f32 0x3A000000#32

theorem half_eq : Ideal.ofBits .f32 0x3F000000#32 = ((1 / 2 : ℝ) : EReal) := by
  simp [Ideal.ofBits, Ideal.ieee]; rw [← EReal.coe_mul]; norm_num
theorem two_eq : two = ((2 : ℝ) : EReal) := by
  simp [Ideal.ofBits, Ideal.ieee]; rw [← EReal.coe_mul]; norm_num
theorem columns_eq : Ideal.ofBits .f32 0x45000000#32 = ((2048 : ℝ) : EReal) := by
  simp [Ideal.ofBits, Ideal.ieee]; rw [← EReal.coe_mul]; norm_num
theorem share_eq : Ideal.ofBits .f32 0x3A000000#32 = ((1 / 2048 : ℝ) : EReal) := by
  simp [Ideal.ofBits, Ideal.ieee]; rw [← EReal.coe_mul]; norm_num

/-- A half over the number of columns, times twice the residual. -/
theorem loss_eq (p x t : EReal) :
    Ideal.div (Ideal.ofBits .f32 0x3F000000#32) (Ideal.ofBits .f32 0x45000000#32) * (two * (x + p - t)) = loss p x t := by
  unfold loss
  rw [half_eq, two_eq, columns_eq, share_eq, add_comm x p, mul_comm (p + x - t), ← mul_assoc]
  congr 1
  rw [Ideal.div_coe (by norm_num), ← EReal.coe_mul, ← EReal.coe_mul]
  norm_num

end Cert.Products
-- ==== Proof.Ff2.lean ====
/-
  The second feed-forward product with the loss's gradient: a block of the product is summed over four pieces of the
  hidden columns; the two results are the residual less the target, divided by half the number of the columns.
-/
module

public import proofs.«01_k».proof.Proof.Loss
public import proofs.«01_k».proof.Proof.Gen.Kernel12Ideal.Value
public import proofs.«01_k».proof.Proof.Gen.Reference12Ideal.Run

@[expose] public section

noncomputable section

namespace Cert.Kernel12Ideal.Product

open Cert.Kernel12Ideal Cert.Kernel12Ideal.Gen Cert.Products
open Idealize.ShloMosaic Idealize.ShloMosaic.TcCoe Idealize.SL.Sem Idealize.ShloMosaic.StableHlo
open Finset (range)

/-! ## What each point leaves in the running sum and in the result's buffer -/

section
variable (c : Dev nD) (i : grid0.Coords) (a3 : Memref sig .tc .vmem S1024x2048 .bf16) (h3 : a3.IsWhole)
  (a4 : Memref sig .tc .vmem S2048x1024 .bf16) (h4 : a4.IsWhole) (a5 : Memref sig .tc .vmem S1024x1024 .f32) (h5 : a5.IsWhole)
  (a6 : Memref sig .tc .vmem S1024x1024 .f32) (h6 : a6.IsWhole) (a7 : Memref sig .tc .vmem S1024x1024 .f32) (h7 : a7.IsWhole)
  (a8 : Memref sig .tc .vmem S1024x1024 .bf16) (h8 : a8.IsWhole) (a9 : Memref sig .tc .vmem S1024x1024 .f32) (h9 : a9.IsWhole)
  (x : Vec Ideal S1024x2048 .bf16) (y : Vec Ideal S2048x1024 .bf16)
  (z u s : Vec Ideal S1024x1024 .f32)

theorem first (k0 : cond0_0 i) (k1 : ¬cond0_1 i) (k2 : ¬cond0_2 i) :
    sout0_A_0 c i a3 h3 a4 h4 a5 h5 a6 h6 a7 h7 a8 h8 a9 h9 k0 k1 k2 x y z u = k0_pay1 (F := Ideal) x y := by
  unfold sout0_A_0
  rw [View.read_writes_eq_canon _ _ _ (scover0_A_0 c i a3 h3 a4 h4 a5 h5 a6 h6 a7 h7 a8 h8 a9 h9 k0 k1 k2 x y z u)]
  unfold kernelRun0_A; dsimp only
  rw [View.canon_unit_zero origin]
  unfold k0_pay2
  simp only [View.readAt_eq_ld, h3.read_unread, h4.read_unread, View.ld_unit_zero (S := S1024x2048) origin,
    View.ld_unit_zero (S := S2048x1024) origin, shapeCast_self]

theorem next (k0 : ¬cond0_0 i) (k1 : cond0_1 i) (k2 : ¬cond0_2 i) :
    sout0_B_0 c i a3 h3 a4 h4 a5 h5 a6 h6 a7 h7 a8 h8 a9 h9 k0 k1 k2 x y z u s = addf s (k0_pay1 (F := Ideal) x y) := by
  unfold sout0_B_0
  rw [View.read_writes_eq_canon _ _ _ (scover0_B_0 c i a3 h3 a4 h4 a5 h5 a6 h6 a7 h7 a8 h8 a9 h9 k0 k1 k2 x y z u s)]
  unfold kernelRun0_B; dsimp only
  rw [View.canon_unit_zero origin]
  unfold k0_pay3
  simp only [View.readAt_eq_ld, h3.read_unread, h4.read_unread, h9.read_unread, View.ld_unit_zero (S := S1024x2048) origin,
    View.ld_unit_zero (S := S2048x1024) origin,
    View.ld_unit_zero (S := S1024x1024) origin, shapeCast_self]

theorem last (k0 : ¬cond0_0 i) (k1 : cond0_1 i) (k2 : cond0_2 i) :
    sout0_C_0 c i a3 h3 a4 h4 a5 h5 a6 h6 a7 h7 a8 h8 a9 h9 k0 k1 k2 x y z u s = addf s (k0_pay1 (F := Ideal) x y) := by
  unfold sout0_C_0
  rw [View.read_writes_eq_canon _ _ _ (scover0_C_0 c i a3 h3 a4 h4 a5 h5 a6 h6 a7 h7 a8 h8 a9 h9 k0 k1 k2 x y z u s)]
  unfold kernelRun0_C; dsimp only
  sl_unfold_words
  rw [View.canon_unit_zero origin]
  unfold k0_pay3
  simp only [View.readAt_eq_ld, h3.read_unread, h4.read_unread, h9.read_unread, View.ld_unit_zero (S := S1024x2048) origin,
    View.ld_unit_zero (S := S2048x1024) origin,
    View.ld_unit_zero (S := S1024x1024) origin, shapeCast_self]

theorem result4 (k0 : ¬cond0_0 i) (k1 : cond0_1 i) (k2 : cond0_2 i) :
    out0_C_4 c i a3 h3 a4 h4 a5 h5 a6 h6 a7 h7 a8 h8 a9 h9 k0 k1 k2 x y z u s
      = k0_pay4 (F := Ideal) (addf s (k0_pay1 (F := Ideal) x y)) z u := by
  unfold out0_C_4
  rw [View.read_writes_eq_canon _ _ _ (cover0_C_4 c i a3 h3 a4 h4 a5 h5 a6 h6 a7 h7 a8 h8 a9 h9 k0 k1 k2 x y z u s)]
  unfold kernelRun0_C; dsimp only
  sl_unfold_words
  rw [View.canon_unit_zero origin, View.readCov_unit_zero _ origin]
  unfold k0_pay3
  simp only [View.readAt_eq_ld, h3.read_unread, h4.read_unread, h5.read_unread, h6.read_unread, h9.read_unread, View.ld_unit_zero (S := S1024x2048) origin,
    View.ld_unit_zero (S := S2048x1024) origin,
    View.ld_unit_zero (S := S1024x1024) origin, shapeCast_self]

theorem result5 (k0 : ¬cond0_0 i) (k1 : cond0_1 i) (k2 : cond0_2 i) :
    out0_C_5 c i a3 h3 a4 h4 a5 h5 a6 h6 a7 h7 a8 h8 a9 h9 k0 k1 k2 x y z u s
      = k0_pay5 (F := Ideal) (addf s (k0_pay1 (F := Ideal) x y)) z u := by
  unfold out0_C_5
  rw [View.read_writes_eq_canon _ _ _ (cover0_C_5 c i a3 h3 a4 h4 a5 h5 a6 h6 a7 h7 a8 h8 a9 h9 k0 k1 k2 x y z u s)]
  unfold kernelRun0_C; dsimp only
  sl_unfold_words
  rw [View.canon_unit_zero origin, View.readCov_unit_zero _ origin]
  unfold k0_pay3
  simp only [View.readAt_eq_ld, h3.read_unread, h4.read_unread, h5.read_unread, h6.read_unread, h9.read_unread, View.ld_unit_zero (S := S1024x2048) origin,
    View.ld_unit_zero (S := S2048x1024) origin,
    View.ld_unit_zero (S := S1024x1024) origin, shapeCast_self]

theorem part_at (p r : Fin 1024) : (k0_pay1 (F := Ideal) x y (ix2 p r) : EReal) = nn x y 2048 p.val r.val := by
  rw [nn_eq]; pointwise [k0_pay1]

theorem pay4_at (p r : Fin 1024) : (k0_pay4 (F := Ideal) s z u (ix2 p r) : EReal) = loss (s (ix2 p r)) (z (ix2 p r)) (u (ix2 p r)) := by
  unfold loss; pointwise [k0_pay4]
theorem pay5_at (p r : Fin 1024) : (k0_pay5 (F := Ideal) s z u (ix2 p r) : EReal) = loss (s (ix2 p r)) (z (ix2 p r)) (u (ix2 p r)) := by
  unfold loss; pointwise [k0_pay5, k0_pay4]
end

/-! ## The blocks read at a point, and the running sum -/

variable (m : (ℓ : Loc nD τ sig) → Buf (Elt Ideal) ℓ) (c : Dev nD)

abbrev A : FVec Ideal S8192x8192 .bf16 := m ((c : Thread nD τ).loc main_arg0)
abbrev B : FVec Ideal S8192x2048 .bf16 := m ((c : Thread nD τ).loc main_arg1)
abbrev X : FVec Ideal S8192x2048 .f32 := m ((c : Thread nD τ).loc main_arg2)
abbrev T : FVec Ideal S8192x2048 .f32 := m ((c : Thread nD τ).loc main_arg3)

theorem index : ∀ t : Fin cfg0.N, win0_0.index t 0 = t.val / 4 / 2 ∧ win0_0.index t 1 = t.val % 4
    ∧ win0_1.index t 0 = t.val % 4 ∧ win0_1.index t 1 = t.val / 4 % 2
    ∧ win0_2.index t 0 = t.val / 4 / 2 ∧ win0_2.index t 1 = t.val / 4 % 2
    ∧ win0_3.index t 0 = t.val / 4 / 2 ∧ win0_3.index t 1 = t.val / 4 % 2 :=
  (by decide +kernel : ∀ t : Fin grid0.N, _)

theorem block0 (t : Fin cfg0.N) (p : Fin 1024) (k : Fin 2048) :
    iblk m c 0 t (ix2 p k) = ent (A m c) (1024 * (t.val / 4 / 2) + p.val) (2048 * (t.val % 4) + k.val) := by
  unfold iblk; rw [View.read_apply]
  refine ent_of (A m c) _ ?_ ?_
  · show win0_0.index t 0 * 1024 + 1 * p.val = _; rw [(index t).1]; omega
  · show win0_0.index t 1 * 2048 + 1 * k.val = _; rw [(index t).2.1]; omega

theorem block1 (t : Fin cfg0.N) (k : Fin 2048) (p : Fin 1024) :
    iblk m c 1 t (ix2 k p) = ent (B m c) (2048 * (t.val % 4) + k.val) (1024 * (t.val / 4 % 2) + p.val) := by
  unfold iblk; rw [View.read_apply]
  refine ent_of (B m c) _ ?_ ?_
  · show win0_1.index t 0 * 2048 + 1 * k.val = _; rw [(index t).2.2.1]; omega
  · show win0_1.index t 1 * 1024 + 1 * p.val = _; rw [(index t).2.2.2.1]; omega

theorem block2 (t : Fin cfg0.N) (p r : Fin 1024) :
    iblk m c 2 t (ix2 p r) = ent (X m c) (1024 * (t.val / 4 / 2) + p.val) (1024 * (t.val / 4 % 2) + r.val) := by
  unfold iblk; rw [View.read_apply]
  refine ent_of (X m c) _ ?_ ?_
  · show win0_2.index t 0 * 1024 + 1 * p.val = _; rw [(index t).2.2.2.2.1]; omega
  · show win0_2.index t 1 * 1024 + 1 * r.val = _; rw [(index t).2.2.2.2.2.1]; omega

theorem block3 (t : Fin cfg0.N) (p r : Fin 1024) :
    iblk m c 3 t (ix2 p r) = ent (T m c) (1024 * (t.val / 4 / 2) + p.val) (1024 * (t.val / 4 % 2) + r.val) := by
  unfold iblk; rw [View.read_apply]
  refine ent_of (T m c) _ ?_ ?_
  · show win0_3.index t 0 * 1024 + 1 * p.val = _; rw [(index t).2.2.2.2.2.2.1]; omega
  · show win0_3.index t 1 * 1024 + 1 * r.val = _; rw [(index t).2.2.2.2.2.2.2]; omega

theorem part (t : Fin cfg0.N) (p r : Fin 1024) : (k0_pay1 (F := Ideal) (iblk m c 0 t) (iblk m c 1 t) (ix2 p r) : EReal)
    = ∑ k ∈ range 2048, nnB (A m c) (B m c) 2 p.val r.val (t.val / 4) (2048 * (t.val % 4) + k) :=
  (part_at _ _ p r).trans (nn_part (A m c) (B m c) 2 _ _ (block0 m c t) (block1 m c t) p r)

theorem total (p r : Fin 1024) : ∀ (n : ℕ) (h : n < cfg0.N), ((outsAt0 m c n h).2.2 (ix2 p r) : EReal)
    = ∑ k ∈ range (2048 * (n % 4 + 1)), nnB (A m c) (B m c) 2 p.val r.val (n / 4) k := by
  refine run_total (by decide) (fun n h => ((outsAt0 m c n h).2.2 (ix2 p r) : EReal)) _ (fun n h e => ?_) (fun n h e => ?_)
  · have := outsAt0_A m c ⟨n, h⟩ e (by dsimp only; omega) (by dsimp only; omega)
    dsimp only at this ⊢
    rw [this, first]
    exact part m c ⟨n, h⟩ p r
  · by_cases e3 : (n + 1) % 4 = 3
    · have := outsAt0_C m c ⟨n + 1, h⟩ e (by dsimp only; omega) e3
      dsimp only at this ⊢
      rw [this, last]
      exact congrArg (_ + ·) (part m c ⟨n + 1, h⟩ p r)
    · have := outsAt0_B m c ⟨n + 1, h⟩ e (by dsimp only; omega) e3
      dsimp only at this ⊢
      rw [this, next]
      exact congrArg (_ + ·) (part m c ⟨n + 1, h⟩ p r)

theorem final4 (n : ℕ) (h : n < cfg0.N) (e : n % 4 = 3) : (outsAt0 m c n h).1
    = k0_pay4 (F := Ideal) (outsAt0 m c n h).2.2 (iblk m c 2 ⟨n, h⟩) (iblk m c 3 ⟨n, h⟩) := by
  have := outsAt0_C m c ⟨n, h⟩ (by dsimp only; omega) (by dsimp only; omega) e
  dsimp only at this
  rw [this, last, result4]

theorem final5 (n : ℕ) (h : n < cfg0.N) (e : n % 4 = 3) : (outsAt0 m c n h).2.1
    = k0_pay5 (F := Ideal) (outsAt0 m c n h).2.2 (iblk m c 2 ⟨n, h⟩) (iblk m c 3 ⟨n, h⟩) := by
  have := outsAt0_C m c ⟨n, h⟩ (by dsimp only; omega) (by dsimp only; omega) e
  dsimp only at this
  rw [this, last, result5]

/-- What the last point of a block's sum makes of an entry. -/
theorem gathered (i : Fin 8192) (j : Fin 2048) (n : ℕ) (h : n < cfg0.N) (hn : n = 4 * (2 * (i.val / 1024) + j.val / 1024) + 3) :
    loss ((outsAt0 m c n h).2.2 (ix2 ⟨i.val % 1024, Nat.mod_lt _ (by decide)⟩ ⟨j.val % 1024, Nat.mod_lt _ (by decide)⟩))
      (iblk m c 2 ⟨n, h⟩ (ix2 ⟨i.val % 1024, Nat.mod_lt _ (by decide)⟩ ⟨j.val % 1024, Nat.mod_lt _ (by decide)⟩))
      (iblk m c 3 ⟨n, h⟩ (ix2 ⟨i.val % 1024, Nat.mod_lt _ (by decide)⟩ ⟨j.val % 1024, Nat.mod_lt _ (by decide)⟩))
    = loss (nn (A m c) (B m c) 8192 i.val j.val) (X m c (ix2 i j)) (T m c (ix2 i j)) := by
  have hj := j.isLt
  have hd : n / 4 = 2 * (i.val / 1024) + j.val / 1024 := by omega
  have hs : 2048 * (n % 4 + 1) = 8192 := by omega
  obtain ⟨e0, e1⟩ := place (nj := 2) (i := i.val) (j := j.val) (by omega)
  rw [total m c _ _ n h, block2, block3]
  dsimp only
  rw [hs, hd, e0, e1, ent_ix, ent_ix, nn_sum (A m c) (B m c) (by omega) 8192]

theorem value4 (i : Fin 8192) (j : Fin 2048) : (Value.G4 m c (ix2 i j) : EReal)
    = loss (nn (A m c) (B m c) 8192 i.val j.val) (X m c (ix2 i j)) (T m c (ix2 i j)) := by
  have hp : Value.pt4Of (ix2 i j) = 4 * (2 * (i.val / 1024) + j.val / 1024) + 3 := by
    show 4 * (2 * (i.val / 1024 - 0) + 1 * (j.val / 1024 - 0)) + 3 = _; omega
  have hN : Value.pt4Of (ix2 i j) < cfg0.N := by
    have := i.isLt; have := j.isLt
    rw [hp, show cfg0.N = 64 from N_0]; omega
  have hl : Value.loc4Of (ix2 i j) = ix2 ⟨i.val % 1024, Nat.mod_lt _ (by decide)⟩ ⟨j.val % 1024, Nat.mod_lt _ (by decide)⟩ := by
    funext a; match a with | ⟨0, _⟩ => rfl | ⟨1, _⟩ => rfl
  unfold Value.G4
  rw [dif_pos hN, ← Value.outsAt0_sweep m c _ hN, final4 m c _ hN (by rw [hp]; omega), hl, pay4_at]
  exact gathered m c i j _ hN hp

theorem value5 (i : Fin 8192) (j : Fin 2048) : (Value.G5 m c (ix2 i j) : EReal)
    = loss (nn (A m c) (B m c) 8192 i.val j.val) (X m c (ix2 i j)) (T m c (ix2 i j)) := by
  have hp : Value.pt5Of (ix2 i j) = 4 * (2 * (i.val / 1024) + j.val / 1024) + 3 := by
    show 4 * (2 * (i.val / 1024 - 0) + 1 * (j.val / 1024 - 0)) + 3 = _; omega
  have hN : Value.pt5Of (ix2 i j) < cfg0.N := by
    have := i.isLt; have := j.isLt
    rw [hp, show cfg0.N = 64 from N_0]; omega
  have hl : Value.loc5Of (ix2 i j) = ix2 ⟨i.val % 1024, Nat.mod_lt _ (by decide)⟩ ⟨j.val % 1024, Nat.mod_lt _ (by decide)⟩ := by
    funext a; match a with | ⟨0, _⟩ => rfl | ⟨1, _⟩ => rfl
  unfold Value.G5
  rw [dif_pos hN, ← Value.outsAt0_sweep m c _ hN, final5 m c _ hN (by rw [hp]; omega), hl, pay5_at]
  exact gathered m c i j _ hN hp

end Cert.Kernel12Ideal.Product

namespace Cert.Reference12Ideal.Product

open Cert.Reference12Ideal Cert.Reference12Ideal.Gen Cert.Products
open Idealize.ShloMosaic Idealize.ShloMosaic.TcCoe Idealize.SL.Sem Idealize.ShloMosaic.StableHlo

/-- The first result of the reference, from its arguments in single precision. -/
abbrev out (P : FVec Ideal S8192x8192 .f32) (Q X T : FVec Ideal S8192x2048 .f32) : FVec Ideal S8192x2048 .f32 :=
  mulf (broadcastInDim S8192x2048 ![0] bcast_S8192_S8192x2048_0 (Host.divf (broadcastInDim S8192 ![] bcast_S_S8192
      (mulf (constant S_ .f32 0x3F000000#32) (constant S_ .f32 0x3F800000#32)))
      (broadcastInDim S8192 ![] bcast_S_S8192 (constant S_ .f32 0x45000000#32))))
    (mulf (broadcastInDim S8192x2048 ![] bcast_S_S8192x2048 (constant S_ .f32 0x40000000#32))
      (subf (addf X (Host.dotGeneral (φ₁ := .f32) (φ₂ := .f32) dot_S8192x8192_S8192x2048_S8192x2048_1_0_0_1_n_n none P Q)) T))

theorem at_entry (P : FVec Ideal S8192x8192 .f32) (Q X T : FVec Ideal S8192x2048 .f32) (i : Fin 8192) (j : Fin 2048) :
    (out P Q X T (ix2 i j) : EReal) = loss (nn P Q 8192 i.val j.val) (X (ix2 i j)) (T (ix2 i j)) := by
  rw [nn_eq, ← loss_eq]; clean_types; pointwise

end Cert.Reference12Ideal.Product

namespace Cert.Proof

open Idealize.ShloMosaic Idealize.ShloMosaic.TcCoe Idealize.SL.Sem Idealize.ShloMosaic.StableHlo

theorem algebraic12 : Cert.algebraic_Kernel12Ideal_Reference12Ideal
    (hKernel12Ideal := Cert.Kernel12Ideal.Gen.facts) (hReference12Ideal := Cert.Reference12Ideal.Gen.facts) := by
  intro m g m' g' hm ha
  refine ⟨Cert.Kernel12Ideal.Value.G4 m, Cert.Kernel12Ideal.Value.G5 m, Cert.Kernel12Ideal.Value.run m g, ?_⟩
  refine (θ_run Cert.Reference12Ideal.defs _ _).mono (fun r h c => ⟨(h c).1.trans ?_, (h c).2.1.trans ?_, (h c).2.2⟩)
    (Cert.Reference12Ideal.Value.run m' g')
  all_goals
    rw [(ha c).1, (ha c).2.1, (ha c).2.2.1, (ha c).2.2.2]
    funext i
    rw [eq_ix2 i]
  · exact (Cert.Reference12Ideal.Product.at_entry _ _ _ _ (i 0) (i 1)).trans (Cert.Kernel12Ideal.Product.value4 m c (i 0) (i 1)).symm
  · exact (Cert.Reference12Ideal.Product.at_entry _ _ _ _ (i 0) (i 1)).trans (Cert.Kernel12Ideal.Product.value5 m c (i 0) (i 1)).symm

theorem frame12 : Cert.quiescent_Reference12Ideal (hReference12Ideal := Cert.Reference12Ideal.Gen.facts) := fun m g _ =>
  (θ_run Cert.Reference12Ideal.defs _ _).mono
    (fun r h => ⟨fun c => (h c).2.2, sem_eq_zero_of_no_sems (by decide) _⟩) (Cert.Reference12Ideal.Value.run m g)

end Cert.Proof
-- ==== Proof.UpProj.lean ====
/-
  The up-projection of a branch: each block of the result is one product of two blocks.
-/
module

public import proofs.«01_k».proof.Proof.Ff2
public import proofs.«01_k».proof.Proof.Gen.Kernel14Ideal.Value
public import proofs.«01_k».proof.Proof.Gen.Reference14Ideal.Run

@[expose] public section

noncomputable section

namespace Cert.Kernel14Ideal.Product

open Cert.Kernel14Ideal Cert.Kernel14Ideal.Gen Cert.Products
open Idealize.ShloMosaic Idealize.ShloMosaic.TcCoe Idealize.SL.Sem Idealize.ShloMosaic.StableHlo
open Finset (range)

/-! ## A block of the result -/

theorem result (x : Vec Ideal S1024x1024 .bf16) (y : Vec Ideal S1024x1024 .bf16) (p r : Fin 1024) :
    (out0_2 (F := Ideal) x y (ix2 p r) : EReal) = nn x y 1024 p.val r.val := by
  unfold out0_2
  rw [View.canon_unit_zero origin]
  simp only [View.ld_unit_zero (S := S1024x1024) origin]
  rw [nn_eq]; pointwise [k0_pay1]

variable (m : (ℓ : Loc nD τ sig) → Buf (Elt Ideal) ℓ) (ρ : Dev nD → PrngReg) (c : Dev nD)

abbrev A : FVec Ideal S8192x1024 .bf16 := m ((c : Thread nD τ).loc main_arg0)
abbrev B : FVec Ideal S1024x2048 .bf16 := m ((c : Thread nD τ).loc main_arg1)

theorem index : ∀ t : Fin cfg0.N, win0_0.index t 0 = t.val / 2 ∧ win0_0.index t 1 = 0
    ∧ win0_1.index t 0 = 0 ∧ win0_1.index t 1 = t.val % 2 :=
  (by decide +kernel : ∀ t : Fin grid0.N, _)
theorem index' : ∀ t : Fin cfg0.N, win0_2.index t 0 = t.val / 2 ∧ win0_2.index t 1 = t.val % 2 :=
  (by decide +kernel : ∀ t : Fin grid0.N, _)

theorem block0 (t : Fin cfg0.N) (p : Fin 1024) (k : Fin 1024) :
    iblk m c 0 t (ix2 p k) = ent (A m c) (1024 * (t.val / 2) + p.val) (1024 * 0 + k.val) := by
  unfold iblk; rw [View.read_apply]
  refine ent_of (A m c) _ ?_ ?_
  · show win0_0.index t 0 * 1024 + 1 * p.val = _; rw [(index t).1]; omega
  · show win0_0.index t 1 * 1024 + 1 * k.val = _; rw [(index t).2.1]; omega

theorem block1 (t : Fin cfg0.N) (k : Fin 1024) (p : Fin 1024) :
    iblk m c 1 t (ix2 k p) = ent (B m c) (1024 * 0 + k.val) (1024 * (t.val % 2) + p.val) := by
  unfold iblk; rw [View.read_apply]
  refine ent_of (B m c) _ ?_ ?_
  · show win0_1.index t 0 * 1024 + 1 * k.val = _; rw [(index t).2.2.1]; omega
  · show win0_1.index t 1 * 1024 + 1 * p.val = _; rw [(index t).2.2.2]; omega

theorem part (t : Fin cfg0.N) (p r : Fin 1024) : nn (a := 1024) (b := 1024) (d := 1024) (e := 1024) (iblk m c 0 t) (iblk m c 1 t) 1024 p.val r.val
    = nn (A m c) (B m c) 1024 (1024 * (t.val / 2) + p.val) (1024 * (t.val % 2) + r.val) := by
  refine (nn_part (A m c) (B m c) 2 (s := 0) _ _ (block0 m c t) (block1 m c t) p r).trans ?_
  unfold nn nnB
  simp only [Nat.mul_zero, Nat.zero_add]

/-! ## The result -/

def R : FVec Ideal S8192x2048 .f32 := fun i => nn (A m c) (B m c) 1024 (i 0).val (i 1).val

theorem flushed (t : Fin cfg0.N) (hf : (cfg0.win 2).flush t = true) :
    (dats m 0 c).flushed 2 t = ((cfg0.win 2).blk t).view.read (Elt Ideal) (R m c) := by
  rw [Value.flushed2]
  funext j
  rw [View.read_apply]
  have e0 : (((cfg0.win 2).blk t).view.emb j 0).val = 1024 * (t.val / 2) + (j 0).val := by
    show win0_2.index t 0 * 1024 + 1 * (j 0).val = _; rw [(index' t).1]; omega
  have e1 : (((cfg0.win 2).blk t).view.emb j 1).val = 1024 * (t.val % 2) + (j 1).val := by
    show win0_2.index t 1 * 1024 + 1 * (j 1).val = _; rw [(index' t).2]; omega
  show (out0_2 (F := Ideal) (iblk m c 0 t) (iblk m c 1 t) j : EReal) = R m c _
  unfold R
  rw [e0, e1]
  refine ((congrArg (out0_2 (F := Ideal) (iblk m c 0 t) (iblk m c 1 t)) (eq_ix2 j)).trans (result _ _ (j 0) (j 1))).trans ?_
  exact part m c t (j 0) (j 1)

theorem final : (dats m 0 c).arrAt 2 cfg0.N = R m c :=
  (dats m 0 c).arrAt_eq_of_cover 2 (R m c) (flushed m c) fun i =>
    have h0 : (i 0 : Nat) < 8192 := (i 0).isLt
    have h1 : (i 1 : Nat) < 2048 := (i 1).isLt
    have hN : 2 * ((i 0 : Nat) / 1024) + (i 1 : Nat) / 1024 < cfg0.N := by rw [show cfg0.N = 16 from N_0]; omega
    ⟨⟨_, hN⟩, flush0_2 _, by
      show i ∈ ((View.whole main_v0).slice (win0_2.rect ⟨_, hN⟩)).set
      rw [View.set_slice_whole, Rect.mem_set_unit]
      intro a
      match a with
      | ⟨0, _⟩ =>
        show win0_2.index ⟨_, hN⟩ 0 * 1024 ≤ (i 0 : Nat) ∧ (i 0 : Nat) < win0_2.index ⟨_, hN⟩ 0 * 1024 + 1024
        rw [(index' _).1]; dsimp only; omega
      | ⟨1, _⟩ =>
        show win0_2.index ⟨_, hN⟩ 1 * 1024 ≤ (i 1 : Nat) ∧ (i 1 : Nat) < win0_2.index ⟨_, hN⟩ 1 * 1024 + 1024
        rw [(index' _).2]; dsimp only; omega⟩

theorem run : θ_run defs (onTc (τ := τ) (main (F := Ideal))) ⟨m, fun _ => 0, ρ⟩ fun r => ∀ c : Dev nD,
      r.2.mem ((c : Thread nD τ).loc main_v0) = R m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

theorem value (i : Fin 8192) (j : Fin 2048) : (R m c (ix2 i j) : EReal)
    = nn (A m c) (B m c) 1024 i.val j.val := rfl

end Cert.Kernel14Ideal.Product

namespace Cert.Reference14Ideal.Product

open Cert.Reference14Ideal Cert.Reference14Ideal.Gen Cert.Products
open Idealize.ShloMosaic Idealize.ShloMosaic.TcCoe Idealize.SL.Sem Idealize.ShloMosaic.StableHlo

theorem at_entry (X : FVec Ideal S8192x1024 .f32) (Y : FVec Ideal S1024x2048 .f32) (i : Fin 8192) (j : Fin 2048) :
    ((Host.dotGeneral (φ₁ := .f32) (φ₂ := .f32) dot_S8192x1024_S1024x2048_S8192x2048_1_0_0_1_n_n none X Y) (ix2 i j) : EReal)
      = nn X Y 1024 i.val j.val := by
  rw [nn_eq]; clean_types; pointwise

end Cert.Reference14Ideal.Product

namespace Cert.Proof

open Idealize.ShloMosaic Idealize.ShloMosaic.TcCoe Idealize.SL.Sem Idealize.ShloMosaic.StableHlo

theorem algebraic14 : Cert.algebraic_Kernel14Ideal_Reference14Ideal
    (hKernel14Ideal := Cert.Kernel14Ideal.Gen.facts) (hReference14Ideal := Cert.Reference14Ideal.Gen.facts) := by
  intro m g m' g' hm ha
  refine ⟨Cert.Kernel14Ideal.Product.R m, Cert.Kernel14Ideal.Product.run m g, ?_⟩
  refine (θ_run Cert.Reference14Ideal.defs _ _).mono (fun r h c => ⟨(h c).1.trans ?_, (h c).2⟩) (Cert.Reference14Ideal.Value.run m' g')
  rw [(ha c).1, (ha c).2]
  funext i
  rw [eq_ix2 i]
  exact (Cert.Reference14Ideal.Product.at_entry _ _ (i 0) (i 1)).trans (Cert.Kernel14Ideal.Product.value m c (i 0) (i 1)).symm

theorem frame14 : Cert.quiescent_Reference14Ideal (hReference14Ideal := Cert.Reference14Ideal.Gen.facts) := fun m g _ =>
  (θ_run Cert.Reference14Ideal.defs _ _).mono
    (fun r h => ⟨fun c => (h c).2, sem_eq_zero_of_no_sems (by decide) _⟩) (Cert.Reference14Ideal.Value.run m g)

end Cert.Proof
-- ==== Proof.UpDx.lean ====
/-
  The gradient of an up-projection's argument: each block of the result is one product of two blocks.
-/
module

public import proofs.«01_k».proof.Proof.UpProj
public import proofs.«01_k».proof.Proof.Gen.Kernel15Ideal.Value
public import proofs.«01_k».proof.Proof.Gen.Reference15Ideal.Run

@[expose] public section

noncomputable section

namespace Cert.Kernel15Ideal.Product

open Cert.Kernel15Ideal Cert.Kernel15Ideal.Gen Cert.Products
open Idealize.ShloMosaic Idealize.ShloMosaic.TcCoe Idealize.SL.Sem Idealize.ShloMosaic.StableHlo
open Finset (range)

/-! ## A block of the result -/

theorem result (x : Vec Ideal S1024x2048 .bf16) (y : Vec Ideal S1024x2048 .bf16) (p r : Fin 1024) :
    (out0_2 (F := Ideal) x y (ix2 p r) : EReal) = nt x y 2048 p.val r.val := by
  unfold out0_2
  rw [View.canon_unit_zero origin]
  simp only [View.ld_unit_zero (S := S1024x2048) origin]
  rw [nt_eq]; pointwise [k0_pay1]

variable (m : (ℓ : Loc nD τ sig) → Buf (Elt Ideal) ℓ) (ρ : Dev nD → PrngReg) (c : Dev nD)

abbrev A : FVec Ideal S8192x2048 .bf16 := m ((c : Thread nD τ).loc main_arg0)
abbrev B : FVec Ideal S1024x2048 .bf16 := m ((c : Thread nD τ).loc main_arg1)

theorem index : ∀ t : Fin cfg0.N, win0_0.index t 0 = t.val / 1 ∧ win0_0.index t 1 = 0
    ∧ win0_1.index t 0 = t.val % 1 ∧ win0_1.index t 1 = 0 :=
  (by decide +kernel : ∀ t : Fin grid0.N, _)
theorem index' : ∀ t : Fin cfg0.N, win0_2.index t 0 = t.val / 1 ∧ win0_2.index t 1 = t.val % 1 :=
  (by decide +kernel : ∀ t : Fin grid0.N, _)

theorem block0 (t : Fin cfg0.N) (p : Fin 1024) (k : Fin 2048) :
    iblk m c 0 t (ix2 p k) = ent (A m c) (1024 * (t.val / 1) + p.val) (2048 * 0 + k.val) := by
  unfold iblk; rw [View.read_apply]
  refine ent_of (A m c) _ ?_ ?_
  · show win0_0.index t 0 * 1024 + 1 * p.val = _; rw [(index t).1]; omega
  · show win0_0.index t 1 * 2048 + 1 * k.val = _; rw [(index t).2.1]; omega

theorem block1 (t : Fin cfg0.N) (p : Fin 1024) (k : Fin 2048) :
    iblk m c 1 t (ix2 p k) = ent (B m c) (1024 * (t.val % 1) + p.val) (2048 * 0 + k.val) := by
  unfold iblk; rw [View.read_apply]
  refine ent_of (B m c) _ ?_ ?_
  · show win0_1.index t 0 * 1024 + 1 * p.val = _; rw [(index t).2.2.1]; omega
  · show win0_1.index t 1 * 2048 + 1 * k.val = _; rw [(index t).2.2.2]; omega

theorem part (t : Fin cfg0.N) (p r : Fin 1024) : nt (a := 1024) (b := 2048) (d := 1024) (e := 2048) (iblk m c 0 t) (iblk m c 1 t) 2048 p.val r.val
    = nt (A m c) (B m c) 2048 (1024 * (t.val / 1) + p.val) (1024 * (t.val % 1) + r.val) := by
  refine (nt_part (A m c) (B m c) 1 (s := 0) _ _ (block0 m c t) (block1 m c t) p r).trans ?_
  unfold nt ntB
  simp only [Nat.mul_zero, Nat.zero_add]

/-! ## The result -/

def R : FVec Ideal S8192x1024 .f32 := fun i => nt (A m c) (B m c) 2048 (i 0).val (i 1).val

theorem flushed (t : Fin cfg0.N) (hf : (cfg0.win 2).flush t = true) :
    (dats m 0 c).flushed 2 t = ((cfg0.win 2).blk t).view.read (Elt Ideal) (R m c) := by
  rw [Value.flushed2]
  funext j
  rw [View.read_apply]
  have e0 : (((cfg0.win 2).blk t).view.emb j 0).val = 1024 * (t.val / 1) + (j 0).val := by
    show win0_2.index t 0 * 1024 + 1 * (j 0).val = _; rw [(index' t).1]; omega
  have e1 : (((cfg0.win 2).blk t).view.emb j 1).val = 1024 * (t.val % 1) + (j 1).val := by
    show win0_2.index t 1 * 1024 + 1 * (j 1).val = _; rw [(index' t).2]; omega
  show (out0_2 (F := Ideal) (iblk m c 0 t) (iblk m c 1 t) j : EReal) = R m c _
  unfold R
  rw [e0, e1]
  refine ((congrArg (out0_2 (F := Ideal) (iblk m c 0 t) (iblk m c 1 t)) (eq_ix2 j)).trans (result _ _ (j 0) (j 1))).trans ?_
  exact part m c t (j 0) (j 1)

theorem final : (dats m 0 c).arrAt 2 cfg0.N = R m c :=
  (dats m 0 c).arrAt_eq_of_cover 2 (R m c) (flushed m c) fun i =>
    have h0 : (i 0 : Nat) < 8192 := (i 0).isLt
    have h1 : (i 1 : Nat) < 1024 := (i 1).isLt
    have hN : 1 * ((i 0 : Nat) / 1024) + (i 1 : Nat) / 1024 < cfg0.N := by rw [show cfg0.N = 8 from N_0]; omega
    ⟨⟨_, hN⟩, flush0_2 _, by
      show i ∈ ((View.whole main_v0).slice (win0_2.rect ⟨_, hN⟩)).set
      rw [View.set_slice_whole, Rect.mem_set_unit]
      intro a
      match a with
      | ⟨0, _⟩ =>
        show win0_2.index ⟨_, hN⟩ 0 * 1024 ≤ (i 0 : Nat) ∧ (i 0 : Nat) < win0_2.index ⟨_, hN⟩ 0 * 1024 + 1024
        rw [(index' _).1]; dsimp only; omega
      | ⟨1, _⟩ =>
        show win0_2.index ⟨_, hN⟩ 1 * 1024 ≤ (i 1 : Nat) ∧ (i 1 : Nat) < win0_2.index ⟨_, hN⟩ 1 * 1024 + 1024
        rw [(index' _).2]; dsimp only; omega⟩

theorem run : θ_run defs (onTc (τ := τ) (main (F := Ideal))) ⟨m, fun _ => 0, ρ⟩ fun r => ∀ c : Dev nD,
      r.2.mem ((c : Thread nD τ).loc main_v0) = R m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

theorem value (i : Fin 8192) (j : Fin 1024) : (R m c (ix2 i j) : EReal)
    = nt (A m c) (B m c) 2048 i.val j.val := rfl

end Cert.Kernel15Ideal.Product

namespace Cert.Reference15Ideal.Product

open Cert.Reference15Ideal Cert.Reference15Ideal.Gen Cert.Products
open Idealize.ShloMosaic Idealize.ShloMosaic.TcCoe Idealize.SL.Sem Idealize.ShloMosaic.StableHlo

theorem at_entry (X : FVec Ideal S8192x2048 .f32) (Y : FVec Ideal S1024x2048 .f32) (i : Fin 8192) (j : Fin 1024) :
    ((Host.dotGeneral (φ₁ := .f32) (φ₂ := .f32) dot_S8192x2048_S1024x2048_S8192x1024_1_1_0_0_n_n none X Y) (ix2 i j) : EReal)
      = nt X Y 2048 i.val j.val := by
  rw [nt_eq]; clean_types; pointwise

end Cert.Reference15Ideal.Product

namespace Cert.Proof

open Idealize.ShloMosaic Idealize.ShloMosaic.TcCoe Idealize.SL.Sem Idealize.ShloMosaic.StableHlo

theorem algebraic15 : Cert.algebraic_Kernel15Ideal_Reference15Ideal
    (hKernel15Ideal := Cert.Kernel15Ideal.Gen.facts) (hReference15Ideal := Cert.Reference15Ideal.Gen.facts) := by
  intro m g m' g' hm ha
  refine ⟨Cert.Kernel15Ideal.Product.R m, Cert.Kernel15Ideal.Product.run m g, ?_⟩
  refine (θ_run Cert.Reference15Ideal.defs _ _).mono (fun r h c => ⟨(h c).1.trans ?_, (h c).2⟩) (Cert.Reference15Ideal.Value.run m' g')
  rw [(ha c).1, (ha c).2]
  funext i
  rw [eq_ix2 i]
  exact (Cert.Reference15Ideal.Product.at_entry _ _ (i 0) (i 1)).trans (Cert.Kernel15Ideal.Product.value m c (i 0) (i 1)).symm

theorem frame15 : Cert.quiescent_Reference15Ideal (hReference15Ideal := Cert.Reference15Ideal.Gen.facts) := fun m g _ =>
  (θ_run Cert.Reference15Ideal.defs _ _).mono
    (fun r h => ⟨fun c => (h c).2, sem_eq_zero_of_no_sems (by decide) _⟩) (Cert.Reference15Ideal.Value.run m g)

end Cert.Proof
-- ==== Proof.UpDw.lean ====
/-
  The gradient of an up-projection's weight: a block of the result is summed over four pieces of the rows.
-/
module

public import proofs.«01_k».proof.Proof.UpDx
public import proofs.«01_k».proof.Proof.Gen.Kernel16Ideal.Value
public import proofs.«01_k».proof.Proof.Gen.Reference16Ideal.Run

@[expose] public section

noncomputable section

namespace Cert.Kernel16Ideal.Product

open Cert.Kernel16Ideal Cert.Kernel16Ideal.Gen Cert.Products
open Idealize.ShloMosaic Idealize.ShloMosaic.TcCoe Idealize.SL.Sem Idealize.ShloMosaic.StableHlo
open Finset (range)

/-! ## What each point leaves in the running sum and in the result's buffer -/

section
variable (c : Dev nD) (i : grid0.Coords) (a3 : Memref sig .tc .vmem S2048x1024 .bf16) (h3 : a3.IsWhole)
  (a4 : Memref sig .tc .vmem S2048x1024 .bf16) (h4 : a4.IsWhole) (a5 : Memref sig .tc .vmem S1024x1024 .bf16) (h5 : a5.IsWhole)
  (a6 : Memref sig .tc .vmem S1024x1024 .f32) (h6 : a6.IsWhole) (x : Vec Ideal S2048x1024 .bf16) (y : Vec Ideal S2048x1024 .bf16)
  (s : Vec Ideal S1024x1024 .f32)

theorem first (k0 : cond0_0 i) (k1 : ¬cond0_1 i) (k2 : ¬cond0_2 i) :
    sout0_A_0 c i a3 h3 a4 h4 a5 h5 a6 h6 k0 k1 k2 x y = k0_pay1 (F := Ideal) x y := by
  unfold sout0_A_0
  rw [View.read_writes_eq_canon _ _ _ (scover0_A_0 c i a3 h3 a4 h4 a5 h5 a6 h6 k0 k1 k2 x y)]
  unfold kernelRun0_A; dsimp only
  rw [View.canon_unit_zero origin]
  unfold k0_pay2
  simp only [View.readAt_eq_ld, h3.read_unread, h4.read_unread, View.ld_unit_zero (S := S2048x1024) origin, shapeCast_self]

theorem next (k0 : ¬cond0_0 i) (k1 : cond0_1 i) (k2 : ¬cond0_2 i) :
    sout0_B_0 c i a3 h3 a4 h4 a5 h5 a6 h6 k0 k1 k2 x y s = addf s (k0_pay1 (F := Ideal) x y) := by
  unfold sout0_B_0
  rw [View.read_writes_eq_canon _ _ _ (scover0_B_0 c i a3 h3 a4 h4 a5 h5 a6 h6 k0 k1 k2 x y s)]
  unfold kernelRun0_B; dsimp only
  rw [View.canon_unit_zero origin]
  unfold k0_pay3
  simp only [View.readAt_eq_ld, h3.read_unread, h4.read_unread, h6.read_unread, View.ld_unit_zero (S := S2048x1024) origin,
    View.ld_unit_zero (S := S1024x1024) origin, shapeCast_self]

theorem last (k0 : ¬cond0_0 i) (k1 : cond0_1 i) (k2 : cond0_2 i) :
    sout0_C_0 c i a3 h3 a4 h4 a5 h5 a6 h6 k0 k1 k2 x y s = addf s (k0_pay1 (F := Ideal) x y) := by
  unfold sout0_C_0
  rw [View.read_writes_eq_canon _ _ _ (scover0_C_0 c i a3 h3 a4 h4 a5 h5 a6 h6 k0 k1 k2 x y s)]
  unfold kernelRun0_C; dsimp only
  sl_unfold_words
  rw [View.canon_unit_zero origin]
  unfold k0_pay3
  simp only [View.readAt_eq_ld, h3.read_unread, h4.read_unread, h6.read_unread, View.ld_unit_zero (S := S2048x1024) origin,
    View.ld_unit_zero (S := S1024x1024) origin, shapeCast_self]

theorem result (k0 : ¬cond0_0 i) (k1 : cond0_1 i) (k2 : cond0_2 i) :
    out0_C_2 c i a3 h3 a4 h4 a5 h5 a6 h6 k0 k1 k2 x y s = k0_pay4 (F := Ideal) (addf s (k0_pay1 (F := Ideal) x y)) := by
  unfold out0_C_2
  rw [View.read_writes_eq_canon _ _ _ (cover0_C_2 c i a3 h3 a4 h4 a5 h5 a6 h6 k0 k1 k2 x y s)]
  unfold kernelRun0_C; dsimp only
  sl_unfold_words
  rw [View.canon_unit_zero origin, View.readCov_unit_zero _ origin]
  unfold k0_pay3
  simp only [View.readAt_eq_ld, h3.read_unread, h4.read_unread, h6.read_unread, View.ld_unit_zero (S := S2048x1024) origin,
    View.ld_unit_zero (S := S1024x1024) origin, shapeCast_self]

theorem part_at (p r : Fin 1024) : (k0_pay1 (F := Ideal) x y (ix2 p r) : EReal) = tn x y 2048 p.val r.val := by
  rw [tn_eq]; pointwise [k0_pay1]
end

/-! ## The blocks read at a point, and the running sum -/

variable (m : (ℓ : Loc nD τ sig) → Buf (Elt Ideal) ℓ) (c : Dev nD)

abbrev A : FVec Ideal S8192x1024 .bf16 := m ((c : Thread nD τ).loc main_arg0)
abbrev B : FVec Ideal S8192x2048 .bf16 := m ((c : Thread nD τ).loc main_arg1)

theorem index : ∀ t : Fin cfg0.N, win0_0.index t 0 = t.val % 4 ∧ win0_0.index t 1 = t.val / 4 / 2
    ∧ win0_1.index t 0 = t.val % 4 ∧ win0_1.index t 1 = t.val / 4 % 2 :=
  (by decide +kernel : ∀ t : Fin grid0.N, _)

theorem block0 (t : Fin cfg0.N) (k : Fin 2048) (p : Fin 1024) :
    iblk m c 0 t (ix2 k p) = ent (A m c) (2048 * (t.val % 4) + k.val) (1024 * (t.val / 4 / 2) + p.val) := by
  unfold iblk; rw [View.read_apply]
  refine ent_of (A m c) _ ?_ ?_
  · show win0_0.index t 0 * 2048 + 1 * k.val = _; rw [(index t).1]; omega
  · show win0_0.index t 1 * 1024 + 1 * p.val = _; rw [(index t).2.1]; omega

theorem block1 (t : Fin cfg0.N) (k : Fin 2048) (p : Fin 1024) :
    iblk m c 1 t (ix2 k p) = ent (B m c) (2048 * (t.val % 4) + k.val) (1024 * (t.val / 4 % 2) + p.val) := by
  unfold iblk; rw [View.read_apply]
  refine ent_of (B m c) _ ?_ ?_
  · show win0_1.index t 0 * 2048 + 1 * k.val = _; rw [(index t).2.2.1]; omega
  · show win0_1.index t 1 * 1024 + 1 * p.val = _; rw [(index t).2.2.2]; omega

theorem part (t : Fin cfg0.N) (p r : Fin 1024) : (k0_pay1 (F := Ideal) (iblk m c 0 t) (iblk m c 1 t) (ix2 p r) : EReal)
    = ∑ k ∈ range 2048, tnB (A m c) (B m c) 2 p.val r.val (t.val / 4) (2048 * (t.val % 4) + k) :=
  (part_at _ _ p r).trans (tn_part (A m c) (B m c) 2 _ _ (block0 m c t) (block1 m c t) p r)

theorem total (p r : Fin 1024) : ∀ (n : ℕ) (h : n < cfg0.N), ((outsAt0 m c n h).2 (ix2 p r) : EReal)
    = ∑ k ∈ range (2048 * (n % 4 + 1)), tnB (A m c) (B m c) 2 p.val r.val (n / 4) k := by
  refine run_total (by decide) (fun n h => ((outsAt0 m c n h).2 (ix2 p r) : EReal)) _ (fun n h e => ?_) (fun n h e => ?_)
  · have := outsAt0_A m c ⟨n, h⟩ e (by dsimp only; omega) (by dsimp only; omega)
    dsimp only at this ⊢
    rw [this, first]
    exact part m c ⟨n, h⟩ p r
  · by_cases e3 : (n + 1) % 4 = 3
    · have := outsAt0_C m c ⟨n + 1, h⟩ e (by dsimp only; omega) e3
      dsimp only at this ⊢
      rw [this, last]
      exact congrArg (_ + ·) (part m c ⟨n + 1, h⟩ p r)
    · have := outsAt0_B m c ⟨n + 1, h⟩ e (by dsimp only; omega) e3
      dsimp only at this ⊢
      rw [this, next]
      exact congrArg (_ + ·) (part m c ⟨n + 1, h⟩ p r)

theorem final (n : ℕ) (h : n < cfg0.N) (e : n % 4 = 3) : (outsAt0 m c n h).1 = k0_pay4 (F := Ideal) (outsAt0 m c n h).2 := by
  have := outsAt0_C m c ⟨n, h⟩ (by dsimp only; omega) (by dsimp only; omega) e
  dsimp only at this
  rw [this, last, result]

theorem value (i : Fin 1024) (j : Fin 2048) : (Value.G2 m c (ix2 i j) : EReal) = tn (A m c) (B m c) 8192 i.val j.val := by
  have hi := i.isLt
  have hj := j.isLt
  have hp : Value.pt2Of (ix2 i j) = 4 * (2 * (i.val / 1024) + j.val / 1024) + 3 := by
    show 4 * (2 * (i.val / 1024 - 0) + 1 * (j.val / 1024 - 0)) + 3 = _; omega
  have hN : Value.pt2Of (ix2 i j) < cfg0.N := by rw [hp, show cfg0.N = 8 from N_0]; omega
  have hl : Value.loc2Of (ix2 i j) = ix2 ⟨i.val % 1024, Nat.mod_lt _ (by decide)⟩ ⟨j.val % 1024, Nat.mod_lt _ (by decide)⟩ := by
    funext a; match a with | ⟨0, _⟩ => rfl | ⟨1, _⟩ => rfl
  unfold Value.G2
  rw [dif_pos hN, ← Value.outsAt0_sweep m c _ hN, final m c _ hN (by rw [hp]; omega), hl]
  refine (total m c _ _ _ hN).trans ?_
  rw [show 2048 * (Value.pt2Of (ix2 i j) % 4 + 1) = 8192 by rw [hp]; omega,
    show Value.pt2Of (ix2 i j) / 4 = 2 * (i.val / 1024) + j.val / 1024 by rw [hp]; omega]
  exact tn_sum (A m c) (B m c) (by omega) 8192

end Cert.Kernel16Ideal.Product

namespace Cert.Reference16Ideal.Product

open Cert.Reference16Ideal Cert.Reference16Ideal.Gen Cert.Products
open Idealize.ShloMosaic Idealize.ShloMosaic.TcCoe Idealize.SL.Sem Idealize.ShloMosaic.StableHlo

theorem at_entry (X : FVec Ideal S8192x1024 .f32) (Y : FVec Ideal S8192x2048 .f32) (i : Fin 1024) (j : Fin 2048) :
    ((truncf .bf16 (transpose S1024x2048 [1, 0] (Host.dotGeneral (φ₁ := .f32) (φ₂ := .f32) dot_S8192x2048_S8192x1024_S2048x1024_0_0_1_1_n_n none Y X)
      transposes_S2048x1024_S1024x2048_1_0) bitsLt_bf16_f32) (ix2 i j) : EReal)
      = tn X Y 8192 i.val j.val := by
  rw [tn_eq]; clean_types; pointwise
  exact Finset.sum_congr rfl fun k _ => mul_comm _ _

end Cert.Reference16Ideal.Product

namespace Cert.Proof

open Idealize.ShloMosaic Idealize.ShloMosaic.TcCoe Idealize.SL.Sem Idealize.ShloMosaic.StableHlo

theorem algebraic16 : Cert.algebraic_Kernel16Ideal_Reference16Ideal
    (hKernel16Ideal := Cert.Kernel16Ideal.Gen.facts) (hReference16Ideal := Cert.Reference16Ideal.Gen.facts) := by
  intro m g m' g' hm ha
  refine ⟨Cert.Kernel16Ideal.Value.G2 m, Cert.Kernel16Ideal.Value.run m g, ?_⟩
  refine (θ_run Cert.Reference16Ideal.defs _ _).mono (fun r h c => ⟨(h c).1.trans ?_, (h c).2⟩) (Cert.Reference16Ideal.Value.run m' g')
  rw [(ha c).1, (ha c).2]
  funext i
  rw [eq_ix2 i]
  exact (Cert.Reference16Ideal.Product.at_entry _ _ (i 0) (i 1)).trans (Cert.Kernel16Ideal.Product.value m c (i 0) (i 1)).symm

theorem frame16 : Cert.quiescent_Reference16Ideal (hReference16Ideal := Cert.Reference16Ideal.Gen.facts) := fun m g _ =>
  (θ_run Cert.Reference16Ideal.defs _ _).mono
    (fun r h => ⟨fun c => (h c).2, sem_eq_zero_of_no_sems (by decide) _⟩) (Cert.Reference16Ideal.Value.run m g)

end Cert.Proof
-- ==== Proof.Adam.lean ====
/-
  One step of the optimiser at one weight: the program multiplies the two moments by the inverses of their bias
  corrections, the reference divides by the corrections, which it computes from whole numbers.
-/
module

public import proofs.«01_k».proof.Proof.UpDw

@[expose] public section

noncomputable section

namespace Cert.Adam

open Idealize.ShloMosaic Idealize.ShloMosaic.StableHlo

/-! ## The numbers -/

/-- One less the tenth power of nine tenths, and of 999 thousandths: what the moments' bias corrections stand for. -/
def debiasM : ℝ := 1 - (9 / 10) ^ 10
def debiasV : ℝ := 1 - (999 / 1000) ^ 10

/-- Their inverses, as the program's constants name them. -/
abbrev invM : EReal := ((10000000000 / 6513215599 : ℝ) : EReal)
abbrev invV : EReal := ((1000000000000000000000000000000 / 9955119790251790119955009999 : ℝ) : EReal)

theorem one_eq : Ideal.ofBits .f32 0x3F800000#32 = ((1 : ℝ) : EReal) := by
  simp [Ideal.ofBits, Ideal.ieee]; rw [← EReal.coe_mul]; norm_num
theorem nine_eq : Ideal.ofBits .f32 0x41100000#32 = ((9 : ℝ) : EReal) := by
  simp [Ideal.ofBits, Ideal.ieee]; rw [← EReal.coe_mul]; norm_num
theorem ten_eq : Ideal.ofBits .f32 0x41200000#32 = ((10 : ℝ) : EReal) := by
  simp [Ideal.ofBits, Ideal.ieee]; rw [← EReal.coe_mul]; norm_num
theorem n999_eq : Ideal.ofBits .f32 0x4479C000#32 = ((999 : ℝ) : EReal) := by
  simp [Ideal.ofBits, Ideal.ieee]; rw [← EReal.coe_mul]; norm_num
theorem n1000_eq : Ideal.ofBits .f32 0x447A0000#32 = ((1000 : ℝ) : EReal) := by
  simp [Ideal.ofBits, Ideal.ieee]; rw [← EReal.coe_mul]; norm_num

/-- Division by a bias correction is multiplication by the constant that names its inverse. -/
theorem div_debiasM (x : EReal) : Ideal.div x (debiasM : ℝ) = x * invM := by
  rw [Ideal.div_coe (by unfold debiasM; norm_num)]
  unfold debiasM invM; norm_num
theorem div_debiasV (x : EReal) : Ideal.div x (debiasV : ℝ) = x * invV := by
  rw [Ideal.div_coe (by unfold debiasV; norm_num)]
  unfold debiasV invV; norm_num

/-- The tenth power as it is multiplied up. -/
def power (q : EReal) : EReal := (q * q) * (((q * q) * (q * q)) * ((q * q) * (q * q)))

theorem power_coe (q : ℝ) : power (q : EReal) = ((q ^ 10 : ℝ) : EReal) := by
  unfold power; simp only [← EReal.coe_mul]; congr 1; ring

theorem power_m : Ideal.ofBits .f32 0x3F800000#32
    - power (Ideal.div (Ideal.ofBits .f32 0x41100000#32) (Ideal.ofBits .f32 0x41200000#32)) = (debiasM : ℝ) := by
  rw [one_eq, nine_eq, ten_eq, Ideal.div_coe (by norm_num), ← EReal.coe_mul, power_coe, ← EReal.coe_sub]
  congr 1; unfold debiasM; norm_num
theorem power_v : Ideal.ofBits .f32 0x3F800000#32
    - power (Ideal.div (Ideal.ofBits .f32 0x4479C000#32) (Ideal.ofBits .f32 0x447A0000#32)) = (debiasV : ℝ) := by
  rw [one_eq, n999_eq, n1000_eq, Ideal.div_coe (by norm_num), ← EReal.coe_mul, power_coe, ← EReal.coe_sub]
  congr 1; unfold debiasV; norm_num

/-! ## The step at one weight -/

def newM (g m : EReal) : EReal := Ideal.ofBits .f32 0x3F666666#32 * m + Ideal.ofBits .f32 0x3DCCCCCD#32 * g
def newV (g v : EReal) : EReal := Ideal.ofBits .f32 0x3F7FBE77#32 * v + Ideal.ofBits .f32 0x3A83126F#32 * (g * g)

/-- The change of a weight, from the two constants that stand for the inverse corrections. -/
def change (cm cv w g m v : EReal) : EReal :=
  Ideal.ofBits .f32 0xBA83126F#32 * (Ideal.div (newM g m * cm) (Ideal.sqrt (newV g v * cv) + Ideal.ofBits .f32 0x322BCC77#32)
    + Ideal.ofBits .f32 0x3C23D70A#32 * w)

/-! ## The reference's arrays, at every shape -/

abbrev Sc : Shape := ⟨0, ![]⟩

variable {S : Shape} (b : Sc.BroadcastsInDim S (![] : Fin 0 → Fin S.rank))

abbrev all (n : BitVec 32) : FVec Ideal S .f32 := broadcastInDim S ![] b (constant Sc .f32 n)

/-- A bias correction: one less the tenth power of a quotient. -/
abbrev correction (x y : BitVec 32) : FVec Ideal Sc .f32 :=
  let q : FVec Ideal Sc .f32 := Host.divf (constant Sc .f32 x) (constant Sc .f32 y)
  subf (constant Sc .f32 0x3F800000#32) (mulf (mulf q q) (mulf (mulf (mulf q q) (mulf q q)) (mulf (mulf q q) (mulf q q))))

abbrev arrayM (G M : FVec Ideal S .f32) : FVec Ideal S .f32 :=
  addf (mulf (all b 0x3F666666#32) M) (mulf (all b 0x3DCCCCCD#32) G)
abbrev arrayV (G V : FVec Ideal S .f32) : FVec Ideal S .f32 :=
  addf (mulf (all b 0x3F7FBE77#32) V) (mulf (all b 0x3A83126F#32) (mulf G G))

theorem arrayM_eq (G M : FVec Ideal S .f32) : arrayM b G M = fun i => newM (G i) (M i) := rfl
theorem arrayV_eq (G V : FVec Ideal S .f32) : arrayV b G V = fun i => newV (G i) (V i) := rfl

/-- The reference's change of the weights is the step at each of them, by the constants that name the inverses. -/
theorem change_eq (W G M V : FVec Ideal S .f32) :
    mulf (all b 0xBA83126F#32) (addf (Host.divf
        (Host.divf (arrayM b G M) (broadcastInDim S ![] b (correction 0x41100000#32 0x41200000#32)))
        (addf (Host.sqrt (Host.divf (arrayV b G V) (broadcastInDim S ![] b (correction 0x4479C000#32 0x447A0000#32))))
          (all b 0x322BCC77#32)))
      (mulf (all b 0x3C23D70A#32) W))
      = fun i => change invM invV (W i) (G i) (M i) (V i) := by
  funext i
  show Ideal.ofBits .f32 0xBA83126F#32 * (Ideal.div
      (Ideal.div (newM (G i) (M i)) (Ideal.ofBits .f32 0x3F800000#32
        - power (Ideal.div (Ideal.ofBits .f32 0x41100000#32) (Ideal.ofBits .f32 0x41200000#32))))
      (Ideal.sqrt (Ideal.div (newV (G i) (V i)) (Ideal.ofBits .f32 0x3F800000#32
        - power (Ideal.div (Ideal.ofBits .f32 0x4479C000#32) (Ideal.ofBits .f32 0x447A0000#32)))) + Ideal.ofBits .f32 0x322BCC77#32)
      + Ideal.ofBits .f32 0x3C23D70A#32 * W i) = _
  rw [power_m, power_v, div_debiasM, div_debiasV]
  rfl

/-- ... so it is the program's, whose two constants are what their names stand for. -/
theorem change_named {cm cv : EReal} (hm : cm = invM) (hv : cv = invV) (W G M V : FVec Ideal S .f32) :
    (fun i => change invM invV (W i) (G i) (M i) (V i)) = fun i => change cm cv (W i) (G i) (M i) (V i) := by rw [hm, hv]

end Cert.Adam
-- ==== Proof.AdamClaims.lean ====
/-
  The optimiser's step on the five shapes of weights: what each program writes is the step at every weight, and so is what
  its reference computes.
-/
module

public import proofs.«01_k».proof.Proof.Adam
public import proofs.«01_k».proof.Proof.Gen.Kernel18Ideal.Value
public import proofs.«01_k».proof.Proof.Gen.Reference18Ideal.Run
public import proofs.«01_k».proof.Proof.Gen.Kernel19Ideal.Value
public import proofs.«01_k».proof.Proof.Gen.Reference19Ideal.Run
public import proofs.«01_k».proof.Proof.Gen.Kernel20Ideal.Value
public import proofs.«01_k».proof.Proof.Gen.Reference20Ideal.Run
public import proofs.«01_k».proof.Proof.Gen.Kernel21Ideal.Value
public import proofs.«01_k».proof.Proof.Gen.Reference21Ideal.Run
public import proofs.«01_k».proof.Proof.Gen.Kernel22Ideal.Value
public import proofs.«01_k».proof.Proof.Gen.Reference22Ideal.Run

@[expose] public section

noncomputable section

namespace Cert.Proof

open Idealize.ShloMosaic Idealize.ShloMosaic.TcCoe Idealize.SL.Sem Idealize.ShloMosaic.StableHlo
open Cert.Adam IdealRules.named_const

theorem preserves18 : Cert.preserves_Kernel18_Kernel18Ideal :=
  ⟨statement _ _ _ _ _ rfl, statement _ _ _ _ _ rfl⟩

theorem algebraic18 : Cert.algebraic_Kernel18Ideal_Reference18Ideal
    (hKernel18Ideal := Cert.Kernel18Ideal.Gen.facts) (hReference18Ideal := Cert.Reference18Ideal.Gen.facts) := by
  intro m g m' g' hm ha
  refine ⟨_, _, _, Cert.Kernel18Ideal.Value.run m g, ?_⟩
  refine (θ_run Cert.Reference18Ideal.defs _ _).mono
    (fun r h c => ⟨(h c).1.trans ?_, (h c).2.1.trans ?_, (h c).2.2.1.trans ?_, (h c).2.2.2⟩) (Cert.Reference18Ideal.Value.run m' g')
  all_goals rw [(ha c).2.1]
  · rw [(ha c).1, (ha c).2.2.1, (ha c).2.2.2]
    exact (change_eq _ _ _ _ _).trans (change_named (ideal_named_scalar _ _ _ _ rfl) (ideal_named_scalar _ _ _ _ rfl) _ _ _ _)
  · rw [(ha c).2.2.1]
    exact arrayM_eq _ _ _
  · rw [(ha c).2.2.2]
    exact arrayV_eq _ _ _

theorem frame18 : Cert.quiescent_Reference18Ideal (hReference18Ideal := Cert.Reference18Ideal.Gen.facts) := fun m g _ =>
  (θ_run Cert.Reference18Ideal.defs _ _).mono
    (fun r h => ⟨fun c => (h c).2.2.2, sem_eq_zero_of_no_sems (by decide) _⟩) (Cert.Reference18Ideal.Value.run m g)

theorem preserves19 : Cert.preserves_Kernel19_Kernel19Ideal :=
  ⟨statement _ _ _ _ _ rfl, statement _ _ _ _ _ rfl⟩

theorem algebraic19 : Cert.algebraic_Kernel19Ideal_Reference19Ideal
    (hKernel19Ideal := Cert.Kernel19Ideal.Gen.facts) (hReference19Ideal := Cert.Reference19Ideal.Gen.facts) := by
  intro m g m' g' hm ha
  refine ⟨_, _, _, Cert.Kernel19Ideal.Value.run m g, ?_⟩
  refine (θ_run Cert.Reference19Ideal.defs _ _).mono
    (fun r h c => ⟨(h c).1.trans ?_, (h c).2.1.trans ?_, (h c).2.2.1.trans ?_, (h c).2.2.2⟩) (Cert.Reference19Ideal.Value.run m' g')
  all_goals rw [(ha c).2.1]
  · rw [(ha c).1, (ha c).2.2.1, (ha c).2.2.2]
    exact (change_eq _ _ _ _ _).trans (change_named (ideal_named_scalar _ _ _ _ rfl) (ideal_named_scalar _ _ _ _ rfl) _ _ _ _)
  · rw [(ha c).2.2.1]
    exact arrayM_eq _ _ _
  · rw [(ha c).2.2.2]
    exact arrayV_eq _ _ _

theorem frame19 : Cert.quiescent_Reference19Ideal (hReference19Ideal := Cert.Reference19Ideal.Gen.facts) := fun m g _ =>
  (θ_run Cert.Reference19Ideal.defs _ _).mono
    (fun r h => ⟨fun c => (h c).2.2.2, sem_eq_zero_of_no_sems (by decide) _⟩) (Cert.Reference19Ideal.Value.run m g)

theorem preserves20 : Cert.preserves_Kernel20_Kernel20Ideal :=
  ⟨statement _ _ _ _ _ rfl, statement _ _ _ _ _ rfl⟩

theorem algebraic20 : Cert.algebraic_Kernel20Ideal_Reference20Ideal
    (hKernel20Ideal := Cert.Kernel20Ideal.Gen.facts) (hReference20Ideal := Cert.Reference20Ideal.Gen.facts) := by
  intro m g m' g' hm ha
  refine ⟨_, _, _, Cert.Kernel20Ideal.Value.run m g, ?_⟩
  refine (θ_run Cert.Reference20Ideal.defs _ _).mono
    (fun r h c => ⟨(h c).1.trans ?_, (h c).2.1.trans ?_, (h c).2.2.1.trans ?_, (h c).2.2.2⟩) (Cert.Reference20Ideal.Value.run m' g')
  all_goals rw [(ha c).2.1]
  · rw [(ha c).1, (ha c).2.2.1, (ha c).2.2.2]
    exact (change_eq _ _ _ _ _).trans (change_named (ideal_named_scalar _ _ _ _ rfl) (ideal_named_scalar _ _ _ _ rfl) _ _ _ _)
  · rw [(ha c).2.2.1]
    exact arrayM_eq _ _ _
  · rw [(ha c).2.2.2]
    exact arrayV_eq _ _ _

theorem frame20 : Cert.quiescent_Reference20Ideal (hReference20Ideal := Cert.Reference20Ideal.Gen.facts) := fun m g _ =>
  (θ_run Cert.Reference20Ideal.defs _ _).mono
    (fun r h => ⟨fun c => (h c).2.2.2, sem_eq_zero_of_no_sems (by decide) _⟩) (Cert.Reference20Ideal.Value.run m g)

theorem preserves21 : Cert.preserves_Kernel21_Kernel21Ideal :=
  ⟨statement _ _ _ _ _ rfl, statement _ _ _ _ _ rfl⟩

theorem algebraic21 : Cert.algebraic_Kernel21Ideal_Reference21Ideal
    (hKernel21Ideal := Cert.Kernel21Ideal.Gen.facts) (hReference21Ideal := Cert.Reference21Ideal.Gen.facts) := by
  intro m g m' g' hm ha
  refine ⟨_, _, _, Cert.Kernel21Ideal.Value.run m g, ?_⟩
  refine (θ_run Cert.Reference21Ideal.defs _ _).mono
    (fun r h c => ⟨(h c).1.trans ?_, (h c).2.1.trans ?_, (h c).2.2.1.trans ?_, (h c).2.2.2⟩) (Cert.Reference21Ideal.Value.run m' g')
  all_goals rw [(ha c).2.1]
  · rw [(ha c).1, (ha c).2.2.1, (ha c).2.2.2]
    exact (change_eq _ _ _ _ _).trans (change_named (ideal_named_scalar _ _ _ _ rfl) (ideal_named_scalar _ _ _ _ rfl) _ _ _ _)
  · rw [(ha c).2.2.1]
    exact arrayM_eq _ _ _
  · rw [(ha c).2.2.2]
    exact arrayV_eq _ _ _

theorem frame21 : Cert.quiescent_Reference21Ideal (hReference21Ideal := Cert.Reference21Ideal.Gen.facts) := fun m g _ =>
  (θ_run Cert.Reference21Ideal.defs _ _).mono
    (fun r h => ⟨fun c => (h c).2.2.2, sem_eq_zero_of_no_sems (by decide) _⟩) (Cert.Reference21Ideal.Value.run m g)

theorem preserves22 : Cert.preserves_Kernel22_Kernel22Ideal :=
  ⟨statement _ _ _ _ _ rfl, statement _ _ _ _ _ rfl⟩

theorem algebraic22 : Cert.algebraic_Kernel22Ideal_Reference22Ideal
    (hKernel22Ideal := Cert.Kernel22Ideal.Gen.facts) (hReference22Ideal := Cert.Reference22Ideal.Gen.facts) := by
  intro m g m' g' hm ha
  refine ⟨_, _, _, Cert.Kernel22Ideal.Value.run m g, ?_⟩
  refine (θ_run Cert.Reference22Ideal.defs _ _).mono
    (fun r h c => ⟨(h c).1.trans ?_, (h c).2.1.trans ?_, (h c).2.2.1.trans ?_, (h c).2.2.2⟩) (Cert.Reference22Ideal.Value.run m' g')
  all_goals rw [(ha c).2.1]
  · rw [(ha c).1, (ha c).2.2.1, (ha c).2.2.2]
    exact (change_eq _ _ _ _ _).trans (change_named (ideal_named_scalar _ _ _ _ rfl) (ideal_named_scalar _ _ _ _ rfl) _ _ _ _)
  · rw [(ha c).2.2.1]
    exact arrayM_eq _ _ _
  · rw [(ha c).2.2.2]
    exact arrayV_eq _ _ _

theorem frame22 : Cert.quiescent_Reference22Ideal (hReference22Ideal := Cert.Reference22Ideal.Gen.facts) := fun m g _ =>
  (θ_run Cert.Reference22Ideal.defs _ _).mono
    (fun r h => ⟨fun c => (h c).2.2.2, sem_eq_zero_of_no_sems (by decide) _⟩) (Cert.Reference22Ideal.Value.run m g)

end Cert.Proof
-- ==== Proof.RmsBlock.lean ====
/-
  The norm of the rows, backwards: what one tile of 256 rows gives, entry by entry. A row's gradient depends on that row
  alone; the gain's gradient is a sum over the rows.
-/
module

public import proofs.«01_k».proof.Proof.AdamClaims
public import proofs.«01_k».proof.Proof.Gen.Kernel17Ideal.Value

@[expose] public section

noncomputable section

/-! ## One row -/

namespace Cert.Rms

open Idealize.ShloMosaic

abbrev I := Fin 2048
abbrev columns : EReal := Ideal.ofBits .f32 0x45000000#32

/-- A row's mean square, with the small number added. -/
def ms (x : I → EReal) : EReal := Ideal.div (∑ k, x k * x k) columns + Ideal.ofBits .f32 0x358637BD#32
/-- What the mean square's gradient gives back to each entry of the row, for each of the two factors of its square. -/
def back (x u : I → EReal) : EReal :=
  Ideal.div ((∑ k, x k * u k) * (Ideal.ofBits .f32 0xBF000000#32 * Ideal.div (Ideal.rsqrt (ms x)) (ms x))) columns
/-- The gradient of a row's entry, with the residual's added. -/
def grad (x g h d : I → EReal) (k : I) : EReal :=
  d k + (h k * g k * Ideal.rsqrt (ms x) + x k * back x (fun j => h j * g j) + back x (fun j => h j * g j) * x k)
/-- What a row adds to the gain's gradient. -/
def gain (x h : I → EReal) (k : I) : EReal := x k * Ideal.rsqrt (ms x) * h k

/-- A row of an array. -/
def row {n : ℕ} (a : (⟨2, ![n, 2048]⟩ : Shape).Idx → EReal) (r : Fin n) : I → EReal := fun k => a (ix2 r k)

end Cert.Rms

/-! ## One tile -/

namespace Cert.Kernel17Ideal.Rms

open Cert.Kernel17Ideal Cert.Kernel17Ideal.Gen Cert.Products Cert.Rms
open Idealize.ShloMosaic Idealize.ShloMosaic.TcCoe Idealize.SL.Sem Idealize.ShloMosaic.StableHlo

section
variable (x h d : Vec Ideal S256x2048 .f32) (g : Vec Ideal S1x2048 .f32)

theorem pay3_at (r : Fin 256) (z : Fin 1) : (k0_pay3 (F := Ideal) x (ix2 r z) : EReal) = ms (row x r) := by
  obtain rfl : z = 0 := Subsingleton.elim _ _
  pointwise [k0_pay3]; rfl
theorem pay4_at (r : Fin 256) (z : Fin 1) : (k0_pay4 (F := Ideal) x (ix2 r z) : EReal) = Ideal.rsqrt (ms (row x r)) := by
  pointwise [k0_pay4]; rw [pay3_at]
theorem pay5_at (z : Fin 1) (k : Fin 2048) : (k0_pay5 (F := Ideal) x h (ix2 z k) : EReal) = ∑ r, gain (row x r) (row h r) k := by
  obtain rfl : z = 0 := Subsingleton.elim _ _
  pointwise [k0_pay5]; simp only [pay4_at]; rfl
theorem pay6_at (r : Fin 256) (k : Fin 2048) : (k0_pay6 (F := Ideal) x g h d (ix2 r k) : EReal)
    = grad (row x r) (row g 0) (row h r) (row d r) k := by
  pointwise [k0_pay6]; rw [Fin.sum_univ_one]; simp only [pay4_at, pay3_at]; rfl
theorem pay7_at (r : Fin 256) (k : Fin 2048) : (k0_pay7 (F := Ideal) x g h d (ix2 r k) : EReal)
    = grad (row x r) (row g 0) (row h r) (row d r) k := by
  pointwise [k0_pay7]; exact pay6_at x h d g r k
theorem pay2_at (y s : Vec Ideal S1x2048 .f32) (z : Fin 1) (k : Fin 2048) :
    (k0_pay2 (F := Ideal) y s (ix2 z k) : EReal) = s (ix2 z k) + y (ix2 z k) := by
  unfold k0_pay2; simp only [shapeCast_self]; pointwise
theorem pay1_at (z : Fin 1) (k : Fin 2048) : (k0_pay1 (F := Ideal) (ix2 z k) : EReal) = 0 := by
  pointwise [k0_pay1]
end

/-! ## What a point leaves in the results' buffers -/

section
variable (c : Dev nD) (i : grid0.Coords) (a1 : Memref sig .tc .vmem S256x2048 .f32) (h1 : a1.IsWhole)
  (a2 : Memref sig .tc .vmem S1x2048 .f32) (h2 : a2.IsWhole) (a3 : Memref sig .tc .vmem S256x2048 .f32) (h3 : a3.IsWhole)
  (a4 : Memref sig .tc .vmem S256x2048 .f32) (h4 : a4.IsWhole) (a5 : Memref sig .tc .vmem S256x2048 .f32) (h5 : a5.IsWhole)
  (a6 : Memref sig .tc .vmem S256x2048 .bf16) (h6 : a6.IsWhole) (a7 : Memref sig .tc .vmem S1x2048 .f32) (h7 : a7.IsWhole)
  (x : Vec Ideal S256x2048 .f32) (g : Vec Ideal S1x2048 .f32) (h d : Vec Ideal S256x2048 .f32) (s : Vec Ideal S1x2048 .f32)

theorem outA4 (hc : cond0_0 i) :
    out0_A_4 (F := Ideal) c i a1 h1 a2 h2 a3 h3 a4 h4 a5 h5 a6 h6 a7 h7 hc x g h d = k0_pay6 x g h d := by
  unfold out0_A_4
  rw [View.read_writes_eq_canon _ _ _ (cover0_A_4 c i a1 h1 a2 h2 a3 h3 a4 h4 a5 h5 a6 h6 a7 h7 hc x g h d)]
  unfold kernelRun0_A; dsimp only; sl_unfold_words
  rw [View.canon_unit_zero origin]
  simp only [View.readAt_eq_ld, h1.read_unread, h2.read_unread, h3.read_unread, h4.read_unread,
    View.ld_unit_zero (S := S256x2048) origin, View.ld_unit_zero (S := S1x2048) origin]
theorem outA5 (hc : cond0_0 i) :
    out0_A_5 (F := Ideal) c i a1 h1 a2 h2 a3 h3 a4 h4 a5 h5 a6 h6 a7 h7 hc x g h d = k0_pay7 x g h d := by
  unfold out0_A_5
  rw [View.read_writes_eq_canon _ _ _ (cover0_A_5 c i a1 h1 a2 h2 a3 h3 a4 h4 a5 h5 a6 h6 a7 h7 hc x g h d)]
  unfold kernelRun0_A; dsimp only; sl_unfold_words
  rw [View.canon_unit_zero origin]
  simp only [View.readAt_eq_ld, h1.read_unread, h2.read_unread, h3.read_unread, h4.read_unread,
    View.ld_unit_zero (S := S256x2048) origin, View.ld_unit_zero (S := S1x2048) origin]
theorem outA6 (hc : cond0_0 i) :
    out0_A_6 (F := Ideal) c i a1 h1 a2 h2 a3 h3 a4 h4 a5 h5 a6 h6 a7 h7 hc x g h d = k0_pay2 (k0_pay5 x h) (k0_pay1 (F := Ideal)) := by
  unfold out0_A_6
  rw [View.read_writes_eq_canon _ _ _ (cover0_A_6 c i a1 h1 a2 h2 a3 h3 a4 h4 a5 h5 a6 h6 a7 h7 hc x g h d)]
  unfold kernelRun0_A; dsimp only; sl_unfold_words
  rw [View.canon_cons_unit_zero (S := S1x2048) origin, View.readCov_unit_zero (S := S1x2048) _ origin]
  simp only [View.readAt_eq_ld, h1.read_unread, h2.read_unread, h3.read_unread, h4.read_unread,
    View.ld_unit_zero (S := S256x2048) origin, View.ld_unit_zero (S := S1x2048) origin]
theorem outB4 (hc : ¬cond0_0 i) :
    out0_B_4 (F := Ideal) c i a1 h1 a2 h2 a3 h3 a4 h4 a5 h5 a6 h6 a7 h7 hc x g h d s = k0_pay6 x g h d := by
  unfold out0_B_4
  rw [View.read_writes_eq_canon _ _ _ (cover0_B_4 c i a1 h1 a2 h2 a3 h3 a4 h4 a5 h5 a6 h6 a7 h7 hc x g h d s)]
  unfold kernelRun0_B; dsimp only; sl_unfold_words
  rw [View.canon_unit_zero origin]
  simp only [View.readAt_eq_ld, h1.read_unread, h2.read_unread, h3.read_unread, h4.read_unread,
    View.ld_unit_zero (S := S256x2048) origin, View.ld_unit_zero (S := S1x2048) origin]
theorem outB5 (hc : ¬cond0_0 i) :
    out0_B_5 (F := Ideal) c i a1 h1 a2 h2 a3 h3 a4 h4 a5 h5 a6 h6 a7 h7 hc x g h d s = k0_pay7 x g h d := by
  unfold out0_B_5
  rw [View.read_writes_eq_canon _ _ _ (cover0_B_5 c i a1 h1 a2 h2 a3 h3 a4 h4 a5 h5 a6 h6 a7 h7 hc x g h d s)]
  unfold kernelRun0_B; dsimp only; sl_unfold_words
  rw [View.canon_unit_zero origin]
  simp only [View.readAt_eq_ld, h1.read_unread, h2.read_unread, h3.read_unread, h4.read_unread,
    View.ld_unit_zero (S := S256x2048) origin, View.ld_unit_zero (S := S1x2048) origin]
theorem outB6 (hc : ¬cond0_0 i) :
    out0_B_6 (F := Ideal) c i a1 h1 a2 h2 a3 h3 a4 h4 a5 h5 a6 h6 a7 h7 hc x g h d s = k0_pay2 (k0_pay5 x h) s := by
  unfold out0_B_6
  rw [View.read_writes_eq_canon _ _ _ (cover0_B_6 c i a1 h1 a2 h2 a3 h3 a4 h4 a5 h5 a6 h6 a7 h7 hc x g h d s)]
  unfold kernelRun0_B; dsimp only; sl_unfold_words
  rw [View.canon_unit_zero origin]
  simp only [View.readAt_eq_ld, h1.read_unread, h2.read_unread, h3.read_unread, h4.read_unread, h7.read_unread,
    View.ld_unit_zero (S := S256x2048) origin, View.ld_unit_zero (S := S1x2048) origin]
end

end Cert.Kernel17Ideal.Rms
-- ==== Proof.RmsGrid.lean ====
/-
  The norm of the rows, backwards: what the three result arrays hold when the grid has run. The first two hold each row's
  gradient; the third holds the sum over all the rows, gathered tile by tile.
-/
module

public import proofs.«01_k».proof.Proof.RmsBlock

@[expose] public section

noncomputable section

namespace Cert.Kernel17Ideal.Rms

open Cert.Kernel17Ideal Cert.Kernel17Ideal.Gen Cert.Rms
open Cert.KernelIdeal.Head (upTo sum_upTo tr sum_rows)
open Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

/-- The tile of 256 rows that point `t` reads. -/
def tile (A : Vec Ideal S8192x2048 .f32) (t : Fin 32) : Vec Ideal S256x2048 .f32 := fun j => A (ix2 (tr t (j 0)) (j 1))

/-- The grid's points are the thirty-two tiles. -/
def pt (t : Fin 32) : Fin cfg0.N := t.cast N_0.symm

abbrev X : Vec Ideal S8192x2048 .f32 := m ((c : Thread nD τ).loc main_arg0)
abbrev G : Vec Ideal S1x2048 .f32 := m ((c : Thread nD τ).loc main_arg1)
abbrev H : Vec Ideal S8192x2048 .f32 := m ((c : Thread nD τ).loc main_arg2)
abbrev D : Vec Ideal S8192x2048 .f32 := m ((c : Thread nD τ).loc main_arg3)

/-! ## The blocks -/

theorem step0 : ∀ t : Fin cfg0.N, win0_0.index t 0 = t.val ∧ win0_0.index t 1 = 0 :=
  (by decide +kernel : ∀ t : Fin grid0.N, win0_0.index t 0 = t.val ∧ win0_0.index t 1 = 0)
theorem step2 : ∀ t : Fin cfg0.N, win0_2.index t 0 = t.val ∧ win0_2.index t 1 = 0 :=
  (by decide +kernel : ∀ t : Fin grid0.N, win0_2.index t 0 = t.val ∧ win0_2.index t 1 = 0)
theorem step3 : ∀ t : Fin cfg0.N, win0_3.index t 0 = t.val ∧ win0_3.index t 1 = 0 :=
  (by decide +kernel : ∀ t : Fin grid0.N, win0_3.index t 0 = t.val ∧ win0_3.index t 1 = 0)
theorem step4 : ∀ t : Fin cfg0.N, win0_4.index t 0 = t.val ∧ win0_4.index t 1 = 0 :=
  (by decide +kernel : ∀ t : Fin grid0.N, win0_4.index t 0 = t.val ∧ win0_4.index t 1 = 0)
theorem step5 : ∀ t : Fin cfg0.N, win0_5.index t 0 = t.val ∧ win0_5.index t 1 = 0 :=
  (by decide +kernel : ∀ t : Fin grid0.N, win0_5.index t 0 = t.val ∧ win0_5.index t 1 = 0)
theorem zero1 (t : Fin cfg0.N) (a : Fin 2) : win0_1.index t a = 0 :=
  (by decide +kernel : ∀ (t : Fin grid0.N) (a : Fin 2), win0_1.index t a = 0) t a
theorem zero6 (t : Fin cfg0.N) (a : Fin 2) : win0_6.index t a = 0 :=
  (by decide +kernel : ∀ (t : Fin grid0.N) (a : Fin 2), win0_6.index t a = 0) t a

/-- An index that lies `256 t` rows below `j` reads the tile's entry at `j`. -/
theorem tile_at (A : Vec Ideal S8192x2048 .f32) (t : Fin 32) (j : S256x2048.Idx) (i : S8192x2048.Idx)
    (h0 : (i 0).val = t.val * 256 + 1 * (j 0).val) (h1 : (i 1).val = 0 * 2048 + 1 * (j 1).val) : A i = tile A t j := by
  unfold tile
  congr 1
  funext a
  apply Fin.ext
  match a with
  | ⟨0, _⟩ => show (i 0).val = 256 * t.val + (j 0).val; omega
  | ⟨1, _⟩ => show (i 1).val = (j 1).val; omega

theorem iblk0 (t : Fin cfg0.N) : iblk m c 0 t = tile (X m c) (t.cast N_0) := by
  funext j
  unfold iblk; rw [View.read_apply]
  exact tile_at _ _ _ _ (by show win0_0.index t 0 * 256 + 1 * (j 0).val = _; rw [(step0 t).1]; rfl)
    (by show win0_0.index t 1 * 2048 + 1 * (j 1).val = _; rw [(step0 t).2])
theorem iblk2 (t : Fin cfg0.N) : iblk m c 2 t = tile (H m c) (t.cast N_0) := by
  funext j
  unfold iblk; rw [View.read_apply]
  exact tile_at _ _ _ _ (by show win0_2.index t 0 * 256 + 1 * (j 0).val = _; rw [(step2 t).1]; rfl)
    (by show win0_2.index t 1 * 2048 + 1 * (j 1).val = _; rw [(step2 t).2])
theorem iblk3 (t : Fin cfg0.N) : iblk m c 3 t = tile (D m c) (t.cast N_0) := by
  funext j
  unfold iblk; rw [View.read_apply]
  exact tile_at _ _ _ _ (by show win0_3.index t 0 * 256 + 1 * (j 0).val = _; rw [(step3 t).1]; rfl)
    (by show win0_3.index t 1 * 2048 + 1 * (j 1).val = _; rw [(step3 t).2])
theorem iblk1 (t : Fin cfg0.N) : iblk m c 1 t = G m c := by
  have hz' : (fun a => win0_1.index t a * main_arg1.ty.shape.size a) = fun _ => 0 :=
    funext fun a => by rw [zero1 t a, Nat.zero_mul]
  exact Memref.read_access_unit_zero (Elt Ideal) main_arg1 hz' (fun a => by rw [congrFun hz' a]; simp) (G m c)

/-! ## What the staging buffers hold after each point -/

abbrev gT (t : Fin 32) : Vec Ideal S256x2048 .f32 := k0_pay6 (tile (X m c) t) (G m c) (tile (H m c) t) (tile (D m c) t)
abbrev bT (t : Fin 32) : Vec Ideal S256x2048 .bf16 := k0_pay7 (tile (X m c) t) (G m c) (tile (H m c) t) (tile (D m c) t)
abbrev sT (t : Fin 32) : Vec Ideal S1x2048 .f32 := k0_pay5 (tile (X m c) t) (tile (H m c) t)

theorem outs0 (t : Fin cfg0.N) (h : t.val = 0) : outsAt0 m c t.val t.isLt =
    (gT m c (t.cast N_0), bT m c (t.cast N_0), k0_pay2 (F := Ideal) (sT m c (t.cast N_0)) (k0_pay1 (F := Ideal))) := by
  have h0 : t.val % 32 = 0 := by omega
  rw [outsAt0_A m c t h0, outA4, outA5, outA6, iblk0, iblk1, iblk2, iblk3]

theorem outs1 (n : ℕ) (h : n + 1 < cfg0.N) : outsAt0 m c (n + 1) h =
    (gT m c ⟨n + 1, by rw [← N_0]; exact h⟩, bT m c ⟨n + 1, by rw [← N_0]; exact h⟩,
     k0_pay2 (sT m c ⟨n + 1, by rw [← N_0]; exact h⟩) (outsAt0 m c n (Nat.lt_of_succ_lt h)).2.2) := by
  have hN : cfg0.N = 32 := N_0
  have h0 : ¬(⟨n + 1, h⟩ : Fin cfg0.N).val % 32 = 0 := by dsimp only; omega
  rw [outsAt0_B m c ⟨n + 1, h⟩ h0, outB4, outB5, outB6, iblk0, iblk1, iblk2, iblk3]
  rfl

/-- After point `n` the third buffer holds the parts of the tiles up to `n`. -/
theorem sums : ∀ (n : ℕ) (h : n < cfg0.N) (z : Fin 1) (k : Fin 2048),
    (outsAt0 m c n h).2.2 (ix2 z k) = ∑ t ∈ Finset.range (n + 1), upTo (sT m c) t (ix2 z k)
  | 0, h, z, k => by
    have e := outs0 m c ⟨0, h⟩ rfl
    dsimp only at e
    rw [e, Finset.sum_range_one]
    refine (pay2_at _ _ z k).trans ?_
    rw [pay1_at, zero_add]; rfl
  | n + 1, h, z, k => by
    have hN : n + 1 < 32 := by rw [← N_0]; exact h
    rw [outs1, Finset.sum_range_succ]
    refine (pay2_at _ _ z k).trans ?_
    rw [sums n (Nat.lt_of_succ_lt h) z k]
    unfold upTo; rw [dif_pos hN]

theorem tiles : ∀ (n : ℕ) (h : n < cfg0.N), (outsAt0 m c n h).1 = gT m c ⟨n, by rw [← N_0]; exact h⟩
    ∧ (outsAt0 m c n h).2.1 = bT m c ⟨n, by rw [← N_0]; exact h⟩
  | 0, h => by have e := outs0 m c ⟨0, h⟩ rfl; dsimp only at e; rw [e]; exact ⟨rfl, rfl⟩
  | n + 1, h => by rw [outs1]; exact ⟨rfl, rfl⟩

/-! ## The three result arrays -/

/-- The last point. -/
abbrev last : Fin cfg0.N := pt 31

/-- Each row's gradient. -/
def gradR : Vec Ideal S8192x2048 .f32 :=
  fun j => grad (row (X m c) (j 0)) (row (G m c) 0) (row (H m c) (j 0)) (row (D m c) (j 0)) (j 1)
def gradB : Vec Ideal S8192x2048 .bf16 := gradR m c
/-- The gain's gradient. -/
def gainR : Vec Ideal S1x2048 .f32 := fun j => ∑ i, gain (row (X m c) i) (row (H m c) i) (j 1)

/-- A tile of the gradients is what the point of that tile computes. -/
theorem gradR_tile (t : Fin 32) (j : S256x2048.Idx) :
    tile (gradR m c) t j = grad (row (tile (X m c) t) (j 0)) (row (G m c) 0) (row (tile (H m c) t) (j 0))
      (row (tile (D m c) t) (j 0)) (j 1) := rfl

theorem flushed4 (t : Fin cfg0.N) (hf : (cfg0.win 4).flush t = true) :
    (dats m 0 c).flushed 4 t = ((cfg0.win 4).blk t).view.read (Elt Ideal) (gradR m c) := by
  rw [Value.flushed4, (tiles m c _ _).1]
  funext j
  rw [View.read_apply]
  refine Eq.trans ?_ (tile_at (gradR m c) (t.cast N_0) j (((cfg0.win 4).blk t).view.emb j)
    (by show win0_4.index t 0 * 256 + 1 * (j 0).val = _; rw [(step4 t).1]; rfl)
    (by show win0_4.index t 1 * 2048 + 1 * (j 1).val = _; rw [(step4 t).2])).symm
  rw [gradR_tile]
  exact (congrArg (gT m c (t.cast N_0)) (eq_ix2 j)).trans (pay6_at ..)

theorem flushed5 (t : Fin cfg0.N) (hf : (cfg0.win 5).flush t = true) :
    (dats m 0 c).flushed 5 t = ((cfg0.win 5).blk t).view.read (Elt Ideal) (gradB m c) := by
  rw [Value.flushed5, (tiles m c _ _).2]
  funext j
  rw [View.read_apply]
  refine Eq.trans ?_ (tile_at (gradR m c) (t.cast N_0) j (((cfg0.win 5).blk t).view.emb j)
    (by show win0_5.index t 0 * 256 + 1 * (j 0).val = _; rw [(step5 t).1]; rfl)
    (by show win0_5.index t 1 * 2048 + 1 * (j 1).val = _; rw [(step5 t).2])).symm
  rw [gradR_tile]
  exact (congrArg (bT m c (t.cast N_0)) (eq_ix2 j)).trans (pay7_at ..)

theorem flushed6 (t : Fin cfg0.N) (hf : (cfg0.win 6).flush t = true) :
    (dats m 0 c).flushed 6 t = ((cfg0.win 6).blk t).view.read (Elt Ideal) (gainR m c) := by
  have hN : cfg0.N = 32 := N_0
  have h31 : t.val = 31 := by have := (flush0_6 t).mp hf; have := t.isLt; omega
  obtain rfl : t = last := Fin.ext h31
  rw [Value.flushed6]
  have hz' : (fun a => win0_6.index last a * main_v0_2.ty.shape.size a) = fun _ => 0 :=
    funext fun a => by rw [zero6 last a, Nat.zero_mul]
  have hr := Memref.read_access_unit_zero (Elt Ideal) main_v0_2 hz' (fun a => by rw [congrFun hz' a]; simp) (gainR m c)
  refine Eq.trans ?_ hr.symm
  funext j
  refine (congrArg (outsAt0 m c 31 last.isLt).2.2 (eq_ix2 j)).trans ((sums m c 31 last.isLt _ _).trans ((sum_upTo _ _).trans ?_))
  unfold gainR
  rw [sum_rows]
  exact Finset.sum_congr rfl fun t _ => pay5_at ..

theorem final4 : (dats m 0 c).arrAt 4 cfg0.N = gradR m c :=
  (dats m 0 c).arrAt_eq_of_cover 4 (gradR m c) (flushed4 m c) fun i =>
    have h0 : (i 0 : Nat) < 8192 := (i 0).isLt
    have h1 : (i 1 : Nat) < 2048 := (i 1).isLt
    have h2 : (i 0 : Nat) / 256 < 32 := by omega
    ⟨pt ⟨(i 0 : Nat) / 256, h2⟩, flush0_4 _, by
      show i ∈ ((View.whole main_v0_0).slice (win0_4.rect (pt ⟨(i 0 : Nat) / 256, h2⟩))).set
      rw [View.set_slice_whole, Rect.mem_set_unit]
      intro a
      match a with
      | ⟨0, _⟩ =>
        show win0_4.index (pt ⟨(i 0 : Nat) / 256, h2⟩) 0 * 256 ≤ (i 0 : Nat) ∧ (i 0 : Nat) < win0_4.index (pt ⟨(i 0 : Nat) / 256, h2⟩) 0 * 256 + 256
        rw [(step4 _).1]; show (i 0 : Nat) / 256 * 256 ≤ _ ∧ _ < (i 0 : Nat) / 256 * 256 + 256; omega
      | ⟨1, _⟩ =>
        show win0_4.index (pt ⟨(i 0 : Nat) / 256, h2⟩) 1 * 2048 ≤ (i 1 : Nat) ∧ (i 1 : Nat) < win0_4.index (pt ⟨(i 0 : Nat) / 256, h2⟩) 1 * 2048 + 2048
        rw [(step4 _).2]; omega⟩

theorem final5 : (dats m 0 c).arrAt 5 cfg0.N = gradB m c :=
  (dats m 0 c).arrAt_eq_of_cover 5 (gradB m c) (flushed5 m c) fun i =>
    have h0 : (i 0 : Nat) < 8192 := (i 0).isLt
    have h1 : (i 1 : Nat) < 2048 := (i 1).isLt
    have h2 : (i 0 : Nat) / 256 < 32 := by omega
    ⟨pt ⟨(i 0 : Nat) / 256, h2⟩, flush0_5 _, by
      show i ∈ ((View.whole main_v0_1).slice (win0_5.rect (pt ⟨(i 0 : Nat) / 256, h2⟩))).set
      rw [View.set_slice_whole, Rect.mem_set_unit]
      intro a
      match a with
      | ⟨0, _⟩ =>
        show win0_5.index (pt ⟨(i 0 : Nat) / 256, h2⟩) 0 * 256 ≤ (i 0 : Nat) ∧ (i 0 : Nat) < win0_5.index (pt ⟨(i 0 : Nat) / 256, h2⟩) 0 * 256 + 256
        rw [(step5 _).1]; show (i 0 : Nat) / 256 * 256 ≤ _ ∧ _ < (i 0 : Nat) / 256 * 256 + 256; omega
      | ⟨1, _⟩ =>
        show win0_5.index (pt ⟨(i 0 : Nat) / 256, h2⟩) 1 * 2048 ≤ (i 1 : Nat) ∧ (i 1 : Nat) < win0_5.index (pt ⟨(i 0 : Nat) / 256, h2⟩) 1 * 2048 + 2048
        rw [(step5 _).2]; omega⟩

theorem final6 : (dats m 0 c).arrAt 6 cfg0.N = gainR m c :=
  (dats m 0 c).arrAt_eq_of_cover 6 (gainR m c) (flushed6 m c) fun i =>
    have h0 : (i 0 : Nat) < 1 := (i 0).isLt
    have h1 : (i 1 : Nat) < 2048 := (i 1).isLt
    ⟨last, (flush0_6 last).mpr rfl, by
      show i ∈ ((View.whole main_v0_2).slice (win0_6.rect last)).set
      rw [View.set_slice_whole, Rect.mem_set_unit]
      intro a
      match a with
      | ⟨0, _⟩ =>
        show win0_6.index last 0 * 1 ≤ (i 0 : Nat) ∧ (i 0 : Nat) < win0_6.index last 0 * 1 + 1
        rw [zero6 last 0]; omega
      | ⟨1, _⟩ =>
        show win0_6.index last 1 * 2048 ≤ (i 1 : Nat) ∧ (i 1 : Nat) < win0_6.index last 1 * 2048 + 2048
        rw [zero6 last 1]; omega⟩

/-- The run: every execution ends with the three results as above and the arguments as they were. -/
theorem run : θ_run defs (onTc (τ := τ) (main (F := Ideal))) ⟨m, fun _ => 0, ρ⟩ fun r => ∀ c : Dev nD,
      r.2.mem ((c : Thread nD τ).loc main_v0_0) = gradR m c
      ∧ r.2.mem ((c : Thread nD τ).loc main_v0_1) = gradB m c
      ∧ r.2.mem ((c : Thread nD τ).loc main_v0_2) = gainR m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => by
    have e := h c
    rw [final4, final5, final6] at e
    exact e) (Value.run_blocks m ρ)

end Cert.Kernel17Ideal.Rms
-- ==== Proof.RmsClaim.lean ====
/-
  The norm of the rows, backwards: the reference's three results are each row's gradient, the same again, and the gain's
  gradient, on all extended reals; so the kernel's run and the reference's end with equal results.
-/
module

public import proofs.«01_k».proof.Proof.RmsGrid
public import proofs.«01_k».proof.Proof.Gen.Reference17Ideal.Run

@[expose] public section

set_option maxRecDepth 16384

noncomputable section

namespace Cert.Reference17Ideal.Rms

open Cert.Reference17Ideal Cert.Reference17Ideal.Gen Cert.Reference17Ideal.Value Cert.Rms
open Idealize.ShloMosaic Idealize.ShloMosaic.TcCoe Idealize.SL.Sem Idealize.ShloMosaic.StableHlo

variable (x h d u : FVec Ideal S8192x2048 .f32) (g : FVec Ideal S1x2048 .f32) (q r : FVec Ideal S8192x1 .f32)
  (b : FVec Ideal S8192 .f32) (i : Fin 8192) (k : Fin 2048) (z : Fin 1)

/-- The rows' mean squares, with the small number added. -/
abbrev msR : FVec Ideal S8192x1 .f32 :=
  addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32))
/-- The incoming gradient times the gain. -/
abbrev upR : FVec Ideal S8192x2048 .f32 :=
  mulf h (broadcastInDim S8192x2048 ![0, 1] bcast_S1x2048_S8192x2048_0_1 (broadcastInDim S1x2048 ![1] bcast_S2048_S1x2048_1 (shapeCast _ g shapeCasts_S1x2048_S2048)))
/-- What the mean square's gradient gives back to a row, of the mean squares and their inverse roots. -/
abbrev backR : FVec Ideal S8192 .f32 :=
  Host.reduceAdd (Host.divf (mulf (shapeCast _ (Host.reduceAdd (mulf x u) (constant S_ .f32 0x00000000#32) reducesTo_S8192x2048_S8192_d1 h_S_) shapeCasts_S8192_S8192x1) (mulf (broadcastInDim S8192x1 ![] bcast_S_S8192x1 (constant S_ .f32 0xBF000000#32)) (Host.divf r q))) (broadcastInDim S8192x1 ![] bcast_S_S8192x1 (constant S_ .f32 0x45000000#32))) (constant S_ .f32 0x00000000#32) reducesTo_S8192x1_S8192_d1 h_S_
/-- The gradient, of these. -/
abbrev gradOf : FVec Ideal S8192x2048 .f32 :=
  addf d (addf (addf (mulf u (broadcastInDim S8192x2048 ![0, 1] bcast_S8192x1_S8192x2048_0_1 r)) (mulf x (broadcastInDim S8192x2048 ![0] bcast_S8192_S8192x2048_0 b))) (mulf (broadcastInDim S8192x2048 ![0] bcast_S8192_S8192x2048_0 b) x))
/-- The gain's gradient, of the inverse roots. -/
abbrev gainOf : FVec Ideal S1x2048 .f32 :=
  broadcastInDim S1x2048 ![1] bcast_S2048_S1x2048_1 (Host.reduceAdd (shapeCast _ (Host.reduceAdd (mulf (mulf x (broadcastInDim S8192x2048 ![0, 1] bcast_S8192x1_S8192x2048_0_1 r)) h) (constant S_ .f32 0x00000000#32) reducesTo_S8192x2048_S2048_d0 h_S_) shapeCasts_S2048_S1x2048) (constant S_ .f32 0x00000000#32) reducesTo_S1x2048_S2048_d0 h_S_)

theorem msR_at : (msR x (ix2 i z) : EReal) = ms (row x i) := by
  pointwise; rfl
theorem rsR_at : (Host.rsqrt (msR x) (ix2 i z) : EReal) = Ideal.rsqrt (ms (row x i)) := by
  show Ideal.rsqrt (msR x (ix2 i z)) = _; rw [msR_at]
theorem upR_at : (upR h g (ix2 i k) : EReal) = h (ix2 i k) * g (ix2 0 k) := by
  pointwise
theorem backR_at : (backR x u q r (ix1 i) : EReal)
    = Ideal.div ((∑ k, x (ix2 i k) * u (ix2 i k)) * (Ideal.ofBits .f32 0xBF000000#32 * Ideal.div (r (ix2 i 0)) (q (ix2 i 0)))) columns := by
  pointwise; rw [Fin.sum_univ_one]
theorem gradOf_at : (gradOf x d u r b (ix2 i k) : EReal)
    = d (ix2 i k) + (u (ix2 i k) * r (ix2 i 0) + x (ix2 i k) * b (ix1 i) + b (ix1 i) * x (ix2 i k)) := by
  pointwise
theorem gainOf_at : (gainOf x h r (ix2 z k) : EReal) = ∑ i, x (ix2 i k) * r (ix2 i 0) * h (ix2 i k) := by
  pointwise; rw [Fin.sum_univ_one]

theorem grad_at : (gradOf x d (upR h g) (Host.rsqrt (msR x)) (backR x (upR h g) (msR x) (Host.rsqrt (msR x))) (ix2 i k) : EReal)
    = grad (row x i) (row g 0) (row h i) (row d i) k := by
  rw [gradOf_at, backR_at, upR_at, rsR_at, msR_at]
  simp only [upR_at]
  rfl
theorem gain_at : (gainOf x h (Host.rsqrt (msR x)) (ix2 z k) : EReal) = ∑ i, gain (row x i) (row h i) k := by
  rw [gainOf_at]
  simp only [rsR_at]
  rfl

end Cert.Reference17Ideal.Rms

namespace Cert.Proof

open Idealize.ShloMosaic Idealize.ShloMosaic.TcCoe Idealize.SL.Sem Idealize.ShloMosaic.StableHlo
open Cert.Reference17Ideal.Rms

theorem algebraic17 : Cert.algebraic_Kernel17Ideal_Reference17Ideal
    (hKernel17Ideal := Cert.Kernel17Ideal.Gen.facts) (hReference17Ideal := Cert.Reference17Ideal.Gen.facts) := by
  intro m g m' g' hm ha
  refine ⟨_, _, _, Cert.Kernel17Ideal.Rms.run m g, ?_⟩
  refine (θ_run Cert.Reference17Ideal.defs _ _).mono
    (fun r h c => ⟨(h c).1.trans ?_, (h c).2.1.trans ?_, (h c).2.2.1.trans ?_, (h c).2.2.2⟩) (Cert.Reference17Ideal.Value.run m' g')
  · unfold Cert.Reference17Ideal.Value.res_main_v38
    rw [(ha c).1, (ha c).2.1, (ha c).2.2.1, (ha c).2.2.2]
    funext j
    exact (congrArg _ (eq_ix2 j)).trans (grad_at ..)
  · unfold Cert.Reference17Ideal.Value.res_main_v39
    rw [(ha c).1, (ha c).2.1, (ha c).2.2.1, (ha c).2.2.2]
    funext j
    exact (congrArg _ (eq_ix2 j)).trans (grad_at ..)
  · rw [(ha c).1, (ha c).2.2.1]
    funext j
    exact (congrArg _ (eq_ix2 j)).trans (gain_at ..)

theorem frame17 : Cert.quiescent_Reference17Ideal (hReference17Ideal := Cert.Reference17Ideal.Gen.facts) := fun m g _ =>
  (θ_run Cert.Reference17Ideal.defs _ _).mono
    (fun r h => ⟨fun c => (h c).2.2.2, sem_eq_zero_of_no_sems (by decide) _⟩) (Cert.Reference17Ideal.Value.run m g)

end Cert.Proof
-- ==== Proof.LossSum.lean ====
/-
  One device's part of the loss: the program adds the squares of the loss's gradient over 512 rows at a time and multiplies
  by 1024, the reference takes half the sum of the rows' mean squares of the distance, which is 2048 times the gradient.
-/
module

public import proofs.«01_k».proof.Proof.RmsClaim
public import proofs.«01_k».proof.Proof.Gen.Kernel27Ideal.Value
public import proofs.«01_k».proof.Proof.Gen.Reference27Ideal.Run

@[expose] public section

noncomputable section

namespace Cert.LossSum

open Cert.Products
open Idealize.ShloMosaic
open Finset (range)

theorem n1024_eq : Ideal.ofBits .f32 0x44800000#32 = ((1024 : ℝ) : EReal) := by
  simp [Ideal.ofBits, Ideal.ieee]; rw [← EReal.coe_mul]; norm_num

/-- A positive number goes in and out of a sum, on all extended reals. -/
theorem mul_sum_coe {ι : Type} (s : Finset ι) (f : ι → EReal) {c : ℝ} (hc : 0 ≤ c) :
    (c : EReal) * ∑ i ∈ s, f i = ∑ i ∈ s, (c : EReal) * f i := by
  classical
  induction s using Finset.induction_on with
  | empty => simp
  | insert a s h ih =>
    rw [Finset.sum_insert h, Finset.sum_insert h,
      EReal.left_distrib_of_nonneg_of_ne_top (EReal.coe_nonneg.mpr hc) (EReal.coe_ne_top c), ih]

/-- What row `i` adds to the loss. -/
def term (A : (⟨2, ![8192, 2048]⟩ : Shape).Idx → EReal) (i : ℕ) : EReal :=
  ((1024 : ℝ) : EReal) * ∑ k : Fin 2048, ent A i k.val * ent A i k.val

/-- Half the mean square of a row that is 2048 times a row of `A`. -/
theorem term_eq (A : (⟨2, ![8192, 2048]⟩ : Shape).Idx → EReal) (i : Fin 8192) :
    ((1 / 2 : ℝ) : EReal) * Ideal.div (∑ k, (((2048 : ℝ) : EReal) * A (ix2 i k)) * (((2048 : ℝ) : EReal) * A (ix2 i k))) ((2048 : ℝ) : EReal)
      = term A i.val := by
  unfold term
  simp only [ent_ix]
  rw [Ideal.div_coe (by norm_num)]
  simp only [mul_mul_mul_comm ((2048 : ℝ) : EReal), ← EReal.coe_mul]
  rw [← mul_sum_coe _ _ (by norm_num), mul_comm _ (((1 / 2048 : ℝ)) : EReal), ← mul_assoc, ← mul_assoc, ← EReal.coe_mul, ← EReal.coe_mul]
  norm_num

end Cert.LossSum

namespace Cert.Kernel27Ideal.Loss

open Cert.Kernel27Ideal Cert.Kernel27Ideal.Gen Cert.Products Cert.LossSum
open Idealize.ShloMosaic Idealize.ShloMosaic.TcCoe Idealize.SL.Sem
open Finset (range)

theorem pay1_at (p : Fin 8) (q : Fin 128) : (k0_pay1 (F := Ideal) (ix2 p q) : EReal) = 0 := by
  pointwise [k0_pay1]
theorem pay2_at (x : Vec Ideal S512x2048 .f32) (s : Vec Ideal S8x128 .f32) (p : Fin 8) (q : Fin 128) :
    (k0_pay2 (F := Ideal) x s (ix2 p q) : EReal)
      = s (ix2 p q) + ((1024 : ℝ) : EReal) * ∑ r : Fin 512, ∑ k : Fin 2048, x (ix2 r k) * x (ix2 r k) := by
  rw [mul_comm, ← n1024_eq]
  unfold k0_pay2; simp only [shapeCast_self]; pointwise

variable (m : (ℓ : Loc nD τ sig) → Buf (Elt Ideal) ℓ) (ρ : Dev nD → PrngReg) (c : Dev nD)

abbrev A : FVec Ideal S8192x2048 .f32 := m ((c : Thread nD τ).loc main_arg0)

theorem index : ∀ t : Fin cfg0.N, win0_0.index t 0 = t.val ∧ win0_0.index t 1 = 0 :=
  (by decide +kernel : ∀ t : Fin grid0.N, _)

theorem block (t : Fin cfg0.N) (p : Fin 512) (k : Fin 2048) :
    iblk m c 0 t (ix2 p k) = ent (A m c) (512 * t.val + p.val) k.val := by
  unfold iblk; rw [View.read_apply]
  refine ent_of (A m c) _ ?_ ?_
  · show win0_0.index t 0 * 512 + 1 * p.val = _; rw [(index t).1]; omega
  · show win0_0.index t 1 * 2048 + 1 * k.val = _; rw [(index t).2]; omega

/-- What a point adds. -/
theorem part (t : Fin cfg0.N) (s : Vec Ideal S8x128 .f32) (y : S8x128.Idx) :
    (k0_pay2 (F := Ideal) (iblk m c 0 t) s y : EReal) = s y + ∑ κ ∈ range 512, term (A m c) (512 * t.val + κ) := by
  rw [eq_ix2 y]
  refine (pay2_at _ _ _ _).trans ?_
  rw [mul_sum_coe _ _ (by norm_num), Finset.sum_range]
  simp only [block, term]

/-- After `j` further points from `b` the buffer holds the rows' terms from point `b` on. -/
theorem fold (b : ℕ) : ∀ (j : ℕ) (h : b + j < cfg0.N) (y : S8x128.Idx),
    (Pipeline.accAt (Value.reset1 m c) (Value.step1 m c) b j h y : EReal) = ∑ κ ∈ range (512 * (j + 1)), term (A m c) (512 * b + κ)
  | 0, h, y => by
    rw [Pipeline.accAt_zero]
    unfold Value.reset1
    rw [part, eq_ix2 y]
    refine (congrArg (· + _) (pay1_at _ _)).trans ?_
    rw [zero_add]
  | j + 1, h, y => by
    rw [Pipeline.accAt_succ]
    refine (part m c _ _ y).trans ?_
    rw [fold b j, Nat.mul_add 512 (j + 1) 1, Nat.mul_one, Finset.sum_range_add]
    refine congrArg _ (Finset.sum_congr rfl fun κ _ => congrArg _ ?_)
    show 512 * (b + (j + 1)) + κ = _; omega

theorem value (i : S8x128.Idx) : (show EReal from Value.G1 m c i) = ∑ r : Fin 8192, term (A m c) r.val := by
  have h0 : (i 0).val < 8 := (i 0).isLt
  have h1 : (i 1).val < 128 := (i 1).isLt
  have hr : Value.run1Of i = 0 := by show 1 * ((i 0).val / 8 - 0) + 1 * ((i 1).val / 128 - 0) = 0; omega
  unfold Value.G1
  rw [dif_pos (by rw [hr, show cfg0.N = 16 from N_0]; omega), fold, hr]
  simp only [Nat.mul_zero, Nat.zero_add]
  exact Finset.sum_range _

end Cert.Kernel27Ideal.Loss

namespace Cert.Proof

open Idealize.ShloMosaic Idealize.ShloMosaic.TcCoe Idealize.SL.Sem Idealize.ShloMosaic.StableHlo
open Cert.LossSum Cert.Products

open Cert.Reference27Ideal Cert.Reference27Ideal.Gen in
theorem loss_at (D : FVec Ideal S8192x2048 .f32) (p : Fin 8) (q : Fin 128) :
    (broadcastInDim S8x128 ![] bcast_S_S8x128 (mulf (constant S_ .f32 0x3F000000#32) (Host.reduceAdd (Host.divf (Host.reduceAdd (mulf (mulf (broadcastInDim S8192x2048 ![] bcast_S_S8192x2048 (constant S_ .f32 0x45000000#32)) D) (mulf (broadcastInDim S8192x2048 ![] bcast_S_S8192x2048 (constant S_ .f32 0x45000000#32)) D)) (constant S_ .f32 0x00000000#32) reducesTo_S8192x2048_S8192_d1 h_S_) (broadcastInDim S8192 ![] bcast_S_S8192 (constant S_ .f32 0x45000000#32))) (constant S_ .f32 0x00000000#32) reducesTo_S8192_S_d0 h_S_)) (ix2 p q) : EReal)
      = ∑ i : Fin 8192, term D i.val := by
  pointwise
  rw [half_eq, columns_eq, mul_sum_coe _ _ (by norm_num)]
  exact Finset.sum_congr rfl fun i _ => term_eq D i

theorem algebraic27 : Cert.algebraic_Kernel27Ideal_Reference27Ideal
    (hKernel27Ideal := Cert.Kernel27Ideal.Gen.facts) (hReference27Ideal := Cert.Reference27Ideal.Gen.facts) := by
  intro m g m' g' hm ha
  refine ⟨_, Cert.Kernel27Ideal.Value.run m g, ?_⟩
  refine (θ_run Cert.Reference27Ideal.defs _ _).mono (fun r h c => ⟨(h c).1.trans ?_, (h c).2⟩) (Cert.Reference27Ideal.Value.run m' g')
  rw [ha c]
  funext i
  refine (congrArg _ (eq_ix2 i)).trans ((loss_at _ _ _).trans ?_)
  exact (Cert.Kernel27Ideal.Loss.value m c i).symm

theorem frame27 : Cert.quiescent_Reference27Ideal (hReference27Ideal := Cert.Reference27Ideal.Gen.facts) := fun m g _ =>
  (θ_run Cert.Reference27Ideal.defs _ _).mono
    (fun r h => ⟨fun c => (h c).2, sem_eq_zero_of_no_sems (by decide) _⟩) (Cert.Reference27Ideal.Value.run m g)

end Cert.Proof
-- ==== Proof.Gates.lean ====
/-
  The gates of the three branches, forwards and backwards: sums and gradients of logistic functions, entry by entry.
-/
module

public import proofs.«01_k».proof.Proof.LossSum
public import proofs.«01_k».proof.Proof.Gen.Kernel25Ideal.Value
public import proofs.«01_k».proof.Proof.Gen.Reference25Ideal.Run

@[expose] public section

noncomputable section

namespace Cert.Gates

open Cert.Products
open Idealize.ShloMosaic Idealize.ShloMosaic.StableHlo

/-! ## The logistic function -/

theorem one_eq : Ideal.ofBits .f32 0x3F800000#32 = (1 : EReal) := Cert.Adam.one_eq
theorem zero_eq : Ideal.ofBits .f32 0x00000000#32 = (0 : EReal) := by simp [Ideal.ofBits, Ideal.ieee]

/-- The logistic function. -/
def lg (x : EReal) : EReal := Ideal.div 1 (1 + Ideal.exp (-x))

/-- What a gate of value `s` adds to the gradient of its argument: the slope of the logistic function is `s (1 - s)`. -/
def grad (d u s : EReal) : EReal := d * u * (s * (1 - s))

theorem lg_sub (x : EReal) : Ideal.div 1 (1 + Ideal.exp (0 - x)) = lg x := by
  unfold lg; rw [sub_eq_add_neg, zero_add]

/-- The slope, by the quotient's square. -/
theorem slope (x : EReal) :
    Ideal.div 1 ((1 + Ideal.exp (-x)) * (1 + Ideal.exp (-x))) * Ideal.exp (-x) = lg x * (1 - lg x) := by
  unfold lg
  induction x with
  | bot =>
    rw [EReal.neg_bot, Ideal.exp_top, EReal.add_top_of_ne_bot (by exact (EReal.coe_ne_bot 1)), EReal.top_mul_top]
    simp [Ideal.div]
  | top =>
    rw [EReal.neg_top, Ideal.exp_bot, add_zero, mul_zero]
    simp only [Ideal.div, one_ne_zero, if_false, inv_one, mul_one]
    rw [← EReal.coe_one, ← EReal.coe_sub, sub_self, EReal.coe_zero, mul_zero]
  | coe x =>
    have hw : (1 + Real.exp (-x)) ≠ 0 := (add_pos one_pos (Real.exp_pos _)).ne'
    have e : Ideal.exp (-(x : EReal)) = ((Real.exp (-x) : ℝ) : EReal) := rfl
    rw [e, show (1 : EReal) = ((1 : ℝ) : EReal) from rfl, ← EReal.coe_add, ← EReal.coe_mul, Ideal.div_coe hw,
      Ideal.div_coe (mul_ne_zero hw hw), ← EReal.coe_mul, ← EReal.coe_mul, ← EReal.coe_mul, ← EReal.coe_sub, ← EReal.coe_mul]
    congr 1
    field_simp
    ring

/-- The program's gradient, two signs and a product with one around the quotient, is the gradient. -/
theorem grad_eq (d u x : EReal) :
    0 - (0 - d * u * Ideal.div 1 ((1 + Ideal.exp (0 - x)) * (1 + Ideal.exp (0 - x))) * 1) * Ideal.exp (0 - x) = grad d u (lg x) := by
  simp only [sub_eq_add_neg (0 : EReal), zero_add, mul_one]
  rw [EReal.neg_mul, neg_neg, mul_assoc, slope]
  rfl

/-! ## The reference's arrays -/

abbrev S0 : Shape := ⟨0, ![]⟩
abbrev S3 : Shape := ⟨2, ![8192, 6144]⟩
abbrev S1 : Shape := ⟨2, ![8192, 2048]⟩

theorem columns_at {o : ℕ} (G : S3.Idx → EReal) (h : S3.Slices ![0, o] S1) (i : S1.Idx) :
    extractStridedSlice S1 ![0, o] G h i = ent G (i 0).val (o + (i 1).val) := by
  unfold extractStridedSlice
  exact ent_of G _ (Nat.zero_add _) rfl

theorem gate_at (b : S0.BroadcastsInDim S1 (![] : Fin 0 → Fin S1.rank)) {o : ℕ} (G : FVec Ideal S3 .f32) (h : S3.Slices ![0, o] S1) (i : S1.Idx) :
    (Host.divf (broadcastInDim S1 ![] b (constant (F := Ideal) S0 .f32 0x3F800000#32)) (addf (broadcastInDim S1 ![] b (constant S0 .f32 0x3F800000#32))
      (Host.exp (Host.negf (φ := .f32) (extractStridedSlice S1 ![0, o] G h)))) i : EReal) = lg (ent G (i 0).val (o + (i 1).val)) := by
  show Ideal.div (Ideal.ofBits .f32 0x3F800000#32) (Ideal.ofBits .f32 0x3F800000#32 + Ideal.exp (-(extractStridedSlice S1 ![0, o] G h i))) = _
  rw [one_eq, columns_at]
  rfl

end Cert.Gates

namespace Cert.Kernel25Ideal.Gates

open Cert.Kernel25Ideal Cert.Kernel25Ideal.Gen Cert.Products Cert.Gates
open Idealize.ShloMosaic Idealize.ShloMosaic.TcCoe Idealize.SL.Sem Idealize.ShloMosaic.StableHlo

/-- The sum of the branches, each times its gate. -/
def R (G : FVec Ideal S8192x6144 .f32) (A B C : FVec Ideal S8192x2048 .f32) : FVec Ideal S8192x2048 .bf16 := fun i =>
  (lg (ent G (i 0).val (0 + (i 1).val)) * A i + lg (ent G (i 0).val (2048 + (i 1).val)) * B i + lg (ent G (i 0).val (4096 + (i 1).val)) * C i : EReal)

theorem value (G : FVec Ideal S8192x6144 .f32) (A B C : FVec Ideal S8192x2048 .f32) : Value.G6 (F := Ideal) G G G A B C = R G A B C := by
  funext i
  have h0 : G (Value.inIdx6_0 i) = ent G (i 0).val (0 + (i 1).val) := ent_of G _ rfl (Nat.add_comm _ _)
  have h1 : G (Value.inIdx6_1 i) = ent G (i 0).val (2048 + (i 1).val) := ent_of G _ rfl (Nat.add_comm _ _)
  have h2 : G (Value.inIdx6_2 i) = ent G (i 0).val (4096 + (i 1).val) := ent_of G _ rfl (Nat.add_comm _ _)
  show Ideal.div (Ideal.ofBits .f32 0x3F800000#32) (Ideal.ofBits .f32 0x3F800000#32 + Ideal.exp (Ideal.ofBits .f32 0x00000000#32 - G (Value.inIdx6_0 i))) * A i
    + Ideal.div (Ideal.ofBits .f32 0x3F800000#32) (Ideal.ofBits .f32 0x3F800000#32 + Ideal.exp (Ideal.ofBits .f32 0x00000000#32 - G (Value.inIdx6_1 i))) * B i
    + Ideal.div (Ideal.ofBits .f32 0x3F800000#32) (Ideal.ofBits .f32 0x3F800000#32 + Ideal.exp (Ideal.ofBits .f32 0x00000000#32 - G (Value.inIdx6_2 i))) * C i = _
  rw [h0, h1, h2, one_eq, zero_eq, lg_sub, lg_sub, lg_sub]
  rfl

end Cert.Kernel25Ideal.Gates

namespace Cert.Proof

open Cert.Gates
open Idealize.ShloMosaic Idealize.ShloMosaic.TcCoe Idealize.SL.Sem Idealize.ShloMosaic.StableHlo

theorem algebraic25 : Cert.algebraic_Kernel25Ideal_Reference25Ideal
    (hKernel25Ideal := Cert.Kernel25Ideal.Gen.facts) (hReference25Ideal := Cert.Reference25Ideal.Gen.facts) := by
  intro m g m' g' hm ha
  refine ⟨_, Cert.Kernel25Ideal.Value.run m g, ?_⟩
  refine (θ_run Cert.Reference25Ideal.defs _ _).mono (fun r h c => ⟨(h c).1.trans ?_, (h c).2⟩) (Cert.Reference25Ideal.Value.run m' g')
  rw [(ha c).1, (ha c).2.1, (ha c).2.2.1, (ha c).2.2.2]
  refine Eq.trans ?_ (Cert.Kernel25Ideal.Gates.value _ _ _ _).symm
  funext i
  exact congrArg₂ (fun a b : EReal => a + b) (congrArg₂ (fun a b : EReal => a + b)
    (congrArg (fun s : EReal => s * _) (gate_at _ _ _ i)) (congrArg (fun s : EReal => s * _) (gate_at _ _ _ i)))
    (congrArg (fun s : EReal => s * _) (gate_at _ _ _ i))

theorem frame25 : Cert.quiescent_Reference25Ideal (hReference25Ideal := Cert.Reference25Ideal.Gen.facts) := fun m g _ =>
  (θ_run Cert.Reference25Ideal.defs _ _).mono
    (fun r h => ⟨fun c => (h c).2, sem_eq_zero_of_no_sems (by decide) _⟩) (Cert.Reference25Ideal.Value.run m g)

end Cert.Proof
-- ==== Proof.GatesBack.lean ====
/-
  The gates backwards: six gradients, three of the gates' arguments and three of the branches.
-/
module

public import proofs.«01_k».proof.Proof.Gates
public import proofs.«01_k».proof.Proof.Gen.Kernel24Ideal.Value
public import proofs.«01_k».proof.Proof.Gen.Reference24Ideal.Run

@[expose] public section

noncomputable section

namespace Cert.Kernel24Ideal.Gates

open Cert.Kernel24Ideal Cert.Kernel24Ideal.Gen Cert.Products Cert.Gates
open Idealize.ShloMosaic Idealize.ShloMosaic.TcCoe Idealize.SL.Sem Idealize.ShloMosaic.StableHlo

/-! ## The gradients, as arrays -/

/-- The gradient of the gate whose columns start at `o`, and the gradient of its branch. -/
def gateGrad (o : ℕ) (G : FVec Ideal S8192x6144 .f32) (U D : FVec Ideal S8192x2048 .f32) : FVec Ideal S8192x2048 .bf16 := fun i =>
  grad (ent D (i 0).val (i 1).val) (ent U (i 0).val (i 1).val) (lg (ent G (i 0).val (o + (i 1).val)))
def branchGrad (o : ℕ) (G : FVec Ideal S8192x6144 .f32) (D : FVec Ideal S8192x2048 .f32) : FVec Ideal S8192x2048 .bf16 := fun i =>
  (lg (ent G (i 0).val (o + (i 1).val)) * ent D (i 0).val (i 1).val : EReal)

section
variable (o : ℕ) (G : FVec Ideal S8192x6144 .f32) (U D : FVec Ideal S8192x2048 .f32)
variable {x u d : EReal} {i : S8192x2048.Idx} {a b : ℕ} (e0 : (i 0).val = a) (e1 : (i 1).val = b)
  (hx : x = ent G a (o + b)) (hu : u = ent U a b) (hd : d = ent D a b)
include e0 e1 hx hd

theorem gate_tile (hu : u = ent U a b) : grad d u (lg x) = gateGrad o G U D i := by
  subst hx hu hd e0 e1; rfl
theorem branch_tile : lg x * d = branchGrad o G D i := by
  subst hx hd e0 e1; rfl
end

/-! ## The values of a tile -/

section
variable (x0 x1 x2 x3 x4 x5 x6 : Vec Ideal S256x2048 .f32) (j : S256x2048.Idx)

theorem gate7 : (out0_7 (F := Ideal) x0 x1 x2 x3 x4 x5 x6 j : EReal) = grad (x6 j) (x3 j) (lg (x0 j)) := by
  unfold out0_7
  rw [View.canon_unit_zero origin]
  simp only [View.ld_unit_zero (S := S256x2048) origin]
  rw [← grad_eq, ← one_eq, ← zero_eq]
  unfold k0_pay20 k0_pay7 k0_pay5 k0_pay4 k0_pay15
  rw [shapeCast_self]; rfl
theorem gate8 : (out0_8 (F := Ideal) x0 x1 x2 x3 x4 x5 x6 j : EReal) = grad (x6 j) (x4 j) (lg (x1 j)) := by
  unfold out0_8
  rw [View.canon_unit_zero origin]
  simp only [View.ld_unit_zero (S := S256x2048) origin]
  rw [← grad_eq, ← one_eq, ← zero_eq]
  unfold k0_pay21 k0_pay11 k0_pay9 k0_pay8 k0_pay15
  rw [shapeCast_self]; rfl
theorem gate9 : (out0_9 (F := Ideal) x0 x1 x2 x3 x4 x5 x6 j : EReal) = grad (x6 j) (x5 j) (lg (x2 j)) := by
  unfold out0_9
  rw [View.canon_unit_zero origin]
  simp only [View.ld_unit_zero (S := S256x2048) origin]
  rw [← grad_eq, ← one_eq, ← zero_eq]
  unfold k0_pay22 k0_pay13 k0_pay12 k0_pay16
  rw [shapeCast_self]; rfl
theorem branch10 : (out0_10 (F := Ideal) x0 x1 x2 x3 x4 x5 x6 j : EReal) = lg (x0 j) * x6 j := by
  unfold out0_10
  rw [View.canon_unit_zero origin]
  simp only [View.ld_unit_zero (S := S256x2048) origin]
  rw [← lg_sub, ← one_eq, ← zero_eq]
  unfold k0_pay1 k0_pay19 k0_pay6 k0_pay5 k0_pay4 k0_pay15
  rw [shapeCast_self]; rfl
theorem branch11 : (out0_11 (F := Ideal) x0 x1 x2 x3 x4 x5 x6 j : EReal) = lg (x1 j) * x6 j := by
  unfold out0_11
  rw [View.canon_unit_zero origin]
  simp only [View.ld_unit_zero (S := S256x2048) origin]
  rw [← lg_sub, ← one_eq, ← zero_eq]
  unfold k0_pay2 k0_pay18 k0_pay10 k0_pay9 k0_pay8 k0_pay15
  rw [shapeCast_self]; rfl
theorem branch12 : (out0_12 (F := Ideal) x0 x1 x2 x3 x4 x5 x6 j : EReal) = lg (x2 j) * x6 j := by
  unfold out0_12
  rw [View.canon_unit_zero origin]
  simp only [View.ld_unit_zero (S := S256x2048) origin]
  rw [← lg_sub, ← one_eq, ← zero_eq]
  unfold k0_pay3 k0_pay17 k0_pay14 k0_pay13 k0_pay12 k0_pay16
  rw [shapeCast_self]; rfl
end

variable (m : (ℓ : Loc nD τ sig) → Buf (Elt Ideal) ℓ) (ρ : Dev nD → PrngReg) (c : Dev nD)

abbrev G : FVec Ideal S8192x6144 .f32 := m ((c : Thread nD τ).loc main_arg0)
abbrev U1 : FVec Ideal S8192x2048 .f32 := m ((c : Thread nD τ).loc main_arg1)
abbrev U2 : FVec Ideal S8192x2048 .f32 := m ((c : Thread nD τ).loc main_arg2)
abbrev U3 : FVec Ideal S8192x2048 .f32 := m ((c : Thread nD τ).loc main_arg3)
abbrev D : FVec Ideal S8192x2048 .f32 := m ((c : Thread nD τ).loc main_arg4)

/-! ## Where the tiles lie: the point's 256 rows, and for the gates one of three blocks of columns -/

theorem index : ∀ t : Fin cfg0.N, win0_0.index t 0 = t.val ∧ win0_0.index t 1 = 0 ∧ win0_1.index t 0 = t.val ∧ win0_1.index t 1 = 1
    ∧ win0_2.index t 0 = t.val ∧ win0_2.index t 1 = 2 :=
  (by decide +kernel : ∀ t : Fin grid0.N, _)
theorem index' : ∀ t : Fin cfg0.N, win0_7.index t 0 = t.val ∧ win0_7.index t 1 = 0 :=
  (by decide +kernel : ∀ t : Fin grid0.N, _)

variable (t : Fin cfg0.N) (j : S256x2048.Idx)

theorem at0 : win0_7.index t 0 * 256 + 1 * (j 0).val = 256 * t.val + (j 0).val := by rw [(index' t).1]; omega
theorem at1 : win0_7.index t 1 * 2048 + 1 * (j 1).val = (j 1).val := by rw [(index' t).2]; omega

theorem block0 : iblk m c 0 t j = ent (G m c) (256 * t.val + (j 0).val) (0 + (j 1).val) := by
  unfold iblk; rw [View.read_apply]
  refine ent_of (G m c) _ ?_ ?_
  · show win0_0.index t 0 * 256 + 1 * (j 0).val = _; rw [(index t).1]; omega
  · show win0_0.index t 1 * 2048 + 1 * (j 1).val = _; rw [(index t).2.1]; omega
theorem block1 : iblk m c 1 t j = ent (G m c) (256 * t.val + (j 0).val) (2048 + (j 1).val) := by
  unfold iblk; rw [View.read_apply]
  refine ent_of (G m c) _ ?_ ?_
  · show win0_1.index t 0 * 256 + 1 * (j 0).val = _; rw [(index t).2.2.1]; omega
  · show win0_1.index t 1 * 2048 + 1 * (j 1).val = _; rw [(index t).2.2.2.1]; omega
theorem block2 : iblk m c 2 t j = ent (G m c) (256 * t.val + (j 0).val) (4096 + (j 1).val) := by
  unfold iblk; rw [View.read_apply]
  refine ent_of (G m c) _ ?_ ?_
  · show win0_2.index t 0 * 256 + 1 * (j 0).val = _; rw [(index t).2.2.2.2.1]; omega
  · show win0_2.index t 1 * 2048 + 1 * (j 1).val = _; rw [(index t).2.2.2.2.2]; omega
theorem block3 : iblk m c 3 t j = ent (U1 m c) (256 * t.val + (j 0).val) (j 1).val := by
  unfold iblk; rw [View.read_apply]; exact ent_of (U1 m c) _ (at0 t j) (at1 t j)
theorem block4 : iblk m c 4 t j = ent (U2 m c) (256 * t.val + (j 0).val) (j 1).val := by
  unfold iblk; rw [View.read_apply]; exact ent_of (U2 m c) _ (at0 t j) (at1 t j)
theorem block5 : iblk m c 5 t j = ent (U3 m c) (256 * t.val + (j 0).val) (j 1).val := by
  unfold iblk; rw [View.read_apply]; exact ent_of (U3 m c) _ (at0 t j) (at1 t j)
theorem block6 : iblk m c 6 t j = ent (D m c) (256 * t.val + (j 0).val) (j 1).val := by
  unfold iblk; rw [View.read_apply]; exact ent_of (D m c) _ (at0 t j) (at1 t j)

theorem covered (i : S8192x2048.Idx) : ∃ t : Fin cfg0.N, ∀ a : Fin 2,
    win0_7.index t a * S256x2048.size a ≤ (i a).val ∧ (i a).val < win0_7.index t a * S256x2048.size a + S256x2048.size a := by
  have h0 : (i 0).val < 8192 := (i 0).isLt
  have h1 : (i 1).val < 2048 := (i 1).isLt
  refine ⟨⟨(i 0).val / 256, by rw [show cfg0.N = 32 from N_0]; omega⟩, fun a => ?_⟩
  match a with
  | ⟨0, _⟩ =>
    show win0_7.index _ 0 * 256 ≤ (i 0).val ∧ (i 0).val < win0_7.index _ 0 * 256 + 256
    rw [(index' _).1]; dsimp only; omega
  | ⟨1, _⟩ =>
    show win0_7.index _ 1 * 2048 ≤ (i 1).val ∧ (i 1).val < win0_7.index _ 1 * 2048 + 2048
    rw [(index' _).2]; omega

/-! ## The six arrays -/

theorem final7 : (dats m 0 c).arrAt 7 cfg0.N = gateGrad 0 (G m c) (U1 m c) (D m c) :=
  (dats m 0 c).arrAt_eq_of_cover 7 _ (fun t _ => by
    rw [Value.flushed7]; funext j; rw [View.read_apply]
    exact (gate7 _ _ _ _ _ _ _ j).trans (gate_tile 0 _ _ _ (at0 t j) (at1 t j) (block0 m c t j) (block6 m c t j) (block3 m c t j)))
    fun i => (covered i).elim fun t h => ⟨t, flush0_7 t, by
      show i ∈ ((View.whole main_v0_0).slice (win0_7.rect t)).set
      rw [View.set_slice_whole, Rect.mem_set_unit]; exact h⟩
theorem final8 : (dats m 0 c).arrAt 8 cfg0.N = gateGrad 2048 (G m c) (U2 m c) (D m c) :=
  (dats m 0 c).arrAt_eq_of_cover 8 _ (fun t _ => by
    rw [Value.flushed8]; funext j; rw [View.read_apply]
    exact (gate8 _ _ _ _ _ _ _ j).trans (gate_tile 2048 _ _ _ (at0 t j) (at1 t j) (block1 m c t j) (block6 m c t j) (block4 m c t j)))
    fun i => (covered i).elim fun t h => ⟨t, flush0_8 t, by
      show i ∈ ((View.whole main_v0_1).slice (win0_8.rect t)).set
      rw [View.set_slice_whole, Rect.mem_set_unit]; exact h⟩
theorem final9 : (dats m 0 c).arrAt 9 cfg0.N = gateGrad 4096 (G m c) (U3 m c) (D m c) :=
  (dats m 0 c).arrAt_eq_of_cover 9 _ (fun t _ => by
    rw [Value.flushed9]; funext j; rw [View.read_apply]
    exact (gate9 _ _ _ _ _ _ _ j).trans (gate_tile 4096 _ _ _ (at0 t j) (at1 t j) (block2 m c t j) (block6 m c t j) (block5 m c t j)))
    fun i => (covered i).elim fun t h => ⟨t, flush0_9 t, by
      show i ∈ ((View.whole main_v0_2).slice (win0_9.rect t)).set
      rw [View.set_slice_whole, Rect.mem_set_unit]; exact h⟩
theorem final10 : (dats m 0 c).arrAt 10 cfg0.N = branchGrad 0 (G m c) (D m c) :=
  (dats m 0 c).arrAt_eq_of_cover 10 _ (fun t _ => by
    rw [Value.flushed10]; funext j; rw [View.read_apply]
    exact (branch10 _ _ _ _ _ _ _ j).trans (branch_tile 0 _ _ (at0 t j) (at1 t j) (block0 m c t j) (block6 m c t j)))
    fun i => (covered i).elim fun t h => ⟨t, flush0_10 t, by
      show i ∈ ((View.whole main_v0_3).slice (win0_10.rect t)).set
      rw [View.set_slice_whole, Rect.mem_set_unit]; exact h⟩
theorem final11 : (dats m 0 c).arrAt 11 cfg0.N = branchGrad 2048 (G m c) (D m c) :=
  (dats m 0 c).arrAt_eq_of_cover 11 _ (fun t _ => by
    rw [Value.flushed11]; funext j; rw [View.read_apply]
    exact (branch11 _ _ _ _ _ _ _ j).trans (branch_tile 2048 _ _ (at0 t j) (at1 t j) (block1 m c t j) (block6 m c t j)))
    fun i => (covered i).elim fun t h => ⟨t, flush0_11 t, by
      show i ∈ ((View.whole main_v0_4).slice (win0_11.rect t)).set
      rw [View.set_slice_whole, Rect.mem_set_unit]; exact h⟩
theorem final12 : (dats m 0 c).arrAt 12 cfg0.N = branchGrad 4096 (G m c) (D m c) :=
  (dats m 0 c).arrAt_eq_of_cover 12 _ (fun t _ => by
    rw [Value.flushed12]; funext j; rw [View.read_apply]
    exact (branch12 _ _ _ _ _ _ _ j).trans (branch_tile 4096 _ _ (at0 t j) (at1 t j) (block2 m c t j) (block6 m c t j)))
    fun i => (covered i).elim fun t h => ⟨t, flush0_12 t, by
      show i ∈ ((View.whole main_v0_5).slice (win0_12.rect t)).set
      rw [View.set_slice_whole, Rect.mem_set_unit]; exact h⟩

theorem run : θ_run defs (onTc (τ := τ) (main (F := Ideal))) ⟨m, fun _ => 0, ρ⟩ fun r => ∀ c : Dev nD,
      r.2.mem ((c : Thread nD τ).loc main_v0_0) = gateGrad 0 (G m c) (U1 m c) (D m c)
      ∧ r.2.mem ((c : Thread nD τ).loc main_v0_1) = gateGrad 2048 (G m c) (U2 m c) (D m c)
      ∧ r.2.mem ((c : Thread nD τ).loc main_v0_2) = gateGrad 4096 (G m c) (U3 m c) (D m c)
      ∧ r.2.mem ((c : Thread nD τ).loc main_v0_3) = branchGrad 0 (G m c) (D m c)
      ∧ r.2.mem ((c : Thread nD τ).loc main_v0_4) = branchGrad 2048 (G m c) (D m c)
      ∧ r.2.mem ((c : Thread nD τ).loc main_v0_5) = branchGrad 4096 (G m c) (D m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final7 m c), (h c).2.1.trans (final8 m c), (h c).2.2.1.trans (final9 m c),
    (h c).2.2.2.1.trans (final10 m c), (h c).2.2.2.2.1.trans (final11 m c), (h c).2.2.2.2.2.1.trans (final12 m c), (h c).2.2.2.2.2.2⟩)
    (Value.run_blocks m ρ)

end Cert.Kernel24Ideal.Gates

namespace Cert.Proof

open Cert.Gates Cert.Products Cert.Kernel24Ideal.Gates
open Idealize.ShloMosaic Idealize.ShloMosaic.TcCoe Idealize.SL.Sem Idealize.ShloMosaic.StableHlo

section
variable (b : S0.BroadcastsInDim S1 (![] : Fin 0 → Fin S1.rank)) {o : ℕ} (G : FVec Ideal S3 .f32) (h : S3.Slices ![0, o] S1)
  (k : S1.ShapeCasts S1) (U D : FVec Ideal S1 .f32) (l : FTy.bf16.bits < FTy.f32.bits)

/-- The reference's gate, and its two gradients. -/
abbrev gateR : FVec Ideal S1 .f32 :=
  Host.divf (broadcastInDim S1 ![] b (constant S0 .f32 0x3F800000#32)) (addf (broadcastInDim S1 ![] b (constant S0 .f32 0x3F800000#32))
    (Host.exp (Host.negf (extractStridedSlice S1 ![0, o] G h))))

theorem gateGrad_eq : truncf .bf16 (mulf (mulf (shapeCast S1 D k) U) (mulf (gateR b G h) (subf (broadcastInDim S1 ![] b (constant S0 .f32 0x3F800000#32)) (gateR b G h)))) l
    = gateGrad o G U D := by
  funext i
  rw [shapeCast_self]
  have e : gateR b G h i = _ := gate_at b G h i
  show (D i * U i * (gateR b G h i * (Ideal.ofBits .f32 0x3F800000#32 - gateR b G h i)) : EReal) = gateGrad o G U D i
  rw [e, one_eq, ent_of D i rfl rfl, ent_of U i rfl rfl]
  rfl

theorem branchGrad_eq : truncf .bf16 (mulf (gateR b G h) (shapeCast S1 D k)) l = branchGrad o G D := by
  funext i
  rw [shapeCast_self]
  have e : gateR b G h i = _ := gate_at b G h i
  show (gateR b G h i * D i : EReal) = branchGrad o G D i
  rw [e, ent_of D i rfl rfl]
  rfl
end

theorem algebraic24 : Cert.algebraic_Kernel24Ideal_Reference24Ideal
    (hKernel24Ideal := Cert.Kernel24Ideal.Gen.facts) (hReference24Ideal := Cert.Reference24Ideal.Gen.facts) := by
  intro m g m' g' hm ha
  refine ⟨_, _, _, _, _, _, Cert.Kernel24Ideal.Gates.run m g, ?_⟩
  refine (θ_run Cert.Reference24Ideal.defs _ _).mono (fun r h c => ⟨(h c).1.trans ?_, (h c).2.1.trans ?_, (h c).2.2.1.trans ?_,
    (h c).2.2.2.1.trans ?_, (h c).2.2.2.2.1.trans ?_, (h c).2.2.2.2.2.1.trans ?_, (h c).2.2.2.2.2.2⟩) (Cert.Reference24Ideal.Value.run m' g')
  all_goals rw [(ha c).1, (ha c).2.2.2.2]
  · rw [(ha c).2.1]; exact gateGrad_eq _ _ _ _ _ _ _
  · rw [(ha c).2.2.1]; exact gateGrad_eq _ _ _ _ _ _ _
  · rw [(ha c).2.2.2.1]; exact gateGrad_eq _ _ _ _ _ _ _
  · exact branchGrad_eq _ _ _ _ _ _
  · exact branchGrad_eq _ _ _ _ _ _
  · exact branchGrad_eq _ _ _ _ _ _

theorem frame24 : Cert.quiescent_Reference24Ideal (hReference24Ideal := Cert.Reference24Ideal.Gen.facts) := fun m g _ =>
  (θ_run Cert.Reference24Ideal.defs _ _).mono
    (fun r h => ⟨fun c => (h c).2.2.2.2.2.2, sem_eq_zero_of_no_sems (by decide) _⟩) (Cert.Reference24Ideal.Value.run m g)

end Cert.Proof
-- ==== Proof.RmsFwd.lean ====
/-
  The norm of the rows, forwards: each row times the inverse root of its mean square and the gain.
-/
module

public import proofs.«01_k».proof.Proof.GatesBack
public import proofs.«01_k».proof.Proof.Gen.Kernel26Ideal.Value
public import proofs.«01_k».proof.Proof.Gen.Reference26Ideal.Run

@[expose] public section

noncomputable section

namespace Cert.Rms

open Idealize.ShloMosaic

/-- An entry of a row's norm. -/
def normed (x g : I → EReal) (k : I) : EReal := x k * Ideal.rsqrt (ms x) * g k

end Cert.Rms

namespace Cert.Kernel26Ideal.Rms

open Cert.Kernel26Ideal Cert.Kernel26Ideal.Gen Cert.Products Cert.Rms
open Idealize.ShloMosaic Idealize.ShloMosaic.TcCoe Idealize.SL.Sem Idealize.ShloMosaic.StableHlo

theorem result (x : Vec Ideal S512x2048 .f32) (g : Vec Ideal S1x2048 .f32) (p : Fin 512) (k : Fin 2048) :
    (out0_2 (F := Ideal) x g (ix2 p k) : EReal) = normed (row x p) (row g 0) k := by
  unfold out0_2
  rw [View.canon_unit_zero origin]
  simp only [View.ld_unit_zero (S := S512x2048) origin, View.ld_unit_zero (S := S1x2048) origin]
  pointwise [k0_pay1]; rfl

variable (m : (ℓ : Loc nD τ sig) → Buf (Elt Ideal) ℓ) (ρ : Dev nD → PrngReg) (c : Dev nD)

abbrev X : FVec Ideal S8192x2048 .f32 := m ((c : Thread nD τ).loc main_arg0)
abbrev G : FVec Ideal S1x2048 .f32 := m ((c : Thread nD τ).loc main_arg1)

theorem index : ∀ t : Fin cfg0.N, win0_0.index t 0 = t.val ∧ win0_0.index t 1 = 0 ∧ win0_1.index t 0 = 0 ∧ win0_1.index t 1 = 0 :=
  (by decide +kernel : ∀ t : Fin grid0.N, _)
theorem index' : ∀ t : Fin cfg0.N, win0_2.index t 0 = t.val ∧ win0_2.index t 1 = 0 :=
  (by decide +kernel : ∀ t : Fin grid0.N, _)

theorem block0 (t : Fin cfg0.N) (p : Fin 512) (k : Fin 2048) : iblk m c 0 t (ix2 p k) = ent (X m c) (512 * t.val + p.val) k.val := by
  unfold iblk; rw [View.read_apply]
  refine ent_of (X m c) _ ?_ ?_
  · show win0_0.index t 0 * 512 + 1 * p.val = _; rw [(index t).1]; omega
  · show win0_0.index t 1 * 2048 + 1 * k.val = _; rw [(index t).2.1]; omega

theorem block1 (t : Fin cfg0.N) (z : Fin 1) (k : Fin 2048) : iblk m c 1 t (ix2 z k) = ent (G m c) z.val k.val := by
  unfold iblk; rw [View.read_apply]
  refine ent_of (G m c) _ ?_ ?_
  · show win0_1.index t 0 * 1 + 1 * z.val = _; rw [(index t).2.2.1]; omega
  · show win0_1.index t 1 * 2048 + 1 * k.val = _; rw [(index t).2.2.2]; omega

/-- The norm of every row. -/
def R : FVec Ideal S8192x2048 .bf16 := fun i => normed (fun k => ent (X m c) (i 0).val k.val) (row (G m c) 0) (i 1)

theorem flushed (t : Fin cfg0.N) (hf : (cfg0.win 2).flush t = true) :
    (dats m 0 c).flushed 2 t = ((cfg0.win 2).blk t).view.read (Elt Ideal) (R m c) := by
  rw [Value.flushed2]
  funext j
  rw [View.read_apply]
  have e0 : (((cfg0.win 2).blk t).view.emb j 0).val = 512 * t.val + (j 0).val := by
    show win0_2.index t 0 * 512 + 1 * (j 0).val = _; rw [(index' t).1]; omega
  have e1 : ((cfg0.win 2).blk t).view.emb j 1 = j 1 := Fin.ext (by
    show win0_2.index t 1 * 2048 + 1 * (j 1).val = _; rw [(index' t).2]; omega)
  refine ((congrArg (out0_2 (F := Ideal) (iblk m c 0 t) (iblk m c 1 t)) (eq_ix2 j)).trans (result _ _ (j 0) (j 1))).trans ?_
  show _ = normed (fun k => ent (X m c) (((cfg0.win 2).blk t).view.emb j 0).val k.val) (row (G m c) 0) (((cfg0.win 2).blk t).view.emb j 1)
  rw [e0, e1]
  have r0 : row (iblk m c 0 t) (j 0) = fun k => ent (X m c) (512 * t.val + (j 0).val) k.val := funext fun k => block0 m c t (j 0) k
  have r1 : row (iblk m c 1 t) 0 = row (G m c) 0 := funext fun k => (block1 m c t 0 k).trans (ent_ix (G m c) 0 k)
  exact congrArg₂ (fun a b => normed a b (j 1)) r0 r1

theorem final : (dats m 0 c).arrAt 2 cfg0.N = R m c :=
  (dats m 0 c).arrAt_eq_of_cover 2 (R m c) (flushed m c) fun i =>
    have h0 : (i 0 : Nat) < 8192 := (i 0).isLt
    have h1 : (i 1 : Nat) < 2048 := (i 1).isLt
    have hN : (i 0 : Nat) / 512 < cfg0.N := by rw [show cfg0.N = 16 from N_0]; omega
    ⟨⟨_, hN⟩, flush0_2 _, by
      show i ∈ ((View.whole main_v0).slice (win0_2.rect ⟨_, hN⟩)).set
      rw [View.set_slice_whole, Rect.mem_set_unit]
      intro a
      match a with
      | ⟨0, _⟩ =>
        show win0_2.index ⟨_, hN⟩ 0 * 512 ≤ (i 0 : Nat) ∧ (i 0 : Nat) < win0_2.index ⟨_, hN⟩ 0 * 512 + 512
        rw [(index' _).1]; dsimp only; omega
      | ⟨1, _⟩ =>
        show win0_2.index ⟨_, hN⟩ 1 * 2048 ≤ (i 1 : Nat) ∧ (i 1 : Nat) < win0_2.index ⟨_, hN⟩ 1 * 2048 + 2048
        rw [(index' _).2]; omega⟩

theorem run : θ_run defs (onTc (τ := τ) (main (F := Ideal))) ⟨m, fun _ => 0, ρ⟩ fun r => ∀ c : Dev nD,
      r.2.mem ((c : Thread nD τ).loc main_v0) = R m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

theorem value (i : Fin 8192) (k : Fin 2048) : (R m c (ix2 i k) : EReal) = normed (row (X m c) i) (row (G m c) 0) k :=
  congrArg (fun a => normed a (row (G m c) 0) k) (funext fun j => ent_ix (X m c) i j)

end Cert.Kernel26Ideal.Rms

namespace Cert.Reference26Ideal.Rms

open Cert.Reference26Ideal Cert.Reference26Ideal.Gen Cert.Rms
open Idealize.ShloMosaic Idealize.ShloMosaic.TcCoe Idealize.SL.Sem Idealize.ShloMosaic.StableHlo

variable (x : FVec Ideal S8192x2048 .f32) (g : FVec Ideal S1x2048 .f32)

abbrev msR : FVec Ideal S8192x1 .f32 :=
  addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32))
abbrev normR (r : FVec Ideal S8192x1 .f32) : FVec Ideal S8192x2048 .bf16 :=
  truncf .bf16 (mulf (mulf x (broadcastInDim S8192x2048 ![0, 1] bcast_S8192x1_S8192x2048_0_1 r)) (broadcastInDim S8192x2048 ![0, 1] bcast_S1x2048_S8192x2048_0_1 (broadcastInDim S1x2048 ![1] bcast_S2048_S1x2048_1 (shapeCast _ g shapeCasts_S1x2048_S2048)))) bitsLt_bf16_f32

theorem msR_at (i : Fin 8192) (z : Fin 1) : (msR x (ix2 i z) : EReal) = ms (row x i) := by
  pointwise; rfl
theorem normR_at (r : FVec Ideal S8192x1 .f32) (i : Fin 8192) (k : Fin 2048) :
    (normR x g r (ix2 i k) : EReal) = x (ix2 i k) * r (ix2 i 0) * g (ix2 0 k) := by
  pointwise
theorem norm_at (i : Fin 8192) (k : Fin 2048) : (normR x g (Host.rsqrt (msR x)) (ix2 i k) : EReal) = normed (row x i) (row g 0) k := by
  rw [normR_at]
  show x (ix2 i k) * Ideal.rsqrt (msR x (ix2 i 0)) * g (ix2 0 k) = _
  rw [msR_at]; rfl

end Cert.Reference26Ideal.Rms

namespace Cert.Proof

open Idealize.ShloMosaic Idealize.ShloMosaic.TcCoe Idealize.SL.Sem Idealize.ShloMosaic.StableHlo

theorem algebraic26 : Cert.algebraic_Kernel26Ideal_Reference26Ideal
    (hKernel26Ideal := Cert.Kernel26Ideal.Gen.facts) (hReference26Ideal := Cert.Reference26Ideal.Gen.facts) := by
  intro m g m' g' hm ha
  refine ⟨Cert.Kernel26Ideal.Rms.R m, Cert.Kernel26Ideal.Rms.run m g, ?_⟩
  refine (θ_run Cert.Reference26Ideal.defs _ _).mono (fun r h c => ⟨(h c).1.trans ?_, (h c).2⟩) (Cert.Reference26Ideal.Value.run m' g')
  rw [(ha c).1, (ha c).2]
  funext i
  refine (congrArg _ (eq_ix2 i)).trans ((Cert.Reference26Ideal.Rms.norm_at _ _ (i 0) (i 1)).trans ?_)
  exact (Cert.Kernel26Ideal.Rms.value m c (i 0) (i 1)).symm.trans (congrArg (Cert.Kernel26Ideal.Rms.R m c) (eq_ix2 i).symm)

theorem frame26 : Cert.quiescent_Reference26Ideal (hReference26Ideal := Cert.Reference26Ideal.Gen.facts) := fun m g _ =>
  (θ_run Cert.Reference26Ideal.defs _ _).mono
    (fun r h => ⟨fun c => (h c).2, sem_eq_zero_of_no_sems (by decide) _⟩) (Cert.Reference26Ideal.Value.run m g)

end Cert.Proof
-- ==== Proof.MemFwd.lean ====
/-
  The memory attention, forwards: every query of each of the four heads, with the norm of its row, against the normalised
  keys of its head, and the softmax of the logits weighing the values.
-/
module

public import proofs.«01_k».proof.Proof.RmsFwd
public import proofs.«01_k».proof.Proof.Gen.Kernel23Ideal.Value

@[expose] public section

set_option maxRecDepth 16384

noncomputable section

namespace Cert.Rows

/-- A query's row of the attention's result, from its row, the head's keys and values and the two gains. -/
def att (q : I → EReal) (k v : I → I → EReal) (gq gk : I → EReal) (d : I) : EReal :=
  ∑ j, pr (lgt (nrm q gq) (fun j => nrm (k j) gk)) j * v j d

end Cert.Rows

namespace Cert.Kernel23Ideal.Mem

open Cert.Kernel23Ideal Cert.Kernel23Ideal.Gen Cert.Products
open Idealize.ShloMosaic Idealize.ShloMosaic.TcCoe Idealize.SL.Sem Idealize.ShloMosaic.StableHlo
open Cert.Rows (I)
open Cert.KernelIdeal.Head (cc ck cv qh kh vh gv hk hv row cc_surj)

/-! ## One head of a tile of 512 rows -/

/-- The queries' norm. -/
def nq (a : FVec Ideal S512x256 .f32) (g : FVec Ideal S1x256 .f32) : FVec Ideal S512x256 .f32 :=
  mulf (mulf a (broadcastTo S512x256 (rsqrt (addf (divf (shapeCast S512x1 (multiReduction .add [1] S512 (mulf a a) 0x00000000#32 reduces_S512x256_S512 (.inl rfl) rfl) shapeCasts_S512_S512x1) (broadcast S512x1 (Scalar.ofBits .f32 0x43800000#32))) (broadcast S512x1 (Scalar.ofBits .f32 0x358637BD#32)))) broadcasts_S512x1_S512x256)) (broadcastTo S512x256 g broadcasts_S1x256_S512x256)
/-- The keys' norm. -/
def nk (a : FVec Ideal S256x256 .f32) (g : FVec Ideal S1x256 .f32) : FVec Ideal S256x256 .f32 :=
  mulf (mulf a (broadcastTo S256x256 (rsqrt (addf (divf (shapeCast S256x1 (multiReduction .add [1] S256 (mulf a a) 0x00000000#32 reduces_S256x256_S256 (.inl rfl) rfl) shapeCasts_S256_S256x1) (broadcast S256x1 (Scalar.ofBits .f32 0x43800000#32))) (broadcast S256x1 (Scalar.ofBits .f32 0x358637BD#32)))) broadcasts_S256x1_S256x256)) (broadcastTo S256x256 g broadcasts_S1x256_S256x256)
/-- The logits. -/
def lg (q : FVec Ideal S512x256 .f32) (k : FVec Ideal S256x256 .f32) (gq gk : FVec Ideal S1x256 .f32) : FVec Ideal S512x256 .f32 :=
  mulf (matmul dot_S512x256_S256x256_S512x256_1_1_0_0_n_n none (nq q gq) (nk k gk) (constant S512x256 .f32 0x00000000#32)) (broadcast S512x256 (Scalar.ofBits .f32 0x3D800000#32))
/-- The exponentials of the logits below their row's largest. -/
def ex (l : FVec Ideal S512x256 .f32) : FVec Ideal S512x256 .f32 :=
  exp (subf l (broadcastTo S512x256 (shapeCast S512x1 (multiReduction .maximumf [1] S512 l 0xFF800000#32 reduces_S512x256_S512 (.inl rfl) rfl) shapeCasts_S512_S512x1) broadcasts_S512x1_S512x256))
/-- Each over its row's sum. -/
def pr (l : FVec Ideal S512x256 .f32) : FVec Ideal S512x256 .f32 :=
  divf (ex l) (broadcastTo S512x256 (shapeCast S512x1 (multiReduction .add [1] S512 (ex l) 0x00000000#32 reduces_S512x256_S512 (.inl rfl) rfl) shapeCasts_S512_S512x1) broadcasts_S512x1_S512x256)
/-- The head's result. -/
def hd (q : FVec Ideal S512x256 .f32) (k v : FVec Ideal S256x256 .f32) (gq gk : FVec Ideal S1x256 .f32) : FVec Ideal S512x256 .f32 :=
  matmul dot_S512x256_S256x256_S512x256_1_0_0_1_n_n none (pr (lg q k gq gk)) v (constant S512x256 .f32 0x00000000#32)

/-- A row of a tile's head. -/
def rowq (a : FVec Ideal S512x256 .f32) (r : Fin 512) : I → EReal := fun d => a (ix2 r d)

section entries
variable (q l : FVec Ideal S512x256 .f32) (k v : FVec Ideal S256x256 .f32) (g gq gk : FVec Ideal S1x256 .f32) (r : Fin 512) (j d : I)

theorem nq_at : nq q g (ix2 r d) = Rows.nrm (rowq q r) (gv g) d := by pointwise [nq]; rfl
theorem nk_at : nk k g (ix2 j d) = Rows.nrm (row k j) (gv g) d := by pointwise [nk]; rfl
theorem lg_at : lg q k gq gk (ix2 r j) = Rows.lgt (Rows.nrm (rowq q r) (gv gq)) (fun j => Rows.nrm (row k j) (gv gk)) j := by
  pointwise [lg]; simp only [nq_at, nk_at]; rfl
theorem ex_at : ex l (ix2 r j) = Rows.ex (rowq l r) j := by pointwise [ex]; rfl
theorem pr_at : pr l (ix2 r j) = Rows.pr (rowq l r) j := by pointwise [pr]; simp only [ex_at]; rfl
theorem hd_at : hd q k v gq gk (ix2 r d) = Rows.att (rowq q r) (row k) (row v) (gv gq) (gv gk) d := by
  have e : rowq (lg q k gq gk) r = Rows.lgt (Rows.nrm (rowq q r) (gv gq)) (fun j => Rows.nrm (row k j) (gv gk)) :=
    funext fun j => lg_at q k gq gk r j
  pointwise [hd]; simp only [pr_at, e]; rfl
end entries

/-! ## One tile -/

/-- Head `h` of a tile of queries. -/
def hq (x : FVec Ideal S512x1024 .f32) (h : Fin 4) : FVec Ideal S512x256 .f32 := fun j => x (ix2 (j 0) (cc h (j 1)))

section slices
variable (x : FVec Ideal S512x1024 .f32) (w : FVec Ideal S256x2048 .f32)

theorem q0 : extractStridedSlice S512x256 ![0, 0] x slices_S512x1024_o0_0_S512x256 = hq x 0 := by
  funext j; rw [eq_ix2 j]; pointwise; unfold hq cc; congr 2 <;> apply Fin.ext <;> simp
theorem q1 : k0_pay11 x = hq x 1 := by
  funext j; rw [eq_ix2 j]; pointwise [k0_pay11]; unfold hq cc; congr 2 <;> apply Fin.ext <;> simp
theorem q2 : k0_pay12 x = hq x 2 := by
  funext j; rw [eq_ix2 j]; pointwise [k0_pay12]; unfold hq cc; congr 2 <;> apply Fin.ext <;> simp
theorem q3 : k0_pay13 x = hq x 3 := by
  funext j; rw [eq_ix2 j]; pointwise [k0_pay13]; unfold hq cc; congr 2 <;> apply Fin.ext <;> simp
theorem k0 : extractStridedSlice S256x256 ![0, 0] (k0_pay2 w) slices_S256x1024_o0_0_S256x256 = hk w 0 := by
  funext j; rw [eq_ix2 j]; pointwise [k0_pay2]; unfold hk ck; congr 2 <;> apply Fin.ext <;> simp
theorem k1 : k0_pay3 w = hk w 1 := by
  funext j; rw [eq_ix2 j]; pointwise [k0_pay3, k0_pay2]; unfold hk ck; congr 2 <;> apply Fin.ext <;> simp
theorem k2 : k0_pay4 w = hk w 2 := by
  funext j; rw [eq_ix2 j]; pointwise [k0_pay4, k0_pay2]; unfold hk ck; congr 2 <;> apply Fin.ext <;> simp
theorem k3 : k0_pay5 w = hk w 3 := by
  funext j; rw [eq_ix2 j]; pointwise [k0_pay5, k0_pay2]; unfold hk ck; congr 2 <;> apply Fin.ext <;> simp
theorem v0 : k0_pay7 w = hv w 0 := by
  funext j; rw [eq_ix2 j]; pointwise [k0_pay7, k0_pay6]; unfold hv cv; congr 2 <;> apply Fin.ext <;> simp
theorem v1 : k0_pay8 w = hv w 1 := by
  funext j; rw [eq_ix2 j]; pointwise [k0_pay8, k0_pay6]; unfold hv cv; congr 2 <;> apply Fin.ext <;> simp
theorem v2 : k0_pay9 w = hv w 2 := by
  funext j; rw [eq_ix2 j]; pointwise [k0_pay9, k0_pay6]; unfold hv cv; congr 2 <;> apply Fin.ext <;> simp
theorem v3 : k0_pay10 w = hv w 3 := by
  funext j; rw [eq_ix2 j]; pointwise [k0_pay10, k0_pay6]; unfold hv cv; congr 2 <;> apply Fin.ext <;> simp
end slices

theorem pick (f : Fin 4 → FVec Ideal S512x256 .f32) (h : Fin 4) (r : Fin 512) (d : I) : concatenate S512x1024 1
    [⟨S512x256, f 0⟩, ⟨S512x256, f 1⟩, ⟨S512x256, f 2⟩, ⟨S512x256, f 3⟩]
    concatenates_S512x256_S512x256_S512x256_S512x256_S512x1024_d1 (ix2 r (cc h d)) = f h (ix2 r d) := by
  pointwise
  have hd := d.isLt
  match h with
  | ⟨0, _⟩ =>
    rw [dif_pos (by show (256 * 0 + d.val) < 256; omega)]
    exact congrArg (f 0) (congrArg (ix2 r) (Fin.ext (by show (256 * 0 + d.val) = d.val; omega)))
  | ⟨1, _⟩ =>
    rw [dif_neg (by show ¬ (256 * 1 + d.val) < 256; omega), dif_pos (by show (256 * 1 + d.val) - 256 < 256; omega)]
    exact congrArg (f 1) (congrArg (ix2 r) (Fin.ext (by show (256 * 1 + d.val) - 256 = d.val; omega)))
  | ⟨2, _⟩ =>
    rw [dif_neg (by show ¬ (256 * 2 + d.val) < 256; omega), dif_neg (by show ¬ (256 * 2 + d.val) - 256 < 256; omega), dif_pos (by show (256 * 2 + d.val) - 256 - 256 < 256; omega)]
    exact congrArg (f 2) (congrArg (ix2 r) (Fin.ext (by show (256 * 2 + d.val) - 256 - 256 = d.val; omega)))
  | ⟨3, _⟩ =>
    rw [dif_neg (by show ¬ (256 * 3 + d.val) < 256; omega), dif_neg (by show ¬ (256 * 3 + d.val) - 256 < 256; omega), dif_neg (by show ¬ (256 * 3 + d.val) - 256 - 256 < 256; omega)]
    exact congrArg (f 3) (congrArg (ix2 r) (Fin.ext (by show (256 * 3 + d.val) - 256 - 256 - 256 = d.val; omega)))

section tile
variable (x0 : FVec Ideal S512x1024 .f32) (x1 : FVec Ideal S256x2048 .f32) (x2 x3 : FVec Ideal S1x256 .f32)

/-- Head `h` of the tile's result. -/
def head (h : Fin 4) : FVec Ideal S512x256 .f32 := hd (hq x0 h) (hk x1 h) (hv x1 h) x2 x3

theorem head0 : k0_pay15 (k0_pay7 x1) (k0_pay14 x0 x1 x2 x3) (Scalar.ofBits .f32 0x3D800000#32) = head x0 x1 x2 x3 0 := by
  unfold head; rw [← q0, ← k0, ← v0]; rfl
theorem head1 : k0_pay18 (k0_pay8 x1) (k0_pay16 x2 x3 (k0_pay3 x1) (k0_pay11 x0)) (k0_pay17 x2 x3 (k0_pay3 x1) (k0_pay11 x0)) = head x0 x1 x2 x3 1 := by
  unfold head; rw [← q1, ← k1, ← v1]; rfl
theorem head2 : k0_pay19 x2 x3 (k0_pay4 x1) (k0_pay9 x1) (k0_pay12 x0) = head x0 x1 x2 x3 2 := by
  unfold head; rw [← q2, ← k2, ← v2]; rfl
theorem heads (a0 a1 a2 : FVec Ideal S512x256 .f32) :
    k0_pay1 x2 x3 (k0_pay5 x1) (k0_pay10 x1) (k0_pay13 x0) a0 a1 a2 (k0_pay20 (k0_pay13 x0)) (k0_pay21 (F := Ideal)) =
    truncf .bf16 (concatenate S512x1024 1 [⟨S512x256, a0⟩, ⟨S512x256, a1⟩, ⟨S512x256, a2⟩, ⟨S512x256, head x0 x1 x2 x3 3⟩]
      concatenates_S512x256_S512x256_S512x256_S512x256_S512x1024_d1) bitsLt_bf16_f32 := by
  unfold head; rw [← q3, ← k3, ← v3]; rfl

theorem result (h : Fin 4) (r : Fin 512) (d : I) : (out0_4 (F := Ideal) x0 x1 x2 x3 (ix2 r (cc h d)) : EReal) =
    Rows.att (fun e => x0 (ix2 r (cc h e))) (kh x1 h) (vh x1 h) (gv x2) (gv x3) d := by
  unfold out0_4 k0_pay22 k0_pay23 k0_pay24
  rw [View.canon_unit_zero origin]
  simp only [View.ld_unit_zero (S := S512x1024) origin, View.ld_unit_zero (S := S256x2048) origin, View.ld_unit_zero (S := S1x256) origin]
  rw [heads, head0, head1, head2]
  refine Eq.trans (pick (head x0 x1 x2 x3) h r d) ?_
  exact hd_at _ _ _ _ _ _ _
end tile

/-! ## The whole array -/

variable (m : (ℓ : Loc nD τ sig) → Buf (Elt Ideal) ℓ) (ρ : Dev nD → PrngReg) (c : Dev nD)

abbrev Q : FVec Ideal S8192x1024 .f32 := m ((c : Thread nD τ).loc main_arg0)
abbrev KV : FVec Ideal S256x2048 .f32 := m ((c : Thread nD τ).loc main_arg1)
abbrev Gq : FVec Ideal S1x256 .f32 := m ((c : Thread nD τ).loc main_arg2)
abbrev Gk : FVec Ideal S1x256 .f32 := m ((c : Thread nD τ).loc main_arg3)

theorem index : ∀ t : Fin cfg0.N, win0_0.index t 0 = t.val ∧ win0_0.index t 1 = 0 ∧ win0_1.index t 0 = 0 ∧ win0_1.index t 1 = 0 :=
  (by decide +kernel : ∀ t : Fin grid0.N, _)
theorem index' : ∀ t : Fin cfg0.N, win0_2.index t 0 = 0 ∧ win0_2.index t 1 = 0 ∧ win0_3.index t 0 = 0 ∧ win0_3.index t 1 = 0 :=
  (by decide +kernel : ∀ t : Fin grid0.N, _)
theorem index'' : ∀ t : Fin cfg0.N, win0_4.index t 0 = t.val ∧ win0_4.index t 1 = 0 :=
  (by decide +kernel : ∀ t : Fin grid0.N, _)

theorem block0 (t : Fin cfg0.N) (p : Fin 512) (k : Fin 1024) : iblk m c 0 t (ix2 p k) = ent (Q m c) (512 * t.val + p.val) k.val := by
  unfold iblk; rw [View.read_apply]
  refine ent_of (Q m c) _ ?_ ?_
  · show win0_0.index t 0 * 512 + 1 * p.val = _; rw [(index t).1]; omega
  · show win0_0.index t 1 * 1024 + 1 * k.val = _; rw [(index t).2.1]; omega
theorem block1 (t : Fin cfg0.N) (p : Fin 256) (k : Fin 2048) : iblk m c 1 t (ix2 p k) = KV m c (ix2 p k) := by
  unfold iblk; rw [View.read_apply]
  refine (ent_of (KV m c) _ ?_ ?_ : _ = ent (KV m c) p.val k.val).trans (ent_ix (KV m c) p k)
  · show win0_1.index t 0 * 256 + 1 * p.val = _; rw [(index t).2.2.1]; omega
  · show win0_1.index t 1 * 2048 + 1 * k.val = _; rw [(index t).2.2.2]; omega
theorem block2 (t : Fin cfg0.N) (p : Fin 1) (k : Fin 256) : iblk m c 2 t (ix2 p k) = Gq m c (ix2 p k) := by
  unfold iblk; rw [View.read_apply]
  refine (ent_of (Gq m c) _ ?_ ?_ : _ = ent (Gq m c) p.val k.val).trans (ent_ix (Gq m c) p k)
  · show win0_2.index t 0 * 1 + 1 * p.val = _; rw [(index' t).1]; omega
  · show win0_2.index t 1 * 256 + 1 * k.val = _; rw [(index' t).2.1]; omega
theorem block3 (t : Fin cfg0.N) (p : Fin 1) (k : Fin 256) : iblk m c 3 t (ix2 p k) = Gk m c (ix2 p k) := by
  unfold iblk; rw [View.read_apply]
  refine (ent_of (Gk m c) _ ?_ ?_ : _ = ent (Gk m c) p.val k.val).trans (ent_ix (Gk m c) p k)
  · show win0_3.index t 0 * 1 + 1 * p.val = _; rw [(index' t).2.2.1]; omega
  · show win0_3.index t 1 * 256 + 1 * k.val = _; rw [(index' t).2.2.2]; omega

/-- The attention of row `i` at column `k` of the four heads' 1024. -/
def val (i : ℕ) (k : Fin 1024) : EReal :=
  Rows.att (fun e => ent (Q m c) i (cc ⟨k.val / 256, by omega⟩ e).val) (kh (KV m c) ⟨k.val / 256, by omega⟩)
    (vh (KV m c) ⟨k.val / 256, by omega⟩) (gv (Gq m c)) (gv (Gk m c)) ⟨k.val % 256, by omega⟩

/-- The attention of every row. -/
def R : FVec Ideal S8192x1024 .bf16 := fun i => val m c (i 0).val (i 1)

theorem val_at (i : ℕ) (h : Fin 4) (d : I) : val m c i (cc h d) =
    Rows.att (fun e => ent (Q m c) i (cc h e).val) (kh (KV m c) h) (vh (KV m c) h) (gv (Gq m c)) (gv (Gk m c)) d := by
  unfold val
  rw [Cert.ReferenceIdeal.Grad.cc_head, Cert.ReferenceIdeal.Grad.cc_at]

theorem tile_at (t : Fin cfg0.N) (r : Fin 512) (k : Fin 1024) :
    (out0_4 (F := Ideal) (iblk m c 0 t) (iblk m c 1 t) (iblk m c 2 t) (iblk m c 3 t) (ix2 r k) : EReal) = val m c (512 * t.val + r.val) k := by
  obtain ⟨h, d, rfl⟩ := cc_surj k
  refine (result _ _ _ _ h r d).trans ((val_at m c _ h d).symm ▸ ?_)
  have e0 : (fun e => (iblk m c 0 t : FVec Ideal S512x1024 .f32) (ix2 r (cc h e))) = fun e => ent (Q m c) (512 * t.val + r.val) (cc h e).val := funext fun e => block0 m c t r (cc h e)
  have e1 : kh (iblk m c 1 t) h = kh (KV m c) h := funext fun j => funext fun e => block1 m c t j (ck h e)
  have e2 : vh (iblk m c 1 t) h = vh (KV m c) h := funext fun j => funext fun e => block1 m c t j (cv h e)
  have e3 : gv (iblk m c 2 t) = gv (Gq m c) := funext fun e => block2 m c t 0 e
  have e4 : gv (iblk m c 3 t) = gv (Gk m c) := funext fun e => block3 m c t 0 e
  rw [e1, e2, e3, e4]
  exact congrArg (fun a => Rows.att a (kh (KV m c) h) (vh (KV m c) h) (gv (Gq m c)) (gv (Gk m c)) d) e0

theorem flushed (t : Fin cfg0.N) (hf : (cfg0.win 4).flush t = true) :
    (dats m 0 c).flushed 4 t = ((cfg0.win 4).blk t).view.read (Elt Ideal) (R m c) := by
  rw [Value.flushed4]
  funext j
  rw [View.read_apply]
  have e0 : (((cfg0.win 4).blk t).view.emb j 0).val = 512 * t.val + (j 0).val := by
    show win0_4.index t 0 * 512 + 1 * (j 0).val = _; rw [(index'' t).1]; omega
  have e1 : ((cfg0.win 4).blk t).view.emb j 1 = j 1 := Fin.ext (by
    show win0_4.index t 1 * 1024 + 1 * (j 1).val = _; rw [(index'' t).2]; omega)
  refine ((congrArg (out0_4 (F := Ideal) (iblk m c 0 t) (iblk m c 1 t) (iblk m c 2 t) (iblk m c 3 t)) (eq_ix2 j)).trans (tile_at m c t (j 0) (j 1))).trans ?_
  show _ = val m c (((cfg0.win 4).blk t).view.emb j 0).val (((cfg0.win 4).blk t).view.emb j 1)
  rw [e0, e1]

theorem final : (dats m 0 c).arrAt 4 cfg0.N = R m c :=
  (dats m 0 c).arrAt_eq_of_cover 4 (R m c) (flushed m c) fun i =>
    have h0 : (i 0 : Nat) < 8192 := (i 0).isLt
    have h1 : (i 1 : Nat) < 1024 := (i 1).isLt
    have hN : (i 0 : Nat) / 512 < cfg0.N := by rw [show cfg0.N = 16 from N_0]; omega
    ⟨⟨_, hN⟩, flush0_4 _, by
      show i ∈ ((View.whole main_v0).slice (win0_4.rect ⟨_, hN⟩)).set
      rw [View.set_slice_whole, Rect.mem_set_unit]
      intro a
      match a with
      | ⟨0, _⟩ =>
        show win0_4.index ⟨_, hN⟩ 0 * 512 ≤ (i 0 : Nat) ∧ (i 0 : Nat) < win0_4.index ⟨_, hN⟩ 0 * 512 + 512
        rw [(index'' _).1]; dsimp only; omega
      | ⟨1, _⟩ =>
        show win0_4.index ⟨_, hN⟩ 1 * 1024 ≤ (i 1 : Nat) ∧ (i 1 : Nat) < win0_4.index ⟨_, hN⟩ 1 * 1024 + 1024
        rw [(index'' _).2]; omega⟩

theorem run : θ_run defs (onTc (τ := τ) (main (F := Ideal))) ⟨m, fun _ => 0, ρ⟩ fun r => ∀ c : Dev nD,
      r.2.mem ((c : Thread nD τ).loc main_v0) = R m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

theorem value (h : Fin 4) (i : Fin 8192) (d : I) : (R m c (ix2 i (cc h d)) : EReal) =
    Rows.att (qh (Q m c) h i) (kh (KV m c) h) (vh (KV m c) h) (gv (Gq m c)) (gv (Gk m c)) d :=
  (val_at m c i.val h d).trans (congrArg (fun a => Rows.att a (kh (KV m c) h) (vh (KV m c) h) (gv (Gq m c)) (gv (Gk m c)) d)
    (funext fun e => ent_ix (Q m c) i (cc h e)))

end Cert.Kernel23Ideal.Mem
-- ==== Proof.MemFwdRef.lean ====
/-
  What the reference of the memory attention computes: its result at an index is the attention's row function of the
  arguments' rows, on all extended reals; with the kernel's array, the claim.
-/
module

public import proofs.«01_k».proof.Proof.MemFwd
public import proofs.«01_k».proof.Proof.Gen.Reference23Ideal.Run
public import Idealize.ShloMosaic.Lib.Tactic.CleanTypes

@[expose] public section

set_option maxRecDepth 16384

noncomputable section

namespace Cert.Reference23Ideal.Mem

open Cert.Reference23Ideal Cert.Reference23Ideal.Gen
open Idealize.ShloMosaic Idealize.ShloMosaic.TcCoe Idealize.SL.Sem Idealize.ShloMosaic.StableHlo
open Cert.Rows (I)
open Cert.KernelIdeal.Head (cc ck cv qh kh vh gv)

/-! ## The reference's steps -/

def hQ (q : FVec Ideal S8192x1024 .f32) : FVec Ideal S4x8192x256 .f32 :=
  transpose S4x8192x256 [1, 0, 2] (shapeCast _ q shapeCasts_S8192x1024_S8192x4x256) transposes_S8192x4x256_S4x8192x256_1_0_2
def hK (w : FVec Ideal S256x2048 .f32) : FVec Ideal S4x256x256 .f32 :=
  transpose S4x256x256 [1, 0, 2] (shapeCast _ (extractStridedSlice S256x1024 ![0, 0] w slices_S256x2048_S256x1024_0_0) shapeCasts_S256x1024_S256x4x256) transposes_S256x4x256_S4x256x256_1_0_2
def hV (w : FVec Ideal S256x2048 .f32) : FVec Ideal S4x256x256 .f32 :=
  transpose S4x256x256 [1, 0, 2] (shapeCast _ (extractStridedSlice S256x1024 ![0, 1024] w slices_S256x2048_S256x1024_0_1024) shapeCasts_S256x1024_S256x4x256) transposes_S256x4x256_S4x256x256_1_0_2
def nQ (a : FVec Ideal S4x8192x256 .f32) (g : FVec Ideal S1x256 .f32) : FVec Ideal S4x8192x256 .f32 :=
  mulf (mulf a (broadcastInDim S4x8192x256 ![0, 1, 2] bcast_S4x8192x1_S4x8192x256_0_1_2 (Host.rsqrt (addf (Host.divf (broadcastInDim S4x8192x1 ![0, 1] bcast_S4x8192_S4x8192x1_0_1 (Host.reduceAdd (mulf a a) (constant S_ .f32 0x00000000#32) reducesTo_S4x8192x256_S4x8192_d2 h_S_)) (broadcastInDim S4x8192x1 ![] bcast_S_S4x8192x1 (constant S_ .f32 0x43800000#32))) (broadcastInDim S4x8192x1 ![] bcast_S_S4x8192x1 (constant S_ .f32 0x358637BD#32)))))) (broadcastInDim S4x8192x256 ![0, 1, 2] bcast_S1x1x256_S4x8192x256_0_1_2 (broadcastInDim S1x1x256 ![2] bcast_S256_S1x1x256_2 (shapeCast _ g shapeCasts_S1x256_S256)))
def nK (a : FVec Ideal S4x256x256 .f32) (g : FVec Ideal S1x256 .f32) : FVec Ideal S4x256x256 .f32 :=
  mulf (mulf a (broadcastInDim S4x256x256 ![0, 1, 2] bcast_S4x256x1_S4x256x256_0_1_2 (Host.rsqrt (addf (Host.divf (broadcastInDim S4x256x1 ![0, 1] bcast_S4x256_S4x256x1_0_1 (Host.reduceAdd (mulf a a) (constant S_ .f32 0x00000000#32) reducesTo_S4x256x256_S4x256_d2 h_S_)) (broadcastInDim S4x256x1 ![] bcast_S_S4x256x1 (constant S_ .f32 0x43800000#32))) (broadcastInDim S4x256x1 ![] bcast_S_S4x256x1 (constant S_ .f32 0x358637BD#32)))))) (broadcastInDim S4x256x256 ![0, 1, 2] bcast_S1x1x256_S4x256x256_0_1_2 (broadcastInDim S1x1x256 ![2] bcast_S256_S1x1x256_2 (shapeCast _ g shapeCasts_S1x256_S256)))
def lgR (x : FVec Ideal S4x8192x256 .f32) (y : FVec Ideal S4x256x256 .f32) : FVec Ideal S4x8192x256 .f32 :=
  mulf (Host.dotGeneral dot_S4x8192x256_S4x256x256_S4x8192x256_2_2_1_1_0_0 none x y) (broadcastInDim S4x8192x256 ![] bcast_S_S4x8192x256 (constant S_ .f32 0x3D800000#32))
def mxR (l : FVec Ideal S4x8192x256 .f32) : FVec Ideal S4x8192 .f32 :=
  Host.reduce FloatOps.maximumf l (constant S_ .f32 0xFF800000#32) reducesTo_S4x8192x256_S4x8192_d2 h_S_
def exR (l : FVec Ideal S4x8192x256 .f32) (w : FVec Ideal S4x8192 .f32) : FVec Ideal S4x8192x256 .f32 :=
  Host.exp (subf l (broadcastInDim S4x8192x256 ![0, 1, 2] bcast_S4x8192x1_S4x8192x256_0_1_2 (broadcastInDim S4x8192x1 ![0, 1] bcast_S4x8192_S4x8192x1_0_1 (maximumf (broadcastInDim S4x8192 ![] bcast_S_S4x8192 (constant S_ .f32 0xFF800000#32)) w))))
def prR (l : FVec Ideal S4x8192x256 .f32) : FVec Ideal S4x8192x256 .f32 :=
  Host.divf (exR l (mxR l)) (broadcastInDim S4x8192x256 ![0, 1, 2] bcast_S4x8192x1_S4x8192x256_0_1_2 (broadcastInDim S4x8192x1 ![0, 1] bcast_S4x8192_S4x8192x1_0_1 (Host.reduceAdd (exR l (mxR l)) (constant S_ .f32 0x00000000#32) reducesTo_S4x8192x256_S4x8192_d2 h_S_)))
def outR (p : FVec Ideal S4x8192x256 .f32) (v : FVec Ideal S4x256x256 .f32) : FVec Ideal S8192x1024 .bf16 :=
  truncf .bf16 (shapeCast _ (transpose S8192x4x256 [1, 0, 2] (Host.dotGeneral (φ₁ := .f32) (φ₂ := .f32) dot_S4x8192x256_S4x256x256_S4x8192x256_2_1_1_2_0_0 none p v) transposes_S4x8192x256_S8192x4x256_1_0_2) shapeCasts_S8192x4x256_S8192x1024) bitsLt_bf16_f32

/-- Row `i` of head `h`. -/
def row3 {n : ℕ} (a : FVec Ideal ⟨3, ![4, n, 256]⟩ .f32) (h : Fin 4) (i : Fin n) : I → EReal := fun d => a (ix3 h i d)

section entries
variable (q : FVec Ideal S8192x1024 .f32) (w : FVec Ideal S256x2048 .f32) (g gq gk : FVec Ideal S1x256 .f32)
variable (a l p : FVec Ideal S4x8192x256 .f32) (b v : FVec Ideal S4x256x256 .f32) (h : Fin 4) (i : Fin 8192) (j d : I)

theorem hQ_at : row3 (hQ q) h i = qh q h i := by
  funext d; unfold row3 hQ; clean_types; pointwise
  exact congrArg (fun c => q (ix2 i c)) (Fin.ext (by show h.val * 256 + d.val = 256 * h.val + d.val; omega))
theorem hK_at : row3 (hK w) h j = kh w h j := by
  funext d; unfold row3 hK; clean_types; pointwise
  exact congrArg (fun c => w (ix2 j c)) (Fin.ext (by show h.val * 256 + d.val = 256 * h.val + d.val; omega))
theorem hV_at : row3 (hV w) h j = vh w h j := by
  funext d; unfold row3 hV; clean_types; pointwise
  exact congrArg (fun c => w (ix2 j c)) (Fin.ext (by show 1024 + (h.val * 256 + d.val) = 1024 + (256 * h.val + d.val); omega))
theorem nQ_at : row3 (nQ a g) h i = Rows.nrm (row3 a h i) (gv g) := by
  funext d; unfold row3 nQ; clean_types; pointwise; rfl
theorem nK_at : row3 (nK b g) h j = Rows.nrm (row3 b h j) (gv g) := by
  funext d; unfold row3 nK; clean_types; pointwise; rfl
theorem lgR_at : row3 (lgR a b) h i = Rows.lgt (row3 a h i) (fun j => row3 b h j) := by
  funext d; unfold row3 lgR; clean_types; pointwise; rfl
theorem mxR_at : (mxR l (ix2 h i) : EReal) = Rows.mx (row3 l h i) := by
  unfold mxR; clean_types; pointwise; rfl
theorem exR_at (u : FVec Ideal S4x8192 .f32) : (exR l u (ix3 h i j) : EReal) = Ideal.exp (l (ix3 h i j) - u (ix2 h i)) := by
  unfold exR; clean_types; pointwise
  have e : max Rows.cinf (u (ix2 h i)) = u (ix2 h i) := by rw [Rows.cinf_eq]; exact max_eq_right bot_le
  exact congrArg (fun t => Ideal.exp (l (ix3 h i j) - t)) e
theorem prR_at : (prR l (ix3 h i j) : EReal) = Rows.pr (row3 l h i) j := by
  unfold prR; clean_types; pointwise; simp only [exR_at, mxR_at]; rfl
theorem outR_at : (outR p v (ix2 i (cc h d)) : EReal) = ∑ j, p (ix3 h i j) * v (ix3 h j d) := by
  unfold outR; clean_types; pointwise
  rw [Cert.ReferenceIdeal.Grad.cc_head, Cert.ReferenceIdeal.Grad.cc_at]

theorem att_at : (outR (prR (lgR (nQ (hQ q) gq) (nK (hK w) gk))) (hV w) (ix2 i (cc h d)) : EReal) =
    Rows.att (qh q h i) (kh w h) (vh w h) (gv gq) (gv gk) d := by
  rw [outR_at]
  have e : row3 (lgR (nQ (hQ q) gq) (nK (hK w) gk)) h i = Rows.lgt (Rows.nrm (qh q h i) (gv gq)) (fun j => Rows.nrm (kh w h j) (gv gk)) := by
    rw [lgR_at]; simp only [nQ_at, nK_at, hQ_at, hK_at]
  refine Finset.sum_congr rfl fun j _ => ?_
  rw [prR_at, e]
  exact congrArg _ (congrFun (hV_at w h j) d)
end entries

variable (m : (ℓ : Loc nD τ sig) → Buf (Elt Ideal) ℓ) (c : Dev nD)

theorem res : Value.res_main_v53 m c = outR (prR (lgR (nQ (hQ (m ((c.tc : Thread nD τ).loc main_arg0))) (m ((c.tc : Thread nD τ).loc main_arg2)))
    (nK (hK (m ((c.tc : Thread nD τ).loc main_arg1))) (m ((c.tc : Thread nD τ).loc main_arg3))))) (hV (m ((c.tc : Thread nD τ).loc main_arg1))) := by
  unfold Value.res_main_v53 outR prR exR mxR lgR nQ nK hQ hK hV; rfl

end Cert.Reference23Ideal.Mem

namespace Cert.Proof

open Idealize.ShloMosaic Idealize.ShloMosaic.TcCoe Idealize.SL.Sem Idealize.ShloMosaic.StableHlo
open Cert.KernelIdeal.Head (cc cc_surj)

theorem algebraic23 : Cert.algebraic_Kernel23Ideal_Reference23Ideal
    (hKernel23Ideal := Cert.Kernel23Ideal.Gen.facts) (hReference23Ideal := Cert.Reference23Ideal.Gen.facts) := by
  intro m g m' g' hm ha
  refine ⟨Cert.Kernel23Ideal.Mem.R m, Cert.Kernel23Ideal.Mem.run m g, ?_⟩
  refine (θ_run Cert.Reference23Ideal.defs _ _).mono (fun r h c => ⟨(h c).1.trans ((Cert.Reference23Ideal.Mem.res m' c).trans ?_), (h c).2⟩) (Cert.Reference23Ideal.Value.run m' g')
  rw [(ha c).1, (ha c).2.1, (ha c).2.2.1, (ha c).2.2.2]
  funext i
  obtain ⟨h, d, e⟩ := cc_surj (i 1)
  have e' : i = ix2 (i 0) (cc h d) := (eq_ix2 i).trans (congrArg (ix2 (i 0)) e)
  refine (congrArg _ e').trans ((Cert.Reference23Ideal.Mem.att_at _ _ _ _ h (i 0) d).trans ?_)
  exact (Cert.Kernel23Ideal.Mem.value m c h (i 0) d).symm.trans (congrArg (Cert.Kernel23Ideal.Mem.R m c) e'.symm)

theorem frame23 : Cert.quiescent_Reference23Ideal (hReference23Ideal := Cert.Reference23Ideal.Gen.facts) := fun m g _ =>
  (θ_run Cert.Reference23Ideal.defs _ _).mono
    (fun r h => ⟨fun c => (h c).2, sem_eq_zero_of_no_sems (by decide) _⟩) (Cert.Reference23Ideal.Value.run m g)

end Cert.Proof
-- ==== Proof.MemProj.lean ====
/-
  The memory's projection to keys and values: a block of the result is one product of two blocks.
-/
module

public import proofs.«01_k».proof.Proof.Products
public import proofs.«01_k».proof.Proof.Gen.Kernel29Ideal.Value
public import proofs.«01_k».proof.Proof.Gen.Reference29Ideal.Run

@[expose] public section

noncomputable section

namespace Cert.Kernel29Ideal.Product

open Cert.Kernel29Ideal Cert.Kernel29Ideal.Gen Cert.Products
open Idealize.ShloMosaic Idealize.ShloMosaic.TcCoe Idealize.SL.Sem Idealize.ShloMosaic.StableHlo
open Finset (range)

theorem result (x : Vec Ideal S256x2048 .bf16) (y : Vec Ideal S2048x1024 .bf16) (p : Fin 256) (r : Fin 1024) :
    (out0_2 (F := Ideal) x y (ix2 p r) : EReal) = nn x y 2048 p.val r.val := by
  unfold out0_2
  rw [View.canon_unit_zero origin]
  simp only [View.ld_unit_zero (S := S256x2048) origin, View.ld_unit_zero (S := S2048x1024) origin]
  rw [nn_eq]; pointwise [k0_pay1]

variable (m : (ℓ : Loc nD τ sig) → Buf (Elt Ideal) ℓ) (ρ : Dev nD → PrngReg) (c : Dev nD)

abbrev A : FVec Ideal S256x2048 .bf16 := m ((c : Thread nD τ).loc main_arg0)
abbrev B : FVec Ideal S2048x2048 .bf16 := m ((c : Thread nD τ).loc main_arg1)

theorem index : ∀ t : Fin cfg0.N, win0_0.index t 0 = 0 ∧ win0_0.index t 1 = 0
    ∧ win0_1.index t 0 = 0 ∧ win0_1.index t 1 = t.val :=
  (by decide +kernel : ∀ t : Fin grid0.N, _)
theorem index' : ∀ t : Fin cfg0.N, win0_2.index t 0 = 0 ∧ win0_2.index t 1 = t.val :=
  (by decide +kernel : ∀ t : Fin grid0.N, _)

theorem block0 (t : Fin cfg0.N) (p : Fin 256) (k : Fin 2048) :
    iblk m c 0 t (ix2 p k) = ent (A m c) (256 * (0) + p.val) (2048 * (0) + k.val) := by
  unfold iblk; rw [View.read_apply]
  refine ent_of (A m c) _ ?_ ?_
  · show win0_0.index t 0 * 256 + 1 * p.val = _; rw [(index t).1]; omega
  · show win0_0.index t 1 * 2048 + 1 * k.val = _; rw [(index t).2.1]; omega

theorem block1 (t : Fin cfg0.N) (p : Fin 2048) (k : Fin 1024) :
    iblk m c 1 t (ix2 p k) = ent (B m c) (2048 * (0) + p.val) (1024 * (t.val) + k.val) := by
  unfold iblk; rw [View.read_apply]
  refine ent_of (B m c) _ ?_ ?_
  · show win0_1.index t 0 * 2048 + 1 * p.val = _; rw [(index t).2.2.1]; omega
  · show win0_1.index t 1 * 1024 + 1 * k.val = _; rw [(index t).2.2.2]; omega

theorem part (t : Fin cfg0.N) (p : Fin 256) (r : Fin 1024) :
    nn (a := 256) (b := 2048) (d := 2048) (e := 1024) (iblk m c 0 t) (iblk m c 1 t) 2048 p.val r.val
      = nn (A m c) (B m c) 2048 (256 * (0) + p.val) (1024 * (t.val) + r.val) := by
  rw [nn_eq]
  unfold nn
  rw [Finset.sum_range]
  refine Finset.sum_congr rfl fun k _ => ?_
  have e : 2048 * 0 + k.val = k.val := by omega
  refine (congrArg₂ (fun a b : EReal => a * b) (block0 m c t p k) (block1 m c t k r)).trans ?_
  rw [e]

/-- The whole product. -/
def R : FVec Ideal S256x2048 .f32 := fun i => nn (A m c) (B m c) 2048 (i 0).val (i 1).val

theorem flushed (t : Fin cfg0.N) (hf : (cfg0.win 2).flush t = true) :
    (dats m 0 c).flushed 2 t = ((cfg0.win 2).blk t).view.read (Elt Ideal) (R m c) := by
  rw [Value.flushed2]
  funext j
  rw [View.read_apply]
  have e0 : (((cfg0.win 2).blk t).view.emb j 0).val = 256 * (0) + (j 0).val := by
    show win0_2.index t 0 * 256 + 1 * (j 0).val = _; rw [(index' t).1]; omega
  have e1 : (((cfg0.win 2).blk t).view.emb j 1).val = 1024 * (t.val) + (j 1).val := by
    show win0_2.index t 1 * 1024 + 1 * (j 1).val = _; rw [(index' t).2]; omega
  show (out0_2 (F := Ideal) (iblk m c 0 t) (iblk m c 1 t) j : EReal) = R m c _
  unfold R
  rw [e0, e1]
  refine ((congrArg (out0_2 (F := Ideal) (iblk m c 0 t) (iblk m c 1 t)) (eq_ix2 j)).trans (result _ _ (j 0) (j 1))).trans ?_
  exact part m c t (j 0) (j 1)

theorem final : (dats m 0 c).arrAt 2 cfg0.N = R m c :=
  (dats m 0 c).arrAt_eq_of_cover 2 (R m c) (flushed m c) fun i =>
    have h0 : (i 0 : Nat) < 256 := (i 0).isLt
    have h1 : (i 1 : Nat) < 2048 := (i 1).isLt
    have hN : (i 1 : Nat) / 1024 < cfg0.N := by rw [show cfg0.N = 2 from N_0]; omega
    ⟨⟨_, hN⟩, flush0_2 _, by
      show i ∈ ((View.whole main_v0).slice (win0_2.rect ⟨_, hN⟩)).set
      rw [View.set_slice_whole, Rect.mem_set_unit]
      intro a
      match a with
      | ⟨0, _⟩ =>
        show win0_2.index ⟨_, hN⟩ 0 * 256 ≤ (i 0 : Nat) ∧ (i 0 : Nat) < win0_2.index ⟨_, hN⟩ 0 * 256 + 256
        rw [(index' _).1]; omega
      | ⟨1, _⟩ =>
        show win0_2.index ⟨_, hN⟩ 1 * 1024 ≤ (i 1 : Nat) ∧ (i 1 : Nat) < win0_2.index ⟨_, hN⟩ 1 * 1024 + 1024
        rw [(index' _).2]; dsimp only; omega⟩

theorem run : θ_run defs (onTc (τ := τ) (main (F := Ideal))) ⟨m, fun _ => 0, ρ⟩ fun r => ∀ c : Dev nD,
      r.2.mem ((c : Thread nD τ).loc main_v0) = R m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

theorem value (i : Fin 256) (j : Fin 2048) : (R m c (ix2 i j) : EReal)
    = nn (A m c) (B m c) 2048 i.val j.val := rfl

end Cert.Kernel29Ideal.Product

namespace Cert.Reference29Ideal.Product

open Cert.Reference29Ideal Cert.Reference29Ideal.Gen Cert.Products
open Idealize.ShloMosaic Idealize.ShloMosaic.TcCoe Idealize.SL.Sem Idealize.ShloMosaic.StableHlo

theorem at_entry (X : FVec Ideal S256x2048 .f32) (Y : FVec Ideal S2048x2048 .f32) (i : Fin 256) (j : Fin 2048) :
    ((Host.dotGeneral (φ₁ := .f32) (φ₂ := .f32) dot_S256x2048_S2048x2048_S256x2048_1_0_0_1_n_n none X Y) (ix2 i j) : EReal)
      = nn X Y 2048 i.val j.val := by
  rw [nn_eq]; clean_types; pointwise

end Cert.Reference29Ideal.Product

namespace Cert.Proof

open Idealize.ShloMosaic Idealize.ShloMosaic.TcCoe Idealize.SL.Sem Idealize.ShloMosaic.StableHlo

theorem algebraic29 : Cert.algebraic_Kernel29Ideal_Reference29Ideal
    (hKernel29Ideal := Cert.Kernel29Ideal.Gen.facts) (hReference29Ideal := Cert.Reference29Ideal.Gen.facts) := by
  intro m g m' g' hm ha
  refine ⟨Cert.Kernel29Ideal.Product.R m, Cert.Kernel29Ideal.Product.run m g, ?_⟩
  refine (θ_run Cert.Reference29Ideal.defs _ _).mono (fun r h c => ⟨(h c).1.trans ?_, (h c).2⟩) (Cert.Reference29Ideal.Value.run m' g')
  rw [(ha c).1, (ha c).2]
  funext i
  rw [eq_ix2 i]
  exact (Cert.Reference29Ideal.Product.at_entry _ _ (i 0) (i 1)).trans (Cert.Kernel29Ideal.Product.value m c (i 0) (i 1)).symm

theorem frame29 : Cert.quiescent_Reference29Ideal (hReference29Ideal := Cert.Reference29Ideal.Gen.facts) := fun m g _ =>
  (θ_run Cert.Reference29Ideal.defs _ _).mono
    (fun r h => ⟨fun c => (h c).2, sem_eq_zero_of_no_sems (by decide) _⟩) (Cert.Reference29Ideal.Value.run m g)

end Cert.Proof
-- ==== Proof.MemProjBack.lean ====
/-
  The memory's projection, backwards: the gradients of the normed rows and of the weights, each block of them one product
  of two blocks.
-/
module

public import proofs.«01_k».proof.Proof.Products
public import proofs.«01_k».proof.Proof.Gen.Kernel30Ideal.Value
public import proofs.«01_k».proof.Proof.Gen.Reference30Ideal.Run
public import proofs.«01_k».proof.Proof.Gen.Kernel31Ideal.Value
public import proofs.«01_k».proof.Proof.Gen.Reference31Ideal.Run

@[expose] public section

noncomputable section

namespace Cert.Kernel30Ideal.Product

open Cert.Kernel30Ideal Cert.Kernel30Ideal.Gen Cert.Products
open Idealize.ShloMosaic Idealize.ShloMosaic.TcCoe Idealize.SL.Sem Idealize.ShloMosaic.StableHlo
open Finset (range)

theorem result (x : Vec Ideal S256x2048 .bf16) (y : Vec Ideal S1024x2048 .bf16) (p : Fin 256) (r : Fin 1024) :
    (out0_2 (F := Ideal) x y (ix2 p r) : EReal) = nt x y 2048 p.val r.val := by
  unfold out0_2
  rw [View.canon_unit_zero origin]
  simp only [View.ld_unit_zero (S := S256x2048) origin, View.ld_unit_zero (S := S1024x2048) origin]
  rw [nt_eq]; pointwise [k0_pay1]

variable (m : (ℓ : Loc nD τ sig) → Buf (Elt Ideal) ℓ) (ρ : Dev nD → PrngReg) (c : Dev nD)

abbrev A : FVec Ideal S256x2048 .bf16 := m ((c : Thread nD τ).loc main_arg0)
abbrev B : FVec Ideal S2048x2048 .bf16 := m ((c : Thread nD τ).loc main_arg1)

theorem index : ∀ t : Fin cfg0.N, win0_0.index t 0 = 0 ∧ win0_0.index t 1 = 0
    ∧ win0_1.index t 0 = t.val ∧ win0_1.index t 1 = 0 :=
  (by decide +kernel : ∀ t : Fin grid0.N, _)
theorem index' : ∀ t : Fin cfg0.N, win0_2.index t 0 = 0 ∧ win0_2.index t 1 = t.val :=
  (by decide +kernel : ∀ t : Fin grid0.N, _)

theorem block0 (t : Fin cfg0.N) (p : Fin 256) (k : Fin 2048) :
    iblk m c 0 t (ix2 p k) = ent (A m c) (256 * (0) + p.val) (2048 * (0) + k.val) := by
  unfold iblk; rw [View.read_apply]
  refine ent_of (A m c) _ ?_ ?_
  · show win0_0.index t 0 * 256 + 1 * p.val = _; rw [(index t).1]; omega
  · show win0_0.index t 1 * 2048 + 1 * k.val = _; rw [(index t).2.1]; omega

theorem block1 (t : Fin cfg0.N) (p : Fin 1024) (k : Fin 2048) :
    iblk m c 1 t (ix2 p k) = ent (B m c) (1024 * (t.val) + p.val) (2048 * (0) + k.val) := by
  unfold iblk; rw [View.read_apply]
  refine ent_of (B m c) _ ?_ ?_
  · show win0_1.index t 0 * 1024 + 1 * p.val = _; rw [(index t).2.2.1]; omega
  · show win0_1.index t 1 * 2048 + 1 * k.val = _; rw [(index t).2.2.2]; omega

theorem part (t : Fin cfg0.N) (p : Fin 256) (r : Fin 1024) :
    nt (a := 256) (b := 2048) (d := 1024) (e := 2048) (iblk m c 0 t) (iblk m c 1 t) 2048 p.val r.val
      = nt (A m c) (B m c) 2048 (256 * (0) + p.val) (1024 * (t.val) + r.val) := by
  rw [nt_eq]
  unfold nt
  rw [Finset.sum_range]
  refine Finset.sum_congr rfl fun k _ => ?_
  have e : 2048 * 0 + k.val = k.val := by omega
  refine (congrArg₂ (fun a b : EReal => a * b) (block0 m c t p k) (block1 m c t r k)).trans ?_
  rw [e]

/-- The whole product. -/
def R : FVec Ideal S256x2048 .f32 := fun i => nt (A m c) (B m c) 2048 (i 0).val (i 1).val

theorem flushed (t : Fin cfg0.N) (hf : (cfg0.win 2).flush t = true) :
    (dats m 0 c).flushed 2 t = ((cfg0.win 2).blk t).view.read (Elt Ideal) (R m c) := by
  rw [Value.flushed2]
  funext j
  rw [View.read_apply]
  have e0 : (((cfg0.win 2).blk t).view.emb j 0).val = 256 * (0) + (j 0).val := by
    show win0_2.index t 0 * 256 + 1 * (j 0).val = _; rw [(index' t).1]; omega
  have e1 : (((cfg0.win 2).blk t).view.emb j 1).val = 1024 * (t.val) + (j 1).val := by
    show win0_2.index t 1 * 1024 + 1 * (j 1).val = _; rw [(index' t).2]; omega
  show (out0_2 (F := Ideal) (iblk m c 0 t) (iblk m c 1 t) j : EReal) = R m c _
  unfold R
  rw [e0, e1]
  refine ((congrArg (out0_2 (F := Ideal) (iblk m c 0 t) (iblk m c 1 t)) (eq_ix2 j)).trans (result _ _ (j 0) (j 1))).trans ?_
  exact part m c t (j 0) (j 1)

theorem final : (dats m 0 c).arrAt 2 cfg0.N = R m c :=
  (dats m 0 c).arrAt_eq_of_cover 2 (R m c) (flushed m c) fun i =>
    have h0 : (i 0 : Nat) < 256 := (i 0).isLt
    have h1 : (i 1 : Nat) < 2048 := (i 1).isLt
    have hN : (i 1 : Nat) / 1024 < cfg0.N := by rw [show cfg0.N = 2 from N_0]; omega
    ⟨⟨_, hN⟩, flush0_2 _, by
      show i ∈ ((View.whole main_v0).slice (win0_2.rect ⟨_, hN⟩)).set
      rw [View.set_slice_whole, Rect.mem_set_unit]
      intro a
      match a with
      | ⟨0, _⟩ =>
        show win0_2.index ⟨_, hN⟩ 0 * 256 ≤ (i 0 : Nat) ∧ (i 0 : Nat) < win0_2.index ⟨_, hN⟩ 0 * 256 + 256
        rw [(index' _).1]; omega
      | ⟨1, _⟩ =>
        show win0_2.index ⟨_, hN⟩ 1 * 1024 ≤ (i 1 : Nat) ∧ (i 1 : Nat) < win0_2.index ⟨_, hN⟩ 1 * 1024 + 1024
        rw [(index' _).2]; dsimp only; omega⟩

theorem run : θ_run defs (onTc (τ := τ) (main (F := Ideal))) ⟨m, fun _ => 0, ρ⟩ fun r => ∀ c : Dev nD,
      r.2.mem ((c : Thread nD τ).loc main_v0) = R m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

theorem value (i : Fin 256) (j : Fin 2048) : (R m c (ix2 i j) : EReal)
    = nt (A m c) (B m c) 2048 i.val j.val := rfl

end Cert.Kernel30Ideal.Product

namespace Cert.Reference30Ideal.Product

open Cert.Reference30Ideal Cert.Reference30Ideal.Gen Cert.Products
open Idealize.ShloMosaic Idealize.ShloMosaic.TcCoe Idealize.SL.Sem Idealize.ShloMosaic.StableHlo

theorem at_entry (X : FVec Ideal S256x2048 .f32) (Y : FVec Ideal S2048x2048 .f32) (i : Fin 256) (j : Fin 2048) :
    ((Host.dotGeneral (φ₁ := .f32) (φ₂ := .f32) dot_S256x2048_S2048x2048_S256x2048_1_1_0_0_n_n none X Y) (ix2 i j) : EReal)
      = nt X Y 2048 i.val j.val := by
  rw [nt_eq]; clean_types; pointwise

end Cert.Reference30Ideal.Product

namespace Cert.Proof

open Idealize.ShloMosaic Idealize.ShloMosaic.TcCoe Idealize.SL.Sem Idealize.ShloMosaic.StableHlo

theorem algebraic30 : Cert.algebraic_Kernel30Ideal_Reference30Ideal
    (hKernel30Ideal := Cert.Kernel30Ideal.Gen.facts) (hReference30Ideal := Cert.Reference30Ideal.Gen.facts) := by
  intro m g m' g' hm ha
  refine ⟨Cert.Kernel30Ideal.Product.R m, Cert.Kernel30Ideal.Product.run m g, ?_⟩
  refine (θ_run Cert.Reference30Ideal.defs _ _).mono (fun r h c => ⟨(h c).1.trans ?_, (h c).2⟩) (Cert.Reference30Ideal.Value.run m' g')
  rw [(ha c).1, (ha c).2]
  funext i
  rw [eq_ix2 i]
  exact (Cert.Reference30Ideal.Product.at_entry _ _ (i 0) (i 1)).trans (Cert.Kernel30Ideal.Product.value m c (i 0) (i 1)).symm

theorem frame30 : Cert.quiescent_Reference30Ideal (hReference30Ideal := Cert.Reference30Ideal.Gen.facts) := fun m g _ =>
  (θ_run Cert.Reference30Ideal.defs _ _).mono
    (fun r h => ⟨fun c => (h c).2, sem_eq_zero_of_no_sems (by decide) _⟩) (Cert.Reference30Ideal.Value.run m g)

end Cert.Proof

namespace Cert.Kernel31Ideal.Product

open Cert.Kernel31Ideal Cert.Kernel31Ideal.Gen Cert.Products
open Idealize.ShloMosaic Idealize.ShloMosaic.TcCoe Idealize.SL.Sem Idealize.ShloMosaic.StableHlo
open Finset (range)

theorem result (x : Vec Ideal S256x1024 .bf16) (y : Vec Ideal S256x1024 .bf16) (p : Fin 1024) (r : Fin 1024) :
    (out0_2 (F := Ideal) x y (ix2 p r) : EReal) = tn x y 256 p.val r.val := by
  unfold out0_2
  rw [View.canon_unit_zero origin]
  simp only [View.ld_unit_zero (S := S256x1024) origin]
  rw [tn_eq]; pointwise [k0_pay1]

variable (m : (ℓ : Loc nD τ sig) → Buf (Elt Ideal) ℓ) (ρ : Dev nD → PrngReg) (c : Dev nD)

abbrev A : FVec Ideal S256x2048 .bf16 := m ((c : Thread nD τ).loc main_arg0)
abbrev B : FVec Ideal S256x2048 .bf16 := m ((c : Thread nD τ).loc main_arg1)

theorem index : ∀ t : Fin cfg0.N, win0_0.index t 0 = 0 ∧ win0_0.index t 1 = t.val / 2
    ∧ win0_1.index t 0 = 0 ∧ win0_1.index t 1 = t.val % 2 :=
  (by decide +kernel : ∀ t : Fin grid0.N, _)
theorem index' : ∀ t : Fin cfg0.N, win0_2.index t 0 = t.val / 2 ∧ win0_2.index t 1 = t.val % 2 :=
  (by decide +kernel : ∀ t : Fin grid0.N, _)

theorem block0 (t : Fin cfg0.N) (p : Fin 256) (k : Fin 1024) :
    iblk m c 0 t (ix2 p k) = ent (A m c) (256 * (0) + p.val) (1024 * (t.val / 2) + k.val) := by
  unfold iblk; rw [View.read_apply]
  refine ent_of (A m c) _ ?_ ?_
  · show win0_0.index t 0 * 256 + 1 * p.val = _; rw [(index t).1]; omega
  · show win0_0.index t 1 * 1024 + 1 * k.val = _; rw [(index t).2.1]; omega

theorem block1 (t : Fin cfg0.N) (p : Fin 256) (k : Fin 1024) :
    iblk m c 1 t (ix2 p k) = ent (B m c) (256 * (0) + p.val) (1024 * (t.val % 2) + k.val) := by
  unfold iblk; rw [View.read_apply]
  refine ent_of (B m c) _ ?_ ?_
  · show win0_1.index t 0 * 256 + 1 * p.val = _; rw [(index t).2.2.1]; omega
  · show win0_1.index t 1 * 1024 + 1 * k.val = _; rw [(index t).2.2.2]; omega

theorem part (t : Fin cfg0.N) (p : Fin 1024) (r : Fin 1024) :
    tn (a := 256) (b := 1024) (d := 256) (e := 1024) (iblk m c 0 t) (iblk m c 1 t) 256 p.val r.val
      = tn (A m c) (B m c) 256 (1024 * (t.val / 2) + p.val) (1024 * (t.val % 2) + r.val) := by
  rw [tn_eq]
  unfold tn
  rw [Finset.sum_range]
  refine Finset.sum_congr rfl fun k _ => ?_
  have e : 256 * 0 + k.val = k.val := by omega
  refine (congrArg₂ (fun a b : EReal => a * b) (block0 m c t k p) (block1 m c t k r)).trans ?_
  rw [e]

/-- The whole product. -/
def R : FVec Ideal S2048x2048 .bf16 := fun i => tn (A m c) (B m c) 256 (i 0).val (i 1).val

theorem flushed (t : Fin cfg0.N) (hf : (cfg0.win 2).flush t = true) :
    (dats m 0 c).flushed 2 t = ((cfg0.win 2).blk t).view.read (Elt Ideal) (R m c) := by
  rw [Value.flushed2]
  funext j
  rw [View.read_apply]
  have e0 : (((cfg0.win 2).blk t).view.emb j 0).val = 1024 * (t.val / 2) + (j 0).val := by
    show win0_2.index t 0 * 1024 + 1 * (j 0).val = _; rw [(index' t).1]; omega
  have e1 : (((cfg0.win 2).blk t).view.emb j 1).val = 1024 * (t.val % 2) + (j 1).val := by
    show win0_2.index t 1 * 1024 + 1 * (j 1).val = _; rw [(index' t).2]; omega
  show (out0_2 (F := Ideal) (iblk m c 0 t) (iblk m c 1 t) j : EReal) = R m c _
  unfold R
  rw [e0, e1]
  refine ((congrArg (out0_2 (F := Ideal) (iblk m c 0 t) (iblk m c 1 t)) (eq_ix2 j)).trans (result _ _ (j 0) (j 1))).trans ?_
  exact part m c t (j 0) (j 1)

theorem final : (dats m 0 c).arrAt 2 cfg0.N = R m c :=
  (dats m 0 c).arrAt_eq_of_cover 2 (R m c) (flushed m c) fun i =>
    have h0 : (i 0 : Nat) < 2048 := (i 0).isLt
    have h1 : (i 1 : Nat) < 2048 := (i 1).isLt
    have hN : 2 * ((i 0 : Nat) / 1024) + (i 1 : Nat) / 1024 < cfg0.N := by rw [show cfg0.N = 4 from N_0]; omega
    ⟨⟨_, hN⟩, flush0_2 _, by
      show i ∈ ((View.whole main_v0).slice (win0_2.rect ⟨_, hN⟩)).set
      rw [View.set_slice_whole, Rect.mem_set_unit]
      intro a
      match a with
      | ⟨0, _⟩ =>
        show win0_2.index ⟨_, hN⟩ 0 * 1024 ≤ (i 0 : Nat) ∧ (i 0 : Nat) < win0_2.index ⟨_, hN⟩ 0 * 1024 + 1024
        rw [(index' _).1]; dsimp only; omega
      | ⟨1, _⟩ =>
        show win0_2.index ⟨_, hN⟩ 1 * 1024 ≤ (i 1 : Nat) ∧ (i 1 : Nat) < win0_2.index ⟨_, hN⟩ 1 * 1024 + 1024
        rw [(index' _).2]; dsimp only; omega⟩

theorem run : θ_run defs (onTc (τ := τ) (main (F := Ideal))) ⟨m, fun _ => 0, ρ⟩ fun r => ∀ c : Dev nD,
      r.2.mem ((c : Thread nD τ).loc main_v0) = R m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

theorem value (i : Fin 2048) (j : Fin 2048) : (R m c (ix2 i j) : EReal)
    = tn (A m c) (B m c) 256 i.val j.val := rfl

end Cert.Kernel31Ideal.Product

namespace Cert.Reference31Ideal.Product

open Cert.Reference31Ideal Cert.Reference31Ideal.Gen Cert.Products
open Idealize.ShloMosaic Idealize.ShloMosaic.TcCoe Idealize.SL.Sem Idealize.ShloMosaic.StableHlo

theorem at_entry (X : FVec Ideal S256x2048 .f32) (Y : FVec Ideal S256x2048 .f32) (i : Fin 2048) (j : Fin 2048) :
    ((truncf .bf16 (transpose S2048x2048 [1, 0] (Host.dotGeneral (φ₁ := .f32) (φ₂ := .f32) dot_S256x2048_S256x2048_S2048x2048_0_0_1_1_n_n none Y X)
      transposes_S2048x2048_S2048x2048_1_0) bitsLt_bf16_f32) (ix2 i j) : EReal)
      = tn X Y 256 i.val j.val := by
  rw [tn_eq]; clean_types; pointwise
  exact Finset.sum_congr rfl fun k _ => mul_comm _ _

end Cert.Reference31Ideal.Product

namespace Cert.Proof

open Idealize.ShloMosaic Idealize.ShloMosaic.TcCoe Idealize.SL.Sem Idealize.ShloMosaic.StableHlo

theorem algebraic31 : Cert.algebraic_Kernel31Ideal_Reference31Ideal
    (hKernel31Ideal := Cert.Kernel31Ideal.Gen.facts) (hReference31Ideal := Cert.Reference31Ideal.Gen.facts) := by
  intro m g m' g' hm ha
  refine ⟨Cert.Kernel31Ideal.Product.R m, Cert.Kernel31Ideal.Product.run m g, ?_⟩
  refine (θ_run Cert.Reference31Ideal.defs _ _).mono (fun r h c => ⟨(h c).1.trans ?_, (h c).2⟩) (Cert.Reference31Ideal.Value.run m' g')
  rw [(ha c).1, (ha c).2]
  funext i
  rw [eq_ix2 i]
  exact (Cert.Reference31Ideal.Product.at_entry _ _ (i 0) (i 1)).trans (Cert.Kernel31Ideal.Product.value m c (i 0) (i 1)).symm

theorem frame31 : Cert.quiescent_Reference31Ideal (hReference31Ideal := Cert.Reference31Ideal.Gen.facts) := fun m g _ =>
  (θ_run Cert.Reference31Ideal.defs _ _).mono
    (fun r h => ⟨fun c => (h c).2, sem_eq_zero_of_no_sems (by decide) _⟩) (Cert.Reference31Ideal.Value.run m g)

end Cert.Proof
-- ==== Proof.MemNorm.lean ====
/-
  The norm of the memory's rows, forwards: one tile of 256 rows, each times the inverse root of its mean square and the
  gain.
-/
module

public import proofs.«01_k».proof.Proof.RmsFwd
public import proofs.«01_k».proof.Proof.Gen.Kernel28Ideal.Value
public import proofs.«01_k».proof.Proof.Gen.Reference28Ideal.Run

@[expose] public section

noncomputable section

namespace Cert.Kernel28Ideal.Rms

open Cert.Kernel28Ideal Cert.Kernel28Ideal.Gen Cert.Rms
open Idealize.ShloMosaic Idealize.ShloMosaic.TcCoe Idealize.SL.Sem Idealize.ShloMosaic.StableHlo

theorem result (x : Vec Ideal S256x2048 .f32) (g : Vec Ideal S1x2048 .f32) (p : Fin 256) (k : Fin 2048) :
    (Value.G2 (F := Ideal) x g (ix2 p k) : EReal) = normed (row x p) (row g 0) k := by
  pointwise [k0_pay1]; rfl

end Cert.Kernel28Ideal.Rms

namespace Cert.Reference28Ideal.Rms

open Cert.Reference28Ideal Cert.Reference28Ideal.Gen Cert.Rms
open Idealize.ShloMosaic Idealize.ShloMosaic.TcCoe Idealize.SL.Sem Idealize.ShloMosaic.StableHlo

variable (x : FVec Ideal S256x2048 .f32) (g : FVec Ideal S1x2048 .f32)

abbrev msR : FVec Ideal S256x1 .f32 :=
  addf (Host.divf (broadcastInDim S256x1 ![0] bcast_S256_S256x1_0 (Host.reduceAdd (mulf x x) (constant S_ .f32 0x00000000#32) reducesTo_S256x2048_S256_d1 h_S_)) (broadcastInDim S256x1 ![] bcast_S_S256x1 (constant S_ .f32 0x45000000#32))) (broadcastInDim S256x1 ![] bcast_S_S256x1 (constant S_ .f32 0x358637BD#32))
abbrev normR (r : FVec Ideal S256x1 .f32) : FVec Ideal S256x2048 .bf16 :=
  truncf .bf16 (mulf (mulf x (broadcastInDim S256x2048 ![0, 1] bcast_S256x1_S256x2048_0_1 r)) (broadcastInDim S256x2048 ![0, 1] bcast_S1x2048_S256x2048_0_1 (broadcastInDim S1x2048 ![1] bcast_S2048_S1x2048_1 (shapeCast _ g shapeCasts_S1x2048_S2048)))) bitsLt_bf16_f32

theorem msR_at (i : Fin 256) (z : Fin 1) : (msR x (ix2 i z) : EReal) = ms (row x i) := by
  pointwise; rfl
theorem normR_at (r : FVec Ideal S256x1 .f32) (i : Fin 256) (k : Fin 2048) :
    (normR x g r (ix2 i k) : EReal) = x (ix2 i k) * r (ix2 i 0) * g (ix2 0 k) := by
  pointwise
theorem norm_at (i : Fin 256) (k : Fin 2048) : (normR x g (Host.rsqrt (msR x)) (ix2 i k) : EReal) = normed (row x i) (row g 0) k := by
  rw [normR_at]
  show x (ix2 i k) * Ideal.rsqrt (msR x (ix2 i 0)) * g (ix2 0 k) = _
  rw [msR_at]; rfl

end Cert.Reference28Ideal.Rms

namespace Cert.Proof

open Idealize.ShloMosaic Idealize.ShloMosaic.TcCoe Idealize.SL.Sem Idealize.ShloMosaic.StableHlo

theorem algebraic28 : Cert.algebraic_Kernel28Ideal_Reference28Ideal
    (hKernel28Ideal := Cert.Kernel28Ideal.Gen.facts) (hReference28Ideal := Cert.Reference28Ideal.Gen.facts) := by
  intro m g m' g' hm ha
  refine ⟨_, Cert.Kernel28Ideal.Value.run m g, ?_⟩
  refine (θ_run Cert.Reference28Ideal.defs _ _).mono (fun r h c => ⟨(h c).1.trans ?_, (h c).2⟩) (Cert.Reference28Ideal.Value.run m' g')
  rw [(ha c).1, (ha c).2]
  funext i
  rw [eq_ix2 i]
  exact (Cert.Reference28Ideal.Rms.norm_at _ _ (i 0) (i 1)).trans (Cert.Kernel28Ideal.Rms.result _ _ (i 0) (i 1)).symm

theorem frame28 : Cert.quiescent_Reference28Ideal (hReference28Ideal := Cert.Reference28Ideal.Gen.facts) := fun m g _ =>
  (θ_run Cert.Reference28Ideal.defs _ _).mono
    (fun r h => ⟨fun c => (h c).2, sem_eq_zero_of_no_sems (by decide) _⟩) (Cert.Reference28Ideal.Value.run m g)

end Cert.Proof
-- ==== Proof.MemNormBack.lean ====
/-
  The norm of the memory's rows, backwards: the gradient of the gain, in one tile of 256 rows.
-/
module

public import proofs.«01_k».proof.Proof.RmsClaim
public import proofs.«01_k».proof.Proof.Gen.Kernel32Ideal.Value
public import proofs.«01_k».proof.Proof.Gen.Reference32Ideal.Run

@[expose] public section

noncomputable section

namespace Cert.Kernel32Ideal.Rms

open Cert.Kernel32Ideal Cert.Kernel32Ideal.Gen Cert.Products Cert.Rms
open Idealize.ShloMosaic Idealize.ShloMosaic.TcCoe Idealize.SL.Sem Idealize.ShloMosaic.StableHlo

theorem pay1_at (z : Fin 1) (k : Fin 2048) : (k0_pay1 (F := Ideal) (ix2 z k) : EReal) = 0 := by
  pointwise [k0_pay1]
theorem pay2_at (x h : Vec Ideal S256x2048 .f32) (s : Vec Ideal S1x2048 .f32) (z : Fin 1) (k : Fin 2048) :
    (k0_pay2 (F := Ideal) x h s (ix2 z k) : EReal) = s (ix2 z k) + ∑ r, gain (row x r) (row h r) k := by
  obtain rfl : z = 0 := Subsingleton.elim _ _
  unfold k0_pay2; simp only [shapeCast_self]; pointwise; rfl

section
variable (c : Dev nD) (i : grid0.Coords) (a1 : Memref sig .tc .vmem S256x2048 .f32) (h1 : a1.IsWhole)
  (a2 : Memref sig .tc .vmem S1x2048 .f32) (h2 : a2.IsWhole) (a3 : Memref sig .tc .vmem S256x2048 .f32) (h3 : a3.IsWhole)
  (a4 : Memref sig .tc .vmem S1x2048 .f32) (h4 : a4.IsWhole)
  (x : Vec Ideal S256x2048 .f32) (g : Vec Ideal S1x2048 .f32) (h : Vec Ideal S256x2048 .f32)

theorem out (hc : cond0_0 i) :
    out0_A_3 (F := Ideal) c i a1 h1 a2 h2 a3 h3 a4 h4 hc x g h = k0_pay2 x h (k0_pay1 (F := Ideal)) := by
  unfold out0_A_3
  rw [View.read_writes_eq_canon _ _ _ (cover0_A_3 c i a1 h1 a2 h2 a3 h3 a4 h4 hc x g h)]
  unfold kernelRun0_A; dsimp only; sl_unfold_words
  rw [View.canon_cons_unit_zero (S := S1x2048) origin, View.readCov_unit_zero (S := S1x2048) _ origin]
  simp only [View.readAt_eq_ld, h1.read_unread, h2.read_unread, h3.read_unread,
    View.ld_unit_zero (S := S256x2048) origin, View.ld_unit_zero (S := S1x2048) origin]
end

variable (m : (ℓ : Loc nD τ sig) → Buf (Elt Ideal) ℓ) (ρ : Dev nD → PrngReg) (c : Dev nD)

abbrev X : Vec Ideal S256x2048 .f32 := m ((c : Thread nD τ).loc main_arg0)
abbrev H : Vec Ideal S256x2048 .f32 := m ((c : Thread nD τ).loc main_arg2)

theorem zero0 (t : Fin cfg0.N) (a : Fin 2) : win0_0.index t a = 0 :=
  (by decide +kernel : ∀ (t : Fin grid0.N) (a : Fin 2), win0_0.index t a = 0) t a
theorem zero2 (t : Fin cfg0.N) (a : Fin 2) : win0_2.index t a = 0 :=
  (by decide +kernel : ∀ (t : Fin grid0.N) (a : Fin 2), win0_2.index t a = 0) t a
theorem zero3 (t : Fin cfg0.N) (a : Fin 2) : win0_3.index t a = 0 :=
  (by decide +kernel : ∀ (t : Fin grid0.N) (a : Fin 2), win0_3.index t a = 0) t a

theorem iblk0 (t : Fin cfg0.N) : iblk m c 0 t = X m c := by
  have hz' : (fun a => win0_0.index t a * main_arg0.ty.shape.size a) = fun _ => 0 :=
    funext fun a => by rw [zero0 t a, Nat.zero_mul]
  exact Memref.read_access_unit_zero (Elt Ideal) main_arg0 hz' (fun a => by rw [congrFun hz' a]; simp) (X m c)
theorem iblk2 (t : Fin cfg0.N) : iblk m c 2 t = H m c := by
  have hz' : (fun a => win0_2.index t a * main_arg2.ty.shape.size a) = fun _ => 0 :=
    funext fun a => by rw [zero2 t a, Nat.zero_mul]
  exact Memref.read_access_unit_zero (Elt Ideal) main_arg2 hz' (fun a => by rw [congrFun hz' a]; simp) (H m c)

/-- The gain's gradient. -/
def R : Vec Ideal S1x2048 .f32 := fun j => ∑ i, gain (row (X m c) i) (row (H m c) i) (j 1)

theorem flushed (t : Fin cfg0.N) (hf : (cfg0.win 3).flush t = true) :
    (dats m 0 c).flushed 3 t = ((cfg0.win 3).blk t).view.read (Elt Ideal) (R m c) := by
  have hz' : (fun a => win0_3.index t a * main_v0.ty.shape.size a) = fun _ => 0 :=
    funext fun a => by rw [zero3 t a, Nat.zero_mul]
  refine Eq.trans ?_ (Memref.read_access_unit_zero (Elt Ideal) main_v0 hz' (fun a => by rw [congrFun hz' a]; simp) (R m c)).symm
  rw [Value.flushed3_A, out, iblk0, iblk2]
  funext j
  refine (congrArg (k0_pay2 (F := Ideal) (X m c) (H m c) (k0_pay1 (F := Ideal))) (eq_ix2 j)).trans ((pay2_at _ _ _ _ _).trans ?_)
  exact (congrArg (fun b : EReal => b + R m c j) (pay1_at _ _)).trans (zero_add _)

theorem final : (dats m 0 c).arrAt 3 cfg0.N = R m c :=
  (dats m 0 c).arrAt_eq_of_cover 3 (R m c) (flushed m c) fun i =>
    have h0 : (i 0 : Nat) < 1 := (i 0).isLt
    have h1 : (i 1 : Nat) < 2048 := (i 1).isLt
    have hN : 0 < cfg0.N := by rw [show cfg0.N = 1 from N_0]; omega
    ⟨⟨0, hN⟩, flush0_3 _, by
      show i ∈ ((View.whole main_v0).slice (win0_3.rect ⟨0, hN⟩)).set
      rw [View.set_slice_whole, Rect.mem_set_unit]
      intro a
      match a with
      | ⟨0, _⟩ =>
        show win0_3.index ⟨0, hN⟩ 0 * 1 ≤ (i 0 : Nat) ∧ (i 0 : Nat) < win0_3.index ⟨0, hN⟩ 0 * 1 + 1
        rw [zero3 ⟨0, hN⟩ 0]; omega
      | ⟨1, _⟩ =>
        show win0_3.index ⟨0, hN⟩ 1 * 2048 ≤ (i 1 : Nat) ∧ (i 1 : Nat) < win0_3.index ⟨0, hN⟩ 1 * 2048 + 2048
        rw [zero3 ⟨0, hN⟩ 1]; omega⟩

theorem run : θ_run defs (onTc (τ := τ) (main (F := Ideal))) ⟨m, fun _ => 0, ρ⟩ fun r => ∀ c : Dev nD,
      r.2.mem ((c : Thread nD τ).loc main_v0) = R m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.Kernel32Ideal.Rms

namespace Cert.Reference32Ideal.Rms

open Cert.Reference32Ideal Cert.Reference32Ideal.Gen Cert.Rms
open Idealize.ShloMosaic Idealize.ShloMosaic.TcCoe Idealize.SL.Sem Idealize.ShloMosaic.StableHlo

variable (x h : FVec Ideal S256x2048 .f32) (r : FVec Ideal S256x1 .f32) (i : Fin 256) (k : Fin 2048) (z : Fin 1)

/-- The rows' mean squares, with the small number added. -/
abbrev msR : FVec Ideal S256x1 .f32 :=
  addf (Host.divf (broadcastInDim S256x1 ![0] bcast_S256_S256x1_0 (Host.reduceAdd (mulf x x) (constant S_ .f32 0x00000000#32) reducesTo_S256x2048_S256_d1 h_S_)) (broadcastInDim S256x1 ![] bcast_S_S256x1 (constant S_ .f32 0x45000000#32))) (broadcastInDim S256x1 ![] bcast_S_S256x1 (constant S_ .f32 0x358637BD#32))
/-- The gain's gradient, of the inverse roots. -/
abbrev gainOf : FVec Ideal S1x2048 .f32 :=
  broadcastInDim S1x2048 ![1] bcast_S2048_S1x2048_1 (Host.reduceAdd (shapeCast _ (Host.reduceAdd (mulf (mulf x (broadcastInDim S256x2048 ![0, 1] bcast_S256x1_S256x2048_0_1 r)) h) (constant S_ .f32 0x00000000#32) reducesTo_S256x2048_S2048_d0 h_S_) shapeCasts_S2048_S1x2048) (constant S_ .f32 0x00000000#32) reducesTo_S1x2048_S2048_d0 h_S_)

theorem msR_at : (msR x (ix2 i z) : EReal) = ms (row x i) := by
  pointwise; rfl
theorem rsR_at : (Host.rsqrt (msR x) (ix2 i z) : EReal) = Ideal.rsqrt (ms (row x i)) := by
  show Ideal.rsqrt (msR x (ix2 i z)) = _; rw [msR_at]
theorem gainOf_at : (gainOf x h r (ix2 z k) : EReal) = ∑ i, x (ix2 i k) * r (ix2 i 0) * h (ix2 i k) := by
  pointwise; rw [Fin.sum_univ_one]
theorem gain_at : (gainOf x h (Host.rsqrt (msR x)) (ix2 z k) : EReal) = ∑ i, gain (row x i) (row h i) k := by
  rw [gainOf_at]
  simp only [rsR_at]
  rfl

end Cert.Reference32Ideal.Rms

namespace Cert.Proof

open Idealize.ShloMosaic Idealize.ShloMosaic.TcCoe Idealize.SL.Sem Idealize.ShloMosaic.StableHlo

theorem algebraic32 : Cert.algebraic_Kernel32Ideal_Reference32Ideal
    (hKernel32Ideal := Cert.Kernel32Ideal.Gen.facts) (hReference32Ideal := Cert.Reference32Ideal.Gen.facts) := by
  intro m g m' g' hm ha
  refine ⟨_, Cert.Kernel32Ideal.Rms.run m g, ?_⟩
  refine (θ_run Cert.Reference32Ideal.defs _ _).mono (fun r h c => ⟨(h c).1.trans ?_, (h c).2⟩) (Cert.Reference32Ideal.Value.run m' g')
  rw [(ha c).1, (ha c).2.2]
  funext j
  exact (congrArg _ (eq_ix2 j)).trans (Cert.Reference32Ideal.Rms.gain_at ..)

theorem frame32 : Cert.quiescent_Reference32Ideal (hReference32Ideal := Cert.Reference32Ideal.Gen.facts) := fun m g _ =>
  (θ_run Cert.Reference32Ideal.defs _ _).mono
    (fun r h => ⟨fun c => (h c).2, sem_eq_zero_of_no_sems (by decide) _⟩) (Cert.Reference32Ideal.Value.run m g)

end Cert.Proof
-- ==== Proof.SumGrads.lean ====
/-
  The small weights' gradients, packed into one array of 24 rows: the sum of the eight devices' parts, which lie one below
  the other in the argument.
-/
module

public import proofs.«01_k».proof.Proof.Products
public import proofs.«01_k».proof.Proof.Gen.Kernel33Ideal.Value
public import proofs.«01_k».proof.Proof.Gen.Reference33Ideal.Run

@[expose] public section

noncomputable section

namespace Cert.Kernel33Ideal.Sum

open Cert.Kernel33Ideal Cert.Kernel33Ideal.Gen Cert.Products
open Idealize.ShloMosaic Idealize.ShloMosaic.TcCoe Idealize.SL.Sem Idealize.ShloMosaic.StableHlo

theorem pay1_at (a0 a1 a2 a3 a4 a5 a6 a7 : Vec Ideal S24x1024 .f32) (p : Fin 24) (k : Fin 1024) :
    (k0_pay1 (F := Ideal) a0 a1 a2 a3 a4 a5 a6 a7 (ix2 p k) : EReal)
      = a0 (ix2 p k) + a1 (ix2 p k) + a2 (ix2 p k) + a3 (ix2 p k) + a4 (ix2 p k) + a5 (ix2 p k) + a6 (ix2 p k) + a7 (ix2 p k) := by
  pointwise [k0_pay1]

/-- The sum over the devices: device `d`'s part begins in row `24 d`. -/
theorem result (x : Vec Ideal S192x1024 .f32) (p : Fin 24) (k : Fin 1024) :
    (Value.G1 (F := Ideal) x (ix2 p k) : EReal) = ∑ d : Fin 8, ent x (24 * d.val + p.val) k.val := by
  have e : ∀ (d : Fin 8) (inb : ∀ a, (![24 * d.val, 0] : Fin 2 → Nat) a + S24x1024.size a ≤ S192x1024.size a),
      (View.ld (Val := Elt Ideal) (e' := .f32) x (Rect.unit (s := S192x1024) ![24 * d.val, 0] S24x1024.size inb) (ix2 p k) : EReal) = ent x (24 * d.val + p.val) k.val :=
    fun d inb => ent_of x _ (by show 24 * d.val + 1 * p.val = _; omega) (by show 0 + 1 * k.val = _; omega)
  rw [Fin.sum_univ_eight]
  exact (pay1_at _ _ _ _ _ _ _ _ p k).trans (congrArg₂ (· + ·) (congrArg₂ (· + ·) (congrArg₂ (· + ·) (congrArg₂ (· + ·) (congrArg₂ (· + ·) (congrArg₂ (· + ·) (congrArg₂ (· + ·) (e 0 _) (e 1 _)) (e 2 _)) (e 3 _)) (e 4 _)) (e 5 _)) (e 6 _)) (e 7 _))

end Cert.Kernel33Ideal.Sum

namespace Cert.Reference33Ideal.Sum

open Cert.Reference33Ideal Cert.Reference33Ideal.Gen Cert.Products
open Idealize.ShloMosaic Idealize.ShloMosaic.TcCoe Idealize.SL.Sem Idealize.ShloMosaic.StableHlo

theorem at_entry (x : FVec Ideal S192x1024 .f32) (p : Fin 24) (k : Fin 1024) :
    (Host.reduceAdd (shapeCast _ x shapeCasts_S192x1024_S8x24x1024) (constant S_ .f32 0x00000000#32) reducesTo_S8x24x1024_S24x1024_d0 h_S_ (ix2 p k) : EReal)
      = ∑ d : Fin 8, ent x (24 * d.val + p.val) k.val := by
  pointwise
  refine Finset.sum_congr rfl fun d _ => ent_of x _ ?_ ?_
  · show d.val * 24 + p.val = _; omega
  · rfl

end Cert.Reference33Ideal.Sum

namespace Cert.Proof

open Idealize.ShloMosaic Idealize.ShloMosaic.TcCoe Idealize.SL.Sem Idealize.ShloMosaic.StableHlo

theorem algebraic33 : Cert.algebraic_Kernel33Ideal_Reference33Ideal
    (hKernel33Ideal := Cert.Kernel33Ideal.Gen.facts) (hReference33Ideal := Cert.Reference33Ideal.Gen.facts) := by
  intro m g m' g' hm ha
  refine ⟨_, Cert.Kernel33Ideal.Value.run m g, ?_⟩
  refine (θ_run Cert.Reference33Ideal.defs _ _).mono (fun r h c => ⟨(h c).1.trans ?_, (h c).2⟩) (Cert.Reference33Ideal.Value.run m' g')
  rw [ha c]
  funext i
  rw [eq_ix2 i]
  exact (Cert.Reference33Ideal.Sum.at_entry _ (i 0) (i 1)).trans (Cert.Kernel33Ideal.Sum.result _ (i 0) (i 1)).symm

theorem frame33 : Cert.quiescent_Reference33Ideal (hReference33Ideal := Cert.Reference33Ideal.Gen.facts) := fun m g _ =>
  (θ_run Cert.Reference33Ideal.defs _ _).mono
    (fun r h => ⟨fun c => (h c).2, sem_eq_zero_of_no_sems (by decide) _⟩) (Cert.Reference33Ideal.Value.run m g)

end Cert.Proof
-- ==== Proof.lean ====
/-
  The claims, put together: the kernels' frames are the generated ones, the references' frames and the value claims are
  in MemClaim.lean, in the modules of the products, in AdamClaims.lean, in RmsClaim.lean, RmsFwd.lean, LossSum.lean,
  Gates.lean, GatesBack.lean, MemFwdRef.lean, MemProj.lean, MemProjBack.lean, MemNorm.lean, MemNormBack.lean and
  SumGrads.lean. Each idealized kernel is the kernel with no rewrite, but for the optimiser's, in which two rounded
  constants are named.
-/
module

public import proofs.«01_k».proof.Defs
public import proofs.«01_k».proof.Proof.Gen.Kernel.Frame
public import proofs.«01_k».proof.Proof.Gen.KernelIdeal.Frame
public import proofs.«01_k».proof.Proof.MemClaim
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Reference14Ideal.Run
public import proofs.«01_k».proof.Proof.Gen.Kernel15.Frame
public import proofs.«01_k».proof.Proof.Gen.Kernel15Ideal.Frame
public import proofs.«01_k».proof.Proof.Gen.Kernel15Ideal.Value
public import proofs.«01_k».proof.Proof.Gen.Reference15Ideal.Run
public import proofs.«01_k».proof.Proof.Gen.Kernel16.Frame
public import proofs.«01_k».proof.Proof.Gen.Kernel16Ideal.Frame
public import proofs.«01_k».proof.Proof.Gen.Kernel16Ideal.Value
public import proofs.«01_k».proof.Proof.Gen.Reference16Ideal.Run
public import proofs.«01_k».proof.Proof.Gen.Kernel17.Frame
public import proofs.«01_k».proof.Proof.Gen.Kernel17Ideal.Frame
public import proofs.«01_k».proof.Proof.Gen.Kernel17Ideal.Value
public import proofs.«01_k».proof.Proof.Gen.Reference17Ideal.Run
public import proofs.«01_k».proof.Proof.Gen.Kernel18.Frame
public import proofs.«01_k».proof.Proof.Gen.Kernel18Ideal.Frame
public import proofs.«01_k».proof.Proof.Gen.Kernel18Ideal.Value
public import proofs.«01_k».proof.Proof.Gen.Reference18Ideal.Run
public import proofs.«01_k».proof.Proof.Gen.Kernel19.Frame
public import proofs.«01_k».proof.Proof.Gen.Kernel19Ideal.Frame
public import proofs.«01_k».proof.Proof.Gen.Kernel19Ideal.Value
public import proofs.«01_k».proof.Proof.Gen.Reference19Ideal.Run
public import proofs.«01_k».proof.Proof.Gen.Kernel20.Frame
public import proofs.«01_k».proof.Proof.Gen.Kernel20Ideal.Frame
public import proofs.«01_k».proof.Proof.Gen.Kernel20Ideal.Value
public import proofs.«01_k».proof.Proof.Gen.Reference20Ideal.Run
public import proofs.«01_k».proof.Proof.Gen.Kernel21.Frame
public import proofs.«01_k».proof.Proof.Gen.Kernel21Ideal.Frame
public import proofs.«01_k».proof.Proof.Gen.Kernel21Ideal.Value
public import proofs.«01_k».proof.Proof.Gen.Reference21Ideal.Run
public import proofs.«01_k».proof.Proof.Gen.Kernel22.Frame
public import proofs.«01_k».proof.Proof.Gen.Kernel22Ideal.Frame
public import proofs.«01_k».proof.Proof.Gen.Kernel22Ideal.Value
public import proofs.«01_k».proof.Proof.Gen.Reference22Ideal.Run
public import proofs.«01_k».proof.Proof.Gen.Kernel23.Frame
public import proofs.«01_k».proof.Proof.Gen.Kernel23Ideal.Frame
public import proofs.«01_k».proof.Proof.Gen.Kernel23Ideal.Value
public import proofs.«01_k».proof.Proof.Gen.Reference23Ideal.Run
public import proofs.«01_k».proof.Proof.Gen.Kernel24.Frame
public import proofs.«01_k».proof.Proof.Gen.Kernel24Ideal.Frame
public import proofs.«01_k».proof.Proof.Gen.Kernel24Ideal.Value
public import proofs.«01_k».proof.Proof.Gen.Reference24Ideal.Run
public import proofs.«01_k».proof.Proof.Gen.Kernel25.Frame
public import proofs.«01_k».proof.Proof.Gen.Kernel25Ideal.Frame
public import proofs.«01_k».proof.Proof.Gen.Kernel25Ideal.Value
public import proofs.«01_k».proof.Proof.Gen.Reference25Ideal.Run
public import proofs.«01_k».proof.Proof.Gen.Kernel26.Frame
public import proofs.«01_k».proof.Proof.Gen.Kernel26Ideal.Frame
public import proofs.«01_k».proof.Proof.Gen.Kernel26Ideal.Value
public import proofs.«01_k».proof.Proof.Gen.Reference26Ideal.Run
public import proofs.«01_k».proof.Proof.Gen.Kernel27.Frame
public import proofs.«01_k».proof.Proof.Gen.Kernel27Ideal.Frame
public import proofs.«01_k».proof.Proof.Gen.Kernel27Ideal.Value
public import proofs.«01_k».proof.Proof.Gen.Reference27Ideal.Run
public import proofs.«01_k».proof.Proof.Gen.Kernel28.Frame
public import proofs.«01_k».proof.Proof.Gen.Kernel28Ideal.Frame
public import proofs.«01_k».proof.Proof.Gen.Kernel28Ideal.Value
public import proofs.«01_k».proof.Proof.Gen.Reference28Ideal.Run
public import proofs.«01_k».proof.Proof.Gen.Kernel29.Frame
public import proofs.«01_k».proof.Proof.Gen.Kernel29Ideal.Frame
public import proofs.«01_k».proof.Proof.Gen.Kernel29Ideal.Value
public import proofs.«01_k».proof.Proof.Gen.Reference29Ideal.Run
public import proofs.«01_k».proof.Proof.Gen.Kernel30.Frame
public import proofs.«01_k».proof.Proof.Gen.Kernel30Ideal.Frame
public import proofs.«01_k».proof.Proof.Gen.Kernel30Ideal.Value
public import proofs.«01_k».proof.Proof.Gen.Reference30Ideal.Run
public import proofs.«01_k».proof.Proof.Gen.Kernel31.Frame
public import proofs.«01_k».proof.Proof.Gen.Kernel31Ideal.Frame
public import proofs.«01_k».proof.Proof.Gen.Kernel31Ideal.Value
public import proofs.«01_k».proof.Proof.Gen.Reference31Ideal.Run
public import proofs.«01_k».proof.Proof.Gen.Kernel32.Frame
public import proofs.«01_k».proof.Proof.Gen.Kernel32Ideal.Frame
public import proofs.«01_k».proof.Proof.Gen.Kernel32Ideal.Value
public import proofs.«01_k».proof.Proof.Gen.Reference32Ideal.Run
public import proofs.«01_k».proof.Proof.Gen.Kernel33.Frame
public import proofs.«01_k».proof.Proof.Gen.Kernel33Ideal.Frame
public import proofs.«01_k».proof.Proof.Gen.Kernel33Ideal.Value
public import proofs.«01_k».proof.Proof.Gen.Reference33Ideal.Run
public import proofs.«01_k».proof.Proof.MemFwdRef
public import proofs.«01_k».proof.Proof.MemProj
public import proofs.«01_k».proof.Proof.MemProjBack
public import proofs.«01_k».proof.Proof.MemNorm
public import proofs.«01_k».proof.Proof.MemNormBack
public import proofs.«01_k».proof.Proof.SumGrads

@[expose] public section

noncomputable section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Kernel27.Gen.facts, Cert.Kernel27Ideal.Gen.facts, Cert.Reference27Ideal.Gen.facts,
    Cert.Kernel28.Gen.facts, Cert.Kernel28Ideal.Gen.facts, Cert.Reference28Ideal.Gen.facts,
    Cert.Kernel29.Gen.facts, Cert.Kernel29Ideal.Gen.facts, Cert.Reference29Ideal.Gen.facts,
    Cert.Kernel30.Gen.facts, Cert.Kernel30Ideal.Gen.facts, Cert.Reference30Ideal.Gen.facts,
    Cert.Kernel31.Gen.facts, Cert.Kernel31Ideal.Gen.facts, Cert.Reference31Ideal.Gen.facts,
    Cert.Kernel32.Gen.facts, Cert.Kernel32Ideal.Gen.facts, Cert.Reference32Ideal.Gen.facts,
    Cert.Kernel33.Gen.facts, Cert.Kernel33Ideal.Gen.facts, Cert.Reference33Ideal.Gen.facts,
    Cert.Pre_finite.Gen.facts,
    fun m ρ _ => Cert.Kernel.Gen.frame m ρ, fun m ρ _ => Cert.KernelIdeal.Gen.frame m ρ,
    fun m ρ _ => Cert.KernelIdeal.Gen.frame m ρ, fun m ρ _ => frame_reference m ρ, fun m ρ _ => frame_reference m ρ,
    fun m ρ _ => Cert.Kernel2.Gen.frame m ρ, fun m ρ _ => Cert.Kernel2Ideal.Gen.frame m ρ, frame2,
    fun m ρ _ => Cert.Kernel3.Gen.frame m ρ, fun m ρ _ => Cert.Kernel3Ideal.Gen.frame m ρ, frame3,
    fun m ρ _ => Cert.Kernel4.Gen.frame m ρ, fun m ρ _ => Cert.Kernel4Ideal.Gen.frame m ρ, frame4,
    fun m ρ _ => Cert.Kernel5.Gen.frame m ρ, fun m ρ _ => Cert.Kernel5Ideal.Gen.frame m ρ, frame5,
    fun m ρ _ => Cert.Kernel6.Gen.frame m ρ, fun m ρ _ => Cert.Kernel6Ideal.Gen.frame m ρ, frame6,
    fun m ρ _ => Cert.Kernel7.Gen.frame m ρ, fun m ρ _ => Cert.Kernel7Ideal.Gen.frame m ρ, frame7,
    fun m ρ _ => Cert.Kernel8.Gen.frame m ρ, fun m ρ _ => Cert.Kernel8Ideal.Gen.frame m ρ, frame8,
    fun m ρ _ => Cert.Kernel9.Gen.frame m ρ, fun m ρ _ => Cert.Kernel9Ideal.Gen.frame m ρ, frame9,
    fun m ρ _ => Cert.Kernel10.Gen.frame m ρ, fun m ρ _ => Cert.Kernel10Ideal.Gen.frame m ρ, frame10,
    fun m ρ _ => Cert.Kernel11.Gen.frame m ρ, fun m ρ _ => Cert.Kernel11Ideal.Gen.frame m ρ, frame11,
    fun m ρ _ => Cert.Kernel12.Gen.frame m ρ, fun m ρ _ => Cert.Kernel12Ideal.Gen.frame m ρ, frame12,
    fun m ρ _ => Cert.Kernel13.Gen.frame m ρ, fun m ρ _ => Cert.Kernel13Ideal.Gen.frame m ρ, frame13,
    fun m ρ _ => Cert.Kernel14.Gen.frame m ρ, fun m ρ _ => Cert.Kernel14Ideal.Gen.frame m ρ, frame14,
    fun m ρ _ => Cert.Kernel15.Gen.frame m ρ, fun m ρ _ => Cert.Kernel15Ideal.Gen.frame m ρ, frame15,
    fun m ρ _ => Cert.Kernel16.Gen.frame m ρ, fun m ρ _ => Cert.Kernel16Ideal.Gen.frame m ρ, frame16,
    fun m ρ _ => Cert.Kernel17.Gen.frame m ρ, fun m ρ _ => Cert.Kernel17Ideal.Gen.frame m ρ, frame17,
    fun m ρ _ => Cert.Kernel18.Gen.frame m ρ, fun m ρ _ => Cert.Kernel18Ideal.Gen.frame m ρ, frame18,
    fun m ρ _ => Cert.Kernel19.Gen.frame m ρ, fun m ρ _ => Cert.Kernel19Ideal.Gen.frame m ρ, frame19,
    fun m ρ _ => Cert.Kernel20.Gen.frame m ρ, fun m ρ _ => Cert.Kernel20Ideal.Gen.frame m ρ, frame20,
    fun m ρ _ => Cert.Kernel21.Gen.frame m ρ, fun m ρ _ => Cert.Kernel21Ideal.Gen.frame m ρ, frame21,
    fun m ρ _ => Cert.Kernel22.Gen.frame m ρ, fun m ρ _ => Cert.Kernel22Ideal.Gen.frame m ρ, frame22,
    fun m ρ _ => Cert.Kernel23.Gen.frame m ρ, fun m ρ _ => Cert.Kernel23Ideal.Gen.frame m ρ, frame23,
    fun m ρ _ => Cert.Kernel24.Gen.frame m ρ, fun m ρ _ => Cert.Kernel24Ideal.Gen.frame m ρ, frame24,
    fun m ρ _ => Cert.Kernel25.Gen.frame m ρ, fun m ρ _ => Cert.Kernel25Ideal.Gen.frame m ρ, frame25,
    fun m ρ _ => Cert.Kernel26.Gen.frame m ρ, fun m ρ _ => Cert.Kernel26Ideal.Gen.frame m ρ, frame26,
    fun m ρ _ => Cert.Kernel27.Gen.frame m ρ, fun m ρ _ => Cert.Kernel27Ideal.Gen.frame m ρ, frame27,
    fun m ρ _ => Cert.Kernel28.Gen.frame m ρ, fun m ρ _ => Cert.Kernel28Ideal.Gen.frame m ρ, frame28,
    fun m ρ _ => Cert.Kernel29.Gen.frame m ρ, fun m ρ _ => Cert.Kernel29Ideal.Gen.frame m ρ, frame29,
    fun m ρ _ => Cert.Kernel30.Gen.frame m ρ, fun m ρ _ => Cert.Kernel30Ideal.Gen.frame m ρ, frame30,
    fun m ρ _ => Cert.Kernel31.Gen.frame m ρ, fun m ρ _ => Cert.Kernel31Ideal.Gen.frame m ρ, frame31,
    fun m ρ _ => Cert.Kernel32.Gen.frame m ρ, fun m ρ _ => Cert.Kernel32Ideal.Gen.frame m ρ, frame32,
    fun m ρ _ => Cert.Kernel33.Gen.frame m ρ, fun m ρ _ => Cert.Kernel33Ideal.Gen.frame m ρ, frame33,
    trivial, algebraic,
    trivial, algebraic2,
    trivial, algebraic3,
    trivial, algebraic4,
    trivial, algebraic5,
    trivial, algebraic6,
    trivial, algebraic7,
    trivial, algebraic8,
    trivial, algebraic9,
    trivial, algebraic10,
    trivial, algebraic11,
    trivial, algebraic12,
    trivial, algebraic13,
    trivial, algebraic14,
    trivial, algebraic15,
    trivial, algebraic16,
    trivial, algebraic17,
    preserves18, algebraic18,
    preserves19, algebraic19,
    preserves20, algebraic20,
    preserves21, algebraic21,
    preserves22, algebraic22,
    trivial, algebraic23,
    trivial, algebraic24,
    trivial, algebraic25,
    trivial, algebraic26,
    trivial, algebraic27,
    trivial, algebraic28,
    trivial, algebraic29,
    trivial, algebraic30,
    trivial, algebraic31,
    trivial, algebraic32,
    trivial, algebraic33⟩

end Cert.Proof

end
